-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxIdeal_finite_up [hPre_finite_up : Cert.Pre_finite_up.Facts] (m : (ℓ : Loc Cert.UpDxIdeal.nD Cert.UpDxIdeal.τ Cert.UpDxIdeal.sig) → Buf (Elt Ideal) ℓ) : Prop :=
  ∀ c : Dev Cert.UpDxIdeal.nD,
    (Cert.Pre_finite_up.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))) = (fun _ => 1#1)

def Pre_UpDxRefIdeal (m : (ℓ : Loc Cert.UpDxRefIdeal.nD Cert.UpDxRefIdeal.τ Cert.UpDxRefIdeal.sig) → Buf (Elt Ideal) ℓ) : Prop :=
  True

def Pre_UpDxRefIdeal_finite_up [hPre_finite_up : Cert.Pre_finite_up.Facts] (m : (ℓ : Loc Cert.UpDxRefIdeal.nD Cert.UpDxRefIdeal.τ Cert.UpDxRefIdeal.sig) → Buf (Elt Ideal) ℓ) : Prop :=
  ∀ c : Dev Cert.UpDxRefIdeal.nD,
    (Cert.Pre_finite_up.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))) = (fun _ => 1#1)

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxIdeal_finite_glu [hPre_finite_glu : Cert.Pre_finite_glu.Facts] (m : (ℓ : Loc Cert.GluDxIdeal.nD Cert.GluDxIdeal.τ Cert.GluDxIdeal.sig) → Buf (Elt Ideal) ℓ) : Prop :=
  ∀ c : Dev Cert.GluDxIdeal.nD,
    (Cert.Pre_finite_glu.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2))) = (fun _ => 1#1)

def Pre_GluDxRefIdeal (m : (ℓ : Loc Cert.GluDxRefIdeal.nD Cert.GluDxRefIdeal.τ Cert.GluDxRefIdeal.sig) → Buf (Elt Ideal) ℓ) : Prop :=
  True

def Pre_GluDxRefIdeal_finite_glu [hPre_finite_glu : Cert.Pre_finite_glu.Facts] (m : (ℓ : Loc Cert.GluDxRefIdeal.nD Cert.GluDxRefIdeal.τ Cert.GluDxRefIdeal.sig) → Buf (Elt Ideal) ℓ) : Prop :=
  ∀ c : Dev Cert.GluDxRefIdeal.nD,
    (Cert.Pre_finite_glu.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1)) (m ((c.tc : Thread Cert.GluDxRefIdeal.nD Cert.GluDxRefIdeal.τ).loc Cert.GluDxRefIdeal.main_arg2))) = (fun _ => 1#1)

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxIdeal_finite_q [hPre_finite_q : Cert.Pre_finite_q.Facts] (m : (ℓ : Loc Cert.QDxIdeal.nD Cert.QDxIdeal.τ Cert.QDxIdeal.sig) → Buf (Elt Ideal) ℓ) : Prop :=
  ∀ c : Dev Cert.QDxIdeal.nD,
    (Cert.Pre_finite_q.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))) = (fun _ => 1#1)

def Pre_QDxRefIdeal (m : (ℓ : Loc Cert.QDxRefIdeal.nD Cert.QDxRefIdeal.τ Cert.QDxRefIdeal.sig) → Buf (Elt Ideal) ℓ) : Prop :=
  True

def Pre_QDxRefIdeal_finite_q [hPre_finite_q : Cert.Pre_finite_q.Facts] (m : (ℓ : Loc Cert.QDxRefIdeal.nD Cert.QDxRefIdeal.τ Cert.QDxRefIdeal.sig) → Buf (Elt Ideal) ℓ) : Prop :=
  ∀ c : Dev Cert.QDxRefIdeal.nD,
    (Cert.Pre_finite_q.fn (F := Ideal) (m ((c.tc : Thread Cert.QDxRefIdeal.nD Cert.QDxRefIdeal.τ).loc Cert.QDxRefIdeal.main_arg0)) (m ((c.tc : Thread Cert.QDxRefIdeal.nD Cert.QDxRefIdeal.τ).loc Cert.QDxRefIdeal.main_arg1)) (m ((c.tc : Thread Cert.QDxRefIdeal.nD Cert.QDxRefIdeal.τ).loc Cert.QDxRefIdeal.main_arg2)) (m ((c.tc : Thread Cert.QDxRefIdeal.nD Cert.QDxRefIdeal.τ).loc Cert.QDxRefIdeal.main_arg3)) (m ((c.tc : Thread Cert.QDxRefIdeal.nD Cert.QDxRefIdeal.τ).loc Cert.QDxRefIdeal.main_arg4))) = (fun _ => 1#1)

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_in [hPre_finite_in : Cert.Pre_finite_in.Facts] (m : (ℓ : Loc Cert.InDxIdeal.nD Cert.InDxIdeal.τ Cert.InDxIdeal.sig) → Buf (Elt Ideal) ℓ) : Prop :=
  ∀ c : Dev Cert.InDxIdeal.nD,
    (Cert.Pre_finite_in.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6))) = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite_in [hPre_finite_in : Cert.Pre_finite_in.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite_in.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4)) (m ((c.tc : Thread Cert.InDxRefIdeal.nD Cert.InDxRefIdeal.τ).loc Cert.InDxRefIdeal.main_arg5)) (m ((c.tc : Thread Cert.InDxRefIdeal.nD Cert.InDxRefIdeal.τ).loc Cert.InDxRefIdeal.main_arg6))) = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxIdeal_finite_kv [hPre_finite_kv : Cert.Pre_finite_kv.Facts] (m : (ℓ : Loc Cert.KvDxIdeal.nD Cert.KvDxIdeal.τ Cert.KvDxIdeal.sig) → Buf (Elt Ideal) ℓ) : Prop :=
  ∀ c : Dev Cert.KvDxIdeal.nD,
    (Cert.Pre_finite_kv.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3))) = (fun _ => 1#1)

def Pre_KvDxRefIdeal (m : (ℓ : Loc Cert.KvDxRefIdeal.nD Cert.KvDxRefIdeal.τ Cert.KvDxRefIdeal.sig) → Buf (Elt Ideal) ℓ) : Prop :=
  True

def Pre_KvDxRefIdeal_finite_kv [hPre_finite_kv : Cert.Pre_finite_kv.Facts] (m : (ℓ : Loc Cert.KvDxRefIdeal.nD Cert.KvDxRefIdeal.τ Cert.KvDxRefIdeal.sig) → Buf (Elt Ideal) ℓ) : Prop :=
  ∀ c : Dev Cert.KvDxRefIdeal.nD,
    (Cert.Pre_finite_kv.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3))) = (fun _ => 1#1)

def Pre_DtDw (m : (ℓ : Loc Cert.DtDw.nD Cert.DtDw.τ Cert.DtDw.sig) → Buf (Elt Bits) ℓ) : Prop :=
  True

def Pre_DtDwIdeal (m : (ℓ : Loc Cert.DtDwIdeal.nD Cert.DtDwIdeal.τ Cert.DtDwIdeal.sig) → Buf (Elt Ideal) ℓ) : Prop :=
  True

def Pre_DtDwRefIdeal (m : (ℓ : Loc Cert.DtDwRefIdeal.nD Cert.DtDwRefIdeal.τ Cert.DtDwRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxIdeal_pre_finite_up [hUpDxIdeal : Cert.UpDxIdeal.Facts] [hPre_finite_up : Cert.Pre_finite_up.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal_finite_up m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_UpDxRefIdeal_pre_finite_up [hUpDxRefIdeal : Cert.UpDxRefIdeal.Facts] [hPre_finite_up : Cert.Pre_finite_up.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal_finite_up m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxIdeal_pre_finite_glu [hGluDxIdeal : Cert.GluDxIdeal.Facts] [hPre_finite_glu : Cert.Pre_finite_glu.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal_finite_glu m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2))
      ∧ r.2.sem = fun _ => 0)

def quiescent_GluDxRefIdeal_pre_finite_glu [hGluDxRefIdeal : Cert.GluDxRefIdeal.Facts] [hPre_finite_glu : Cert.Pre_finite_glu.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal_finite_glu m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1)
      ∧ r.2.mem ((c.tc : Thread Cert.QDx.nD Cert.QDx.τ).loc Cert.QDx.main_arg2) = m ((c.tc : Thread Cert.QDx.nD Cert.QDx.τ).loc Cert.QDx.main_arg2)
      ∧ r.2.mem ((c.tc : Thread Cert.QDx.nD Cert.QDx.τ).loc Cert.QDx.main_arg3) = m ((c.tc : Thread Cert.QDx.nD Cert.QDx.τ).loc Cert.QDx.main_arg3)
      ∧ r.2.mem ((c.tc : Thread Cert.QDx.nD Cert.QDx.τ).loc Cert.QDx.main_arg4) = m ((c.tc : Thread Cert.QDx.nD Cert.QDx.τ).loc Cert.QDx.main_arg4))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxIdeal_pre_finite_q [hQDxIdeal : Cert.QDxIdeal.Facts] [hPre_finite_q : Cert.Pre_finite_q.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal_finite_q m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1)
      ∧ r.2.mem ((c.tc : Thread Cert.QDxRefIdeal.nD Cert.QDxRefIdeal.τ).loc Cert.QDxRefIdeal.main_arg2) = m ((c.tc : Thread Cert.QDxRefIdeal.nD Cert.QDxRefIdeal.τ).loc Cert.QDxRefIdeal.main_arg2)
      ∧ r.2.mem ((c.tc : Thread Cert.QDxRefIdeal.nD Cert.QDxRefIdeal.τ).loc Cert.QDxRefIdeal.main_arg3) = m ((c.tc : Thread Cert.QDxRefIdeal.nD Cert.QDxRefIdeal.τ).loc Cert.QDxRefIdeal.main_arg3)
      ∧ r.2.mem ((c.tc : Thread Cert.QDxRefIdeal.nD Cert.QDxRefIdeal.τ).loc Cert.QDxRefIdeal.main_arg4) = m ((c.tc : Thread Cert.QDxRefIdeal.nD Cert.QDxRefIdeal.τ).loc Cert.QDxRefIdeal.main_arg4))
      ∧ r.2.sem = fun _ => 0)

def quiescent_QDxRefIdeal_pre_finite_q [hQDxRefIdeal : Cert.QDxRefIdeal.Facts] [hPre_finite_q : Cert.Pre_finite_q.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal_finite_q m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1)
      ∧ r.2.mem ((c.tc : Thread Cert.QDxRefIdeal.nD Cert.QDxRefIdeal.τ).loc Cert.QDxRefIdeal.main_arg2) = m ((c.tc : Thread Cert.QDxRefIdeal.nD Cert.QDxRefIdeal.τ).loc Cert.QDxRefIdeal.main_arg2)
      ∧ r.2.mem ((c.tc : Thread Cert.QDxRefIdeal.nD Cert.QDxRefIdeal.τ).loc Cert.QDxRefIdeal.main_arg3) = m ((c.tc : Thread Cert.QDxRefIdeal.nD Cert.QDxRefIdeal.τ).loc Cert.QDxRefIdeal.main_arg3)
      ∧ r.2.mem ((c.tc : Thread Cert.QDxRefIdeal.nD Cert.QDxRefIdeal.τ).loc Cert.QDxRefIdeal.main_arg4) = m ((c.tc : Thread Cert.QDxRefIdeal.nD Cert.QDxRefIdeal.τ).loc Cert.QDxRefIdeal.main_arg4))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxIdeal_pre_finite_in [hInDxIdeal : Cert.InDxIdeal.Facts] [hPre_finite_in : Cert.Pre_finite_in.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_in m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6))
      ∧ r.2.sem = fun _ => 0)

def quiescent_InDxRefIdeal_pre_finite_in [hInDxRefIdeal : Cert.InDxRefIdeal.Facts] [hPre_finite_in : Cert.Pre_finite_in.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite_in m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1)
      ∧ r.2.mem ((c.tc : Thread Cert.GluDw.nD Cert.GluDw.τ).loc Cert.GluDw.main_arg2) = m ((c.tc : Thread Cert.GluDw.nD Cert.GluDw.τ).loc Cert.GluDw.main_arg2))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
      ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1)
      ∧ r.2.mem ((c.tc : Thread Cert.GluDwRefIdeal.nD Cert.GluDwRefIdeal.τ).loc Cert.GluDwRefIdeal.main_arg2) = m ((c.tc : Thread Cert.GluDwRefIdeal.nD Cert.GluDwRefIdeal.τ).loc Cert.GluDwRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2)
      ∧ r.2.mem ((c.tc : Thread Cert.KvDx.nD Cert.KvDx.τ).loc Cert.KvDx.main_arg3) = m ((c.tc : Thread Cert.KvDx.nD Cert.KvDx.τ).loc Cert.KvDx.main_arg3))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3))
      ∧ r.2.sem = fun _ => 0)

def quiescent_KvDxIdeal_pre_finite_kv [hKvDxIdeal : Cert.KvDxIdeal.Facts] [hPre_finite_kv : Cert.Pre_finite_kv.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal_finite_kv m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3))
      ∧ r.2.sem = fun _ => 0)

def quiescent_KvDxRefIdeal_pre_finite_kv [hKvDxRefIdeal : Cert.KvDxRefIdeal.Facts] [hPre_finite_kv : Cert.Pre_finite_kv.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal_finite_kv m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3))
      ∧ r.2.sem = fun _ => 0)

def quiescent_DtDw [hDtDw : Cert.DtDw.Facts] : Prop :=
  ∀ (m : (ℓ : Loc Cert.DtDw.nD Cert.DtDw.τ Cert.DtDw.sig) → Buf (Elt Bits) ℓ) (g : Dev Cert.DtDw.nD → PrngReg), Pre_DtDw m →
    θ_run (Cert.DtDw.defs (F := Bits)) (onTc (τ := Cert.DtDw.τ) (Cert.DtDw.main (F := Bits))) ⟨m, fun _ => 0, g⟩ (fun r => (∀ c : Dev Cert.DtDw.nD,
      r.2.mem ((c.tc : Thread Cert.DtDw.nD Cert.DtDw.τ).loc Cert.DtDw.main_arg0) = m ((c.tc : Thread Cert.DtDw.nD Cert.DtDw.τ).loc Cert.DtDw.main_arg0)
      ∧ r.2.mem ((c.tc : Thread Cert.DtDw.nD Cert.DtDw.τ).loc Cert.DtDw.main_arg1) = m ((c.tc : Thread Cert.DtDw.nD Cert.DtDw.τ).loc Cert.DtDw.main_arg1))
      ∧ r.2.sem = fun _ => 0)

def quiescent_DtDwIdeal [hDtDwIdeal : Cert.DtDwIdeal.Facts] : Prop :=
  ∀ (m : (ℓ : Loc Cert.DtDwIdeal.nD Cert.DtDwIdeal.τ Cert.DtDwIdeal.sig) → Buf (Elt Ideal) ℓ) (g : Dev Cert.DtDwIdeal.nD → PrngReg), Pre_DtDwIdeal m →
    θ_run (Cert.DtDwIdeal.defs (F := Ideal)) (onTc (τ := Cert.DtDwIdeal.τ) (Cert.DtDwIdeal.main (F := Ideal))) ⟨m, fun _ => 0, g⟩ (fun r => (∀ c : Dev Cert.DtDwIdeal.nD,
      r.2.mem ((c.tc : Thread Cert.DtDwIdeal.nD Cert.DtDwIdeal.τ).loc Cert.DtDwIdeal.main_arg0) = m ((c.tc : Thread Cert.DtDwIdeal.nD Cert.DtDwIdeal.τ).loc Cert.DtDwIdeal.main_arg0)
      ∧ r.2.mem ((c.tc : Thread Cert.DtDwIdeal.nD Cert.DtDwIdeal.τ).loc Cert.DtDwIdeal.main_arg1) = m ((c.tc : Thread Cert.DtDwIdeal.nD Cert.DtDwIdeal.τ).loc Cert.DtDwIdeal.main_arg1))
      ∧ r.2.sem = fun _ => 0)

def quiescent_DtDwRefIdeal [hDtDwRefIdeal : Cert.DtDwRefIdeal.Facts] : Prop :=
  ∀ (m : (ℓ : Loc Cert.DtDwRefIdeal.nD Cert.DtDwRefIdeal.τ Cert.DtDwRefIdeal.sig) → Buf (Elt Ideal) ℓ) (g : Dev Cert.DtDwRefIdeal.nD → PrngReg), Pre_DtDwRefIdeal m →
    θ_run (Cert.DtDwRefIdeal.defs (F := Ideal)) (onTc (τ := Cert.DtDwRefIdeal.τ) (Cert.DtDwRefIdeal.main (F := Ideal))) ⟨m, fun _ => 0, g⟩ (fun r => (∀ c : Dev Cert.DtDwRefIdeal.nD,
      r.2.mem ((c.tc : Thread Cert.DtDwRefIdeal.nD Cert.DtDwRefIdeal.τ).loc Cert.DtDwRefIdeal.main_arg0) = m ((c.tc : Thread Cert.DtDwRefIdeal.nD Cert.DtDwRefIdeal.τ).loc Cert.DtDwRefIdeal.main_arg0)
      ∧ r.2.mem ((c.tc : Thread Cert.DtDwRefIdeal.nD Cert.DtDwRefIdeal.τ).loc Cert.DtDwRefIdeal.main_arg1) = m ((c.tc : Thread Cert.DtDwRefIdeal.nD Cert.DtDwRefIdeal.τ).loc Cert.DtDwRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal_pre_finite_up [hUpDxIdeal : Cert.UpDxIdeal.Facts] [hUpDxRefIdeal : Cert.UpDxRefIdeal.Facts] [hPre_finite_up : Cert.Pre_finite_up.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal_finite_up m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v8_0)) (v1 : (c : Dev Cert.UpDxIdeal.nD) → Buf (Elt Ideal) ((c.tc : Thread Cert.UpDxIdeal.nD Cert.UpDxIdeal.τ).loc Cert.UpDxIdeal.main_v8_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v8_0) = v0 c
          ∧ r.2.mem ((c.tc : Thread Cert.UpDxIdeal.nD Cert.UpDxIdeal.τ).loc Cert.UpDxIdeal.main_v8_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v38) = v0 c
          ∧ r.2.mem ((c.tc : Thread Cert.UpDxRefIdeal.nD Cert.UpDxRefIdeal.τ).loc Cert.UpDxRefIdeal.main_v21) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_GluDx_GluDxIdeal : Prop :=
  IdealRules.named_const.Statement Cert.GluDxIdeal.κ "cube" .f32 0x3D372713#32 ((8943 / 200000 : ℝ) : EReal)
  ∧ IdealRules.named_const.Statement Cert.GluDxIdeal.κ "three_cube" .f32 0x3E095D4F#32 ((26829 / 200000 : ℝ) : EReal)

def algebraic_GluDxIdeal_GluDxRefIdeal_pre_finite_glu [hGluDxIdeal : Cert.GluDxIdeal.Facts] [hGluDxRefIdeal : Cert.GluDxRefIdeal.Facts] [hPre_finite_glu : Cert.Pre_finite_glu.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal_finite_glu m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)) →
    ∃ (v0 : (c : Dev Cert.GluDxIdeal.nD) → Buf (Elt Ideal) ((c.tc : Thread Cert.GluDxIdeal.nD Cert.GluDxIdeal.τ).loc Cert.GluDxIdeal.main_v18)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v18) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v54) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v4) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v4) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_QDx_QDxIdeal : Prop :=
  True

def algebraic_QDxIdeal_QDxRefIdeal_pre_finite_q [hQDxIdeal : Cert.QDxIdeal.Facts] [hQDxRefIdeal : Cert.QDxRefIdeal.Facts] [hPre_finite_q : Cert.Pre_finite_q.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal_finite_q m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)
      ∧ m' ((c.tc : Thread Cert.QDxRefIdeal.nD Cert.QDxRefIdeal.τ).loc Cert.QDxRefIdeal.main_arg2) = m ((c.tc : Thread Cert.QDxIdeal.nD Cert.QDxIdeal.τ).loc Cert.QDxIdeal.main_arg2)
      ∧ m' ((c.tc : Thread Cert.QDxRefIdeal.nD Cert.QDxRefIdeal.τ).loc Cert.QDxRefIdeal.main_arg3) = m ((c.tc : Thread Cert.QDxIdeal.nD Cert.QDxIdeal.τ).loc Cert.QDxIdeal.main_arg3)
      ∧ m' ((c.tc : Thread Cert.QDxRefIdeal.nD Cert.QDxRefIdeal.τ).loc Cert.QDxRefIdeal.main_arg4) = m ((c.tc : Thread Cert.QDxIdeal.nD Cert.QDxIdeal.τ).loc Cert.QDxIdeal.main_arg4)) →
    ∃ (v0 : (c : Dev Cert.QDxIdeal.nD) → Buf (Elt Ideal) ((c.tc : Thread Cert.QDxIdeal.nD Cert.QDxIdeal.τ).loc Cert.QDxIdeal.main_v8_0)) (v1 : (c : Dev Cert.QDxIdeal.nD) → Buf (Elt Ideal) ((c.tc : Thread Cert.QDxIdeal.nD Cert.QDxIdeal.τ).loc Cert.QDxIdeal.main_v8_1)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v8_0) = v0 c
          ∧ r.2.mem ((c.tc : Thread Cert.QDxIdeal.nD Cert.QDxIdeal.τ).loc Cert.QDxIdeal.main_v8_1) = v1 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
          ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
          ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
          ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v38) = v0 c
          ∧ r.2.mem ((c.tc : Thread Cert.QDxRefIdeal.nD Cert.QDxRefIdeal.τ).loc Cert.QDxRefIdeal.main_v21) = v1 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1)
          ∧ r.2.mem ((c.tc : Thread Cert.QDxRefIdeal.nD Cert.QDxRefIdeal.τ).loc Cert.QDxRefIdeal.main_arg2) = m' ((c.tc : Thread Cert.QDxRefIdeal.nD Cert.QDxRefIdeal.τ).loc Cert.QDxRefIdeal.main_arg2)
          ∧ r.2.mem ((c.tc : Thread Cert.QDxRefIdeal.nD Cert.QDxRefIdeal.τ).loc Cert.QDxRefIdeal.main_arg3) = m' ((c.tc : Thread Cert.QDxRefIdeal.nD Cert.QDxRefIdeal.τ).loc Cert.QDxRefIdeal.main_arg3)
          ∧ r.2.mem ((c.tc : Thread Cert.QDxRefIdeal.nD Cert.QDxRefIdeal.τ).loc Cert.QDxRefIdeal.main_arg4) = m' ((c.tc : Thread Cert.QDxRefIdeal.nD Cert.QDxRefIdeal.τ).loc Cert.QDxRefIdeal.main_arg4))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v5) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_InDx_InDxIdeal : Prop :=
  True

def algebraic_InDxIdeal_InDxRefIdeal_pre_finite_in [hInDxIdeal : Cert.InDxIdeal.Facts] [hInDxRefIdeal : Cert.InDxRefIdeal.Facts] [hPre_finite_in : Cert.Pre_finite_in.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite_in m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)) →
    ∃ (v0 : (c : Dev Cert.InDxIdeal.nD) → Buf (Elt Ideal) ((c.tc : Thread Cert.InDxIdeal.nD Cert.InDxIdeal.τ).loc Cert.InDxIdeal.main_v8_0)) (v1 : (c : Dev Cert.InDxIdeal.nD) → Buf (Elt Ideal) ((c.tc : Thread Cert.InDxIdeal.nD Cert.InDxIdeal.τ).loc Cert.InDxIdeal.main_v8_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v8_0) = v0 c
          ∧ r.2.mem ((c.tc : Thread Cert.InDxIdeal.nD Cert.InDxIdeal.τ).loc Cert.InDxIdeal.main_v8_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v44) = v0 c
          ∧ r.2.mem ((c.tc : Thread Cert.InDxRefIdeal.nD Cert.InDxRefIdeal.τ).loc Cert.InDxRefIdeal.main_v27) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_GluDw_GluDwIdeal : Prop :=
  IdealRules.named_const.Statement Cert.GluDwIdeal.κ "cube" .f32 0x3D372713#32 ((8943 / 200000 : ℝ) : EReal)

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)
      ∧ m' ((c.tc : Thread Cert.GluDwRefIdeal.nD Cert.GluDwRefIdeal.τ).loc Cert.GluDwRefIdeal.main_arg2) = m ((c.tc : Thread Cert.GluDwIdeal.nD Cert.GluDwIdeal.τ).loc Cert.GluDwIdeal.main_arg2)) →
    ∃ (v0 : (c : Dev Cert.GluDwIdeal.nD) → Buf (Elt Ideal) ((c.tc : Thread Cert.GluDwIdeal.nD Cert.GluDwIdeal.τ).loc Cert.GluDwIdeal.main_v19)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v19) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
          ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v32) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1)
          ∧ r.2.mem ((c.tc : Thread Cert.GluDwRefIdeal.nD Cert.GluDwRefIdeal.τ).loc Cert.GluDwRefIdeal.main_arg2) = m' ((c.tc : Thread Cert.GluDwRefIdeal.nD Cert.GluDwRefIdeal.τ).loc Cert.GluDwRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)) (v2 : (c : Dev Cert.MlpUpIdeal.nD) → Buf (Elt Ideal) ((c.tc : Thread Cert.MlpUpIdeal.nD Cert.MlpUpIdeal.τ).loc Cert.MlpUpIdeal.main_v0_2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_v0_2) = v2 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v14) = v0 c
          ∧ r.2.mem ((c.tc : Thread Cert.MlpUpRefIdeal.nD Cert.MlpUpRefIdeal.τ).loc Cert.MlpUpRefIdeal.main_v15) = v1 c
          ∧ r.2.mem ((c.tc : Thread Cert.MlpUpRefIdeal.nD Cert.MlpUpRefIdeal.τ).loc Cert.MlpUpRefIdeal.main_v23) = v2 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v5) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v24) = v2 c
          ∧ r.2.mem ((c.tc : Thread Cert.InProjRefIdeal.nD Cert.InProjRefIdeal.τ).loc Cert.InProjRefIdeal.main_v39) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v0_0)) (v1 : (c : Dev Cert.QProjIdeal.nD) → Buf (Elt Ideal) ((c.tc : Thread Cert.QProjIdeal.nD Cert.QProjIdeal.τ).loc Cert.QProjIdeal.main_v0_1)) (v2 : (c : Dev Cert.QProjIdeal.nD) → Buf (Elt Ideal) ((c.tc : Thread Cert.QProjIdeal.nD Cert.QProjIdeal.τ).loc Cert.QProjIdeal.main_v0_2)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0_0) = v0 c
          ∧ r.2.mem ((c.tc : Thread Cert.QProjIdeal.nD Cert.QProjIdeal.τ).loc Cert.QProjIdeal.main_v0_1) = v1 c
          ∧ r.2.mem ((c.tc : Thread Cert.QProjIdeal.nD Cert.QProjIdeal.τ).loc Cert.QProjIdeal.main_v0_2) = v2 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v14) = v0 c
          ∧ r.2.mem ((c.tc : Thread Cert.QProjRefIdeal.nD Cert.QProjRefIdeal.τ).loc Cert.QProjRefIdeal.main_v15) = v1 c
          ∧ r.2.mem ((c.tc : Thread Cert.QProjRefIdeal.nD Cert.QProjRefIdeal.τ).loc Cert.QProjRefIdeal.main_v23) = v2 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v3) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v0_0)) (v1 : (c : Dev Cert.KvProjIdeal.nD) → Buf (Elt Ideal) ((c.tc : Thread Cert.KvProjIdeal.nD Cert.KvProjIdeal.τ).loc Cert.KvProjIdeal.main_v0_1)) (v2 : (c : Dev Cert.KvProjIdeal.nD) → Buf (Elt Ideal) ((c.tc : Thread Cert.KvProjIdeal.nD Cert.KvProjIdeal.τ).loc Cert.KvProjIdeal.main_v0_2)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0_0) = v0 c
          ∧ r.2.mem ((c.tc : Thread Cert.KvProjIdeal.nD Cert.KvProjIdeal.τ).loc Cert.KvProjIdeal.main_v0_1) = v1 c
          ∧ r.2.mem ((c.tc : Thread Cert.KvProjIdeal.nD Cert.KvProjIdeal.τ).loc Cert.KvProjIdeal.main_v0_2) = v2 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v14) = v0 c
          ∧ r.2.mem ((c.tc : Thread Cert.KvProjRefIdeal.nD Cert.KvProjRefIdeal.τ).loc Cert.KvProjRefIdeal.main_v15) = v1 c
          ∧ r.2.mem ((c.tc : Thread Cert.KvProjRefIdeal.nD Cert.KvProjRefIdeal.τ).loc Cert.KvProjRefIdeal.main_v23) = v2 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_GluFwd_GluFwdIdeal : Prop :=
  IdealRules.named_const.Statement Cert.GluFwdIdeal.κ "cube" .f32 0x3D372713#32 ((8943 / 200000 : ℝ) : EReal)

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v1)) (v1 : (c : Dev Cert.GluFwdIdeal.nD) → Buf (Elt Ideal) ((c.tc : Thread Cert.GluFwdIdeal.nD Cert.GluFwdIdeal.τ).loc Cert.GluFwdIdeal.main_v0_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v1) = v0 c
          ∧ r.2.mem ((c.tc : Thread Cert.GluFwdIdeal.nD Cert.GluFwdIdeal.τ).loc Cert.GluFwdIdeal.main_v0_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v24) = v0 c
          ∧ r.2.mem ((c.tc : Thread Cert.GluFwdRefIdeal.nD Cert.GluFwdRefIdeal.τ).loc Cert.GluFwdRefIdeal.main_v41) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v4) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_KvDx_KvDxIdeal : Prop :=
  True

def algebraic_KvDxIdeal_KvDxRefIdeal_pre_finite_kv [hKvDxIdeal : Cert.KvDxIdeal.Facts] [hKvDxRefIdeal : Cert.KvDxRefIdeal.Facts] [hPre_finite_kv : Cert.Pre_finite_kv.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal_finite_kv m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)
      ∧ m' ((c.tc : Thread Cert.KvDxRefIdeal.nD Cert.KvDxRefIdeal.τ).loc Cert.KvDxRefIdeal.main_arg3) = m ((c.tc : Thread Cert.KvDxIdeal.nD Cert.KvDxIdeal.τ).loc Cert.KvDxIdeal.main_arg3)) →
    ∃ (v0 : (c : Dev Cert.KvDxIdeal.nD) → Buf (Elt Ideal) ((c.tc : Thread Cert.KvDxIdeal.nD Cert.KvDxIdeal.τ).loc Cert.KvDxIdeal.main_v9_0)) (v1 : (c : Dev Cert.KvDxIdeal.nD) → Buf (Elt Ideal) ((c.tc : Thread Cert.KvDxIdeal.nD Cert.KvDxIdeal.τ).loc Cert.KvDxIdeal.main_v9_1)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v9_0) = v0 c
          ∧ r.2.mem ((c.tc : Thread Cert.KvDxIdeal.nD Cert.KvDxIdeal.τ).loc Cert.KvDxIdeal.main_v9_1) = v1 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
          ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v36) = v0 c
          ∧ r.2.mem ((c.tc : Thread Cert.KvDxRefIdeal.nD Cert.KvDxRefIdeal.τ).loc Cert.KvDxRefIdeal.main_v20) = v1 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2)
          ∧ r.2.mem ((c.tc : Thread Cert.KvDxRefIdeal.nD Cert.KvDxRefIdeal.τ).loc Cert.KvDxRefIdeal.main_arg3) = m' ((c.tc : Thread Cert.KvDxRefIdeal.nD Cert.KvDxRefIdeal.τ).loc Cert.KvDxRefIdeal.main_arg3))

def preserves_DtDw_DtDwIdeal : Prop :=
  True

def algebraic_DtDwIdeal_DtDwRefIdeal [hDtDwIdeal : Cert.DtDwIdeal.Facts] [hDtDwRefIdeal : Cert.DtDwRefIdeal.Facts] : Prop :=
  ∀ (m : (ℓ : Loc Cert.DtDwIdeal.nD Cert.DtDwIdeal.τ Cert.DtDwIdeal.sig) → Buf (Elt Ideal) ℓ) (g : Dev Cert.DtDwIdeal.nD → PrngReg)
    (m' : (ℓ : Loc Cert.DtDwRefIdeal.nD Cert.DtDwRefIdeal.τ Cert.DtDwRefIdeal.sig) → Buf (Elt Ideal) ℓ) (g' : Dev Cert.DtDwRefIdeal.nD → PrngReg), Pre_DtDwIdeal m →
    (∀ c : Dev Cert.DtDwIdeal.nD,
      m' ((c.tc : Thread Cert.DtDwRefIdeal.nD Cert.DtDwRefIdeal.τ).loc Cert.DtDwRefIdeal.main_arg0) = m ((c.tc : Thread Cert.DtDwIdeal.nD Cert.DtDwIdeal.τ).loc Cert.DtDwIdeal.main_arg0)
      ∧ m' ((c.tc : Thread Cert.DtDwRefIdeal.nD Cert.DtDwRefIdeal.τ).loc Cert.DtDwRefIdeal.main_arg1) = m ((c.tc : Thread Cert.DtDwIdeal.nD Cert.DtDwIdeal.τ).loc Cert.DtDwIdeal.main_arg1)) →
    ∃ (v0 : (c : Dev Cert.DtDwIdeal.nD) → Buf (Elt Ideal) ((c.tc : Thread Cert.DtDwIdeal.nD Cert.DtDwIdeal.τ).loc Cert.DtDwIdeal.main_v0)),
      θ_run (Cert.DtDwIdeal.defs (F := Ideal)) (onTc (τ := Cert.DtDwIdeal.τ) (Cert.DtDwIdeal.main (F := Ideal))) ⟨m, fun _ => 0, g⟩ (fun r => ∀ c : Dev Cert.DtDwIdeal.nD,
          r.2.mem ((c.tc : Thread Cert.DtDwIdeal.nD Cert.DtDwIdeal.τ).loc Cert.DtDwIdeal.main_v0) = v0 c
          ∧ r.2.mem ((c.tc : Thread Cert.DtDwIdeal.nD Cert.DtDwIdeal.τ).loc Cert.DtDwIdeal.main_arg0) = m ((c.tc : Thread Cert.DtDwIdeal.nD Cert.DtDwIdeal.τ).loc Cert.DtDwIdeal.main_arg0)
          ∧ r.2.mem ((c.tc : Thread Cert.DtDwIdeal.nD Cert.DtDwIdeal.τ).loc Cert.DtDwIdeal.main_arg1) = m ((c.tc : Thread Cert.DtDwIdeal.nD Cert.DtDwIdeal.τ).loc Cert.DtDwIdeal.main_arg1))
      ∧ θ_run (Cert.DtDwRefIdeal.defs (F := Ideal)) (onTc (τ := Cert.DtDwRefIdeal.τ) (Cert.DtDwRefIdeal.main (F := Ideal))) ⟨m', fun _ => 0, g'⟩ (fun r => ∀ c : Dev Cert.DtDwRefIdeal.nD,
          r.2.mem ((c.tc : Thread Cert.DtDwRefIdeal.nD Cert.DtDwRefIdeal.τ).loc Cert.DtDwRefIdeal.main_v6) = v0 c
          ∧ r.2.mem ((c.tc : Thread Cert.DtDwRefIdeal.nD Cert.DtDwRefIdeal.τ).loc Cert.DtDwRefIdeal.main_arg0) = m' ((c.tc : Thread Cert.DtDwRefIdeal.nD Cert.DtDwRefIdeal.τ).loc Cert.DtDwRefIdeal.main_arg0)
          ∧ r.2.mem ((c.tc : Thread Cert.DtDwRefIdeal.nD Cert.DtDwRefIdeal.τ).loc Cert.DtDwRefIdeal.main_arg1) = m' ((c.tc : Thread Cert.DtDwRefIdeal.nD Cert.DtDwRefIdeal.τ).loc Cert.DtDwRefIdeal.main_arg1))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamMlp_AdamMlpIdeal : Prop :=
  IdealRules.named_const.Statement Cert.AdamMlpIdeal.κ "b1" .f32 0x3F666666#32 ((9 / 10 : ℝ) : EReal)
  ∧ IdealRules.named_const.Statement Cert.AdamMlpIdeal.κ "b1c" .f32 0x3DCCCCCD#32 ((1 / 10 : ℝ) : EReal)
  ∧ IdealRules.named_const.Statement Cert.AdamMlpIdeal.κ "b2" .f32 0x3F7FBE77#32 ((999 / 1000 : ℝ) : EReal)
  ∧ IdealRules.named_const.Statement Cert.AdamMlpIdeal.κ "b2c" .f32 0x3A83126F#32 ((1 / 1000 : ℝ) : EReal)
  ∧ IdealRules.named_const.Statement Cert.AdamMlpIdeal.κ "c1" .f32 0x3FC48605#32 ((10000000000 / 6513215599 : ℝ) : EReal)
  ∧ IdealRules.named_const.Statement Cert.AdamMlpIdeal.κ "c2" .f32 0x42C8E6D3#32 ((1000000000000000000000000000000 / 9955119790251790119955009999 : ℝ) : EReal)

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v37) = v0 c
          ∧ r.2.mem ((c.tc : Thread Cert.AdamMlpRefIdeal.nD Cert.AdamMlpRefIdeal.τ).loc Cert.AdamMlpRefIdeal.main_v7) = v1 c
          ∧ r.2.mem ((c.tc : Thread Cert.AdamMlpRefIdeal.nD Cert.AdamMlpRefIdeal.τ).loc Cert.AdamMlpRefIdeal.main_v14) = v2 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hGluDx : Cert.GluDx.Facts) (hGluDxIdeal : Cert.GluDxIdeal.Facts) (hGluDxRefIdeal : Cert.GluDxRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hAttnOutDx : Cert.AttnOutDx.Facts) (hAttnOutDxIdeal : Cert.AttnOutDxIdeal.Facts) (hAttnOutDxRefIdeal : Cert.AttnOutDxRefIdeal.Facts) (hAttnOutDw : Cert.AttnOutDw.Facts) (hAttnOutDwIdeal : Cert.AttnOutDwIdeal.Facts) (hAttnOutDwRefIdeal : Cert.AttnOutDwRefIdeal.Facts) (hQDx : Cert.QDx.Facts) (hQDxIdeal : Cert.QDxIdeal.Facts) (hQDxRefIdeal : Cert.QDxRefIdeal.Facts) (hQDw : Cert.QDw.Facts) (hQDwIdeal : Cert.QDwIdeal.Facts) (hQDwRefIdeal : Cert.QDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hGluDw : Cert.GluDw.Facts) (hGluDwIdeal : Cert.GluDwIdeal.Facts) (hGluDwRefIdeal : Cert.GluDwRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQProj : Cert.QProj.Facts) (hQProjIdeal : Cert.QProjIdeal.Facts) (hQProjRefIdeal : Cert.QProjRefIdeal.Facts) (hAttnOut : Cert.AttnOut.Facts) (hAttnOutIdeal : Cert.AttnOutIdeal.Facts) (hAttnOutRefIdeal : Cert.AttnOutRefIdeal.Facts) (hAttnFwd : Cert.AttnFwd.Facts) (hAttnFwdIdeal : Cert.AttnFwdIdeal.Facts) (hAttnFwdRefIdeal : Cert.AttnFwdRefIdeal.Facts) (hKvProj : Cert.KvProj.Facts) (hKvProjIdeal : Cert.KvProjIdeal.Facts) (hKvProjRefIdeal : Cert.KvProjRefIdeal.Facts) (hGluFwd : Cert.GluFwd.Facts) (hGluFwdIdeal : Cert.GluFwdIdeal.Facts) (hGluFwdRefIdeal : Cert.GluFwdRefIdeal.Facts) (hKvDw : Cert.KvDw.Facts) (hKvDwIdeal : Cert.KvDwIdeal.Facts) (hKvDwRefIdeal : Cert.KvDwRefIdeal.Facts) (hKvDx : Cert.KvDx.Facts) (hKvDxIdeal : Cert.KvDxIdeal.Facts) (hKvDxRefIdeal : Cert.KvDxRefIdeal.Facts) (hDtDw : Cert.DtDw.Facts) (hDtDwIdeal : Cert.DtDwIdeal.Facts) (hDtDwRefIdeal : Cert.DtDwRefIdeal.Facts) (hLossHead : Cert.LossHead.Facts) (hLossHeadIdeal : Cert.LossHeadIdeal.Facts) (hLossHeadRefIdeal : Cert.LossHeadRefIdeal.Facts) (hAdamMlp : Cert.AdamMlp.Facts) (hAdamMlpIdeal : Cert.AdamMlpIdeal.Facts) (hAdamMlpRefIdeal : Cert.AdamMlpRefIdeal.Facts) (hPre_finite : Cert.Pre_finite.Facts) (hPre_finite_up : Cert.Pre_finite_up.Facts) (hPre_finite_glu : Cert.Pre_finite_glu.Facts) (hPre_finite_q : Cert.Pre_finite_q.Facts) (hPre_finite_in : Cert.Pre_finite_in.Facts) (hPre_finite_kv : Cert.Pre_finite_kv.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxIdeal_pre_finite_up (hUpDxIdeal := hUpDxIdeal) (hPre_finite_up := hPre_finite_up)
    ∧ quiescent_UpDxRefIdeal (hUpDxRefIdeal := hUpDxRefIdeal)
    ∧ quiescent_UpDxRefIdeal_pre_finite_up (hUpDxRefIdeal := hUpDxRefIdeal) (hPre_finite_up := hPre_finite_up)
    ∧ quiescent_GluDx (hGluDx := hGluDx)
    ∧ quiescent_GluDxIdeal (hGluDxIdeal := hGluDxIdeal)
    ∧ quiescent_GluDxIdeal_pre_finite_glu (hGluDxIdeal := hGluDxIdeal) (hPre_finite_glu := hPre_finite_glu)
    ∧ quiescent_GluDxRefIdeal (hGluDxRefIdeal := hGluDxRefIdeal)
    ∧ quiescent_GluDxRefIdeal_pre_finite_glu (hGluDxRefIdeal := hGluDxRefIdeal) (hPre_finite_glu := hPre_finite_glu)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_QDx (hQDx := hQDx)
    ∧ quiescent_QDxIdeal (hQDxIdeal := hQDxIdeal)
    ∧ quiescent_QDxIdeal_pre_finite_q (hQDxIdeal := hQDxIdeal) (hPre_finite_q := hPre_finite_q)
    ∧ quiescent_QDxRefIdeal (hQDxRefIdeal := hQDxRefIdeal)
    ∧ quiescent_QDxRefIdeal_pre_finite_q (hQDxRefIdeal := hQDxRefIdeal) (hPre_finite_q := hPre_finite_q)
    ∧ quiescent_QDw (hQDw := hQDw)
    ∧ quiescent_QDwIdeal (hQDwIdeal := hQDwIdeal)
    ∧ quiescent_QDwRefIdeal (hQDwRefIdeal := hQDwRefIdeal)
    ∧ quiescent_InDx (hInDx := hInDx)
    ∧ quiescent_InDxIdeal (hInDxIdeal := hInDxIdeal)
    ∧ quiescent_InDxIdeal_pre_finite_in (hInDxIdeal := hInDxIdeal) (hPre_finite_in := hPre_finite_in)
    ∧ quiescent_InDxRefIdeal (hInDxRefIdeal := hInDxRefIdeal)
    ∧ quiescent_InDxRefIdeal_pre_finite_in (hInDxRefIdeal := hInDxRefIdeal) (hPre_finite_in := hPre_finite_in)
    ∧ quiescent_InDw (hInDw := hInDw)
    ∧ quiescent_InDwIdeal (hInDwIdeal := hInDwIdeal)
    ∧ quiescent_InDwRefIdeal (hInDwRefIdeal := hInDwRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QProj (hQProj := hQProj)
    ∧ quiescent_QProjIdeal (hQProjIdeal := hQProjIdeal)
    ∧ quiescent_QProjRefIdeal (hQProjRefIdeal := hQProjRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvDx (hKvDx := hKvDx)
    ∧ quiescent_KvDxIdeal (hKvDxIdeal := hKvDxIdeal)
    ∧ quiescent_KvDxIdeal_pre_finite_kv (hKvDxIdeal := hKvDxIdeal) (hPre_finite_kv := hPre_finite_kv)
    ∧ quiescent_KvDxRefIdeal (hKvDxRefIdeal := hKvDxRefIdeal)
    ∧ quiescent_KvDxRefIdeal_pre_finite_kv (hKvDxRefIdeal := hKvDxRefIdeal) (hPre_finite_kv := hPre_finite_kv)
    ∧ quiescent_DtDw (hDtDw := hDtDw)
    ∧ quiescent_DtDwIdeal (hDtDwIdeal := hDtDwIdeal)
    ∧ quiescent_DtDwRefIdeal (hDtDwRefIdeal := hDtDwRefIdeal)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal_pre_finite_up (hUpDxIdeal := hUpDxIdeal) (hUpDxRefIdeal := hUpDxRefIdeal) (hPre_finite_up := hPre_finite_up)
    ∧ preserves_GluDx_GluDxIdeal
    ∧ algebraic_GluDxIdeal_GluDxRefIdeal_pre_finite_glu (hGluDxIdeal := hGluDxIdeal) (hGluDxRefIdeal := hGluDxRefIdeal) (hPre_finite_glu := hPre_finite_glu)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_QDx_QDxIdeal
    ∧ algebraic_QDxIdeal_QDxRefIdeal_pre_finite_q (hQDxIdeal := hQDxIdeal) (hQDxRefIdeal := hQDxRefIdeal) (hPre_finite_q := hPre_finite_q)
    ∧ preserves_QDw_QDwIdeal
    ∧ algebraic_QDwIdeal_QDwRefIdeal (hQDwIdeal := hQDwIdeal) (hQDwRefIdeal := hQDwRefIdeal)
    ∧ preserves_InDx_InDxIdeal
    ∧ algebraic_InDxIdeal_InDxRefIdeal_pre_finite_in (hInDxIdeal := hInDxIdeal) (hInDxRefIdeal := hInDxRefIdeal) (hPre_finite_in := hPre_finite_in)
    ∧ preserves_InDw_InDwIdeal
    ∧ algebraic_InDwIdeal_InDwRefIdeal (hInDwIdeal := hInDwIdeal) (hInDwRefIdeal := hInDwRefIdeal)
    ∧ preserves_GluDw_GluDwIdeal
    ∧ algebraic_GluDwIdeal_GluDwRefIdeal (hGluDwIdeal := hGluDwIdeal) (hGluDwRefIdeal := hGluDwRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_QProj_QProjIdeal
    ∧ algebraic_QProjIdeal_QProjRefIdeal (hQProjIdeal := hQProjIdeal) (hQProjRefIdeal := hQProjRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_KvProj_KvProjIdeal
    ∧ algebraic_KvProjIdeal_KvProjRefIdeal (hKvProjIdeal := hKvProjIdeal) (hKvProjRefIdeal := hKvProjRefIdeal)
    ∧ preserves_GluFwd_GluFwdIdeal
    ∧ algebraic_GluFwdIdeal_GluFwdRefIdeal (hGluFwdIdeal := hGluFwdIdeal) (hGluFwdRefIdeal := hGluFwdRefIdeal)
    ∧ preserves_KvDw_KvDwIdeal
    ∧ algebraic_KvDwIdeal_KvDwRefIdeal (hKvDwIdeal := hKvDwIdeal) (hKvDwRefIdeal := hKvDwRefIdeal)
    ∧ preserves_KvDx_KvDxIdeal
    ∧ algebraic_KvDxIdeal_KvDxRefIdeal_pre_finite_kv (hKvDxIdeal := hKvDxIdeal) (hKvDxRefIdeal := hKvDxRefIdeal) (hPre_finite_kv := hPre_finite_kv)
    ∧ preserves_DtDw_DtDwIdeal
    ∧ algebraic_DtDwIdeal_DtDwRefIdeal (hDtDwIdeal := hDtDwIdeal) (hDtDwRefIdeal := hDtDwRefIdeal)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_AdamMlp_AdamMlpIdeal
    ∧ algebraic_AdamMlpIdeal_AdamMlpRefIdeal (hAdamMlpIdeal := hAdamMlpIdeal) (hAdamMlpRefIdeal := hAdamMlpRefIdeal)
-- ==== Pre_finite.lean ====
abbrev S8192x1024 : Shape := ⟨2, ![8192, 1024]⟩
abbrev S256x2048 : Shape := ⟨2, ![256, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .bf16) (main_arg1 : FVec F S256x2048 .bf16) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  main_v16
-- ==== Pre_finite_glu.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x2048 .bf16) (main_arg1 : FVec F S8192x1024 .bf16) (main_arg2 : FVec F S1024x1024 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S1024x1024 .f32 := (extf .f32 · bitsLt_bf16_f32) main_arg2
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  main_v16
-- ==== Pre_finite_in.lean ====
abbrev S8192x1024 : Shape := ⟨2, ![8192, 1024]⟩
abbrev S1x1024 : Shape := ⟨2, ![1, 1024]⟩
abbrev S4096x1024 : Shape := ⟨2, ![4096, 1024]⟩
abbrev S128x1024 : Shape := ⟨2, ![128, 1024]⟩
abbrev S8192x4096 : Shape := ⟨2, ![8192, 4096]⟩
abbrev S8192x128 : Shape := ⟨2, ![8192, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_arg4 : FVec F S8192x4096 .bf16) (main_arg5 : FVec F S8192x128 .f32) (main_v14 : IVec S_ 1) (main_v16 : FVec F S128x1024 .f32) (main_cst_4 : FVec F S_ .f32) : IVec S_ 1 :=
  let main_v17 : FVec F S128x1024 .f32 := broadcastInDim S128x1024 ![] bcast_S_S128x1024 main_cst_4
  let main_v18 : IVec S128x1024 1 := cmpf .olt main_v16 main_v17
  let main_c_5 : IVec S_ 1 := constantI S_ 1 1#1
  let main_v19 : IVec S_ 1 := (fun x v => Host.reduce IntOp.andi x v reducesTo_S128x1024_S_d0_1 h_S_) main_v18 main_c_5
  let main_v20 : IVec S_ 1 := andi main_v14 main_v19
  let main_v21 : FVec F S8192x4096 .f32 := (extf .f32 · bitsLt_bf16_f32) main_arg4
  let main_v22 : FVec F S8192x4096 .f32 := Host.absf main_v21
  let main_cst_6 : FVec F S_ .f32 := constant S_ .f32 0x7F800000#32
  let main_v23 : FVec F S8192x4096 .f32 := broadcastInDim S8192x4096 ![] bcast_S_S8192x4096 main_cst_6
  let main_v24 : IVec S8192x4096 1 := cmpf .olt main_v22 main_v23
  let main_c_7 : IVec S_ 1 := constantI S_ 1 1#1
  let main_v25 : IVec S_ 1 := (fun x v => Host.reduce IntOp.andi x v reducesTo_S8192x4096_S_d0_1 h_S_) main_v24 main_c_7
  let main_v26 : IVec S_ 1 := andi main_v20 main_v25
  let main_v27 : FVec F S8192x128 .f32 := Host.absf main_arg5
  let main_cst_8 : FVec F S_ .f32 := constant S_ .f32 0x7F800000#32
  let main_v28 : FVec F S8192x128 .f32 := broadcastInDim S8192x128 ![] bcast_S_S8192x128 main_cst_8
  let main_v29 : IVec S8192x128 1 := cmpf .olt main_v27 main_v28
  let main_c_9 : IVec S_ 1 := constantI S_ 1 1#1
  let main_v30 : IVec S_ 1 := (fun x v => Host.reduce IntOp.andi x v reducesTo_S8192x128_S_d0_1 h_S_) main_v29 main_c_9
  let main_v31 : IVec S_ 1 := andi main_v26 main_v30
  main_v31

def fn {F : FTy → Type} [FloatOps F] (main_arg0 : FVec F S8192x1024 .f32) (main_arg1 : FVec F S1x1024 .f32) (main_arg2 : FVec F S4096x1024 .bf16) (main_arg3 : FVec F S128x1024 .bf16) (main_arg4 : FVec F S8192x4096 .bf16) (main_arg5 : FVec F S8192x128 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S128x1024 .f32 := (extf .f32 · bitsLt_bf16_f32) main_arg3
  let main_v16 : FVec F S128x1024 .f32 := Host.absf main_v15
  let main_cst_4 : FVec F S_ .f32 := constant S_ .f32 0x7F800000#32
  fn_part1 (F := F) main_arg4 main_arg5 main_v14 main_v16 main_cst_4
-- ==== Pre_finite_kv.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_v14 : IVec S_ 1) (main_v15 : FVec F S256x2048 .f32) (main_v16 : FVec F S256x2048 .f32) : IVec S_ 1 :=
  let main_v17 : IVec S256x2048 1 := cmpf .olt main_v15 main_v16
  let main_c_5 : IVec S_ 1 := constantI S_ 1 1#1
  let main_v18 : IVec S_ 1 := (fun x v => Host.reduce IntOp.andi x v reducesTo_S256x2048_S_d0_1 h_S_) main_v17 main_c_5
  let main_v19 : IVec S_ 1 := andi main_v14 main_v18
  main_v19

def fn {F : FTy → Type} [FloatOps F] (main_arg0 : FVec F S256x1024 .f32) (main_arg1 : FVec F S1x1024 .f32) (main_arg2 : FVec F S1024x2048 .bf16) (main_arg3 : FVec F S256x2048 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := (extf .f32 · bitsLt_bf16_f32) main_arg2
  let main_v10 : FVec F S1024x2048 .f32 := Host.absf main_v9
  let main_cst_2 : FVec F S_ .f32 := constant S_ .f32 0x7F800000#32
  let main_v11 : FVec F S1024x2048 .f32 := broadcastInDim S1024x2048 ![] bcast_S_S1024x2048 main_cst_2
  let main_v12 : IVec S1024x2048 1 := cmpf .olt main_v10 main_v11
  let main_c_3 : IVec S_ 1 := constantI S_ 1 1#1
  let main_v13 : IVec S_ 1 := (fun x v => Host.reduce IntOp.andi x v reducesTo_S1024x2048_S_d0_1 h_S_) main_v12 main_c_3
  let main_v14 : IVec S_ 1 := andi main_v8 main_v13
  let main_v15 : FVec F S256x2048 .f32 := Host.absf main_arg3
  let main_cst_4 : FVec F S_ .f32 := constant S_ .f32 0x7F800000#32
  let main_v16 : FVec F S256x2048 .f32 := broadcastInDim S256x2048 ![] bcast_S_S256x2048 main_cst_4
  fn_part1 (F := F) main_v14 main_v15 main_v16
-- ==== Pre_finite_loss.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_q.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v14 main_v19
  main_v20

def fn {F : FTy → Type} [FloatOps F] (main_arg0 : FVec F S8192x1024 .f32) (main_arg1 : FVec F S1x1024 .f32) (main_arg2 : FVec F S1024x1024 .bf16) (main_arg3 : FVec F S8192x1024 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := (extf .f32 · bitsLt_bf16_f32) main_arg2
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v8 main_v13
  let main_v15 : FVec F S8192x1024 .f32 := (extf .f32 · bitsLt_bf16_f32) main_arg3
  let main_v16 : FVec F S8192x1024 .f32 := Host.absf main_v15
  let main_cst_4 : FVec F S_ .f32 := constant S_ .f32 0x7F800000#32
  fn_part1 (F := F) main_v14 main_v16 main_cst_4
-- ==== Pre_finite_up.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v14 : IVec S_ 1) (main_v16 : FVec F S8192x4096 .f32) (main_cst_4 : FVec F S_ .f32) : IVec S_ 1 :=
  let main_v17 : FVec F S8192x4096 .f32 := broadcastInDim S8192x4096 ![] bcast_S_S8192x4096 main_cst_4
  let main_v18 : IVec S8192x4096 1 := cmpf .olt main_v16 main_v17
  let main_c_5 : IVec S_ 1 := constantI S_ 1 1#1
  let main_v19 : IVec S_ 1 := (fun x v => Host.reduce IntOp.andi x v reducesTo_S8192x4096_S_d0_1 h_S_) main_v18 main_c_5
  let main_v20 : IVec S_ 1 := andi main_v14 main_v19
  main_v20

def fn {F : FTy → Type} [FloatOps F] (main_arg0 : FVec F S8192x1024 .f32) (main_arg1 : FVec F S1x1024 .f32) (main_arg2 : FVec F S1024x4096 .bf16) (main_arg3 : FVec F S8192x4096 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := (extf .f32 · bitsLt_bf16_f32) main_arg2
  let main_v10 : FVec F S1024x4096 .f32 := Host.absf main_v9
  let main_cst_2 : FVec F S_ .f32 := constant S_ .f32 0x7F800000#32
  let main_v11 : FVec F S1024x4096 .f32 := broadcastInDim S1024x4096 ![] bcast_S_S1024x4096 main_cst_2
  let main_v12 : IVec S1024x4096 1 := cmpf .olt main_v10 main_v11
  let main_c_3 : IVec S_ 1 := constantI S_ 1 1#1
  let main_v13 : IVec S_ 1 := (fun x v => Host.reduce IntOp.andi x v reducesTo_S1024x4096_S_d0_1 h_S_) main_v12 main_c_3
  let main_v14 : IVec S_ 1 := andi main_v8 main_v13
  let main_v15 : FVec F S8192x4096 .f32 := (extf .f32 · bitsLt_bf16_f32) main_arg3
  let main_v16 : FVec F S8192x4096 .f32 := Host.absf main_v15
  let main_cst_4 : FVec F S_ .f32 := constant S_ .f32 0x7F800000#32
  fn_part1 (F := F) main_v14 main_v16 main_cst_4
-- ==== Kernel.lean ====
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x1024 : Shape := ⟨2, ![8192, 1024]⟩
abbrev S256x2048 : Shape := ⟨2, ![256, 2048]⟩
abbrev S256x1024 : Shape := ⟨2, ![256, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S1x4x256x256 : Shape := ⟨4, ![1, 4, 256, 256]⟩
abbrev S4x8192 : Shape := ⟨2, ![4, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S8192x1024, .f32⟩
  | .hbm, ⟨7, _⟩ => ⟨S1x8192x4x256, .f32⟩
  | .hbm, ⟨8, _⟩ => ⟨S1x256x4x256, .f32⟩
  | .hbm, ⟨9, _⟩ => ⟨S1x256x4x256, .f32⟩
  | .hbm, ⟨10, _⟩ => ⟨S1x4x8192x256, .f32⟩
  | .hbm, ⟨11, _⟩ => ⟨S_, .f32⟩
  | .hbm, ⟨12, _⟩ => ⟨S1x4x8192x256, .f32⟩
  | .hbm, ⟨13, _⟩ => ⟨S1x4x8192x256, .f32⟩
  | .hbm, ⟨14, _⟩ => ⟨S_, .f32⟩
  | .hbm, ⟨15, _⟩ => ⟨S1x4x8192, .f32⟩
  | .hbm, ⟨16, _⟩ => ⟨S1x4x8192x1, .f32⟩
  | .hbm, ⟨17, _⟩ => ⟨S1x4x8192x256, .f32⟩
  | .hbm, ⟨18, _⟩ => ⟨S1x4x8192x256, .i1⟩
  | .hbm, ⟨19, _⟩ => ⟨S1x4x8192x256, .f32⟩
  | .hbm, ⟨20, _⟩ => ⟨S_, .f32⟩
  | .hbm, ⟨21, _⟩ => ⟨S1x4x8192, .f32⟩
  | .hbm, ⟨22, _⟩ => ⟨S_, .f32⟩
  | .hbm, ⟨23, _⟩ => ⟨S1x4x8192, .f32⟩
  | .hbm, ⟨24, _⟩ => ⟨S1x4x8192, .f32⟩
  | .hbm, ⟨25, _⟩ => ⟨S_, .f32⟩
  | .hbm, ⟨26, _⟩ => ⟨S1x4x8192, .f32⟩
  | .hbm, ⟨27, _⟩ => ⟨S1x4x8192, .i1⟩
  | .hbm, ⟨28, _⟩ => ⟨S_, .f32⟩
  | .hbm, ⟨29, _⟩ => ⟨S1x4x8192, .f32⟩
  | .hbm, ⟨30, _⟩ => ⟨S1x4x8192, .i1⟩
  | .hbm, ⟨31, _⟩ => ⟨S_, .f32⟩
  | .hbm, ⟨32, _⟩ => ⟨S1x4x8192, .f32⟩
  | .hbm, ⟨33, _⟩ => ⟨S_, .f32⟩
  | .hbm, ⟨34, _⟩ => ⟨S1x4x8192, .f32⟩
  | .hbm, ⟨35, _⟩ => ⟨S_, .f32⟩
  | .hbm, ⟨36, _⟩ => ⟨S1x4x8192, .f32⟩
  | .hbm, ⟨37, _⟩ => ⟨S1x4x8192, .f32⟩
  | .hbm, ⟨38, _⟩ => ⟨S1x4x8192, .f32⟩
  | .hbm, ⟨39, _⟩ => ⟨S1x4x8192x1, .f32⟩
  | .hbm, ⟨40, _⟩ => ⟨S1x4x8192x256, .f32⟩
  | .hbm, ⟨41, _⟩ => ⟨S1x4x8192x256, .f32⟩
  | .hbm, ⟨42, _⟩ => ⟨S1x4x8192x256, .f32⟩
  | .hbm, ⟨43, _⟩ => ⟨S_, .f32⟩
  | .hbm, ⟨44, _⟩ => ⟨S1x4x8192, .f32⟩
  | .hbm, ⟨45, _⟩ => ⟨S1x4x8192x1, .f32⟩
  | .hbm, ⟨46, _⟩ => ⟨S1x4x8192x256, .f32⟩
  | .hbm, ⟨47, _⟩ => ⟨S1x4x8192x256, .f32⟩
  | .hbm, ⟨48, _⟩ => ⟨S1x4x8192x1, .f32⟩
  | .hbm, ⟨49, _⟩ => ⟨S_, .f32⟩
  | .hbm, ⟨50, _⟩ => ⟨S1x4x8192x1, .f32⟩
  | .hbm, ⟨51, _⟩ => ⟨S1x4x8192x1, .f32⟩
  | .hbm, ⟨52, _⟩ => ⟨S1x4x256x8192, .f32⟩
  | .hbm, ⟨53, _⟩ => ⟨S1x8192x4x256, .f32⟩
  | .hbm, ⟨54, _⟩ => ⟨S8192x1024, .f32⟩
  | .hbm, ⟨55, _⟩ => ⟨S8192x1024, .f32⟩
  | .hbm, ⟨56, _⟩ => ⟨S1x8192x4x256, .f32⟩
  | .hbm, ⟨57, _⟩ => ⟨S1x4x256x8192, .f32⟩
  | .hbm, ⟨58, _⟩ => ⟨S1x4x8192x256, .f32⟩
  | .hbm, ⟨59, _⟩ => ⟨S1x4x256x256, .f32⟩
  | .hbm, ⟨60, _⟩ => ⟨S1x256x4x256, .f32⟩
  | .hbm, ⟨61, _⟩ => ⟨S1x4x8192x256, .f32⟩
  | .hbm, ⟨62, _⟩ => ⟨S1x4x8192x256, .f32⟩
  | .hbm, ⟨63, _⟩ => ⟨S1x4x8192x256, .f32⟩
  | .hbm, ⟨64, _⟩ => ⟨S_, .f32⟩
  | .hbm, ⟨65, _⟩ => ⟨S1x4x8192, .f32⟩
  | .hbm, ⟨66, _⟩ => ⟨S1x4x8192x1, .f32⟩
  | .hbm, ⟨67, _⟩ => ⟨S1x4x8192x1, .f32⟩
  | .hbm, ⟨68, _⟩ => ⟨S1x4x8192x256, .f32⟩
  | .hbm, ⟨69, _⟩ => ⟨S1x4x8192x256, .f32⟩
  | .hbm, ⟨70, _⟩ => ⟨S_, .f32⟩
  | .hbm, ⟨71, _⟩ => ⟨S4x8192, .f32⟩
  | .hbm, ⟨72, _⟩ => ⟨S1x4x8192, .f32⟩
  | .hbm, ⟨73, _⟩ => ⟨S1x4x8192x256, .f32⟩
  | .hbm, ⟨74, _⟩ => ⟨S1x4x8192x256, .f32⟩
  | .hbm, ⟨75, _⟩ => ⟨S1x4x8192x256, .f32⟩
  | .hbm, ⟨76, _⟩ => ⟨S_, .f32⟩
  | .hbm, ⟨77, _⟩ => ⟨S1x4x8192x256, .f32⟩
  | .hbm, ⟨78, _⟩ => ⟨S1x4x8192x256, .f32⟩
  | .hbm, ⟨79, _⟩ => ⟨S1x4x256x256, .f32⟩
  | .hbm, ⟨80, _⟩ => ⟨S1x256x4x256, .f32⟩
  | .hbm, ⟨81, _⟩ => ⟨S1x4x8192x256, .f32⟩
  | .hbm, ⟨82, _⟩ => ⟨S1x8192x4x256, .f32⟩
  | .hbm, ⟨83, _⟩ => ⟨S256x1024, .f32⟩
  | .hbm, ⟨84, _⟩ => ⟨S256x1024, .f32⟩
  | .hbm, ⟨85, _⟩ => ⟨S8192x1024, .f32⟩
  | .hbm, ⟨86, _⟩ => ⟨S8192x1024, .bf16⟩
  | .hbm, ⟨87, _⟩ => ⟨S256x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== DownDx.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_4 : BitVec 32 := 0#32
  let v11 : BitVec 1 := Scalar.cmpi .ne v10 c0_i32_4
  v11

def k0_cond2 (i : grid0.Coords) : BitVec 1 :=
  let arg2 : BitVec 32 := BitVec.ofNat 32 (i 2).val
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S4096x1024, .f32⟩
  | .hbm, ⟨9, _⟩ => ⟨S8192x1024, .f32⟩
  | .hbm, ⟨10, _⟩ => ⟨S1024x4096, .f32⟩
  | .hbm, ⟨11, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== UpDw.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S1024x1024 : Shape := ⟨2, ![1024, 1024]⟩
abbrev S512x1 : Shape := ⟨2, ![512, 1]⟩
abbrev S512 : Shape := ⟨1, ![512]⟩
abbrev S1024 : Shape := ⟨1, ![1024]⟩

abbrev nBuf : Space → Nat
  | .hbm => 18
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_22 : BitVec 32 := 0#32
  let v37 : BitVec 1 := Scalar.cmpi .eq arg0 c0_i32_22
  let v38 : BitVec 32 := Scalar.extui v37
  let c0_i32_23 : BitVec 32 := 0#32
  let v39 : BitVec 1 := Scalar.cmpi .ne v38 c0_i32_23
  v39

def k0_cond5 (i : grid0.Coords) : BitVec 1 :=
  let arg0 : BitVec 32 := BitVec.ofNat 32 (i 0).val
  let c0_i32_24 : BitVec 32 := 0#32
  let v40 : BitVec 1 := Scalar.cmpi .sgt arg0 c0_i32_24
  let v41 : BitVec 32 := Scalar.extui v40
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== UpDxRefIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .bf16⟩
  | .hbm, ⟨4, _⟩ => ⟨S8192x1024, .f32⟩
  | .hbm, ⟨5, _⟩ => ⟨S1024x4096, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GluDx.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩
abbrev S512x1024 : Shape := ⟨2, ![512, 1024]⟩

abbrev nBuf : Space → Nat
  | .hbm => 27
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S8192x1024, .f32⟩
  | .hbm, ⟨25, _⟩ => ⟨S8192x1024, .bf16⟩
  | .hbm, ⟨26, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluDxIdeal.lean ====
variable {F : FTy → Type} [FloatOps F] [Named F]
def κ : String → Option EReal := fun
  | "cube" => some ((8943 / 200000 : ℝ) : EReal)
  | "three_cube" => some ((26829 / 200000 : ℝ) : EReal)
  | _ => none
-- ==== GluDxRefIdeal.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1024x1024, .bf16⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== OutDx.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S8192x2048, .f32⟩
  | .hbm, ⟨5, _⟩ => ⟨S8192x1024, .f32⟩
  | .hbm, ⟨6, _⟩ => ⟨S8192x2048, .f32⟩
  | .hbm, ⟨7, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x2048 : Shape := ⟨2, ![8192, 2048]⟩
abbrev S8192x1024 : Shape := ⟨2, ![8192, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOutDx.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOutDw.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QDx.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def k0_cond4 (i : grid0.Coords) : BitVec 1 :=
  let arg0 : BitVec 32 := BitVec.ofNat 32 (i 0).val
  let c0_i32_23 : BitVec 32 := 0#32
  let v37 : BitVec 1 := Scalar.cmpi .eq arg0 c0_i32_23
  let v38 : BitVec 32 := Scalar.extui v37
  let c0_i32_24 : BitVec 32 := 0#32
  let v39 : BitVec 1 := Scalar.cmpi .ne v38 c0_i32_24
  v39

def k0_cond5 (i : grid0.Coords) : BitVec 1 :=
  let arg0 : BitVec 32 := BitVec.ofNat 32 (i 0).val
  let c0_i32_25 : BitVec 32 := 0#32
  let v40 : BitVec 1 := Scalar.cmpi .sgt arg0 c0_i32_25
  let v41 : BitVec 32 := Scalar.extui v40
  let c0_i32_26 : BitVec 32 := 0#32
  let v42 : BitVec 1 := Scalar.cmpi .ne v41 c0_i32_26
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== QDxRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== QDw.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8192x1024 : Shape := ⟨2, ![8192, 1024]⟩
abbrev S1x1024 : Shape := ⟨2, ![1, 1024]⟩
abbrev S4096x1024 : Shape := ⟨2, ![4096, 1024]⟩
abbrev S128x1024 : Shape := ⟨2, ![128, 1024]⟩
abbrev S8192x4096 : Shape := ⟨2, ![8192, 4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S1024x1024 : Shape := ⟨2, ![1024, 1024]⟩
abbrev S512x128 : Shape := ⟨2, ![512, 128]⟩
abbrev S512x1 : Shape := ⟨2, ![512, 1]⟩
abbrev S512 : Shape := ⟨1, ![512]⟩
abbrev S1024 : Shape := ⟨1, ![1024]⟩

abbrev nBuf : Space → Nat
  | .hbm => 20
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S128x1024, .bf16⟩
  | .hbm, ⟨4, _⟩ => ⟨S8192x4096, .bf16⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S128x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_27 : BitVec 32 := 0#32
  let v42 : BitVec 1 := Scalar.cmpi .eq arg0 c0_i32_27
  let v43 : BitVec 32 := Scalar.extui v42
  let c0_i32_28 : BitVec 32 := 0#32
  let v44 : BitVec 1 := Scalar.cmpi .ne v43 c0_i32_28
  v44

def k0_cond5 (i : grid0.Coords) : BitVec 1 :=
  let arg0 : BitVec 32 := BitVec.ofNat 32 (i 0).val
  let c0_i32_29 : BitVec 32 := 0#32
  let v45 : BitVec 1 := Scalar.cmpi .sgt arg0 c0_i32_29
  let v46 : BitVec 32 := Scalar.extui v45
  let c0_i32_30 : BitVec 32 := 0#32
  let v47 : BitVec 1 := Scalar.cmpi .ne v46 c0_i32_30
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== InDxRefIdeal.lean ====
abbrev S8192x1024 : Shape := ⟨2, ![8192, 1024]⟩
abbrev S1x1024 : Shape := ⟨2, ![1, 1024]⟩
abbrev S4096x1024 : Shape := ⟨2, ![4096, 1024]⟩
abbrev S128x1024 : Shape := ⟨2, ![128, 1024]⟩
abbrev S8192x4096 : Shape := ⟨2, ![8192, 4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1024x128 : Shape := ⟨2, ![1024, 128]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S128x1024, .bf16⟩
  | .hbm, ⟨4, _⟩ => ⟨S8192x4096, .bf16⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S4096x1024, .f32⟩
  | .hbm, ⟨27, _⟩ => ⟨S1024x4096, .f32⟩
  | .hbm, ⟨28, _⟩ => ⟨S8192x4096, .f32⟩
  | .hbm, ⟨29, _⟩ => ⟨S128x1024, .f32⟩
  | .hbm, ⟨30, _⟩ => ⟨S1024x128, .f32⟩
  | .hbm, ⟨31, _⟩ => ⟨S8192x128, .f32⟩
  | .hbm, ⟨32, _⟩ => ⟨S8192x4096, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== InDw.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S4096x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GluDw.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩
abbrev S512x1024 : Shape := ⟨2, ![512, 1024]⟩

abbrev nBuf : Space → Nat
  | .hbm => 29
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S8192x1024, .f32⟩
  | .hbm, ⟨25, _⟩ => ⟨S8192x1024, .bf16⟩
  | .hbm, ⟨26, _⟩ => ⟨S_, .f32⟩
  | .hbm, ⟨27, _⟩ => ⟨S1024x1024, .f32⟩
  | .hbm, ⟨28, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_13 : BitVec 32 := 0#32
  let v37 : BitVec 1 := Scalar.cmpi .ne v36 c0_i32_13
  v37

def k0_cond2 (i : grid0.Coords) : BitVec 1 :=
  let arg0 : BitVec 32 := BitVec.ofNat 32 (i 0).val
  let c0_i32_14 : BitVec 32 := 0#32
  let v38 : BitVec 1 := Scalar.cmpi .sgt arg0 c0_i32_14
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GluDwIdeal.lean ====
variable {F : FTy → Type} [FloatOps F] [Named F]
def κ : String → Option EReal := fun
  | "cube" => some ((8943 / 200000 : ℝ) : EReal)
  | _ => none
-- ==== GluDwRefIdeal.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x1024, .f32⟩
  | .hbm, ⟨43, _⟩ => ⟨S1024x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== MlpUp.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S8192x1 : Shape := ⟨2, ![8192, 1]⟩
abbrev S512x1024 : Shape := ⟨2, ![512, 1024]⟩
abbrev S1024x1024 : Shape := ⟨2, ![1024, 1024]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .bf16⟩
  | .hbm, ⟨4, _⟩ => ⟨S8192x1024, .bf16⟩
  | .hbm, ⟨5, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1, .f32⟩
  | .local _ .vmem, ⟨10, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpUpRefIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .bf16⟩
  | .hbm, ⟨21, _⟩ => ⟨S8192x1024, .bf16⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== MlpDown.lean ====
abbrev S8192x4096 : Shape := ⟨2, ![8192, 4096]⟩
abbrev S4096x1024 : Shape := ⟨2, ![4096, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S8192x1024, .f32⟩
  | .hbm, ⟨10, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S4096x1024 : Shape := ⟨2, ![4096, 1024]⟩
abbrev S128x1024 : Shape := ⟨2, ![128, 1024]⟩
abbrev S8192x4096 : Shape := ⟨2, ![8192, 4096]⟩
abbrev S8192x1 : Shape := ⟨2, ![8192, 1]⟩
abbrev S8192x128 : Shape := ⟨2, ![8192, 128]⟩
abbrev S512x1024 : Shape := ⟨2, ![512, 1024]⟩
abbrev S1024x1024 : Shape := ⟨2, ![1024, 1024]⟩
abbrev S512x1 : Shape := ⟨2, ![512, 1]⟩
abbrev S512x128 : Shape := ⟨2, ![512, 128]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S128x1024, .bf16⟩
  | .hbm, ⟨4, _⟩ => ⟨S8192x4096, .bf16⟩
  | .hbm, ⟨5, _⟩ => ⟨S8192x1024, .bf16⟩
  | .hbm, ⟨6, _⟩ => ⟨S8192x1, .f32⟩
  | .hbm, ⟨7, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .vmem, ⟨13, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjRefIdeal.lean ====
abbrev S8192x1024 : Shape := ⟨2, ![8192, 1024]⟩
abbrev S1x1024 : Shape := ⟨2, ![1, 1024]⟩
abbrev S4096x1024 : Shape := ⟨2, ![4096, 1024]⟩
abbrev S128x1024 : Shape := ⟨2, ![128, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x128 : Shape := ⟨2, ![1024, 128]⟩
abbrev S8192x128 : Shape := ⟨2, ![8192, 128]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S128x1024, .bf16⟩
  | .hbm, ⟨4, _⟩ => ⟨S4096x1024, .f32⟩
  | .hbm, ⟨5, _⟩ => ⟨S1024x4096, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .bf16⟩
  | .hbm, ⟨23, _⟩ => ⟨S8192x1024, .bf16⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S128x1024, .f32⟩
  | .hbm, ⟨51, _⟩ => ⟨S1024x128, .f32⟩
  | .hbm, ⟨52, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== OutProj.lean ====
abbrev S8192x2048 : Shape := ⟨2, ![8192, 2048]⟩
abbrev S2048x1024 : Shape := ⟨2, ![2048, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QProj.lean ====
abbrev S8192x1024 : Shape := ⟨2, ![8192, 1024]⟩
abbrev S1x1024 : Shape := ⟨2, ![1, 1024]⟩
abbrev S1024x1024 : Shape := ⟨2, ![1024, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .bf16⟩
  | .hbm, ⟨4, _⟩ => ⟨S8192x1024, .bf16⟩
  | .hbm, ⟨5, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== QProjRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnFwd.lean ====
abbrev S8192x1024 : Shape := ⟨2, ![8192, 1024]⟩
abbrev S256x2048 : Shape := ⟨2, ![256, 2048]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFwdRefIdeal.lean ====
abbrev S8192x1024 : Shape := ⟨2, ![8192, 1024]⟩
abbrev S256x2048 : Shape := ⟨2, ![256, 2048]⟩
abbrev S256x1024 : Shape := ⟨2, ![256, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S256x2048, .f32⟩
  | .hbm, ⟨3, _⟩ => ⟨S256x1024, .f32⟩
  | .hbm, ⟨4, _⟩ => ⟨S256x1024, .f32⟩
  | .hbm, ⟨5, _⟩ => ⟨S8192x1024, .f32⟩
  | .hbm, ⟨6, _⟩ => ⟨S1x8192x4x256, .f32⟩
  | .hbm, ⟨7, _⟩ => ⟨S1x256x4x256, .f32⟩
  | .hbm, ⟨8, _⟩ => ⟨S1x256x4x256, .f32⟩
  | .hbm, ⟨9, _⟩ => ⟨S1x4x8192x256, .f32⟩
  | .hbm, ⟨10, _⟩ => ⟨S_, .f32⟩
  | .hbm, ⟨11, _⟩ => ⟨S1x4x8192x256, .f32⟩
  | .hbm, ⟨12, _⟩ => ⟨S1x4x8192x256, .f32⟩
  | .hbm, ⟨13, _⟩ => ⟨S_, .f32⟩
  | .hbm, ⟨14, _⟩ => ⟨S1x4x8192, .f32⟩
  | .hbm, ⟨15, _⟩ => ⟨S_, .f32⟩
  | .hbm, ⟨16, _⟩ => ⟨S1x4x8192, .f32⟩
  | .hbm, ⟨17, _⟩ => ⟨S1x4x8192, .f32⟩
  | .hbm, ⟨18, _⟩ => ⟨S1x4x8192x1, .f32⟩
  | .hbm, ⟨19, _⟩ => ⟨S1x4x8192x256, .f32⟩
  | .hbm, ⟨20, _⟩ => ⟨S1x4x8192x256, .f32⟩
  | .hbm, ⟨21, _⟩ => ⟨S1x4x8192x256, .f32⟩
  | .hbm, ⟨22, _⟩ => ⟨S_, .f32⟩
  | .hbm, ⟨23, _⟩ => ⟨S1x4x8192, .f32⟩
  | .hbm, ⟨24, _⟩ => ⟨S1x4x8192x1, .f32⟩
  | .hbm, ⟨25, _⟩ => ⟨S1x4x8192x256, .f32⟩
  | .hbm, ⟨26, _⟩ => ⟨S1x4x8192x256, .f32⟩
  | .hbm, ⟨27, _⟩ => ⟨S1x4x256x8192, .f32⟩
  | .hbm, ⟨28, _⟩ => ⟨S1x8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KvProj.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256x1 : Shape := ⟨2, ![256, 1]⟩
abbrev S1024x1024 : Shape := ⟨2, ![1024, 1024]⟩
abbrev S256 : Shape := ⟨1, ![256]⟩

abbrev nBuf : Space → Nat
  | .hbm => 6
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .bf16⟩
  | .hbm, ⟨4, _⟩ => ⟨S256x1024, .bf16⟩
  | .hbm, ⟨5, _⟩ => ⟨S256x1, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== KvProjRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 33
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x2048, .bf16⟩
  | .hbm, ⟨21, _⟩ => ⟨S256x1024, .bf16⟩
  | .hbm, ⟨22, _⟩ => ⟨S256x1024, .f32⟩
  | .hbm, ⟨23, _⟩ => ⟨S_, .f32⟩
  | .hbm, ⟨24, _⟩ => ⟨S256, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x1, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== GluFwd.lean ====
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .bf16⟩
  | .hbm, ⟨3, _⟩ => ⟨S8192x1024, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluFwdIdeal.lean ====
variable {F : FTy → Type} [FloatOps F] [Named F]
def κ : String → Option EReal := fun
  | "cube" => some ((8943 / 200000 : ℝ) : EReal)
  | _ => none
-- ==== GluFwdRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1024x1024, .f32⟩
  | .hbm, ⟨54, _⟩ => ⟨S8192x1024, .f32⟩
  | .hbm, ⟨55, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KvDw.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S_, .f32⟩
  | .hbm, ⟨4, _⟩ => ⟨S1024x2048, .f32⟩
  | .hbm, ⟨5, _⟩ => ⟨S256x2048, .f32⟩
  | .hbm, ⟨6, _⟩ => ⟨S2048x1024, .f32⟩
  | .hbm, ⟨7, _⟩ => ⟨S1024x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvDx.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1024 : Shape := ⟨1, ![1024]⟩

abbrev nBuf : Space → Nat
  | .hbm => 19
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg0 : BitVec 32 := BitVec.ofNat 32 (i 0).val
  let c0_i32_22 : BitVec 32 := 0#32
  let v39 : BitVec 1 := Scalar.cmpi .eq arg0 c0_i32_22
  let v40 : BitVec 32 := Scalar.extui v39
  let c0_i32_23 : BitVec 32 := 0#32
  let v41 : BitVec 1 := Scalar.cmpi .ne v40 c0_i32_23
  v41

def k0_cond5 (i : grid0.Coords) : BitVec 1 :=
  let arg0 : BitVec 32 := BitVec.ofNat 32 (i 0).val
  let c0_i32_24 : BitVec 32 := 0#32
  let v42 : BitVec 1 := Scalar.cmpi .sgt arg0 c0_i32_24
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== KvDxRefIdeal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S1024x2048, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x2048, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DtDw.lean ====
abbrev S8192x128 : Shape := ⟨2, ![8192, 128]⟩
abbrev S8192x1024 : Shape := ⟨2, ![8192, 1024]⟩
abbrev S128x1024 : Shape := ⟨2, ![128, 1024]⟩
abbrev S512x128 : Shape := ⟨2, ![512, 128]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S128x1024, .f32⟩
  | .local _ .vmem, ⟨0, _⟩ => ⟨S512x128, .f32⟩
  | .local _ .vmem, ⟨1, _⟩ => ⟨S512x128, .f32⟩
  | .local _ .vmem, ⟨2, _⟩ => ⟨S512x1024, .bf16⟩
  | .local _ .vmem, ⟨3, _⟩ => ⟨S512x1024, .bf16⟩
  | .local _ .vmem, ⟨4, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DtDwRefIdeal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S128x1024, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S128x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_15 : BitVec 32 := 0#32
  let v44 : BitVec 1 := Scalar.cmpi .ne v43 c0_i32_15
  v44

def k0_cond2 (i : grid0.Coords) : BitVec 1 :=
  let arg0 : BitVec 32 := BitVec.ofNat 32 (i 0).val
  let c0_i32_16 : BitVec 32 := 0#32
  let v45 : BitVec 1 := Scalar.cmpi .sgt arg0 c0_i32_16
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== AdamMlp.lean ====
abbrev S4096x1024 : Shape := ⟨2, ![4096, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpIdeal.lean ====
variable {F : FTy → Type} [FloatOps F] [Named F]
def κ : String → Option EReal := fun
  | "b1" => some ((9 / 10 : ℝ) : EReal)
  | "b1c" => some ((1 / 10 : ℝ) : EReal)
  | "b2" => some ((999 / 1000 : ℝ) : EReal)
  | "b2c" => some ((1 / 1000 : ℝ) : EReal)
  | "c1" => some ((10000000000 / 6513215599 : ℝ) : EReal)
  | "c2" => some ((1000000000000000000000000000000 / 9955119790251790119955009999 : ℝ) : EReal)
  | _ => none
-- ==== AdamMlpRefIdeal.lean ====
abbrev S4096x1024 : Shape := ⟨2, ![4096, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_cst_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Head.lean ====
module

public import proofs.«01_k».proof.Proof.Gen.KernelIdeal.Skeleton
public import Idealize.ShloMosaic.Lib.Pointwise

/-! One head of the attention gradient on one block of 512 queries: what each stored expression of the kernel's body
is at an index. -/

@[expose] public section

set_option maxRecDepth 16384

noncomputable section

namespace Cert.Attn

open Idealize.ShloMosaic

/-- The scale of the scores, one sixteenth. -/
def scale : EReal := Ideal.ofBits .f32 0x3D800000#32

/-- The largest entry of a row. -/
def rowMax (s : Fin 256 → EReal) : EReal := Finset.univ.fold max (Ideal.ofBits .f32 0xFF800000#32) s

/-- The exponential of a row's entry less the row's largest. -/
def rowExp (s : Fin 256 → EReal) (k : Fin 256) : EReal := Ideal.exp (s k - rowMax s)

/-- The softmax of a row. -/
def prob (s : Fin 256 → EReal) (k : Fin 256) : EReal := Ideal.div (rowExp s k) (∑ l, rowExp s l)

/-- The gradient of the unscaled scores of a row, from the gradient `g` of its softmax. -/
def dscore (s g : Fin 256 → EReal) (k : Fin 256) : EReal := prob s k * (g k - ∑ l, g l * prob s l) * scale

/-- The column of the queries (and of their gradient) where head `h` has its coordinate `d`. -/
def col (h : Fin 4) (d : Fin 256) : Fin 1024 := ⟨256 * h.val + d.val, by omega⟩

/-- The column of the keys and values where head `h` has its keys' coordinate `d`. -/
def keyCol (h : Fin 4) (d : Fin 256) : Fin 2048 := ⟨256 * h.val + d.val, by omega⟩

/-- The column of the keys and values where head `h` has its values' coordinate `d`. -/
def valCol (h : Fin 4) (d : Fin 256) : Fin 2048 := ⟨1024 + 256 * h.val + d.val, by omega⟩

section Attention
variable {N : Nat} (q : (⟨2, ![N, 1024]⟩ : Shape).Idx → EReal) (kv : (⟨2, ![256, 2048]⟩ : Shape).Idx → EReal)
  (g : (⟨2, ![N, 1024]⟩ : Shape).Idx → EReal)

/-- The score of query `t` against key `k` in head `h`. -/
def score (h : Fin 4) (t : Fin N) (k : Fin 256) : EReal := (∑ d : Fin 256, q (ix2 t (col h d)) * kv (ix2 k (keyCol h d))) * scale

/-- The gradient of the weight of key `k` for query `t` in head `h`. -/
def gweight (h : Fin 4) (t : Fin N) (k : Fin 256) : EReal := ∑ d : Fin 256, g (ix2 t (col h d)) * kv (ix2 k (valCol h d))

/-- The gradient of the score of query `t` against key `k` in head `h`. -/
def gscore (h : Fin 4) (t : Fin N) (k : Fin 256) : EReal := dscore (score q kv h t) (gweight kv g h t) k

/-- The gradient of the queries. -/
def gquery (h : Fin 4) (t : Fin N) (d : Fin 256) : EReal := ∑ k : Fin 256, gscore q kv g h t k * kv (ix2 k (keyCol h d))

/-- The gradient of the keys. -/
def gkey (h : Fin 4) (k d : Fin 256) : EReal := ∑ t : Fin N, gscore q kv g h t k * q (ix2 t (col h d))

/-- The gradient of the values. -/
def gvalue (h : Fin 4) (k d : Fin 256) : EReal := ∑ t : Fin N, prob (score q kv h t) k * g (ix2 t (col h d))

end Attention

end Cert.Attn

namespace Cert.KernelIdeal.Head

open Cert.KernelIdeal Cert.KernelIdeal.Gen Idealize.ShloMosaic Idealize.ShloMosaic.TcCoe Idealize.SL.Sem
open Cert.Attn

/-- The scores of one query of a head's slab against its keys. -/
def scores (Q : FVec Ideal S512x256 .bf16) (K : FVec Ideal S256x256 .bf16) (r : Fin 512) (k : Fin 256) : EReal :=
  (∑ d : Fin 256, Q (ix2 r d) * K (ix2 k d)) * scale

/-- The gradient of one query's softmax in a head's slab. -/
def gprob (V : FVec Ideal S256x256 .bf16) (D : FVec Ideal S512x256 .bf16) (r : Fin 512) (k : Fin 256) : EReal :=
  ∑ d : Fin 256, D (ix2 r d) * V (ix2 k d)

theorem pay7_apply (Q : FVec Ideal S512x256 .bf16) (K : FVec Ideal S256x256 .bf16) (r : Fin 512) (k : Fin 256) :
    k0_pay7 (F := Ideal) Q K (ix2 r k) = prob (scores Q K r) k := by
  pointwise! [k0_pay7, prob, rowExp, rowMax, scores, scale]

theorem pay9_apply (Q : FVec Ideal S512x256 .bf16) (K V : FVec Ideal S256x256 .bf16) (D : FVec Ideal S512x256 .bf16) (r : Fin 512) (k : Fin 256) :
    k0_pay9 (F := Ideal) Q K V D (ix2 r k) = dscore (scores Q K r) (gprob V D r) k := by
  pointwise! [k0_pay9, pay7_apply, dscore, gprob, scale]

theorem pay10_apply (K : FVec Ideal S256x256 .bf16) (S : FVec Ideal S512x256 .bf16) (r : Fin 512) (d : Fin 256) :
    k0_pay10 (F := Ideal) K S (ix2 r d) = ∑ k : Fin 256, S (ix2 r k) * K (ix2 k d) := by
  pointwise! [k0_pay10]

theorem pay11_apply (Q S : FVec Ideal S512x256 .bf16) (W : FVec Ideal S256x256 .f32) (k d : Fin 256) :
    k0_pay11 (F := Ideal) Q S W (ix2 k d) = W (ix2 k d) + ∑ r : Fin 512, S (ix2 r k) * Q (ix2 r d) := by
  pointwise! [k0_pay11]

theorem pay8_apply (Q : FVec Ideal S512x256 .bf16) (K : FVec Ideal S256x256 .bf16) (D : FVec Ideal S512x256 .bf16) (W : FVec Ideal S256x256 .f32) (k d : Fin 256) :
    k0_pay8 (F := Ideal) Q K D W (ix2 k d) = W (ix2 k d) + ∑ r : Fin 512, prob (scores Q K r) k * D (ix2 r d) := by
  pointwise! [k0_pay8, pay7_apply]

/-! A head's slabs are columns of the blocks of queries `q`, keys and values `kv` and incoming gradient `g`. -/

section Slab
variable (q g : FVec Ideal S512x1024 .bf16) (kv : FVec Ideal S256x2048 .bf16) (h : Fin 4)
variable (Q D : FVec Ideal S512x256 .bf16) (K V : FVec Ideal S256x256 .bf16) (W : FVec Ideal S256x256 .f32)

theorem scores_slab (hQ : ∀ r d, Q (ix2 r d) = q (ix2 r (col h d))) (hK : ∀ k d, K (ix2 k d) = kv (ix2 k (keyCol h d))) :
    scores Q K = score q kv h := by
  funext r k
  simp only [scores, score, hQ, hK]

theorem gprob_slab (hD : ∀ r d, D (ix2 r d) = g (ix2 r (col h d))) (hV : ∀ k d, V (ix2 k d) = kv (ix2 k (valCol h d))) :
    gprob V D = gweight kv g h := by
  funext r k
  simp only [gprob, gweight, hD, hV]

theorem query_slab (hQ : ∀ r d, Q (ix2 r d) = q (ix2 r (col h d))) (hK : ∀ k d, K (ix2 k d) = kv (ix2 k (keyCol h d)))
    (hD : ∀ r d, D (ix2 r d) = g (ix2 r (col h d))) (hV : ∀ k d, V (ix2 k d) = kv (ix2 k (valCol h d))) (r : Fin 512) (d : Fin 256) :
    k0_pay10 (F := Ideal) K (k0_pay9 (F := Ideal) Q K V D) (ix2 r d) = gquery q kv g h r d := by
  rw [pay10_apply]
  simp only [pay9_apply, scores_slab q kv h Q K hQ hK, gprob_slab g kv h D V hD hV, hK]
  rfl

theorem key_slab (hQ : ∀ r d, Q (ix2 r d) = q (ix2 r (col h d))) (hK : ∀ k d, K (ix2 k d) = kv (ix2 k (keyCol h d)))
    (hD : ∀ r d, D (ix2 r d) = g (ix2 r (col h d))) (hV : ∀ k d, V (ix2 k d) = kv (ix2 k (valCol h d))) (k d : Fin 256) :
    k0_pay11 (F := Ideal) Q (k0_pay9 (F := Ideal) Q K V D) W (ix2 k d) = W (ix2 k d) + gkey q kv g h k d := by
  rw [pay11_apply]
  simp only [pay9_apply, scores_slab q kv h Q K hQ hK, gprob_slab g kv h D V hD hV, hQ]
  rfl

theorem value_slab (hQ : ∀ r d, Q (ix2 r d) = q (ix2 r (col h d))) (hK : ∀ k d, K (ix2 k d) = kv (ix2 k (keyCol h d)))
    (hD : ∀ r d, D (ix2 r d) = g (ix2 r (col h d))) (k d : Fin 256) :
    k0_pay8 (F := Ideal) Q K D W (ix2 k d) = W (ix2 k d) + gvalue q kv g h k d := by
  rw [pay8_apply]
  simp only [scores_slab q kv h Q K hQ hK, hD]
  rfl

end Slab

section Same
variable {F : FTy → Type} [FloatOps F]
variable (Q D : FVec F S512x256 .bf16) (K V : FVec F S256x256 .bf16) (W : FVec F S256x256 .f32)

theorem pay13_eq : k0_pay13 Q K D W = k0_pay8 Q K D W := rfl
theorem pay15_eq : k0_pay15 (k0_pay12 Q K) (k0_pay14 V D) = k0_pay9 Q K V D := rfl
theorem pay16_eq : k0_pay16 K (k0_pay12 Q K) (k0_pay14 V D) = k0_pay10 K (k0_pay9 Q K V D) := rfl
theorem pay17_eq : k0_pay17 Q (k0_pay12 Q K) (k0_pay14 V D) W = k0_pay11 Q (k0_pay9 Q K V D) W := rfl
theorem pay20_eq : k0_pay20 D (k0_pay19 Q K) W = k0_pay8 Q K D W := rfl
theorem pay22_eq : k0_pay22 K V D (k0_pay18 Q K) = k0_pay10 K (k0_pay9 Q K V D) := rfl
theorem pay23_eq : k0_pay23 Q V D (k0_pay18 Q K) W = k0_pay11 Q (k0_pay9 Q K V D) W := rfl
theorem pay2_eq : k0_pay2 D (k0_pay24 Q K) (k0_pay25 Q K) W = k0_pay8 Q K D W := rfl
theorem pay4_eq : k0_pay4 K V D (k0_pay24 Q K) (k0_pay25 Q K) = k0_pay10 K (k0_pay9 Q K V D) := rfl
theorem pay5_eq : k0_pay5 Q V D (k0_pay24 Q K) (k0_pay25 Q K) W = k0_pay11 Q (k0_pay9 Q K V D) W := rfl
end Same

end Cert.KernelIdeal.Head

end
-- ==== Proof.Block.lean ====
module

public import proofs.«01_k».proof.Proof.Head
public import proofs.«01_k».proof.Proof.Gen.KernelIdeal.Frame
public import Idealize.ShloMosaic.Lib.Pipeline.ValueKit
public import Idealize.ShloMosaic.Lib.Pipeline.ReadBack

/-! What the body leaves in the two output blocks at one grid point. -/

@[expose] public section

set_option maxRecDepth 16384

noncomputable section

namespace Cert.KernelIdeal.Block

open Cert.KernelIdeal Cert.KernelIdeal.Gen Cert.KernelIdeal.Head Idealize.ShloMosaic Idealize.ShloMosaic.TcCoe Idealize.SL.Sem
open Cert.Attn

/-- The place of a slab's index in the block it is cut from. -/
theorem slab_idx {n0 n1 s0 s1 : Nat} (o : Nat) (inb) (r : Fin s0) (d : Fin s1) (r' : Fin n0) (c : Fin n1) (hr : r'.val = r.val) (hc : c.val = o + d.val) :
    (Rect.unit (s := ⟨2, ![n0, n1]⟩) ![0, o] ![s0, s1] inb).idx (ix2 r d) = ix2 r' c := by
  funext a
  apply Fin.ext
  rw [Rect.idx_unit_val]
  match a with
  | ⟨0, _⟩ => show 0 + r.val = r'.val; omega
  | ⟨1, _⟩ => show o + d.val = c.val; omega

/-- Where some piece of the later stores holds an index and each of them holding it has there the value `v`, the stores
leave `v`, whatever the earlier stores were. -/
theorem canon_append_of_allAt {Val : EltTy → Type} {S : Shape} {e : EltTy} [∀ e, Nonempty (Val e)] (L' : List (View.Piece Val S e)) :
    ∀ (L : List (View.Piece Val S e)) (y : S.Idx) (v : Val e), (∃ p ∈ L, y ∈ p.1.set) → View.AllAt L y v → View.canon (L ++ L') y = v
  | [], _, _, hc, _ => by obtain ⟨p, hp, _⟩ := hc; exact absurd hp List.not_mem_nil
  | p :: L, y, v, hc, h => by
    rw [List.cons_append]
    by_cases hm : y ∈ p.1.set
    · obtain ⟨x, hx⟩ := p.1.exists_idx_of_mem hm
      have hx' : p.1.emb x = y := hx
      rw [← hx', View.canon_cons_emb]
      exact h p List.mem_cons_self x hx'
    · rw [View.canon_cons_of_not_mem _ _ hm]
      obtain ⟨r, hr, hyr⟩ := hc
      refine canon_append_of_allAt L' L y v ?_ fun r hr => h r (List.mem_cons_of_mem _ hr)
      rcases List.mem_cons.mp hr with rfl | hr'
      · exact absurd hyr hm
      · exact ⟨r, hr', hyr⟩

section
variable (c : Dev nD) (i : grid0.Coords) (arg1 : Memref sig .tc .vmem S512x1024 .bf16) (harg1 : arg1.IsWhole) (arg2 : Memref sig .tc .vmem S256x2048 .bf16) (harg2 : arg2.IsWhole)
  (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole)
  (q : Vec Ideal S512x1024 .bf16) (kv : Vec Ideal S256x2048 .bf16) (g : Vec Ideal S512x1024 .bf16) (p : Vec Ideal S256x2048 .f32) (h : Fin 4)

theorem out3_A (hc0 : cond0_0 i) (r : Fin 512) (d : Fin 256) :
    out0_A_3 (F := Ideal) c i arg1 harg1 arg2 harg2 arg3 harg3 arg4 harg4 arg5 harg5 hc0 q kv g (ix2 r (col h d)) = gquery q kv g h r d := by
  frame_out
  canon_tiles x hx
  · idx_vars x
    have e0 : r.val = x0.val := hx0
    have e1 : 256 * h.val + d.val = 768 + x1.val := hx1
    obtain rfl : h = 3 := Fin.ext (by show h.val = 3; omega)
    obtain rfl : r = x0 := Fin.ext e0
    obtain rfl : d = x1 := Fin.ext (by change 256 * 3 + d.val = _ at e1; omega)
    exact query_slab q g kv 3 _ _ _ _ (fun r d => congrArg q (slab_idx 768 _ r d r (col 3 d) rfl rfl))
      (fun k d => congrArg kv (slab_idx 768 _ k d k (keyCol 3 d) rfl rfl))
      (fun r d => congrArg g (slab_idx 768 _ r d r (col 3 d) rfl rfl))
      (fun k d => congrArg kv (slab_idx 1792 _ k d k (valCol 3 d) rfl rfl)) r d
  · idx_vars x
    have e0 : r.val = x0.val := hx0
    have e1 : 256 * h.val + d.val = 512 + x1.val := hx1
    obtain rfl : h = 2 := Fin.ext (by show h.val = 2; omega)
    obtain rfl : r = x0 := Fin.ext e0
    obtain rfl : d = x1 := Fin.ext (by change 256 * 2 + d.val = _ at e1; omega)
    exact query_slab q g kv 2 _ _ _ _ (fun r d => congrArg q (slab_idx 512 _ r d r (col 2 d) rfl rfl))
      (fun k d => congrArg kv (slab_idx 512 _ k d k (keyCol 2 d) rfl rfl))
      (fun r d => congrArg g (slab_idx 512 _ r d r (col 2 d) rfl rfl))
      (fun k d => congrArg kv (slab_idx 1536 _ k d k (valCol 2 d) rfl rfl)) r d
  · idx_vars x
    have e0 : r.val = x0.val := hx0
    have e1 : 256 * h.val + d.val = 256 + x1.val := hx1
    obtain rfl : h = 1 := Fin.ext (by show h.val = 1; omega)
    obtain rfl : r = x0 := Fin.ext e0
    obtain rfl : d = x1 := Fin.ext (by change 256 * 1 + d.val = _ at e1; omega)
    exact query_slab q g kv 1 _ _ _ _ (fun r d => congrArg q (slab_idx 256 _ r d r (col 1 d) rfl rfl))
      (fun k d => congrArg kv (slab_idx 256 _ k d k (keyCol 1 d) rfl rfl))
      (fun r d => congrArg g (slab_idx 256 _ r d r (col 1 d) rfl rfl))
      (fun k d => congrArg kv (slab_idx 1280 _ k d k (valCol 1 d) rfl rfl)) r d
  · idx_vars x
    have e0 : r.val = x0.val := hx0
    have e1 : 256 * h.val + d.val = 0 + x1.val := hx1.trans (Nat.zero_add _).symm
    obtain rfl : h = 0 := Fin.ext (by show h.val = 0; omega)
    obtain rfl : r = x0 := Fin.ext e0
    obtain rfl : d = x1 := Fin.ext (by change 256 * 0 + d.val = _ at e1; omega)
    exact query_slab q g kv 0 _ _ _ _ (fun r d => congrArg q (slab_idx 0 _ r d r (col 0 d) rfl rfl))
      (fun k d => congrArg kv (slab_idx 0 _ k d k (keyCol 0 d) rfl rfl))
      (fun r d => congrArg g (slab_idx 0 _ r d r (col 0 d) rfl rfl))
      (fun k d => congrArg kv (slab_idx 1024 _ k d k (valCol 0 d) rfl rfl)) r d

theorem out3_B (hc0 : ¬cond0_0 i) (r : Fin 512) (d : Fin 256) :
    out0_B_3 (F := Ideal) c i arg1 harg1 arg2 harg2 arg3 harg3 arg4 harg4 arg5 harg5 hc0 q kv g p (ix2 r (col h d)) = gquery q kv g h r d := by
  frame_out
  canon_tiles x hx
  · idx_vars x
    have e0 : r.val = x0.val := hx0
    have e1 : 256 * h.val + d.val = 768 + x1.val := hx1
    obtain rfl : h = 3 := Fin.ext (by show h.val = 3; omega)
    obtain rfl : r = x0 := Fin.ext e0
    obtain rfl : d = x1 := Fin.ext (by change 256 * 3 + d.val = _ at e1; omega)
    exact query_slab q g kv 3 _ _ _ _ (fun r d => congrArg q (slab_idx 768 _ r d r (col 3 d) rfl rfl))
      (fun k d => congrArg kv (slab_idx 768 _ k d k (keyCol 3 d) rfl rfl))
      (fun r d => congrArg g (slab_idx 768 _ r d r (col 3 d) rfl rfl))
      (fun k d => congrArg kv (slab_idx 1792 _ k d k (valCol 3 d) rfl rfl)) r d
  · idx_vars x
    have e0 : r.val = x0.val := hx0
    have e1 : 256 * h.val + d.val = 512 + x1.val := hx1
    obtain rfl : h = 2 := Fin.ext (by show h.val = 2; omega)
    obtain rfl : r = x0 := Fin.ext e0
    obtain rfl : d = x1 := Fin.ext (by change 256 * 2 + d.val = _ at e1; omega)
    exact query_slab q g kv 2 _ _ _ _ (fun r d => congrArg q (slab_idx 512 _ r d r (col 2 d) rfl rfl))
      (fun k d => congrArg kv (slab_idx 512 _ k d k (keyCol 2 d) rfl rfl))
      (fun r d => congrArg g (slab_idx 512 _ r d r (col 2 d) rfl rfl))
      (fun k d => congrArg kv (slab_idx 1536 _ k d k (valCol 2 d) rfl rfl)) r d
  · idx_vars x
    have e0 : r.val = x0.val := hx0
    have e1 : 256 * h.val + d.val = 256 + x1.val := hx1
    obtain rfl : h = 1 := Fin.ext (by show h.val = 1; omega)
    obtain rfl : r = x0 := Fin.ext e0
    obtain rfl : d = x1 := Fin.ext (by change 256 * 1 + d.val = _ at e1; omega)
    exact query_slab q g kv 1 _ _ _ _ (fun r d => congrArg q (slab_idx 256 _ r d r (col 1 d) rfl rfl))
      (fun k d => congrArg kv (slab_idx 256 _ k d k (keyCol 1 d) rfl rfl))
      (fun r d => congrArg g (slab_idx 256 _ r d r (col 1 d) rfl rfl))
      (fun k d => congrArg kv (slab_idx 1280 _ k d k (valCol 1 d) rfl rfl)) r d
  · idx_vars x
    have e0 : r.val = x0.val := hx0
    have e1 : 256 * h.val + d.val = 0 + x1.val := hx1.trans (Nat.zero_add _).symm
    obtain rfl : h = 0 := Fin.ext (by show h.val = 0; omega)
    obtain rfl : r = x0 := Fin.ext e0
    obtain rfl : d = x1 := Fin.ext (by change 256 * 0 + d.val = _ at e1; omega)
    exact query_slab q g kv 0 _ _ _ _ (fun r d => congrArg q (slab_idx 0 _ r d r (col 0 d) rfl rfl))
      (fun k d => congrArg kv (slab_idx 0 _ k d k (keyCol 0 d) rfl rfl))
      (fun r d => congrArg g (slab_idx 0 _ r d r (col 0 d) rfl rfl))
      (fun k d => congrArg kv (slab_idx 1024 _ k d k (valCol 0 d) rfl rfl)) r d

theorem key_B (hc0 : ¬cond0_0 i) (k : Fin 256) (d : Fin 256) :
    out0_B_4 (F := Ideal) c i arg1 harg1 arg2 harg2 arg3 harg3 arg4 harg4 arg5 harg5 hc0 q kv g p (ix2 k (keyCol h d)) = p (ix2 k (keyCol h d)) + gkey q kv g h k d := by
  frame_out
  canon_tiles x hx
  · idx_vars x
    have e0 : k.val = x0.val := hx0
    have e1 : 256 * h.val + d.val = 768 + x1.val := hx1
    obtain rfl : h = 3 := Fin.ext (by show h.val = 3; omega)
    obtain rfl : k = x0 := Fin.ext e0
    obtain rfl : d = x1 := Fin.ext (by change 256 * 3 + d.val = _ at e1; omega)
    refine (key_slab q g kv 3 _ _ _ _ _ (fun r d => congrArg q (slab_idx 768 _ r d r (col 3 d) rfl rfl))
      (fun k d => congrArg kv (slab_idx 768 _ k d k (keyCol 3 d) rfl rfl))
      (fun r d => congrArg g (slab_idx 768 _ r d r (col 3 d) rfl rfl))
      (fun k d => congrArg kv (slab_idx 1792 _ k d k (valCol 3 d) rfl rfl)) k d).trans ?_
    exact congrArg (· + _) (congrArg p (slab_idx 768 _ k d k (keyCol 3 d) rfl rfl))
  · idx_vars x
    have e1 : 256 * h.val + d.val = 1792 + x1.val := hx1
    omega
  · idx_vars x
    have e0 : k.val = x0.val := hx0
    have e1 : 256 * h.val + d.val = 512 + x1.val := hx1
    obtain rfl : h = 2 := Fin.ext (by show h.val = 2; omega)
    obtain rfl : k = x0 := Fin.ext e0
    obtain rfl : d = x1 := Fin.ext (by change 256 * 2 + d.val = _ at e1; omega)
    refine (key_slab q g kv 2 _ _ _ _ _ (fun r d => congrArg q (slab_idx 512 _ r d r (col 2 d) rfl rfl))
      (fun k d => congrArg kv (slab_idx 512 _ k d k (keyCol 2 d) rfl rfl))
      (fun r d => congrArg g (slab_idx 512 _ r d r (col 2 d) rfl rfl))
      (fun k d => congrArg kv (slab_idx 1536 _ k d k (valCol 2 d) rfl rfl)) k d).trans ?_
    exact congrArg (· + _) (congrArg p (slab_idx 512 _ k d k (keyCol 2 d) rfl rfl))
  · idx_vars x
    have e1 : 256 * h.val + d.val = 1536 + x1.val := hx1
    omega
  · idx_vars x
    have e0 : k.val = x0.val := hx0
    have e1 : 256 * h.val + d.val = 256 + x1.val := hx1
    obtain rfl : h = 1 := Fin.ext (by show h.val = 1; omega)
    obtain rfl : k = x0 := Fin.ext e0
    obtain rfl : d = x1 := Fin.ext (by change 256 * 1 + d.val = _ at e1; omega)
    refine (key_slab q g kv 1 _ _ _ _ _ (fun r d => congrArg q (slab_idx 256 _ r d r (col 1 d) rfl rfl))
      (fun k d => congrArg kv (slab_idx 256 _ k d k (keyCol 1 d) rfl rfl))
      (fun r d => congrArg g (slab_idx 256 _ r d r (col 1 d) rfl rfl))
      (fun k d => congrArg kv (slab_idx 1280 _ k d k (valCol 1 d) rfl rfl)) k d).trans ?_
    exact congrArg (· + _) (congrArg p (slab_idx 256 _ k d k (keyCol 1 d) rfl rfl))
  · idx_vars x
    have e1 : 256 * h.val + d.val = 1280 + x1.val := hx1
    omega
  · idx_vars x
    have e0 : k.val = x0.val := hx0
    have e1 : 256 * h.val + d.val = 0 + x1.val := hx1.trans (Nat.zero_add _).symm
    obtain rfl : h = 0 := Fin.ext (by show h.val = 0; omega)
    obtain rfl : k = x0 := Fin.ext e0
    obtain rfl : d = x1 := Fin.ext (by change 256 * 0 + d.val = _ at e1; omega)
    refine (key_slab q g kv 0 _ _ _ _ _ (fun r d => congrArg q (slab_idx 0 _ r d r (col 0 d) rfl rfl))
      (fun k d => congrArg kv (slab_idx 0 _ k d k (keyCol 0 d) rfl rfl))
      (fun r d => congrArg g (slab_idx 0 _ r d r (col 0 d) rfl rfl))
      (fun k d => congrArg kv (slab_idx 1024 _ k d k (valCol 0 d) rfl rfl)) k d).trans ?_
    exact congrArg (· + _) (congrArg p (slab_idx 0 _ k d k (keyCol 0 d) rfl rfl))
  · idx_vars x
    have e1 : 256 * h.val + d.val = 1024 + x1.val := hx1
    omega

theorem value_B (hc0 : ¬cond0_0 i) (k : Fin 256) (d : Fin 256) :
    out0_B_4 (F := Ideal) c i arg1 harg1 arg2 harg2 arg3 harg3 arg4 harg4 arg5 harg5 hc0 q kv g p (ix2 k (valCol h d)) = p (ix2 k (valCol h d)) + gvalue q kv g h k d := by
  frame_out
  canon_tiles x hx
  · idx_vars x
    have e1 : 1024 + 256 * h.val + d.val = 768 + x1.val := hx1
    omega
  · idx_vars x
    have e0 : k.val = x0.val := hx0
    have e1 : 1024 + 256 * h.val + d.val = 1792 + x1.val := hx1
    obtain rfl : h = 3 := Fin.ext (by show h.val = 3; omega)
    obtain rfl : k = x0 := Fin.ext e0
    obtain rfl : d = x1 := Fin.ext (by change 1024 + 256 * 3 + d.val = _ at e1; omega)
    refine (value_slab q g kv 3 _ _ _ _ (fun r d => congrArg q (slab_idx 768 _ r d r (col 3 d) rfl rfl))
      (fun k d => congrArg kv (slab_idx 768 _ k d k (keyCol 3 d) rfl rfl))
      (fun r d => congrArg g (slab_idx 768 _ r d r (col 3 d) rfl rfl))
       k d).trans ?_
    exact congrArg (· + _) (congrArg p (slab_idx 1792 _ k d k (valCol 3 d) rfl rfl))
  · idx_vars x
    have e1 : 1024 + 256 * h.val + d.val = 512 + x1.val := hx1
    omega
  · idx_vars x
    have e0 : k.val = x0.val := hx0
    have e1 : 1024 + 256 * h.val + d.val = 1536 + x1.val := hx1
    obtain rfl : h = 2 := Fin.ext (by show h.val = 2; omega)
    obtain rfl : k = x0 := Fin.ext e0
    obtain rfl : d = x1 := Fin.ext (by change 1024 + 256 * 2 + d.val = _ at e1; omega)
    refine (value_slab q g kv 2 _ _ _ _ (fun r d => congrArg q (slab_idx 512 _ r d r (col 2 d) rfl rfl))
      (fun k d => congrArg kv (slab_idx 512 _ k d k (keyCol 2 d) rfl rfl))
      (fun r d => congrArg g (slab_idx 512 _ r d r (col 2 d) rfl rfl))
       k d).trans ?_
    exact congrArg (· + _) (congrArg p (slab_idx 1536 _ k d k (valCol 2 d) rfl rfl))
  · idx_vars x
    have e1 : 1024 + 256 * h.val + d.val = 256 + x1.val := hx1
    omega
  · idx_vars x
    have e0 : k.val = x0.val := hx0
    have e1 : 1024 + 256 * h.val + d.val = 1280 + x1.val := hx1
    obtain rfl : h = 1 := Fin.ext (by show h.val = 1; omega)
    obtain rfl : k = x0 := Fin.ext e0
    obtain rfl : d = x1 := Fin.ext (by change 1024 + 256 * 1 + d.val = _ at e1; omega)
    refine (value_slab q g kv 1 _ _ _ _ (fun r d => congrArg q (slab_idx 256 _ r d r (col 1 d) rfl rfl))
      (fun k d => congrArg kv (slab_idx 256 _ k d k (keyCol 1 d) rfl rfl))
      (fun r d => congrArg g (slab_idx 256 _ r d r (col 1 d) rfl rfl))
       k d).trans ?_
    exact congrArg (· + _) (congrArg p (slab_idx 1280 _ k d k (valCol 1 d) rfl rfl))
  · idx_vars x
    have e1 : 1024 + 256 * h.val + d.val = 0 + x1.val := hx1.trans (Nat.zero_add _).symm
    omega
  · idx_vars x
    have e0 : k.val = x0.val := hx0
    have e1 : 1024 + 256 * h.val + d.val = 1024 + x1.val := hx1
    obtain rfl : h = 0 := Fin.ext (by show h.val = 0; omega)
    obtain rfl : k = x0 := Fin.ext e0
    obtain rfl : d = x1 := Fin.ext (by change 1024 + 256 * 0 + d.val = _ at e1; omega)
    refine (value_slab q g kv 0 _ _ _ _ (fun r d => congrArg q (slab_idx 0 _ r d r (col 0 d) rfl rfl))
      (fun k d => congrArg kv (slab_idx 0 _ k d k (keyCol 0 d) rfl rfl))
      (fun r d => congrArg g (slab_idx 0 _ r d r (col 0 d) rfl rfl))
       k d).trans ?_
    exact congrArg (· + _) (congrArg p (slab_idx 1024 _ k d k (valCol 0 d) rfl rfl))

theorem key_A (hc0 : cond0_0 i) (k : Fin 256) (d : Fin 256) :
    out0_A_4 (F := Ideal) c i arg1 harg1 arg2 harg2 arg3 harg3 arg4 harg4 arg5 harg5 hc0 q kv g (ix2 k (keyCol h d)) = gkey q kv g h k d := by
  frame_open
  simp (disch := decide) only [↓ View.readCov_skip, ↓ View.readCov_fill]
  frame_out
  refine canon_append_of_allAt [_] [_, _, _, _, _, _, _, _] _ _ (View.cover_of_tiled_head _ _ _ (by rfl) _) ?_
  refine (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _)))))))))
  · idx_vars x
    have e0 : k.val = x0.val := (hx 0).trans (Nat.zero_add _)
    have e1 : 256 * h.val + d.val = 768 + x1.val := hx 1
    obtain rfl : h = 3 := Fin.ext (by show h.val = 3; omega)
    obtain rfl : k = x0 := Fin.ext e0
    obtain rfl : d = x1 := Fin.ext (by change 256 * 3 + d.val = _ at e1; omega)
    refine (key_slab q g kv 3 _ _ _ _ _ (fun r d => congrArg q (slab_idx 768 _ r d r (col 3 d) rfl rfl))
      (fun k d => congrArg kv (slab_idx 768 _ k d k (keyCol 3 d) rfl rfl))
      (fun r d => congrArg g (slab_idx 768 _ r d r (col 3 d) rfl rfl))
      (fun k d => congrArg kv (slab_idx 1792 _ k d k (valCol 3 d) rfl rfl)) k d).trans ?_
    exact (congrArg (· + _) (Ideal.ofBits_zero .f32)).trans (zero_add _)
  · idx_vars x
    have e1 : 256 * h.val + d.val = 1792 + x1.val := hx 1
    omega
  · idx_vars x
    have e0 : k.val = x0.val := (hx 0).trans (Nat.zero_add _)
    have e1 : 256 * h.val + d.val = 512 + x1.val := hx 1
    obtain rfl : h = 2 := Fin.ext (by show h.val = 2; omega)
    obtain rfl : k = x0 := Fin.ext e0
    obtain rfl : d = x1 := Fin.ext (by change 256 * 2 + d.val = _ at e1; omega)
    refine (key_slab q g kv 2 _ _ _ _ _ (fun r d => congrArg q (slab_idx 512 _ r d r (col 2 d) rfl rfl))
      (fun k d => congrArg kv (slab_idx 512 _ k d k (keyCol 2 d) rfl rfl))
      (fun r d => congrArg g (slab_idx 512 _ r d r (col 2 d) rfl rfl))
      (fun k d => congrArg kv (slab_idx 1536 _ k d k (valCol 2 d) rfl rfl)) k d).trans ?_
    exact (congrArg (· + _) (Ideal.ofBits_zero .f32)).trans (zero_add _)
  · idx_vars x
    have e1 : 256 * h.val + d.val = 1536 + x1.val := hx 1
    omega
  · idx_vars x
    have e0 : k.val = x0.val := (hx 0).trans (Nat.zero_add _)
    have e1 : 256 * h.val + d.val = 256 + x1.val := hx 1
    obtain rfl : h = 1 := Fin.ext (by show h.val = 1; omega)
    obtain rfl : k = x0 := Fin.ext e0
    obtain rfl : d = x1 := Fin.ext (by change 256 * 1 + d.val = _ at e1; omega)
    refine (key_slab q g kv 1 _ _ _ _ _ (fun r d => congrArg q (slab_idx 256 _ r d r (col 1 d) rfl rfl))
      (fun k d => congrArg kv (slab_idx 256 _ k d k (keyCol 1 d) rfl rfl))
      (fun r d => congrArg g (slab_idx 256 _ r d r (col 1 d) rfl rfl))
      (fun k d => congrArg kv (slab_idx 1280 _ k d k (valCol 1 d) rfl rfl)) k d).trans ?_
    exact (congrArg (· + _) (Ideal.ofBits_zero .f32)).trans (zero_add _)
  · idx_vars x
    have e1 : 256 * h.val + d.val = 1280 + x1.val := hx 1
    omega
  · idx_vars x
    have e0 : k.val = x0.val := (hx 0).trans (Nat.zero_add _)
    have e1 : 256 * h.val + d.val = 0 + x1.val := hx 1
    obtain rfl : h = 0 := Fin.ext (by show h.val = 0; omega)
    obtain rfl : k = x0 := Fin.ext e0
    obtain rfl : d = x1 := Fin.ext (by change 256 * 0 + d.val = _ at e1; omega)
    refine (key_slab q g kv 0 _ _ _ _ _ (fun r d => congrArg q (slab_idx 0 _ r d r (col 0 d) rfl rfl))
      (fun k d => congrArg kv (slab_idx 0 _ k d k (keyCol 0 d) rfl rfl))
      (fun r d => congrArg g (slab_idx 0 _ r d r (col 0 d) rfl rfl))
      (fun k d => congrArg kv (slab_idx 1024 _ k d k (valCol 0 d) rfl rfl)) k d).trans ?_
    exact (congrArg (· + _) (Ideal.ofBits_zero .f32)).trans (zero_add _)
  · idx_vars x
    have e1 : 256 * h.val + d.val = 1024 + x1.val := hx 1
    omega

theorem value_A (hc0 : cond0_0 i) (k : Fin 256) (d : Fin 256) :
    out0_A_4 (F := Ideal) c i arg1 harg1 arg2 harg2 arg3 harg3 arg4 harg4 arg5 harg5 hc0 q kv g (ix2 k (valCol h d)) = gvalue q kv g h k d := by
  frame_open
  simp (disch := decide) only [↓ View.readCov_skip, ↓ View.readCov_fill]
  frame_out
  refine canon_append_of_allAt [_] [_, _, _, _, _, _, _, _] _ _ (View.cover_of_tiled_head _ _ _ (by rfl) _) ?_
  refine (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _)))))))))
  · idx_vars x
    have e1 : 1024 + 256 * h.val + d.val = 768 + x1.val := hx 1
    omega
  · idx_vars x
    have e0 : k.val = x0.val := (hx 0).trans (Nat.zero_add _)
    have e1 : 1024 + 256 * h.val + d.val = 1792 + x1.val := hx 1
    obtain rfl : h = 3 := Fin.ext (by show h.val = 3; omega)
    obtain rfl : k = x0 := Fin.ext e0
    obtain rfl : d = x1 := Fin.ext (by change 1024 + 256 * 3 + d.val = _ at e1; omega)
    refine (value_slab q g kv 3 _ _ _ _ (fun r d => congrArg q (slab_idx 768 _ r d r (col 3 d) rfl rfl))
      (fun k d => congrArg kv (slab_idx 768 _ k d k (keyCol 3 d) rfl rfl))
      (fun r d => congrArg g (slab_idx 768 _ r d r (col 3 d) rfl rfl))
       k d).trans ?_
    exact (congrArg (· + _) (Ideal.ofBits_zero .f32)).trans (zero_add _)
  · idx_vars x
    have e1 : 1024 + 256 * h.val + d.val = 512 + x1.val := hx 1
    omega
  · idx_vars x
    have e0 : k.val = x0.val := (hx 0).trans (Nat.zero_add _)
    have e1 : 1024 + 256 * h.val + d.val = 1536 + x1.val := hx 1
    obtain rfl : h = 2 := Fin.ext (by show h.val = 2; omega)
    obtain rfl : k = x0 := Fin.ext e0
    obtain rfl : d = x1 := Fin.ext (by change 1024 + 256 * 2 + d.val = _ at e1; omega)
    refine (value_slab q g kv 2 _ _ _ _ (fun r d => congrArg q (slab_idx 512 _ r d r (col 2 d) rfl rfl))
      (fun k d => congrArg kv (slab_idx 512 _ k d k (keyCol 2 d) rfl rfl))
      (fun r d => congrArg g (slab_idx 512 _ r d r (col 2 d) rfl rfl))
       k d).trans ?_
    exact (congrArg (· + _) (Ideal.ofBits_zero .f32)).trans (zero_add _)
  · idx_vars x
    have e1 : 1024 + 256 * h.val + d.val = 256 + x1.val := hx 1
    omega
  · idx_vars x
    have e0 : k.val = x0.val := (hx 0).trans (Nat.zero_add _)
    have e1 : 1024 + 256 * h.val + d.val = 1280 + x1.val := hx 1
    obtain rfl : h = 1 := Fin.ext (by show h.val = 1; omega)
    obtain rfl : k = x0 := Fin.ext e0
    obtain rfl : d = x1 := Fin.ext (by change 1024 + 256 * 1 + d.val = _ at e1; omega)
    refine (value_slab q g kv 1 _ _ _ _ (fun r d => congrArg q (slab_idx 256 _ r d r (col 1 d) rfl rfl))
      (fun k d => congrArg kv (slab_idx 256 _ k d k (keyCol 1 d) rfl rfl))
      (fun r d => congrArg g (slab_idx 256 _ r d r (col 1 d) rfl rfl))
       k d).trans ?_
    exact (congrArg (· + _) (Ideal.ofBits_zero .f32)).trans (zero_add _)
  · idx_vars x
    have e1 : 1024 + 256 * h.val + d.val = 0 + x1.val := hx 1
    omega
  · idx_vars x
    have e0 : k.val = x0.val := (hx 0).trans (Nat.zero_add _)
    have e1 : 1024 + 256 * h.val + d.val = 1024 + x1.val := hx 1
    obtain rfl : h = 0 := Fin.ext (by show h.val = 0; omega)
    obtain rfl : k = x0 := Fin.ext e0
    obtain rfl : d = x1 := Fin.ext (by change 1024 + 256 * 0 + d.val = _ at e1; omega)
    refine (value_slab q g kv 0 _ _ _ _ (fun r d => congrArg q (slab_idx 0 _ r d r (col 0 d) rfl rfl))
      (fun k d => congrArg kv (slab_idx 0 _ k d k (keyCol 0 d) rfl rfl))
      (fun r d => congrArg g (slab_idx 0 _ r d r (col 0 d) rfl rfl))
       k d).trans ?_
    exact (congrArg (· + _) (Ideal.ofBits_zero .f32)).trans (zero_add _)

end

end Cert.KernelIdeal.Block

end
-- ==== Proof.Arrays.lean ====
module

public import proofs.«01_k».proof.Proof.Block
public import proofs.«01_k».proof.Proof.Gen.KernelIdeal.Value

/-! What the two result arrays of the kernel hold after the launch, as functions of the argument arrays. -/

@[expose] public section

set_option maxRecDepth 16384

noncomputable section

namespace Cert.Attn

open Idealize.ShloMosaic

/-- The columns of the queries' gradient are the heads' coordinates. -/
theorem exists_col (j : Fin 1024) : ∃ h d, j = col h d :=
  ⟨⟨j.val / 256, by omega⟩, ⟨j.val % 256, by omega⟩, Fin.ext (by show j.val = 256 * (j.val / 256) + j.val % 256; omega)⟩

/-- The columns of the keys' and values' gradient are the heads' key coordinates and then their value coordinates. -/
theorem exists_keyCol_or_valCol (j : Fin 2048) : (∃ h d, j = keyCol h d) ∨ ∃ h d, j = valCol h d := by
  by_cases hj : j.val < 1024
  · exact .inl ⟨⟨j.val / 256, by omega⟩, ⟨j.val % 256, by omega⟩, Fin.ext (by show j.val = 256 * (j.val / 256) + j.val % 256; omega)⟩
  · exact .inr ⟨⟨(j.val - 1024) / 256, by omega⟩, ⟨(j.val - 1024) % 256, by omega⟩,
      Fin.ext (by show j.val = 1024 + 256 * ((j.val - 1024) / 256) + (j.val - 1024) % 256; omega)⟩

/-- Row `r` of block `t`. -/
def row (t : Fin 16) (r : Fin 512) : Fin 8192 := ⟨t.val * 512 + r.val, by omega⟩

section Blocks
variable {q g : (⟨2, ![8192, 1024]⟩ : Shape).Idx → EReal} {kv kv' : (⟨2, ![256, 2048]⟩ : Shape).Idx → EReal}
  {q' g' : (⟨2, ![512, 1024]⟩ : Shape).Idx → EReal} {t : Fin 16}
  (hq : ∀ r j, q' (ix2 r j) = q (ix2 (row t r) j)) (hkv : kv' = kv) (hg : ∀ r j, g' (ix2 r j) = g (ix2 (row t r) j))
include hq hkv

theorem score_block (h : Fin 4) (r : Fin 512) : score q' kv' h r = score q kv h (row t r) := by
  funext k
  simp only [score, hq, hkv]

include hg

theorem gscore_block (h : Fin 4) (r : Fin 512) (k : Fin 256) : gscore q' kv' g' h r k = gscore q kv g h (row t r) k := by
  have e : gweight kv' g' h r = gweight kv g h (row t r) := by
    funext k
    simp only [gweight, hg, hkv]
  simp only [gscore, score_block hq hkv, e]

theorem gquery_block (h : Fin 4) (r : Fin 512) (d : Fin 256) : gquery q' kv' g' h r d = gquery q kv g h (row t r) d := by
  subst hkv
  simp only [gquery, gscore_block hq rfl hg]

theorem gkey_block (h : Fin 4) (k d : Fin 256) :
    gkey q' kv' g' h k d = ∑ r : Fin 512, gscore q kv g h (row t r) k * q (ix2 (row t r) (col h d)) := by
  simp only [gkey, gscore_block hq hkv hg, hq]

theorem gvalue_block (h : Fin 4) (k d : Fin 256) :
    gvalue q' kv' g' h k d = ∑ r : Fin 512, prob (score q kv h (row t r)) k * g (ix2 (row t r) (col h d)) := by
  simp only [gvalue, score_block hq hkv, hg]

end Blocks

/-- A sum over the rows is the sum over the blocks of the sums over their rows. -/
theorem sum_rows (f : Fin 8192 → EReal) : ∑ t : Fin 16, ∑ r : Fin 512, f (row t r) = ∑ t : Fin 8192, f t :=
  Fin.sum_mul_add_congr (fun _ _ _ => rfl)

/-- The queries' gradient by row and column. -/
def gradAt (q : (⟨2, ![8192, 1024]⟩ : Shape).Idx → EReal) (kv : (⟨2, ![256, 2048]⟩ : Shape).Idx → EReal)
    (g : (⟨2, ![8192, 1024]⟩ : Shape).Idx → EReal) (t : Fin 8192) (j : Fin 1024) : EReal :=
  gquery q kv g ⟨j.val / 256, by omega⟩ t ⟨j.val % 256, by omega⟩

theorem gradAt_col (q : (⟨2, ![8192, 1024]⟩ : Shape).Idx → EReal) (kv : (⟨2, ![256, 2048]⟩ : Shape).Idx → EReal)
    (g : (⟨2, ![8192, 1024]⟩ : Shape).Idx → EReal) (t : Fin 8192) (h : Fin 4) (d : Fin 256) :
    gradAt q kv g t (col h d) = gquery q kv g h t d := by
  have e1 : (⟨(col h d).val / 256, by have := (col h d).isLt; omega⟩ : Fin 4) = h := Fin.ext (by show (256 * h.val + d.val) / 256 = h.val; omega)
  have e2 : (⟨(col h d).val % 256, by omega⟩ : Fin 256) = d := Fin.ext (by show (256 * h.val + d.val) % 256 = d.val; omega)
  show gquery q kv g ⟨(col h d).val / 256, _⟩ t ⟨(col h d).val % 256, _⟩ = _
  rw [e1, e2]

end Cert.Attn

namespace Cert.KernelIdeal.Arrays

open Cert.KernelIdeal Cert.KernelIdeal.Gen Cert.KernelIdeal.Block Idealize.ShloMosaic Idealize.ShloMosaic.TcCoe Idealize.SL.Sem
open Idealize.ShloMosaic.Pipeline (Dat)
open Cert.Attn

variable (m : (ℓ : Loc nD τ sig) → Buf (Elt Ideal) ℓ) (c : Dev nD)

/-- The queries, -/
abbrev Q : FVec Ideal S8192x1024 .bf16 := m ((c : Thread nD τ).loc main_arg0)
/-- the keys and values, -/
abbrev KV : FVec Ideal S256x2048 .bf16 := m ((c : Thread nD τ).loc main_arg1)
/-- and the incoming gradient. -/
abbrev G : FVec Ideal S8192x1024 .bf16 := m ((c : Thread nD τ).loc main_arg2)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

/-- A grid point's number. -/
abbrev pt (t : Fin cfg0.N) : Fin 16 := ⟨t.val, lt_of_lt_of_eq t.isLt (show cfg0.N = 16 from N_0)⟩

theorem iblk0 (t : Fin cfg0.N) (r : Fin 512) (j : Fin 1024) : iblk m c 0 t (ix2 r j) = Q m c (ix2 (row (pt t) r) j) := by
  blk_ext [iblk, V, index0 t, row]

theorem iblk1 (t : Fin cfg0.N) : iblk m c 1 t = KV m c := by
  funext y
  blk_ext [iblk, V, index1 t]

theorem iblk2 (t : Fin cfg0.N) (r : Fin 512) (j : Fin 1024) : iblk m c 2 t (ix2 r j) = G m c (ix2 (row (pt t) r) j) := by
  blk_ext [iblk, V, index2 t, row]

theorem outs3_reset (t : Fin cfg0.N) (h0 : t.val % 16 = 0) (h : Fin 4) (r : Fin 512) (d : Fin 256) :
    (outsAt0 m c t.val t.isLt).1 (ix2 r (col h d)) = gquery (iblk m c 0 t) (iblk m c 1 t) (iblk m c 2 t) h r d := by
  rw [outsAt0_A m c t h0]
  dsimp only
  exact out3_A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) h ((hcond0_0 t).mpr h0) r d

theorem outs3_step (t : Fin cfg0.N) (h0 : ¬t.val % 16 = 0) (h : Fin 4) (r : Fin 512) (d : Fin 256) :
    (outsAt0 m c t.val t.isLt).1 (ix2 r (col h d)) = gquery (iblk m c 0 t) (iblk m c 1 t) (iblk m c 2 t) h r d := by
  rw [outsAt0_B m c t h0]
  dsimp only
  exact out3_B c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
     (outsAt0 m c (t.val - 1) (Nat.lt_of_le_of_lt (Nat.sub_le _ _) t.isLt)).2 h (fun e => h0 ((hcond0_0 t).mp e)) r d

/-- What the body leaves in the queries' gradient block at a point. -/
theorem outs3 (t : Fin cfg0.N) (h : Fin 4) (r : Fin 512) (d : Fin 256) :
    (outsAt0 m c t.val t.isLt).1 (ix2 r (col h d)) = gradAt (Q m c) (KV m c) (G m c) (row (pt t) r) (col h d) := by
  rw [gradAt_col, ← gquery_block (iblk0 m c t) (iblk1 m c t) (iblk2 m c t) h r d]
  by_cases h0 : t.val % 16 = 0
  · exact outs3_reset m c t h0 h r d
  · exact outs3_step m c t h0 h r d

/-- THE QUERIES' GRADIENT after the launch. -/
theorem final3 : (dats m 0 c).arrAt 3 cfg0.N = fun y : S8192x1024.Idx => gradAt (Q m c) (KV m c) (G m c) (y 0) (y 1) := by
  refine (dats m 0 c).arrAt_eq_of_covers 3 _ (by decide +kernel) fun t hf y => ?_
  blk_simp
  rw [after0_3]
  idx_vars y
  obtain ⟨h, d, rfl⟩ := exists_col y1
  rw [outs3]
  generalize col h d = j
  have e0 : ((cfg0.win 3).blk t).view.emb (ix2 y0 j) 0 = row (pt t) y0 := by
    refine Fin.ext ?_
    blk_simp [index3 t, row]
  have e1 : ((cfg0.win 3).blk t).view.emb (ix2 y0 j) 1 = j := by
    refine Fin.ext ?_
    blk_simp [index3 t, row]
  exact (congrArg₂ (gradAt (Q m c) (KV m c) (G m c)) e0 e1).symm

/-- What a point adds to the keys' gradient. -/
def keyPart (h : Fin 4) (k d : Fin 256) (n : Nat) : EReal :=
  if hn : n < 16 then ∑ r : Fin 512, gscore (Q m c) (KV m c) (G m c) h (row ⟨n, hn⟩ r) k * Q m c (ix2 (row ⟨n, hn⟩ r) (col h d)) else 0

/-- What a point adds to the values' gradient. -/
def valuePart (h : Fin 4) (k d : Fin 256) (n : Nat) : EReal :=
  if hn : n < 16 then ∑ r : Fin 512, prob (score (Q m c) (KV m c) h (row ⟨n, hn⟩ r)) k * G m c (ix2 (row ⟨n, hn⟩ r) (col h d)) else 0

theorem keyPart_eq (h : Fin 4) (k d : Fin 256) (t : Fin cfg0.N) : keyPart m c h k d t.val = gkey (iblk m c 0 t) (iblk m c 1 t) (iblk m c 2 t) h k d :=
  (dif_pos (pt t).isLt).trans (gkey_block (iblk0 m c t) (iblk1 m c t) (iblk2 m c t) h k d).symm

theorem key_reset (h : Fin 4) (k d : Fin 256) (t : Fin cfg0.N) (h0 : t.val % 16 = 0) :
    (outsAt0 m c t.val t.isLt).2 (ix2 k (keyCol h d)) = 0 + keyPart m c h k d t.val := by
  rw [keyPart_eq, zero_add, outsAt0_A m c t h0]
  exact key_A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) h ((hcond0_0 t).mpr h0) k d

theorem key_step (h : Fin 4) (k d : Fin 256) (t : Fin cfg0.N) (h0 : ¬t.val % 16 = 0) :
    (outsAt0 m c t.val t.isLt).2 (ix2 k (keyCol h d)) =
      (outsAt0 m c (t.val - 1) (Nat.lt_of_le_of_lt (Nat.sub_le _ _) t.isLt)).2 (ix2 k (keyCol h d)) + keyPart m c h k d t.val := by
  rw [keyPart_eq, outsAt0_B m c t h0]
  exact key_B c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (outsAt0 m c (t.val - 1) (Nat.lt_of_le_of_lt (Nat.sub_le _ _) t.isLt)).2 h (fun e => h0 ((hcond0_0 t).mp e)) k d

theorem keys_at (h : Fin 4) (k d : Fin 256) (t : Fin cfg0.N) :
    (outsAt0 m c t.val t.isLt).2 (ix2 k (keyCol h d)) = 0 + ∑ n ∈ Finset.range (t.val + 1), keyPart m c h k d n :=
  Pipeline.eq_sum_of_reset_step_single (fun n hn => (outsAt0 m c n hn).2 (ix2 k (keyCol h d))) 16 0 (keyPart m c h k d)
    (key_reset m c h k d) (key_step m c h k d) (le_of_eq N_0) t

theorem valuePart_eq (h : Fin 4) (k d : Fin 256) (t : Fin cfg0.N) : valuePart m c h k d t.val = gvalue (iblk m c 0 t) (iblk m c 1 t) (iblk m c 2 t) h k d :=
  (dif_pos (pt t).isLt).trans (gvalue_block (iblk0 m c t) (iblk1 m c t) (iblk2 m c t) h k d).symm

theorem value_reset (h : Fin 4) (k d : Fin 256) (t : Fin cfg0.N) (h0 : t.val % 16 = 0) :
    (outsAt0 m c t.val t.isLt).2 (ix2 k (valCol h d)) = 0 + valuePart m c h k d t.val := by
  rw [valuePart_eq, zero_add, outsAt0_A m c t h0]
  exact value_A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) h ((hcond0_0 t).mpr h0) k d

theorem value_step (h : Fin 4) (k d : Fin 256) (t : Fin cfg0.N) (h0 : ¬t.val % 16 = 0) :
    (outsAt0 m c t.val t.isLt).2 (ix2 k (valCol h d)) =
      (outsAt0 m c (t.val - 1) (Nat.lt_of_le_of_lt (Nat.sub_le _ _) t.isLt)).2 (ix2 k (valCol h d)) + valuePart m c h k d t.val := by
  rw [valuePart_eq, outsAt0_B m c t h0]
  exact value_B c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (outsAt0 m c (t.val - 1) (Nat.lt_of_le_of_lt (Nat.sub_le _ _) t.isLt)).2 h (fun e => h0 ((hcond0_0 t).mp e)) k d

theorem values_at (h : Fin 4) (k d : Fin 256) (t : Fin cfg0.N) :
    (outsAt0 m c t.val t.isLt).2 (ix2 k (valCol h d)) = 0 + ∑ n ∈ Finset.range (t.val + 1), valuePart m c h k d n :=
  Pipeline.eq_sum_of_reset_step_single (fun n hn => (outsAt0 m c n hn).2 (ix2 k (valCol h d))) 16 0 (valuePart m c h k d)
    (value_reset m c h k d) (value_step m c h k d) (le_of_eq N_0) t

/-- The last point writes the whole array of the keys' and values' gradient. -/
theorem final4 (y : S256x2048.Idx) : (dats m 0 c).arrAt 4 cfg0.N y = (outsAt0 m c t0_15.val t0_15.isLt).2 y := by
  refine congrFun ((dats m 0 c).arrAt_eq_of_after_last 4 t0_15 (by decide +kernel) (outsAt0 m c t0_15.val t0_15.isLt).2 fun j => ?_) y
  blk_simp
  rw [after0_4]

/-- THE KEYS' GRADIENT after the launch. -/
theorem final4_key (h : Fin 4) (k d : Fin 256) :
    (dats m 0 c).arrAt 4 cfg0.N (ix2 k (keyCol h d)) = gkey (Q m c) (KV m c) (G m c) h k d := by
  rw [final4, keys_at, zero_add, gkey, ← sum_rows]
  refine (Fin.sum_univ_eq_sum_range (keyPart m c h k d) 16).symm.trans (Finset.sum_congr rfl fun t _ => ?_)
  exact dif_pos t.isLt

/-- THE VALUES' GRADIENT after the launch. -/
theorem final4_value (h : Fin 4) (k d : Fin 256) :
    (dats m 0 c).arrAt 4 cfg0.N (ix2 k (valCol h d)) = gvalue (Q m c) (KV m c) (G m c) h k d := by
  rw [final4, values_at, zero_add, gvalue, ← sum_rows]
  refine (Fin.sum_univ_eq_sum_range (valuePart m c h k d) 16).symm.trans (Finset.sum_congr rfl fun t _ => ?_)
  exact dif_pos t.isLt

end Cert.KernelIdeal.Arrays

end
-- ==== Proof.SoftmaxGrad.lean ====
module

public import proofs.«01_k».proof.Proof.Head

/-! The gradient of a row's softmax, on finite scores: the kernel's form and the form that differentiating the quotient gives. -/

@[expose] public section

noncomputable section

namespace Cert.Attn

open Idealize.ShloMosaic

/-- The entries of a row are real numbers. -/
def Finite {ι : Type} (x : ι → EReal) : Prop := ∃ r : ι → ℝ, ∀ i, x i = (r i : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_neg_inf : Ideal.ofBits .f32 0xFF800000#32 = ⊥ := by
  simp [Ideal.ofBits, Ideal.ieee]

/-- The scale is a real number. -/
theorem exists_scale : ∃ r : ℝ, scale = (r : EReal) := by
  simp only [scale, Ideal.ofBits, Ideal.ieee]
  exact ⟨_, rfl⟩

/-- The greatest entry of a finite row is a real number. -/
theorem exists_rowMax {s : Fin 256 → EReal} (hs : Finite s) : ∃ r : ℝ, rowMax s = (r : EReal) := by
  obtain ⟨x, hx⟩ := hs
  have key : ∀ t : Finset (Fin 256), t.Nonempty → ∃ r : ℝ, t.fold max (Ideal.ofBits .f32 0xFF800000#32) s = (r : EReal) := by
    intro t ht
    induction ht using Finset.Nonempty.cons_induction with
    | singleton a => exact ⟨x a, by rw [Finset.fold_singleton, ofBits_neg_inf, hx]; simp⟩
    | cons a t ha _ ih =>
      obtain ⟨r, hr⟩ := ih
      exact ⟨max (x a) r, by rw [Finset.fold_cons, hr, hx]; exact (EReal.coe_strictMono.monotone.map_max).symm⟩
  exact key _ Finset.univ_nonempty

/-- A further maximum with −∞ changes nothing. -/
theorem max_rowMax (s : Fin 256 → EReal) : max (Ideal.ofBits .f32 0xFF800000#32) (rowMax s) = rowMax s := by
  rw [ofBits_neg_inf]
  exact max_eq_right bot_le

/-- On finite scores the exponentials are positive reals. -/
theorem exists_rowExp {s : Fin 256 → EReal} (hs : Finite s) : ∃ e : Fin 256 → ℝ, (∀ k, 0 < e k) ∧ ∀ k, rowExp s k = (e k : EReal) := by
  obtain ⟨r, hr⟩ := exists_rowMax hs
  obtain ⟨x, hx⟩ := hs
  refine ⟨fun k => Real.exp (x k - r), fun k => Real.exp_pos _, fun k => ?_⟩
  rw [rowExp, hr, hx, ← EReal.coe_sub, Ideal.exp_coe]

/-- THE GRADIENT OF THE SOFTMAX: what the derivative of the quotient `E / Z` gives is the kernel's form. -/
theorem dscore_eq {s g : Fin 256 → EReal} (hs : Finite s) (hg : Finite g) (k : Fin 256) :
    (Ideal.div (g k) (∑ l, rowExp s l)
        + -(∑ l, g l * Ideal.div 1 ((∑ l, rowExp s l) * ∑ l, rowExp s l) * rowExp s l)) * rowExp s k * scale
      = dscore s g k := by
  obtain ⟨e, he, hE⟩ := exists_rowExp hs
  obtain ⟨x, hx⟩ := hg
  have hz : (0 : ℝ) < ∑ l, e l := Finset.sum_pos (fun l _ => he l) Finset.univ_nonempty
  have hZ : ∑ l, rowExp s l = ((∑ l, e l : ℝ) : EReal) := by rw [coe_sum]; exact Finset.sum_congr rfl fun l _ => hE l
  generalize (∑ l, e l : ℝ) = z at hz hZ
  have hP : ∀ l, prob s l = ((e l / z : ℝ) : EReal) := fun l => by
    rw [prob, hZ, hE, Ideal.div_coe hz.ne', ← EReal.coe_mul, mul_one_div]
  have h1 : ∀ l, g l * Ideal.div 1 ((z : EReal) * z) * rowExp s l = ((x l * (1 / (z * z)) * e l : ℝ) : EReal) := fun l => by
    rw [hE, hx, ← EReal.coe_mul z z, Ideal.div_coe (by positivity), one_mul, ← EReal.coe_mul, ← EReal.coe_mul]
  have h2 : ∀ l, g l * prob s l = ((x l * (e l / z) : ℝ) : EReal) := fun l => by rw [hP, hx, ← EReal.coe_mul]
  rw [dscore, hZ, Finset.sum_congr rfl fun l _ => h1 l, Finset.sum_congr rfl fun l _ => h2 l, ← coe_sum, ← coe_sum, hP, hE, hx,
    Ideal.div_coe hz.ne', ← EReal.coe_mul, ← EReal.coe_neg, ← EReal.coe_add, ← EReal.coe_mul, ← EReal.coe_sub, ← EReal.coe_mul]
  congr 2
  have e1 : ∑ l, x l * (1 / (z * z)) * e l = (∑ l, x l * (e l / z)) * (1 / z) := by
    rw [Finset.sum_mul]
    exact Finset.sum_congr rfl fun l _ => by field_simp
  rw [e1]
  field_simp
  ring

/-- A row of products' sums of finite factors, scaled, is finite. -/
theorem Finite.sum_mul {ι κ : Type} [Fintype κ] {a : κ → EReal} {b : ι → κ → EReal} (ha : Finite a) (hb : ∀ i, Finite (b i)) :
    Finite fun i => ∑ d, a d * b i d := by
  obtain ⟨x, hx⟩ := ha
  choose y hy using hb
  refine ⟨fun i => ∑ d, x d * y i d, fun i => ?_⟩
  rw [coe_sum]
  exact Finset.sum_congr rfl fun d _ => by rw [hx, hy, EReal.coe_mul]

theorem Finite.mul_scale {ι : Type} {a : ι → EReal} (ha : Finite a) : Finite fun i => a i * scale := by
  obtain ⟨x, hx⟩ := ha
  obtain ⟨r, hr⟩ := exists_scale
  exact ⟨fun i => x i * r, fun i => by show a i * scale = _; rw [hx, hr, EReal.coe_mul]⟩

section Arrays
variable {N : Nat} {q : (⟨2, ![N, 1024]⟩ : Shape).Idx → EReal} {kv : (⟨2, ![256, 2048]⟩ : Shape).Idx → EReal}
  {g : (⟨2, ![N, 1024]⟩ : Shape).Idx → EReal}

theorem finite_score (hq : Finite q) (hkv : Finite kv) (h : Fin 4) (t : Fin N) : Finite (score q kv h t) := by
  obtain ⟨x, hx⟩ := hq
  obtain ⟨y, hy⟩ := hkv
  exact (Finite.sum_mul (a := fun d => q (ix2 t (col h d))) (b := fun k d => kv (ix2 k (keyCol h d))) ⟨_, fun d => hx _⟩ fun k => ⟨_, fun d => hy _⟩).mul_scale

theorem finite_gweight (hkv : Finite kv) (hg : Finite g) (h : Fin 4) (t : Fin N) : Finite (gweight kv g h t) := by
  obtain ⟨x, hx⟩ := hg
  obtain ⟨y, hy⟩ := hkv
  exact Finite.sum_mul (a := fun d => g (ix2 t (col h d))) (b := fun k d => kv (ix2 k (valCol h d))) ⟨_, fun d => hx _⟩ fun k => ⟨_, fun d => hy _⟩

end Arrays

end Cert.Attn

end
-- ==== Proof.Reference.lean ====
module

public import proofs.«01_k».proof.Proof.SoftmaxGrad
public import proofs.«01_k».proof.Proof.Gen.ReferenceIdeal.Read

/-! What the reference's arrays hold, by head, row and coordinate. -/

@[expose] public section

set_option maxRecDepth 16384

noncomputable section

namespace Cert.ReferenceIdeal.Reading

open Cert.ReferenceIdeal Cert.ReferenceIdeal.Gen Cert.ReferenceIdeal.Read Idealize.ShloMosaic
open Cert.Attn

variable (x0 : (⟨S8192x1024, .bf16⟩ : BufTy).Contents (Elt Ideal)) (x1 : (⟨S256x2048, .bf16⟩ : BufTy).Contents (Elt Ideal))
  (x2 : (⟨S8192x1024, .bf16⟩ : BufTy).Contents (Elt Ideal)) (h : Fin 4) (t : Fin 8192) (k d : Fin 256)

theorem query_at : val_main_v4 x0 (ix4 0 t h d) = x0 (ix2 t (col h d)) := by
  pointwise! [val_main_v4, val_main_v3]
  exact congrArg (fun j => x0 (ix2 t j)) (Fin.ext (by show h.val * 256 + d.val = 256 * h.val + d.val; omega))

theorem key_at : val_main_v5 x1 (ix4 0 k h d) = x1 (ix2 k (keyCol h d)) := by
  pointwise! [val_main_v5, val_main_v1, val_main_v0]
  exact congrArg (fun j => x1 (ix2 k j)) (Fin.ext (by show h.val * 256 + d.val = 256 * h.val + d.val; omega))

theorem value_at : val_main_v6 x1 (ix4 0 k h d) = x1 (ix2 k (valCol h d)) := by
  pointwise! [val_main_v6, val_main_v2, val_main_v0]
  exact congrArg (fun j => x1 (ix2 k j)) (Fin.ext (by show 1024 + (h.val * 256 + d.val) = 1024 + 256 * h.val + d.val; omega))

theorem incoming_at : val_main_v43 x2 (ix4 0 h d t) = x2 (ix2 t (col h d)) := by
  pointwise! [val_main_v43, val_main_v42, val_main_v41]
  exact congrArg (fun j => x2 (ix2 t j)) (Fin.ext (by show h.val * 256 + d.val = 256 * h.val + d.val; omega))

theorem score_at : val_main_v9 x0 x1 (ix4 0 h t k) = score x0 x1 h t k := by
  pointwise! [val_main_v9, val_main_v8, val_main_v7, val_main_cst]
  simp only [query_at, key_at, score, scale]

theorem weight_at : val_main_v44 x1 x2 (ix4 0 h t k) = gweight x1 x2 h t k := by
  pointwise! [val_main_v44]
  simp only [incoming_at, value_at, gweight]

theorem fold_at : val_main_v10 x0 x1 (ix3 0 h t) = rowMax (score x0 x1 h t) := by
  pointwise [val_main_v10, val_main_cst_0]
  simp only [score_at]
  rfl

theorem max_at : val_main_v17 x0 x1 (ix3 0 h t) = rowMax (score x0 x1 h t) := by
  have e : val_main_v17 x0 x1 (ix3 0 h t) = max (Ideal.ofBits .f32 0xFF800000#32) (rowMax (score x0 x1 h t)) := by
    rw [val_main_v17_apply, fold_at, val_main_v16_apply, val_main_cst_2_apply]
    rfl
  rw [e, max_rowMax]

theorem exp_at : val_main_v30 x0 x1 (ix4 0 h t k) = rowExp (score x0 x1 h t) k := by
  pointwise [val_main_v30, val_main_v29, val_main_v28, val_main_v27]
  simp only [score_at, max_at, rowExp]

theorem sum_at : val_main_v31 x0 x1 (ix3 0 h t) = ∑ k, rowExp (score x0 x1 h t) k := by
  pointwise [val_main_v31, val_main_cst_8]
  simp only [exp_at]

theorem prob_at : val_main_v34 x0 x1 (ix4 0 h t k) = prob (score x0 x1 h t) k := by
  pointwise [val_main_v34, val_main_v33, val_main_v32]
  simp only [exp_at, sum_at, prob]

theorem recip_at : val_main_v37 x0 x1 (ix4 0 h t 0) =
    Ideal.div 1 ((∑ l, rowExp (score x0 x1 h t) l) * ∑ l, rowExp (score x0 x1 h t) l) := by
  pointwise [val_main_v37, val_main_v36, val_main_v35, val_main_v32, val_main_cst_9]
  simp only [sum_at]

theorem inner_at : val_main_v52 x0 x1 x2 (ix4 0 h t 0) =
    -(∑ l, gweight x1 x2 h t l * Ideal.div 1 ((∑ l, rowExp (score x0 x1 h t) l) * ∑ l, rowExp (score x0 x1 h t) l) * rowExp (score x0 x1 h t) l) := by
  pointwise [val_main_v52, val_main_v51, val_main_v50, val_main_v49, val_main_v48, val_main_v47, val_main_cst_10]
  simp only [weight_at, recip_at, exp_at]

/-- A sum over two axes of one index each is the one entry. -/
theorem sum_unit (x : S1x4x8192x1.Idx → EReal) (v : EReal) :
    Ideal.hostReduceAdd reducesTo_S1x4x8192x1_S4x8192_d0_3 x v (ix2 h t) = v + x (ix4 0 h t 0) := by
  have e : (Finset.univ.filter fun i : S1x4x8192x1.Idx => reducesTo_S1x4x8192x1_S4x8192_d0_3.drop i = ix2 h t) = {ix4 0 h t 0} := by
    ext i
    have h1 := reducesTo_S1x4x8192x1_S4x8192_d0_3.drop_apply_val_of_eq i 0 1
    have h2 := reducesTo_S1x4x8192x1_S4x8192_d0_3.drop_apply_val_of_eq i 1 2
    simp only [Finset.mem_filter, Finset.mem_univ, true_and, Finset.mem_singleton]
    generalize reducesTo_S1x4x8192x1_S4x8192_d0_3.drop i = j at h1 h2
    idx_vars i
    idx_vars j
    constructor
    · intro e
      have a0 : j0 = h := congrFun e 0
      have a1 : j1 = t := congrFun e 1
      have b0 : j0 = i1 := Fin.ext h1
      have b1 : j1 = i2 := Fin.ext h2
      rw [← b0, ← b1, a0, a1, Subsingleton.elim i0 0, Subsingleton.elim i3 0]
    · intro e
      have a0 : i1 = h := congrFun e 1
      have a1 : i2 = t := congrFun e 2
      have b0 : j0 = i1 := Fin.ext h1
      have b1 : j1 = i2 := Fin.ext h2
      rw [b0, b1, a0, a1]
  unfold Ideal.hostReduceAdd
  rw [e, Finset.sum_singleton]

theorem spread_at : val_main_v57 x0 x1 x2 (ix4 0 h t k) = val_main_v52 x0 x1 x2 (ix4 0 h t 0) := by
  pointwise [val_main_v57, val_main_v56, val_main_v55, val_main_cst_11]
  rw [sum_unit]
  exact zero_add _

theorem gscore_at (h0 : Finite x0) (h1 : Finite x1) (h2 : Finite x2) :
    val_main_v61 x0 x1 x2 (ix4 0 h t k) = gscore x0 x1 x2 h t k := by
  pointwise [val_main_v61, val_main_v60, val_main_v59, val_main_v58, val_main_v54, val_main_v53, val_main_v32, val_main_cst_12]
  simp only [weight_at, sum_at, spread_at, exp_at, inner_at]
  exact dscore_eq (finite_score h0 h1 h t) (finite_gweight h1 h2 h t) k

theorem col_div : (col h d).val / 256 = h.val := by show (256 * h.val + d.val) / 256 = h.val; omega
theorem col_mod : (col h d).val % 256 = d.val := by show (256 * h.val + d.val) % 256 = d.val; omega

/-- THE QUERIES' GRADIENT, -/
theorem gquery_at (h0 : Finite x0) (h1 : Finite x1) (h2 : Finite x2) :
    val_main_v69 x0 x1 x2 (ix2 t (col h d)) = gquery x0 x1 x2 h t d := by
  pointwise [val_main_v69, val_main_v68, val_main_v65, val_main_v64]
  simp only [gscore_at x0 x1 x2 _ _ _ h0 h1 h2, key_at]
  have e1 : (⟨(col h d).val / 256, by have := (col h d).isLt; omega⟩ : Fin 4) = h := Fin.ext (col_div h d)
  have e2 : (⟨(col h d).val % 256, by omega⟩ : Fin 256) = d := Fin.ext (col_mod h d)
  simp only [e1, e2, gquery]

/-- THE KEYS' GRADIENT, -/
theorem gkey_at (h0 : Finite x0) (h1 : Finite x1) (h2 : Finite x2) :
    val_main_v70 x0 x1 x2 (ix2 k (keyCol h d)) = gkey x0 x1 x2 h k d := by
  pointwise [val_main_v70, val_main_v67, val_main_v63, val_main_v62]
  have hk : (keyCol h d).val = 256 * h.val + d.val := rfl
  rw [dif_pos (by omega)]
  simp only [gscore_at x0 x1 x2 _ _ _ h0 h1 h2, query_at]
  have e1 : (⟨(keyCol h d).val / 256, by omega⟩ : Fin 4) = h := Fin.ext (col_div h d)
  have e2 : (⟨(keyCol h d).val % 256, by omega⟩ : Fin 256) = d := Fin.ext (col_mod h d)
  simp only [e1, e2, gkey]

/-- THE VALUES' GRADIENT. -/
theorem gvalue_at : val_main_v70 x0 x1 x2 (ix2 k (valCol h d)) = gvalue x0 x1 x2 h k d := by
  pointwise [val_main_v70, val_main_v66, val_main_v46, val_main_v45]
  have hk : (valCol h d).val = 1024 + 256 * h.val + d.val := rfl
  rw [dif_neg (by omega)]
  simp only [incoming_at, prob_at]
  have e1 : (⟨((valCol h d).val - 1024) / 256, by omega⟩ : Fin 4) = h := Fin.ext (by show ((valCol h d).val - 1024) / 256 = h.val; omega)
  have e2 : (⟨((valCol h d).val - 1024) % 256, by omega⟩ : Fin 256) = d := Fin.ext (by show ((valCol h d).val - 1024) % 256 = d.val; omega)
  simp only [e1, e2, gvalue]
  exact Finset.sum_congr rfl fun _ _ => mul_comm _ _

end Cert.ReferenceIdeal.Reading

end
-- ==== Proof.Entries.lean ====
module

public import proofs.«01_k».proof.Proof.SoftmaxGrad
public import proofs.«01_k».proof.Proof.Gen.Pre_finite
public import Idealize.ShloMosaic.Lib.ReduceAll

/-! The precondition, entry by entry. -/

@[expose] public section

noncomputable section

namespace Cert.Pre_finite.Entries

open Cert.Pre_finite Cert.Pre_finite.Gen Idealize.ShloMosaic
open Cert.Attn

instance : Subsingleton S_.Idx := ⟨fun a b => funext fun i => i.elim0⟩

theorem ofBits_inf : Ideal.ofBits .f32 0x7F800000#32 = ⊤ := by
  simp [Ideal.ofBits, Ideal.ieee]

/-- An extended real below +∞ in absolute value is a real number. -/
theorem exists_real {x : EReal} (h : Ideal.cmp .olt (max x (-x)) (Ideal.ofBits .f32 0x7F800000#32) = 1#1) : ∃ r : ℝ, x = (r : EReal) := by
  rw [ofBits_inf] at h
  induction x with
  | bot => simp [Ideal.cmp] at h
  | top => simp [Ideal.cmp] at h
  | coe r => exact ⟨r, rfl⟩

/-- Where the precondition holds, every entry of the three arrays is a real number. -/
theorem finite_of {x0 : FVec Ideal S8192x1024 .bf16} {x1 : FVec Ideal S256x2048 .bf16} {x2 : FVec Ideal S8192x1024 .bf16}
    (h : fn (F := Ideal) x0 x1 x2 = fun _ => 1#1) : Finite x0 ∧ Finite x1 ∧ Finite x2 := by
  have hx := congrFun h (fun i => i.elim0)
  have ⟨h01, h2⟩ := IntOp.andi_eq_one.mp hx
  have ⟨h0, h1⟩ := IntOp.andi_eq_one.mp h01
  have f0 : ∀ i, ∃ r : ℝ, x0 i = (r : EReal) := fun i => exists_real (Host.reduce_andi_all _ _ _ _ _ h0 i)
  have f1 : ∀ i, ∃ r : ℝ, x1 i = (r : EReal) := fun i => exists_real (Host.reduce_andi_all _ _ _ _ _ h1 i)
  have f2 : ∀ i, ∃ r : ℝ, x2 i = (r : EReal) := fun i => exists_real (Host.reduce_andi_all _ _ _ _ _ h2 i)
  exact ⟨⟨_, fun i => (f0 i).choose_spec⟩, ⟨_, fun i => (f1 i).choose_spec⟩, ⟨_, fun i => (f2 i).choose_spec⟩⟩

end Cert.Pre_finite.Entries

end
-- ==== Proof.Attention.lean ====
module

public import proofs.«01_k».proof.Defs
public import proofs.«01_k».proof.Proof.Arrays
public import proofs.«01_k».proof.Proof.Reference
public import proofs.«01_k».proof.Proof.Entries
public import proofs.«01_k».proof.Proof.Gen.Kernel.Frame
public import proofs.«01_k».proof.Proof.Gen.ReferenceIdeal.Run
public import Idealize.ShloMosaic.Lib.Quiescent

/-! The claims about the gradient of the cross-attention. -/

@[expose] public section

noncomputable section

namespace Cert.Proof.Attention

open Idealize.ShloMosaic Idealize.SL.Sem
open Cert.Attn

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ

/-- The reference runs on the host alone: it takes no semaphore. -/
theorem frame_reference : Cert.quiescent_ReferenceIdeal := fun m ρ _ =>
  (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run (F := Ideal) m ρ)
theorem frame_reference_pre : Cert.quiescent_ReferenceIdeal_pre_finite := fun m ρ _ => frame_reference m ρ trivial

theorem preserves : Cert.preserves_Kernel_KernelIdeal := trivial

section Results
open Cert.KernelIdeal Cert.KernelIdeal.Gen Cert.KernelIdeal.Arrays

variable (m : (ℓ : Loc nD τ sig) → Buf (Elt Ideal) ℓ) (c : Dev nD)
  (h0 : Finite (Q m c)) (h1 : Finite (KV m c)) (h2 : Finite (G m c))
include h0 h1 h2

/-- The kernel's gradient of the queries is the reference's, -/
theorem queries_eq : (dats m 0 c).arrAt 3 cfg0.N = Cert.ReferenceIdeal.Read.val_main_v69 (F := Ideal) (Q m c) (KV m c) (G m c) := by
  rw [final3]
  funext y
  idx_vars y
  obtain ⟨h, d, rfl⟩ := exists_col y1
  exact (gradAt_col ..).trans (Cert.ReferenceIdeal.Reading.gquery_at (Q m c) (KV m c) (G m c) h y0 d h0 h1 h2).symm

/-- and so is its gradient of the keys and values. -/
theorem keys_values_eq : (dats m 0 c).arrAt 4 cfg0.N = Cert.ReferenceIdeal.Read.val_main_v70 (F := Ideal) (Q m c) (KV m c) (G m c) := by
  funext y
  idx_vars y
  rcases exists_keyCol_or_valCol y1 with ⟨h, d, rfl⟩ | ⟨h, d, rfl⟩
  · exact (final4_key m c h y0 d).trans (Cert.ReferenceIdeal.Reading.gkey_at (Q m c) (KV m c) (G m c) h y0 d h0 h1 h2).symm
  · exact (final4_value m c h y0 d).trans (Cert.ReferenceIdeal.Reading.gvalue_at (Q m c) (KV m c) (G m c) h y0 d).symm

end Results

/-- THE VALUE CLAIM: on finite arguments the kernel's two results are the reference's. -/
theorem algebraic : Cert.algebraic_KernelIdeal_ReferenceIdeal_pre_finite := by
  intro m g m' g' hpre hagree
  refine ⟨fun c => Cert.ReferenceIdeal.Value.res_main_v69 m' c, fun c => Cert.ReferenceIdeal.Value.res_main_v70 m' c, ?_,
    Cert.ReferenceIdeal.Value.run (F := Ideal) m' g'⟩
  refine (θ_run Cert.KernelIdeal.defs _ _).mono (fun r h c => ?_) (Cert.KernelIdeal.Value.run_blocks (F := Ideal) m g)
  obtain ⟨f0, f1, f2⟩ := Cert.Pre_finite.Entries.finite_of (hpre c)
  obtain ⟨a0, a1, a2⟩ := hagree c
  obtain ⟨r3, r4, k0, k1, k2⟩ := h c
  refine ⟨r3.trans ((queries_eq m c f0 f1 f2).trans ?_), r4.trans ((keys_values_eq m c f0 f1 f2).trans ?_), k0, k1, k2⟩
  · refine Eq.symm ((Cert.ReferenceIdeal.Read.val_main_v69_eq m' c).trans ?_)
    rw [a0, a1, a2]
  · refine Eq.symm ((Cert.ReferenceIdeal.Read.val_main_v70_eq m' c).trans ?_)
    rw [a0, a1, a2]

end Cert.Proof.Attention

end
-- ==== Proof.OwnDownDx.lean ====
module

public import proofs.«01_k».proof.Defs
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pipeline.ValueKit
public import Idealize.ShloMosaic.Lib.Pipeline.ReadBack
public import Idealize.ShloMosaic.Lib.Quiescent

/-! The gradient of the MLP's pre-activations: blocks of the kernel's product with the transposed weight are blocks of the reference's. -/

@[expose] public section

set_option maxRecDepth 16384

noncomputable section

namespace Cert.DownDxIdeal.Product

open Cert.DownDxIdeal Cert.DownDxIdeal.Gen Idealize.ShloMosaic Idealize.ShloMosaic.TcCoe Idealize.SL.Sem
open Idealize.ShloMosaic.Pipeline (Dat)

/-- The factor two of the square's derivative. -/
def two : EReal := Ideal.ofBits .f32 0x40000000#32

/-- What the kernel stores: the product times the activation's derivative. -/
theorem stored_at (x : FVec Ideal S512x1024 .f32) (w : FVec Ideal S1024x1024 .bf16) (f : FVec Ideal S512x1024 .bf16) (r : Fin 512) (n : Fin 1024) :
    k0_pay4 (F := Ideal) (k0_pay2 (F := Ideal) x w) f (ix2 r n) = (∑ j : Fin 1024, x (ix2 r j) * w (ix2 n j)) * two * max (f (ix2 r n)) 0 := by
  pointwise [k0_pay4, k0_pay2, k0_pay1, two]

variable (m : (ℓ : Loc nD τ sig) → Buf (Elt Ideal) ℓ) (c : Dev nD)

/-- The incoming gradient, -/
abbrev X : FVec Ideal S8192x1024 .f32 := m ((c : Thread nD τ).loc main_arg0)
/-- the weight -/
abbrev W : FVec Ideal S4096x1024 .bf16 := m ((c : Thread nD τ).loc main_arg1)
/-- and the pre-activations. -/
abbrev H : FVec Ideal S8192x4096 .bf16 := m ((c : Thread nD τ).loc main_arg2)

/-- The blocks a grid point reads and the one it writes. -/
theorem index0 : ∀ t : Fin cfg0.N, win0_0.index t = ![t.val / 4, 0] := (by decide +kernel : ∀ t : Fin grid0.N, win0_0.index t = ![t.val / 4, 0])
theorem index1 : ∀ t : Fin cfg0.N, win0_1.index t = ![t.val % 4, 0] := (by decide +kernel : ∀ t : Fin grid0.N, win0_1.index t = ![t.val % 4, 0])
theorem index2 : ∀ t : Fin cfg0.N, win0_2.index t = ![t.val / 4, t.val % 4] := (by decide +kernel : ∀ t : Fin grid0.N, win0_2.index t = ![t.val / 4, t.val % 4])
theorem index3 : ∀ t : Fin cfg0.N, win0_3.index t = ![t.val / 4, t.val % 4] := (by decide +kernel : ∀ t : Fin grid0.N, win0_3.index t = ![t.val / 4, t.val % 4])

theorem iblk0 (t : Fin cfg0.N) (r : Fin 512) (j : Fin 1024) (r' : Fin 8192) (hr : r'.val = t.val / 4 * 512 + r.val) :
    iblk m c 0 t (ix2 r j) = X m c (ix2 r' j) := by
  blk_ext [iblk, V, index0 t, hr]

theorem iblk1 (t : Fin cfg0.N) (n j : Fin 1024) (n' : Fin 4096) (hn : n'.val = t.val % 4 * 1024 + n.val) :
    iblk m c 1 t (ix2 n j) = W m c (ix2 n' j) := by
  blk_ext [iblk, V, index1 t, hn]

theorem iblk2 (t : Fin cfg0.N) (r : Fin 512) (n : Fin 1024) (r' : Fin 8192) (n' : Fin 4096) (hr : r'.val = t.val / 4 * 512 + r.val)
    (hn : n'.val = t.val % 4 * 1024 + n.val) : iblk m c 2 t (ix2 r n) = H m c (ix2 r' n') := by
  blk_ext [iblk, V, index2 t, hr, hn]

/-- The gradient at an entry. -/
def grad (x : FVec Ideal S8192x1024 .f32) (w : FVec Ideal S4096x1024 .bf16) (f : FVec Ideal S8192x4096 .bf16) (r : Fin 8192) (n : Fin 4096) : EReal :=
  (∑ j : Fin 1024, x (ix2 r j) * w (ix2 n j)) * two * max (f (ix2 r n)) 0

/-- THE GRADIENT after the launch. -/
theorem final (y : S8192x4096.Idx) : (dats m 0 c).arrAt 3 cfg0.N y = grad (X m c) (W m c) (H m c) (y 0) (y 1) := by
  refine congrFun ((dats m 0 c).arrAt_eq_of_covers 3 (fun y : S8192x4096.Idx => grad (X m c) (W m c) (H m c) (y 0) (y 1)) (by decide +kernel) fun t hf y => ?_) y
  have hN : t.val < 64 := lt_of_lt_of_eq t.isLt (show cfg0.N = 64 from N_0)
  blk_simp
  rw [after0_3]
  unfold outsAt0
  frame_out
  idx_vars y
  have e0 : ((cfg0.win 3).blk t).view.emb (ix2 y0 y1) 0 = (⟨t.val / 4 * 512 + y0.val, by omega⟩ : Fin 8192) := by
    refine Fin.ext ?_
    blk_simp [index3 t]
  have e1 : ((cfg0.win 3).blk t).view.emb (ix2 y0 y1) 1 = (⟨t.val % 4 * 1024 + y1.val, by omega⟩ : Fin 4096) := by
    refine Fin.ext ?_
    blk_simp [index3 t]
  refine Eq.trans ?_ (congrArg₂ (grad (X m c) (W m c) (H m c)) e0 e1).symm
  refine (stored_at _ _ _ y0 y1).trans ?_
  refine congrArg₂ (fun s h : EReal => s * two * max h 0) (Finset.sum_congr rfl fun j _ => ?_) (iblk2 m c t y0 y1 _ _ rfl rfl)
  exact congrArg₂ (fun a b : EReal => a * b) (iblk0 m c t y0 j _ rfl) (iblk1 m c t y1 j _ rfl)

end Cert.DownDxIdeal.Product

namespace Cert.DownDxRefIdeal.Reading

open Cert.DownDxRefIdeal Cert.DownDxRefIdeal.Gen Cert.DownDxRefIdeal.Read Idealize.ShloMosaic

variable (x0 : (⟨S8192x1024, .f32⟩ : BufTy).Contents (Elt Ideal)) (x1 : (⟨S4096x1024, .bf16⟩ : BufTy).Contents (Elt Ideal)) (x2 : (⟨S8192x4096, .bf16⟩ : BufTy).Contents (Elt Ideal))

/-- The reference's derivative, read at an entry. -/
theorem result_at (r : Fin 8192) (n : Fin 4096) :
    val_main_v14 x0 x1 x2 (ix2 r n) = Cert.DownDxIdeal.Product.grad x0 x1 x2 r n := by
  pointwise [val_main_v14, val_main_v13, val_main_v12, val_main_v11, val_main_v10, val_main_v8, val_main_v7, val_main_v6, val_main_v5, val_main_v4, val_main_v3, val_main_v2, val_main_v1, val_main_v0, val_main_call0_v0, val_main_call0_cst, val_main_cst, val_main_cst_0, val_main_cst_1, val_main_cst_2]
  simp only [Cert.DownDxIdeal.Product.grad]
  split_ifs with h
  · rw [mul_assoc]
    rfl
  · rw [max_eq_right (not_lt.mp h), mul_zero]

end Cert.DownDxRefIdeal.Reading

namespace Cert.Proof.DownDx

open Idealize.ShloMosaic Idealize.SL.Sem

theorem frame_kernel : Cert.quiescent_DownDx := fun m ρ _ => Cert.DownDx.Gen.frame m ρ
theorem frame_ideal : Cert.quiescent_DownDxIdeal := fun m ρ _ => Cert.DownDxIdeal.Gen.frame m ρ

/-- The reference runs on the host alone: it takes no semaphore. -/
theorem frame_reference : Cert.quiescent_DownDxRefIdeal := fun m ρ _ =>
  (θ_run Cert.DownDxRefIdeal.defs _ _).mono
    (fun r h => ⟨fun c => ⟨(h c).2.1, (h c).2.2.1, (h c).2.2.2⟩, sem_eq_zero_of_no_sems (by decide) r.2⟩)
    (Cert.DownDxRefIdeal.Value.run (F := Ideal) m ρ)

theorem preserves : Cert.preserves_DownDx_DownDxIdeal := trivial

/-- THE VALUE CLAIM: the kernel's gradient of the MLP's pre-activations is the reference's. -/
theorem algebraic : Cert.algebraic_DownDxIdeal_DownDxRefIdeal := by
  intro m g m' g' _ hagree
  refine ⟨fun c y => Cert.DownDxIdeal.Product.grad (Cert.DownDxIdeal.Product.X m c) (Cert.DownDxIdeal.Product.W m c) (Cert.DownDxIdeal.Product.H m c) (y 0) (y 1), ?_, ?_⟩
  · exact (θ_run Cert.DownDxIdeal.defs _ _).mono (fun r h c => ⟨(h c).1.trans (funext (Cert.DownDxIdeal.Product.final m c)), (h c).2⟩)
      (Cert.DownDxIdeal.Value.run_blocks (F := Ideal) m g)
  · refine (θ_run Cert.DownDxRefIdeal.defs _ _).mono (fun r h c => ⟨(h c).1.trans ?_, (h c).2⟩) (Cert.DownDxRefIdeal.Value.run (F := Ideal) m' g')
    obtain ⟨a0, a1, a2⟩ := hagree c
    refine (Cert.DownDxRefIdeal.Read.val_main_v14_eq _ _ _).trans (funext fun y => ?_)
    rw [a0, a1, a2]
    idx_vars y
    exact Cert.DownDxRefIdeal.Reading.result_at _ _ _ y0 y1

end Cert.Proof.DownDx

end
-- ==== Proof.OwnDownDw.lean ====
module

public import proofs.«01_k».proof.Defs
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pipeline.ValueKit
public import Idealize.ShloMosaic.Lib.Pipeline.ReadBack
public import Idealize.ShloMosaic.Lib.Quiescent

/-! The gradient of the MLP's second weight: the kernel sums over sixteen blocks of 512 rows, the reference over the 8192 rows. -/

@[expose] public section

set_option maxRecDepth 16384

noncomputable section

namespace Cert.DownDwIdeal.Product

open Cert.DownDwIdeal Cert.DownDwIdeal.Gen Idealize.ShloMosaic Idealize.ShloMosaic.TcCoe Idealize.SL.Sem
open Idealize.ShloMosaic.Pipeline (Dat)

/-- The MLP's activation. -/
def relu2 (h : EReal) : EReal := max h 0 * max h 0

/-- What one block of 512 rows adds to an entry. -/
theorem part_at (a : FVec Ideal S512x1024 .bf16) (g : FVec Ideal S512x1024 .f32) (k : Fin 1024) (n : Fin 1024) :
    k0_pay1 (F := Ideal) a g (ix2 k n) = ∑ r : Fin 512, relu2 (a (ix2 r k)) * g (ix2 r n) := by
  pointwise [k0_pay1]
  rfl

variable (m : (ℓ : Loc nD τ sig) → Buf (Elt Ideal) ℓ) (c : Dev nD)

/-- The saved pre-activations, -/
abbrev A : FVec Ideal S8192x4096 .bf16 := m ((c : Thread nD τ).loc main_arg0)
/-- and the gradient of the MLP's output. -/
abbrev G : FVec Ideal S8192x1024 .f32 := m ((c : Thread nD τ).loc main_arg1)

/-- The blocks a grid point reads and the one it writes. -/
theorem index0 : ∀ t : Fin cfg0.N, win0_0.index t = ![t.val % 16, t.val / 16] := (by decide +kernel : ∀ t : Fin grid0.N, win0_0.index t = ![t.val % 16, t.val / 16])
theorem index1 : ∀ t : Fin cfg0.N, win0_1.index t = ![t.val % 16, 0] := (by decide +kernel : ∀ t : Fin grid0.N, win0_1.index t = ![t.val % 16, 0])
theorem index2 : ∀ t : Fin cfg0.N, win0_2.index t = ![t.val / 16, 0] := (by decide +kernel : ∀ t : Fin grid0.N, win0_2.index t = ![t.val / 16, 0])

/-- The first block of a run starts the sum, -/
theorem reset (t : Fin cfg0.N) (h : t.val % 16 = 0) (i : S1024x1024.Idx) :
    outsAt0 m c t.val t.isLt i = 0 + k0_pay1 (F := Ideal) (iblk m c 0 t) (iblk m c 1 t) i := by
  rw [outsAt0_A m c t h (by omega), zero_add]
  frame_out

/-- and each later block adds to it. -/
theorem step (t : Fin cfg0.N) (h : ¬t.val % 16 = 0) (i : S1024x1024.Idx) :
    outsAt0 m c t.val t.isLt i = outsAt0 m c (t.val - 1) (Nat.lt_of_le_of_lt (Nat.sub_le _ _) t.isLt) i + k0_pay1 (F := Ideal) (iblk m c 0 t) (iblk m c 1 t) i := by
  rw [outsAt0_B m c t h (by omega)]
  frame_out
  idx_vars i
  pointwise [k0_pay2]

theorem iblk0 (t : Fin cfg0.N) (r : Fin 512) (j : Fin 1024) (r' : Fin 8192) (j' : Fin 4096) (hr : r'.val = t.val % 16 * 512 + r.val)
    (hj : j'.val = t.val / 16 * 1024 + j.val) : iblk m c 0 t (ix2 r j) = A m c (ix2 r' j') := by
  blk_ext [iblk, V, index0 t, hr, hj]

theorem iblk1 (t : Fin cfg0.N) (r : Fin 512) (j : Fin 1024) (r' : Fin 8192) (hr : r'.val = t.val % 16 * 512 + r.val) :
    iblk m c 1 t (ix2 r j) = G m c (ix2 r' j) := by
  blk_ext [iblk, V, index1 t, hr]

/-- The gradient of the weight at an entry. -/
def grad (a : FVec Ideal S8192x4096 .bf16) (g : FVec Ideal S8192x1024 .f32) (k : Fin 4096) (n : Fin 1024) : EReal :=
  ∑ r : Fin 8192, relu2 (a (ix2 r k)) * g (ix2 r n)

/-- THE WEIGHT'S GRADIENT after the launch. -/
theorem final (y : S4096x1024.Idx) : (dats m 0 c).arrAt 2 cfg0.N y = grad (A m c) (G m c) (y 0) (y 1) := by
  refine congrFun ((dats m 0 c).arrAt_eq_of_covers 2 (fun y : S4096x1024.Idx => grad (A m c) (G m c) (y 0) (y 1)) (by decide +kernel) fun t hf y => ?_) y
  have ht := (flush0_2 t).mp hf
  have hN : t.val < 64 := lt_of_lt_of_eq t.isLt (show cfg0.N = 64 from N_0)
  blk_simp
  rw [after0_2, Pipeline.eq_sum_fin_of_reset_step_apply_of_flush (fun n h => outsAt0 m c n h) 16 (fun _ => 0) _
    (reset m c) (step m c) t ht _, zero_add]
  idx_vars y
  have e0 : ((cfg0.win 2).blk t).view.emb (ix2 y0 y1) 0 = (⟨t.val / 16 * 1024 + y0.val, by omega⟩ : Fin 4096) := by
    refine Fin.ext ?_
    blk_simp [index2 t]
  have e1 : ((cfg0.win 2).blk t).view.emb (ix2 y0 y1) 1 = y1 := by
    refine Fin.ext ?_
    blk_simp [index2 t]
  refine Eq.trans ?_ (congrArg₂ (grad (A m c) (G m c)) e0 e1).symm
  simp only [part_at]
  refine Fin.sum_mul_add_congr fun s k hl => ?_
  have hq : (16 * (t.val / 16) + s.val) % 16 = s.val := by omega
  have hd : (16 * (t.val / 16) + s.val) / 16 = t.val / 16 := by omega
  refine congrArg₂ (fun a g => relu2 a * g) (iblk0 m c _ k y0 _ _ ?_ ?_) (iblk1 m c _ k y1 _ ?_)
  · show s.val * 512 + k.val = (16 * (t.val / 16) + s.val) % 16 * 512 + k.val
    rw [hq]
  · show t.val / 16 * 1024 + y0.val = (16 * (t.val / 16) + s.val) / 16 * 1024 + y0.val
    rw [hd]
  · show s.val * 512 + k.val = (16 * (t.val / 16) + s.val) % 16 * 512 + k.val
    rw [hq]

end Cert.DownDwIdeal.Product

namespace Cert.DownDwRefIdeal.Reading

open Cert.DownDwRefIdeal Cert.DownDwRefIdeal.Gen Cert.DownDwRefIdeal.Read Idealize.ShloMosaic

variable (x0 : (⟨S8192x4096, .bf16⟩ : BufTy).Contents (Elt Ideal)) (x1 : (⟨S8192x1024, .f32⟩ : BufTy).Contents (Elt Ideal))

/-- The reference's derivative, read at an entry. -/
theorem result_at (k : Fin 4096) (n : Fin 1024) :
    val_main_v6 x0 x1 (ix2 k n) = Cert.DownDwIdeal.Product.grad x0 x1 k n := by
  pointwise [val_main_v6, val_main_v5, val_main_v2, val_main_v1, val_main_v0, val_main_call0_v0, val_main_call0_cst]
  first
    | rfl
    | exact Finset.sum_congr rfl fun r _ => mul_comm _ _

end Cert.DownDwRefIdeal.Reading

namespace Cert.Proof.DownDw

open Idealize.ShloMosaic Idealize.SL.Sem

theorem frame_kernel : Cert.quiescent_DownDw := fun m ρ _ => Cert.DownDw.Gen.frame m ρ
theorem frame_ideal : Cert.quiescent_DownDwIdeal := fun m ρ _ => Cert.DownDwIdeal.Gen.frame m ρ

/-- The reference runs on the host alone: it takes no semaphore. -/
theorem frame_reference : Cert.quiescent_DownDwRefIdeal := fun m ρ _ =>
  (θ_run Cert.DownDwRefIdeal.defs _ _).mono
    (fun r h => ⟨fun c => ⟨(h c).2.1, (h c).2.2⟩, sem_eq_zero_of_no_sems (by decide) r.2⟩)
    (Cert.DownDwRefIdeal.Value.run (F := Ideal) m ρ)

theorem preserves : Cert.preserves_DownDw_DownDwIdeal := trivial

/-- THE VALUE CLAIM: the kernel's gradient of the MLP's second weight is the reference's. -/
theorem algebraic : Cert.algebraic_DownDwIdeal_DownDwRefIdeal := by
  intro m g m' g' _ hagree
  refine ⟨fun c y => Cert.DownDwIdeal.Product.grad (Cert.DownDwIdeal.Product.A m c) (Cert.DownDwIdeal.Product.G m c) (y 0) (y 1), ?_, ?_⟩
  · exact (θ_run Cert.DownDwIdeal.defs _ _).mono (fun r h c => ⟨(h c).1.trans (funext (Cert.DownDwIdeal.Product.final m c)), (h c).2⟩)
      (Cert.DownDwIdeal.Value.run_blocks (F := Ideal) m g)
  · refine (θ_run Cert.DownDwRefIdeal.defs _ _).mono (fun r h c => ⟨(h c).1.trans ?_, (h c).2⟩) (Cert.DownDwRefIdeal.Value.run (F := Ideal) m' g')
    obtain ⟨a0, a1⟩ := hagree c
    refine (Cert.DownDwRefIdeal.Read.val_main_v6_eq _ _).trans (funext fun y => ?_)
    rw [a0, a1]
    idx_vars y
    exact Cert.DownDwRefIdeal.Reading.result_at _ _ y0 y1

end Cert.Proof.DownDw

end
-- ==== Proof.OwnUpDw.lean ====
module

public import proofs.«01_k».proof.Defs
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDwRefIdeal.Read
public import Idealize.ShloMosaic.Lib.Pipeline.ValueKit
public import Idealize.ShloMosaic.Lib.Pipeline.ReadBack
public import Idealize.ShloMosaic.Lib.Quiescent

/-! The gradient of the MLP's first weight: the kernel sums over sixteen blocks of 512 rows, the reference over the 8192 rows. -/

@[expose] public section

set_option maxRecDepth 16384

noncomputable section

namespace Cert.UpDwIdeal.Product

open Cert.UpDwIdeal Cert.UpDwIdeal.Gen Idealize.ShloMosaic Idealize.ShloMosaic.TcCoe Idealize.SL.Sem
open Idealize.ShloMosaic.Pipeline (Dat)

/-- What one block of 512 rows adds to an entry. -/
theorem part_at (a : FVec Ideal S512x1024 .bf16) (g : FVec Ideal S512x1024 .bf16) (k : Fin 1024) (n : Fin 1024) :
    k0_pay1 (F := Ideal) a g (ix2 k n) = ∑ r : Fin 512, a (ix2 r k) * g (ix2 r n) := by
  pointwise [k0_pay1]

variable (m : (ℓ : Loc nD τ sig) → Buf (Elt Ideal) ℓ) (c : Dev nD)

/-- The saved normalised rows, -/
abbrev A : FVec Ideal S8192x1024 .bf16 := m ((c : Thread nD τ).loc main_arg0)
/-- and the gradient of the pre-activations. -/
abbrev G : FVec Ideal S8192x4096 .bf16 := m ((c : Thread nD τ).loc main_arg1)

/-- The blocks a grid point reads and the one it writes. -/
theorem index0 : ∀ t : Fin cfg0.N, win0_0.index t = ![t.val % 16, 0] := (by decide +kernel : ∀ t : Fin grid0.N, win0_0.index t = ![t.val % 16, 0])
theorem index1 : ∀ t : Fin cfg0.N, win0_1.index t = ![t.val % 16, t.val / 16] := (by decide +kernel : ∀ t : Fin grid0.N, win0_1.index t = ![t.val % 16, t.val / 16])
theorem index2 : ∀ t : Fin cfg0.N, win0_2.index t = ![0, t.val / 16] := (by decide +kernel : ∀ t : Fin grid0.N, win0_2.index t = ![0, t.val / 16])

/-- The first block of a run starts the sum, -/
theorem reset (t : Fin cfg0.N) (h : t.val % 16 = 0) (i : S1024x1024.Idx) :
    outsAt0 m c t.val t.isLt i = 0 + k0_pay1 (F := Ideal) (iblk m c 0 t) (iblk m c 1 t) i := by
  have hN : t.val < 64 := lt_of_lt_of_eq t.isLt (show cfg0.N = 64 from N_0)
  rw [outsAt0_A m c t h (by omega), zero_add]
  frame_out

/-- and each later block adds to it. -/
theorem step (t : Fin cfg0.N) (h : ¬t.val % 16 = 0) (i : S1024x1024.Idx) :
    outsAt0 m c t.val t.isLt i = outsAt0 m c (t.val - 1) (Nat.lt_of_le_of_lt (Nat.sub_le _ _) t.isLt) i + k0_pay1 (F := Ideal) (iblk m c 0 t) (iblk m c 1 t) i := by
  have hN : t.val < 64 := lt_of_lt_of_eq t.isLt (show cfg0.N = 64 from N_0)
  rw [outsAt0_B m c t h (by omega)]
  frame_out
  idx_vars i
  pointwise [k0_pay2]

theorem iblk0 (t : Fin cfg0.N) (r : Fin 512) (j : Fin 1024) (r' : Fin 8192) (hr : r'.val = t.val % 16 * 512 + r.val) :
    iblk m c 0 t (ix2 r j) = A m c (ix2 r' j) := by
  blk_ext [iblk, V, index0 t, hr]

theorem iblk1 (t : Fin cfg0.N) (r : Fin 512) (j : Fin 1024) (r' : Fin 8192) (j' : Fin 4096) (hr : r'.val = t.val % 16 * 512 + r.val)
    (hj : j'.val = t.val / 16 * 1024 + j.val) : iblk m c 1 t (ix2 r j) = G m c (ix2 r' j') := by
  blk_ext [iblk, V, index1 t, hr, hj]

/-- The gradient of the weight at an entry. -/
def grad (a : FVec Ideal S8192x1024 .bf16) (g : FVec Ideal S8192x4096 .bf16) (k : Fin 1024) (n : Fin 4096) : EReal :=
  ∑ r : Fin 8192, a (ix2 r k) * g (ix2 r n)

/-- THE WEIGHT'S GRADIENT after the launch. -/
theorem final (y : S1024x4096.Idx) : (dats m 0 c).arrAt 2 cfg0.N y = grad (A m c) (G m c) (y 0) (y 1) := by
  refine congrFun ((dats m 0 c).arrAt_eq_of_covers 2 (fun y : S1024x4096.Idx => grad (A m c) (G m c) (y 0) (y 1)) (by decide +kernel) fun t hf y => ?_) y
  have ht := (flush0_2 t).mp hf
  have hN : t.val < 64 := lt_of_lt_of_eq t.isLt (show cfg0.N = 64 from N_0)
  blk_simp
  rw [after0_2, Pipeline.eq_sum_fin_of_reset_step_apply_of_flush (fun n h => outsAt0 m c n h) 16 (fun _ => 0) _
    (reset m c) (step m c) t ht _, zero_add]
  idx_vars y
  have e0 : ((cfg0.win 2).blk t).view.emb (ix2 y0 y1) 0 = y0 := by
    refine Fin.ext ?_
    blk_simp [index2 t]
  have e1 : ((cfg0.win 2).blk t).view.emb (ix2 y0 y1) 1 = (⟨t.val / 16 * 1024 + y1.val, by omega⟩ : Fin 4096) := by
    refine Fin.ext ?_
    blk_simp [index2 t]
  refine Eq.trans ?_ (congrArg₂ (grad (A m c) (G m c)) e0 e1).symm
  simp only [part_at]
  refine Fin.sum_mul_add_congr fun s k hl => ?_
  have hq : (16 * (t.val / 16) + s.val) % 16 = s.val := by omega
  have hd : (16 * (t.val / 16) + s.val) / 16 = t.val / 16 := by omega
  refine congrArg₂ (fun a g : EReal => a * g) (iblk0 m c _ k y0 _ ?_) (iblk1 m c _ k y1 _ _ ?_ ?_)
  · show s.val * 512 + k.val = (16 * (t.val / 16) + s.val) % 16 * 512 + k.val
    rw [hq]
  · show s.val * 512 + k.val = (16 * (t.val / 16) + s.val) % 16 * 512 + k.val
    rw [hq]
  · show t.val / 16 * 1024 + y1.val = (16 * (t.val / 16) + s.val) / 16 * 1024 + y1.val
    rw [hd]

end Cert.UpDwIdeal.Product

namespace Cert.UpDwRefIdeal.Reading

open Cert.UpDwRefIdeal Cert.UpDwRefIdeal.Gen Cert.UpDwRefIdeal.Read Idealize.ShloMosaic

variable (x0 : (⟨S8192x1024, .bf16⟩ : BufTy).Contents (Elt Ideal)) (x1 : (⟨S8192x4096, .bf16⟩ : BufTy).Contents (Elt Ideal))

/-- The reference's derivative, read at an entry. -/
theorem result_at (k : Fin 1024) (n : Fin 4096) :
    val_main_v5 x0 x1 (ix2 k n) = Cert.UpDwIdeal.Product.grad x0 x1 k n := by
  pointwise [val_main_v5, val_main_v4, val_main_v3, val_main_v0]
  first
    | rfl
    | exact Finset.sum_congr rfl fun r _ => mul_comm _ _

end Cert.UpDwRefIdeal.Reading

namespace Cert.Proof.UpDw

open Idealize.ShloMosaic Idealize.SL.Sem

theorem frame_kernel : Cert.quiescent_UpDw := fun m ρ _ => Cert.UpDw.Gen.frame m ρ
theorem frame_ideal : Cert.quiescent_UpDwIdeal := fun m ρ _ => Cert.UpDwIdeal.Gen.frame m ρ

/-- The reference runs on the host alone: it takes no semaphore. -/
theorem frame_reference : Cert.quiescent_UpDwRefIdeal := fun m ρ _ =>
  (θ_run Cert.UpDwRefIdeal.defs _ _).mono
    (fun r h => ⟨fun c => ⟨(h c).2.1, (h c).2.2⟩, sem_eq_zero_of_no_sems (by decide) r.2⟩)
    (Cert.UpDwRefIdeal.Value.run (F := Ideal) m ρ)

theorem preserves : Cert.preserves_UpDw_UpDwIdeal := trivial

/-- THE VALUE CLAIM: the kernel's gradient of the MLP's first weight is the reference's. -/
theorem algebraic : Cert.algebraic_UpDwIdeal_UpDwRefIdeal := by
  intro m g m' g' _ hagree
  refine ⟨fun c y => Cert.UpDwIdeal.Product.grad (Cert.UpDwIdeal.Product.A m c) (Cert.UpDwIdeal.Product.G m c) (y 0) (y 1), ?_, ?_⟩
  · exact (θ_run Cert.UpDwIdeal.defs _ _).mono (fun r h c => ⟨(h c).1.trans (funext (Cert.UpDwIdeal.Product.final m c)), (h c).2⟩)
      (Cert.UpDwIdeal.Value.run_blocks (F := Ideal) m g)
  · refine (θ_run Cert.UpDwRefIdeal.defs _ _).mono (fun r h c => ⟨(h c).1.trans ?_, (h c).2⟩) (Cert.UpDwRefIdeal.Value.run (F := Ideal) m' g')
    obtain ⟨a0, a1⟩ := hagree c
    refine (Cert.UpDwRefIdeal.Read.val_main_v5_eq _ _).trans (funext fun y => ?_)
    rw [a0, a1]
    idx_vars y
    exact Cert.UpDwRefIdeal.Reading.result_at _ _ y0 y1

end Cert.Proof.UpDw

end
-- ==== Proof.NormGrad.lean ====
module

public import proofs.«01_k».proof.Proof.SoftmaxGrad

/-! The gradient of a row's normalisation `x · (mean x² + ε)^(-1/2)`, on finite rows: the kernel's form and the form that the
    chain rule gives, which divides by the mean once more. -/

@[expose] public section

noncomputable section

namespace Cert.Norm

open Idealize.ShloMosaic
open Cert.Attn

/-- The number of entries of a row, the small number under the root, and the one half of the root's derivative, as written in both programs. -/
def width : EReal := Ideal.ofBits .f32 0x44800000#32
def small : EReal := Ideal.ofBits .f32 0x3727C5AC#32
def half : EReal := Ideal.ofBits .f32 0xBF000000#32

theorem width_eq : width = ((1024 : ℝ) : EReal) := by
  simp [width, Ideal.ofBits, Ideal.ieee]
  rw [← EReal.coe_mul]
  norm_num

theorem half_eq : half = ((-(1 / 2) : ℝ) : EReal) := by
  simp [half, Ideal.ofBits, Ideal.ieee]
  rw [← EReal.coe_mul]
  norm_num

theorem exists_small : ∃ e : ℝ, 0 < e ∧ small = (e : EReal) := by
  simp only [small, Ideal.ofBits, Ideal.ieee]
  refine ⟨_, ?_, rfl⟩
  rw [if_neg (by decide)]
  positivity

/-- The mean of the squares with the small number added, and the factor that normalises the row. -/
def power (x : Fin 1024 → EReal) : EReal := Ideal.div (∑ k, x k * x k) width + small
def factor (x : Fin 1024 → EReal) : EReal := Ideal.rsqrt (power x)

/-- On a finite row the power is a positive real. -/
theorem exists_power {x : Fin 1024 → EReal} (hx : Finite x) : ∃ v : ℝ, 0 < v ∧ power x = (v : EReal) := by
  obtain ⟨a, ha⟩ := hx
  obtain ⟨e, he, hs⟩ := exists_small
  refine ⟨(∑ k, a k * a k) * (1 / 1024) + e, add_pos_of_nonneg_of_pos (mul_nonneg (Finset.sum_nonneg fun k _ => mul_self_nonneg _) (by norm_num)) he, ?_⟩
  simp only [power, ha, hs, width_eq, ← EReal.coe_mul, ← coe_sum]
  rw [Ideal.div_coe (by norm_num), ← EReal.coe_mul, ← EReal.coe_add]

/-- The kernel's gradient of a normalised row: `u` is the incoming gradient times the gain. -/
def kernelGrad (x u : Fin 1024 → EReal) (n : Fin 1024) : EReal :=
  factor x * (u n - x n * factor x * Ideal.div (∑ k, u k * (x k * factor x)) width)

/-- What the derivative of the root contributes to every entry of the row. -/
def slope (x u : Fin 1024 → EReal) : EReal :=
  Ideal.div ((∑ k, x k * u k) * (half * Ideal.div (factor x) (power x))) width

/-- The chain rule's gradient: the square's two factors contribute one term each. -/
def chainGrad (x u : Fin 1024 → EReal) (n : Fin 1024) : EReal :=
  u n * factor x + x n * slope x u + slope x u * x n

/-- THE GRADIENT OF THE NORMALISATION: the two forms agree on finite rows. -/
theorem kernelGrad_eq {x u : Fin 1024 → EReal} (hx : Finite x) (hu : Finite u) (n : Fin 1024) : kernelGrad x u n = chainGrad x u n := by
  obtain ⟨v, hv, hp⟩ := exists_power hx
  obtain ⟨a, ha⟩ := hx
  obtain ⟨b, hb⟩ := hu
  have hr : factor x = (((Real.sqrt v)⁻¹ : ℝ) : EReal) := by
    rw [factor, hp]
    change (if v < 0 then (⊥ : EReal) else if v = 0 then ⊤ else (((Real.sqrt v)⁻¹ : ℝ) : EReal)) = _
    rw [if_neg (not_lt.mpr hv.le), if_neg hv.ne']
  have hs : Real.sqrt v ≠ 0 := (Real.sqrt_pos.mpr hv).ne'
  have hq : Real.sqrt v * Real.sqrt v = v := Real.mul_self_sqrt hv.le
  simp only [kernelGrad, chainGrad, slope, ha, hb, hr, hp, width_eq, half_eq, ← EReal.coe_mul, ← coe_sum]
  rw [Ideal.div_coe (by norm_num), Ideal.div_coe hv.ne']
  simp only [← EReal.coe_mul]
  rw [Ideal.div_coe (by norm_num)]
  simp only [← EReal.coe_mul, ← EReal.coe_sub, ← EReal.coe_add, EReal.coe_eq_coe_iff]
  have e : (∑ k, b k * (a k * (Real.sqrt v)⁻¹)) = (∑ k, a k * b k) * (Real.sqrt v)⁻¹ := by
    rw [Finset.sum_mul]
    exact Finset.sum_congr rfl fun k _ => by ring
  rw [e]
  generalize ∑ k, a k * b k = S
  generalize Real.sqrt v = s at hs hq
  subst hq
  field_simp
  ring

end Cert.Norm

end
-- ==== Proof.OwnUpDx.lean ====
module

public import proofs.«01_k».proof.Defs
public import proofs.«01_k».proof.Proof.NormGrad
public import proofs.«01_k».proof.Proof.Entries
public import proofs.«01_k».proof.Proof.Gen.UpDx.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.Pre_finite_up
public import Idealize.ShloMosaic.Lib.Claim
public import Idealize.ShloMosaic.Lib.Pipeline.ValueKit
public import Idealize.ShloMosaic.Lib.Pipeline.ReadBack
public import Idealize.ShloMosaic.Lib.Quiescent

/-! The gradient through the MLP's first product and the normalisation before it. -/

@[expose] public section

set_option maxRecDepth 16384

noncomputable section

namespace Cert.UpDxIdeal.Rows

open Cert.UpDxIdeal Cert.UpDxIdeal.Gen Idealize.ShloMosaic Idealize.ShloMosaic.TcCoe Idealize.SL.Sem
open Idealize.ShloMosaic.Pipeline (Dat)
open Cert.Attn (Finite)
open Cert.Norm

/-- One block of columns of the product with the transposed weight, -/
theorem part_at (p : FVec Ideal S512x1024 .bf16) (w : FVec Ideal S1024x1024 .bf16) (i : Fin 512) (n : Fin 1024) :
    k0_pay1 (F := Ideal) p w (ix2 i n) = ∑ j : Fin 1024, p (ix2 i j) * w (ix2 n j) := by
  pointwise [k0_pay1]

/-- the row's gradient from the finished product, -/
theorem row_at (d x : FVec Ideal S512x1024 .f32) (f : FVec Ideal S512x1 .f32) (g : FVec Ideal S1x1024 .f32) (b : FVec Ideal S512x1024 .f32)
    (i : Fin 512) (n : Fin 1024) :
    k0_pay6 (F := Ideal) d x f g b (ix2 i n) = b (ix2 i n) + f (ix2 i 0) * (d (ix2 i n) * g (ix2 0 n)
      - x (ix2 i n) * f (ix2 i 0) * Ideal.div (∑ k : Fin 1024, d (ix2 i k) * g (ix2 0 k) * (x (ix2 i k) * f (ix2 i 0))) width) := by
  pointwise [k0_pay6, k0_pay5, k0_pay4, width]

/-- and what a block of rows adds to the gradient of the gain. -/
theorem gain_at (d x : FVec Ideal S512x1024 .f32) (f : FVec Ideal S512x1 .f32) (n : Fin 1024) :
    k0_pay7 (F := Ideal) d x f (ix2 0 n) = ∑ i : Fin 512, d (ix2 i n) * (x (ix2 i n) * f (ix2 i 0)) := by
  pointwise [k0_pay7, k0_pay5, k0_pay4]

variable (m : (ℓ : Loc nD τ sig) → Buf (Elt Ideal) ℓ) (c : Dev nD)

/-- The rows that were normalised, their gain, the weight, the gradient behind the product, the gradient of the residual stream. -/
abbrev X : FVec Ideal S8192x1024 .f32 := m ((c : Thread nD τ).loc main_arg0)
abbrev G : FVec Ideal S1x1024 .f32 := m ((c : Thread nD τ).loc main_arg1)
abbrev W : FVec Ideal S1024x4096 .bf16 := m ((c : Thread nD τ).loc main_arg2)
abbrev P : FVec Ideal S8192x4096 .bf16 := m ((c : Thread nD τ).loc main_arg3)
abbrev B : FVec Ideal S8192x1024 .f32 := m ((c : Thread nD τ).loc main_arg4)

theorem index0 : ∀ t : Fin cfg0.N, win0_0.index t = ![t.val / 4, t.val % 4] := (by decide +kernel : ∀ t : Fin grid0.N, win0_0.index t = ![t.val / 4, t.val % 4])
theorem index1 : ∀ t : Fin cfg0.N, win0_1.index t = ![0, t.val % 4] := (by decide +kernel : ∀ t : Fin grid0.N, win0_1.index t = ![0, t.val % 4])
theorem index2 : ∀ t : Fin cfg0.N, win0_2.index t = ![t.val / 4, 0] := (by decide +kernel : ∀ t : Fin grid0.N, win0_2.index t = ![t.val / 4, 0])
theorem index3 : ∀ t : Fin cfg0.N, win0_3.index t = ![t.val / 4, 0] := (by decide +kernel : ∀ t : Fin grid0.N, win0_3.index t = ![t.val / 4, 0])
theorem index4 : ∀ t : Fin cfg0.N, win0_4.index t = ![0, 0] := (by decide +kernel : ∀ t : Fin grid0.N, win0_4.index t = ![0, 0])
theorem index5 : ∀ t : Fin cfg0.N, win0_5.index t = ![t.val / 4, 0] := (by decide +kernel : ∀ t : Fin grid0.N, win0_5.index t = ![t.val / 4, 0])
theorem index6 : ∀ t : Fin cfg0.N, win0_6.index t = ![t.val / 4, 0] := (by decide +kernel : ∀ t : Fin grid0.N, win0_6.index t = ![t.val / 4, 0])
theorem index7 : ∀ t : Fin cfg0.N, win0_7.index t = ![0, 0] := (by decide +kernel : ∀ t : Fin grid0.N, win0_7.index t = ![0, 0])

/-- The blocks a grid point reads. -/
theorem iblk0 (t : Fin cfg0.N) (i : Fin 512) (j : Fin 1024) (r : Fin 8192) (k : Fin 4096) (hr : r.val = t.val / 4 * 512 + i.val)
    (hk : k.val = t.val % 4 * 1024 + j.val) : iblk m c 0 t (ix2 i j) = P m c (ix2 r k) := by
  blk_ext [iblk, V, index0 t, hr, hk]
theorem iblk1 (t : Fin cfg0.N) (n j : Fin 1024) (k : Fin 4096) (hk : k.val = t.val % 4 * 1024 + j.val) :
    iblk m c 1 t (ix2 n j) = W m c (ix2 n k) := by
  blk_ext [iblk, V, index1 t, hk]
theorem iblk2 (t : Fin cfg0.N) (i : Fin 512) (j : Fin 1024) (r : Fin 8192) (hr : r.val = t.val / 4 * 512 + i.val) :
    iblk m c 2 t (ix2 i j) = X m c (ix2 r j) := by
  blk_ext [iblk, V, index2 t, hr]
theorem iblk4 (t : Fin cfg0.N) (j : Fin 1024) : iblk m c 4 t (ix2 0 j) = G m c (ix2 0 j) := by
  blk_ext [iblk, V, index4 t]
theorem iblk5 (t : Fin cfg0.N) (i : Fin 512) (j : Fin 1024) (r : Fin 8192) (hr : r.val = t.val / 4 * 512 + i.val) :
    iblk m c 5 t (ix2 i j) = B m c (ix2 r j) := by
  blk_ext [iblk, V, index5 t, hr]

/-- The factors of the rows, as the host computes them before the launch. -/
theorem factor_at (r : Fin 8192) : (V m c main_v7 : FVec Ideal S8192x1 .f32) (ix2 r 0) = factor fun k => X m c (ix2 r k) := by
  entry_read
  pointwise [factor, power, width, small]
theorem iblk3 (t : Fin cfg0.N) (i : Fin 512) (r : Fin 8192) (hr : r.val = t.val / 4 * 512 + i.val) :
    iblk m c 3 t (ix2 i 0) = factor fun k => X m c (ix2 r k) := by
  refine Eq.trans ?_ (factor_at m c r)
  blk_ext [iblk, index3 t, hr]

/-- THE PRODUCT accumulates over four blocks of columns: the first starts it, -/
theorem reset (t : Fin cfg0.N) (h : t.val % 4 = 0) (i : S512x1024.Idx) :
    (outsAt0 m c t.val t.isLt).2.2 i = 0 + k0_pay1 (F := Ideal) (iblk m c 0 t) (iblk m c 1 t) i := by
  rw [outsAt0_A m c t h (by omega) (by omega), zero_add]
  dsimp only
  frame_out
  idx_vars i
  pointwise [k0_pay2]

/-- each later one adds to it. -/
theorem step (t : Fin cfg0.N) (h : ¬t.val % 4 = 0) (i : S512x1024.Idx) :
    (outsAt0 m c t.val t.isLt).2.2 i = (outsAt0 m c (t.val - 1) (Nat.lt_of_le_of_lt (Nat.sub_le _ _) t.isLt)).2.2 i
      + k0_pay1 (F := Ideal) (iblk m c 0 t) (iblk m c 1 t) i := by
  by_cases h3 : t.val % 4 = 3
  · by_cases h4 : t.val < 4
    · rw [outsAt0_C m c t h (by omega) h3 h4 (by omega)]
      dsimp only
      frame_out
      idx_vars i
      pointwise [k0_pay3]
      rw [read_unread_whole]
    · rw [outsAt0_D m c t h (by omega) h3 h4 (by omega)]
      dsimp only
      frame_out
      idx_vars i
      pointwise [k0_pay3]
      rw [read_unread_whole]
  · rw [outsAt0_B m c t h (by omega) h3]
    dsimp only
    frame_out
    idx_vars i
    pointwise [k0_pay3]
    rw [read_unread_whole]

/-- At the last block of columns the rows' gradient is stored, -/
theorem stored (t : Fin cfg0.N) (h3 : t.val % 4 = 3) :
    (outsAt0 m c t.val t.isLt).1 = k0_pay6 (F := Ideal) (outsAt0 m c t.val t.isLt).2.2 (iblk m c 2 t) (iblk m c 3 t) (iblk m c 4 t) (iblk m c 5 t) := by
  by_cases h4 : t.val < 4
  · rw [outsAt0_C m c t (by omega) (by omega) h3 h4 (by omega)]
    dsimp only
    frame_out
  · rw [outsAt0_D m c t (by omega) (by omega) h3 h4 (by omega)]
    dsimp only
    frame_out

/-- and the gain's gradient starts at the first block of rows -/
theorem gain_first (t : Fin cfg0.N) (h3 : t.val = 3) :
    (outsAt0 m c t.val t.isLt).2.1 = k0_pay7 (F := Ideal) (outsAt0 m c t.val t.isLt).2.2 (iblk m c 2 t) (iblk m c 3 t) := by
  rw [outsAt0_C m c t (by omega) (by omega) (by omega) (by omega) (by omega)]
  dsimp only
  frame_out

/-- and grows at each later one. -/
theorem gain_next (t : Fin cfg0.N) (h3 : t.val % 4 = 3) (h4 : 4 ≤ t.val) (i : S1x1024.Idx) :
    (outsAt0 m c t.val t.isLt).2.1 i = (outsAt0 m c (t.val - 1) (Nat.lt_of_le_of_lt (Nat.sub_le _ _) t.isLt)).2.1 i
      + k0_pay7 (F := Ideal) (outsAt0 m c t.val t.isLt).2.2 (iblk m c 2 t) (iblk m c 3 t) i := by
  rw [outsAt0_D m c t (by omega) (by omega) h3 (by omega) h4]
  dsimp only
  frame_out
  idx_vars i
  pointwise [k0_pay8]

/-- The other grid points leave it. -/
theorem gain_same (t : Fin cfg0.N) (h3 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h3]
    rfl
  · rw [outsAt0_B m c t h0 (by omega) h3]
    rfl

/-- The gradient behind the normalised and scaled row, -/
def behind (w : FVec Ideal S1024x4096 .bf16) (p : FVec Ideal S8192x4096 .bf16) (r : Fin 8192) (n : Fin 1024) : EReal :=
  ∑ j : Fin 4096, p (ix2 r j) * w (ix2 n j)

/-- the gradient of the rows with the residual stream's added, -/
def grad (x : FVec Ideal S8192x1024 .f32) (g : FVec Ideal S1x1024 .f32) (w : FVec Ideal S1024x4096 .bf16) (p : FVec Ideal S8192x4096 .bf16)
    (b : FVec Ideal S8192x1024 .f32) (r : Fin 8192) (n : Fin 1024) : EReal :=
  b (ix2 r n) + kernelGrad (fun k => x (ix2 r k)) (fun k => behind w p r k * g (ix2 0 k)) n

/-- and the gradient of the gain. -/
def gain (x : FVec Ideal S8192x1024 .f32) (w : FVec Ideal S1024x4096 .bf16) (p : FVec Ideal S8192x4096 .bf16) (n : Fin 1024) : EReal :=
  ∑ r : Fin 8192, behind w p r n * (x (ix2 r n) * factor fun k => x (ix2 r k))

/-- The finished product of a block of rows. -/
theorem product_at (t : Fin cfg0.N) (h3 : t.val % 4 = 3) (i : Fin 512) (n : Fin 1024) (r : Fin 8192) (hr : r.val = t.val / 4 * 512 + i.val) :
    (outsAt0 m c t.val t.isLt).2.2 (ix2 i n) = behind (W m c) (P m c) r n := by
  rw [Pipeline.eq_sum_fin_of_reset_step_apply_of_flush (fun n h => (outsAt0 m c n h).2.2) 4 (fun _ => 0) _ (reset m c) (step m c) t h3 _, zero_add]
  simp only [part_at]
  refine Fin.sum_mul_add_congr fun s j hl => ?_
  have hq : (4 * (t.val / 4) + s.val) % 4 = s.val := by omega
  have hd : (4 * (t.val / 4) + s.val) / 4 = t.val / 4 := by omega
  refine congrArg₂ (fun a b : EReal => a * b) (iblk0 m c _ i j _ _ ?_ ?_) (iblk1 m c _ n j _ ?_)
  · show r.val = (4 * (t.val / 4) + s.val) / 4 * 512 + i.val
    rw [hd, hr]
  · show s.val * 1024 + j.val = (4 * (t.val / 4) + s.val) % 4 * 1024 + j.val
    rw [hq]
  · show s.val * 1024 + j.val = (4 * (t.val / 4) + s.val) % 4 * 1024 + j.val
    rw [hq]

/-- THE ROWS' GRADIENT after the launch. -/
theorem final6 (y : S8192x1024.Idx) : (dats m 0 c).arrAt 6 cfg0.N y = grad (X m c) (G m c) (W m c) (P m c) (B m c) (y 0) (y 1) := by
  refine congrFun ((dats m 0 c).arrAt_eq_of_covers 6 (fun y : S8192x1024.Idx => grad (X m c) (G m c) (W m c) (P m c) (B m c) (y 0) (y 1)) (by decide +kernel) fun t hf y => ?_) y
  have ht := (flush0_6 t).mp hf
  have hN : t.val < 64 := lt_of_lt_of_eq t.isLt (show cfg0.N = 64 from N_0)
  blk_simp
  rw [after0_6, stored m c t ht]
  idx_vars y
  have e0 : ((cfg0.win 6).blk t).view.emb (ix2 y0 y1) 0 = (⟨t.val / 4 * 512 + y0.val, by omega⟩ : Fin 8192) := by
    refine Fin.ext ?_
    blk_simp [index6 t]
  have e1 : ((cfg0.win 6).blk t).view.emb (ix2 y0 y1) 1 = y1 := by
    refine Fin.ext ?_
    blk_simp [index6 t]
  refine Eq.trans ?_ (congrArg₂ (grad (X m c) (G m c) (W m c) (P m c) (B m c)) e0 e1).symm
  refine (row_at _ _ _ _ _ y0 y1).trans ?_
  have hp := fun k => product_at m c t ht y0 k (⟨t.val / 4 * 512 + y0.val, by omega⟩ : Fin 8192) rfl
  have hx := fun k => iblk2 m c t y0 k (⟨t.val / 4 * 512 + y0.val, by omega⟩ : Fin 8192) rfl
  have hb := iblk5 m c t y0 y1 (⟨t.val / 4 * 512 + y0.val, by omega⟩ : Fin 8192) rfl
  have hf := iblk3 m c t y0 (⟨t.val / 4 * 512 + y0.val, by omega⟩ : Fin 8192) rfl
  simp only [hp, hx, hb, hf, iblk4 m c t]
  rfl

/-- The grid point that finishes a block of rows. -/
theorem last_lt {q : ℕ} (h : q < 16) : 4 * q + 3 < cfg0.N := lt_of_lt_of_eq (show 4 * q + 3 < 64 by omega) (show cfg0.N = 64 from N_0).symm
def last (q : Fin 16) : Fin cfg0.N := ⟨4 * q.val + 3, last_lt q.isLt⟩

/-- The gain's gradient after a block of rows. -/
def gainAfter (q : ℕ) (h : q < 16) : FVec Ideal S1x1024 .f32 := (outsAt0 m c (4 * q + 3) (last_lt h)).2.1

theorem gain_last (t : Fin cfg0.N) (q : Fin 16) (e : t = last q) (i : S1x1024.Idx) :
    (outsAt0 m c t.val t.isLt).2.1 i = gainAfter m c q.val q.isLt i := by
  subst e
  rfl

/-- What the block adds to it. -/
def gainPart (q : Fin 16) : FVec Ideal S1x1024 .f32 :=
  k0_pay7 (F := Ideal) (outsAt0 m c (last q).val (last q).isLt).2.2 (iblk m c 2 (last q)) (iblk m c 3 (last q))

theorem gain_back (n : ℕ) (hn : n < cfg0.N) (h : ¬n % 4 = 3) (n' : ℕ) (hn' : n' < cfg0.N) (e : n' = n - 1) :
    (outsAt0 m c n hn).2.1 = (outsAt0 m c n' hn').2.1 := by
  subst e
  exact gain_same m c ⟨n, hn⟩ h

theorem gain_reset (q : Fin 16) (h : q.val % 16 = 0) (i : S1x1024.Idx) : gainAfter m c q.val q.isLt i = 0 + gainPart m c q i := by
  rw [zero_add]
  exact congrFun (gain_first m c (last q) (show 4 * q.val + 3 = 3 by omega)) i

theorem gain_step (q : Fin 16) (h : ¬q.val % 16 = 0) (i : S1x1024.Idx) :
    gainAfter m c q.val q.isLt i = gainAfter m c (q.val - 1) (Nat.lt_of_le_of_lt (Nat.sub_le _ _) q.isLt) i + gainPart m c q i := by
  have hq := q.isLt
  have l0 : 4 * q.val < cfg0.N := lt_trans (by omega) (last_lt hq)
  have l1 : 4 * q.val + 1 < cfg0.N := lt_trans (by omega) (last_lt hq)
  have e : (outsAt0 m c ((last q).val - 1) (Nat.lt_of_le_of_lt (Nat.sub_le _ _) (last q).isLt)).2.1
      = gainAfter m c (q.val - 1) (Nat.lt_of_le_of_lt (Nat.sub_le _ _) q.isLt) := by
    refine (gain_back m c _ _ (show ¬(4 * q.val + 3 - 1) % 4 = 3 by omega) (4 * q.val + 1) l1 (show 4 * q.val + 1 = 4 * q.val + 3 - 1 - 1 by omega)).trans ?_
    refine (gain_back m c _ _ (by omega) (4 * q.val) l0 (by omega)).trans ?_
    exact gain_back m c _ _ (by omega) (4 * (q.val - 1) + 3) (last_lt (by omega)) (by omega)
  refine (gain_next m c (last q) (show (4 * q.val + 3) % 4 = 3 by omega) (show 4 ≤ 4 * q.val + 3 by omega) i).trans ?_
  rw [e]
  rfl

/-- After all blocks it is a sum over all rows. -/
theorem gain_total (n : Fin 1024) : gainAfter m c (15 : Fin 16).val (15 : Fin 16).isLt (ix2 0 n) = gain (X m c) (W m c) (P m c) n := by
  refine (Pipeline.eq_sum_fin_of_reset_step_apply_of_flush (gainAfter m c) 16 (fun _ => 0) _ (gain_reset m c) (gain_step m c) (15 : Fin 16) rfl _).trans ?_
  rw [zero_add]
  simp only [gainPart, gain_at]
  refine Fin.sum_mul_add_congr fun s i hl => ?_
  have hr : s.val * 512 + i.val = (4 * (16 * (15 / 16) + s.val) + 3) / 4 * 512 + i.val := by omega
  have h3 : (4 * (16 * (15 / 16) + s.val) + 3) % 4 = 3 := by omega
  have hp := product_at m c (last ⟨16 * ((15 : Fin 16).val / 16) + s.val, by have := s.isLt; show 16 * (15 / 16) + s.val < 16; omega⟩) h3 i n ⟨s.val * 512 + i.val, hl⟩ hr
  have hx := iblk2 m c (last ⟨16 * ((15 : Fin 16).val / 16) + s.val, by have := s.isLt; show 16 * (15 / 16) + s.val < 16; omega⟩) i n ⟨s.val * 512 + i.val, hl⟩ hr
  have hf := iblk3 m c (last ⟨16 * ((15 : Fin 16).val / 16) + s.val, by have := s.isLt; show 16 * (15 / 16) + s.val < 16; omega⟩) i ⟨s.val * 512 + i.val, hl⟩ hr
  exact congrArg₂ (fun a b : EReal => a * b) hp (congrArg₂ (fun a b : EReal => a * b) hx hf)

/-- THE GAIN'S GRADIENT after the launch. -/
theorem final7 (y : S1x1024.Idx) : (dats m 0 c).arrAt 7 cfg0.N y = gain (X m c) (W m c) (P m c) (y 1) := by
  refine congrFun ((dats m 0 c).arrAt_eq_of_covers 7 (fun y : S1x1024.Idx => gain (X m c) (W m c) (P m c) (y 1)) (by decide +kernel) fun t hf y => ?_) y
  have ht := (flush0_7 t).mp hf
  have hN : t.val < 64 := lt_of_lt_of_eq t.isLt (show cfg0.N = 64 from N_0)
  have e : t = last 15 := Fin.ext (show t.val = 4 * 15 + 3 by omega)
  blk_simp
  rw [after0_7]
  idx_vars y
  have e1 : ((cfg0.win 7).blk t).view.emb (ix2 y0 y1) 1 = y1 := by
    refine Fin.ext ?_
    blk_simp [index7 t]
  refine Eq.trans ?_ (congrArg (gain (X m c) (W m c) (P m c)) e1).symm
  obtain rfl : y0 = 0 := Subsingleton.elim _ _
  exact (gain_last m c t 15 e _).trans (gain_total m c y1)

end Cert.UpDxIdeal.Rows

namespace Cert.UpDxRefIdeal.Reading

open Cert.UpDxRefIdeal Cert.UpDxRefIdeal.Gen Cert.UpDxRefIdeal.Read Idealize.ShloMosaic
open Cert.Norm

variable (x0 : (⟨S8192x1024, .f32⟩ : BufTy).Contents (Elt Ideal)) (x1 : (⟨S1x1024, .f32⟩ : BufTy).Contents (Elt Ideal))
  (x2 : (⟨S1024x4096, .bf16⟩ : BufTy).Contents (Elt Ideal)) (x3 : (⟨S8192x4096, .bf16⟩ : BufTy).Contents (Elt Ideal))
  (x4 : (⟨S8192x1024, .f32⟩ : BufTy).Contents (Elt Ideal))

/-- The reference's gradient behind the normalised row, -/
theorem behind_at (r : Fin 8192) (n : Fin 1024) : val_main_v18 x2 x3 (ix2 r n) = Cert.UpDxIdeal.Rows.behind x2 x3 r n := by
  pointwise [val_main_v18, val_main_v17, val_main_v0, Cert.UpDxIdeal.Rows.behind]

/-- what stands under its root, the factor of the row, -/
theorem power_at (r : Fin 8192) : val_main_v7 x0 (ix2 r 0) = power fun k => x0 (ix2 r k) := by
  pointwise [val_main_v7, val_main_v6, val_main_v5, val_main_v4, val_main_v3, val_main_v2, val_main_v1, val_main_cst, val_main_cst_0, val_main_cst_1, power, width, small]
theorem factor_at (r : Fin 8192) : val_main_v8 x0 (ix2 r 0) = factor fun k => x0 (ix2 r k) :=
  congrArg Ideal.rsqrt (power_at x0 r)

/-- the normalised row scaled by what comes back through the root, -/
theorem slope_at (r : Fin 8192) (n : Fin 1024) :
    val_main_v33 x0 x1 x2 x3 (ix2 r n) = slope (fun k => x0 (ix2 r k)) (fun k => Cert.UpDxIdeal.Rows.behind x2 x3 r k * x1 (ix2 0 k)) := by
  pointwise [val_main_v33, val_main_v32, val_main_v31, val_main_v30, val_main_v29, val_main_v26, val_main_v25, val_main_v24, val_main_v23, val_main_v22,
    val_main_v11, val_main_v10, val_main_v9, val_main_cst_2, val_main_cst_4, val_main_cst_5, val_main_cst_6, width, half, behind_at]
  simp only [Fin.sum_univ_one, power_at, factor_at, Cert.Norm.slope, width, half]

/-- and its two results. -/
theorem rows_at (r : Fin 8192) (n : Fin 1024) :
    val_main_v38 x0 x1 x2 x3 x4 (ix2 r n)
      = x4 (ix2 r n) + chainGrad (fun k => x0 (ix2 r k)) (fun k => Cert.UpDxIdeal.Rows.behind x2 x3 r k * x1 (ix2 0 k)) n := by
  pointwise [val_main_v38, val_main_v37, val_main_v36, val_main_v35, val_main_v34, val_main_v28, val_main_v27, val_main_v23, val_main_v22,
    chainGrad, behind_at, factor_at, slope_at]
theorem gain_at (n : Fin 1024) : val_main_v21 x0 x2 x3 (ix2 0 n) = Cert.UpDxIdeal.Rows.gain x0 x2 x3 n := by
  pointwise [val_main_v21, val_main_v20, val_main_v19, val_main_v13, val_main_v12, val_main_cst_3, Cert.UpDxIdeal.Rows.gain, behind_at, factor_at]
  exact Finset.sum_congr rfl fun r _ => mul_comm _ _

end Cert.UpDxRefIdeal.Reading

namespace Cert.Proof.UpDx

open Idealize.ShloMosaic Idealize.SL.Sem
open Cert.Attn (Finite)

theorem frame_kernel : Cert.quiescent_UpDx := fun m ρ _ => Cert.UpDx.Gen.frame m ρ
theorem frame_ideal : Cert.quiescent_UpDxIdeal := fun m ρ _ => Cert.UpDxIdeal.Gen.frame m ρ
theorem frame_ideal_pre : Cert.quiescent_UpDxIdeal_pre_finite_up := fun m ρ _ => Cert.UpDxIdeal.Gen.frame m ρ

/-- The reference runs on the host alone: it takes no semaphore. -/
theorem frame_reference : Cert.quiescent_UpDxRefIdeal := fun m ρ _ =>
  (θ_run Cert.UpDxRefIdeal.defs _ _).mono
    (fun r h => ⟨fun c => (h c).2.2, sem_eq_zero_of_no_sems (by decide) r.2⟩)
    (Cert.UpDxRefIdeal.Value.run (F := Ideal) m ρ)
theorem frame_reference_pre : Cert.quiescent_UpDxRefIdeal_pre_finite_up := fun m ρ _ => frame_reference m ρ trivial

theorem preserves : Cert.preserves_UpDx_UpDxIdeal := trivial

open Cert.Pre_finite_up in
/-- Where the precondition holds, every entry of the arrays it names is a real number. -/
theorem finite_of {x0 : FVec Ideal S8192x1024 .f32} {x1 : FVec Ideal S1x1024 .f32} {x2 : FVec Ideal S1024x4096 .bf16} {x3 : FVec Ideal S8192x4096 .bf16}
    {x4 : FVec Ideal S8192x1024 .f32} (h : fn (F := Ideal) x0 x1 x2 x3 x4 = fun _ => 1#1) : Finite x0 ∧ Finite x1 ∧ Finite x2 ∧ Finite x3 := by
  haveI : Subsingleton S_.Idx := ⟨fun a b => funext fun i => i.elim0⟩
  have hx := congrFun h (fun i => i.elim0)
  have ⟨h012, h3⟩ := IntOp.andi_eq_one.mp hx
  have ⟨h01, h2⟩ := IntOp.andi_eq_one.mp h012
  have ⟨h0, h1⟩ := IntOp.andi_eq_one.mp h01
  have f0 : ∀ i, ∃ r : ℝ, x0 i = (r : EReal) := fun i => Cert.Pre_finite.Entries.exists_real (Host.reduce_andi_all _ _ _ _ _ h0 i)
  have f1 : ∀ i, ∃ r : ℝ, x1 i = (r : EReal) := fun i => Cert.Pre_finite.Entries.exists_real (Host.reduce_andi_all _ _ _ _ _ h1 i)
  have f2 : ∀ i, ∃ r : ℝ, x2 i = (r : EReal) := fun i => Cert.Pre_finite.Entries.exists_real (Host.reduce_andi_all _ _ _ _ _ h2 i)
  have f3 : ∀ i, ∃ r : ℝ, x3 i = (r : EReal) := fun i => Cert.Pre_finite.Entries.exists_real (Host.reduce_andi_all _ _ _ _ _ h3 i)
  exact ⟨⟨_, fun i => (f0 i).choose_spec⟩, ⟨_, fun i => (f1 i).choose_spec⟩, ⟨_, fun i => (f2 i).choose_spec⟩, ⟨_, fun i => (f3 i).choose_spec⟩⟩

open Cert.UpDxIdeal Cert.UpDxIdeal.Rows Cert.Norm in
/-- On finite arrays the two forms of the rows' gradient agree. -/
theorem grad_eq {x : FVec Ideal S8192x1024 .f32} {g : FVec Ideal S1x1024 .f32} {w : FVec Ideal S1024x4096 .bf16} {p : FVec Ideal S8192x4096 .bf16}
    (hx : Finite x) (hg : Finite g) (hw : Finite w) (hp : Finite p) (b : FVec Ideal S8192x1024 .f32) (r : Fin 8192) (n : Fin 1024) :
    grad x g w p b r n = b (ix2 r n) + chainGrad (fun k => x (ix2 r k)) (fun k => behind w p r k * g (ix2 0 k)) n := by
  obtain ⟨a, ha⟩ := hx
  obtain ⟨e, he⟩ := hg
  obtain ⟨v, hv⟩ := hw
  obtain ⟨q, hq⟩ := hp
  refine congrArg (b (ix2 r n) + ·) (kernelGrad_eq ⟨fun k => a (ix2 r k), fun k => ha _⟩ ⟨fun k => (∑ j : Fin 4096, q (ix2 r j) * v (ix2 k j)) * e (ix2 0 k), fun k => ?_⟩ n)
  simp only [behind, ha, he, hv, hq, ← EReal.coe_mul, ← Cert.Attn.coe_sum]

/-- THE VALUE CLAIM: on finite arguments the kernel's gradients of the rows and of the gain are the reference's. -/
theorem algebraic : Cert.algebraic_UpDxIdeal_UpDxRefIdeal_pre_finite_up := by
  intro m g m' g' hpre hagree
  refine ⟨fun c => Cert.UpDxRefIdeal.Value.res_main_v38 m' c,
    fun c y => Cert.UpDxIdeal.Rows.gain (Cert.UpDxIdeal.Rows.X m c) (Cert.UpDxIdeal.Rows.W m c) (Cert.UpDxIdeal.Rows.P m c) (y 1), ?_, ?_⟩
  · refine (θ_run Cert.UpDxIdeal.defs _ _).mono (fun r h c => ?_) (Cert.UpDxIdeal.Value.run_blocks (F := Ideal) m g)
    obtain ⟨f0, f1, f2, f3⟩ := finite_of (hpre c)
    obtain ⟨a0, a1, a2, a3, a4⟩ := hagree c
    refine ⟨(h c).1.trans (funext fun y => ?_), (h c).2.1.trans (funext (Cert.UpDxIdeal.Rows.final7 m c)), (h c).2.2⟩
    refine (Cert.UpDxIdeal.Rows.final6 m c y).trans ((grad_eq f0 f1 f2 f3 _ _ _).trans ?_)
    refine Eq.symm ((congrFun (Cert.UpDxRefIdeal.Read.val_main_v38_eq m' c) y).trans ?_)
    rw [a0, a1, a2, a3, a4]
    idx_vars y
    exact Cert.UpDxRefIdeal.Reading.rows_at _ _ _ _ _ y0 y1
  · refine (θ_run Cert.UpDxRefIdeal.defs _ _).mono (fun r h c => ⟨(h c).1, (h c).2.1.trans ?_, (h c).2.2⟩) (Cert.UpDxRefIdeal.Value.run (F := Ideal) m' g')
    obtain ⟨a0, a1, a2, a3, a4⟩ := hagree c
    refine (Cert.UpDxRefIdeal.Read.val_main_v21_eq _ _ _).trans (funext fun y => ?_)
    rw [a0, a2, a3]
    idx_vars y
    obtain rfl : y0 = 0 := Subsingleton.elim _ _
    exact Cert.UpDxRefIdeal.Reading.gain_at _ _ _ y1

end Cert.Proof.UpDx

end
-- ==== Proof.Gelu.lean ====
module

public import proofs.«01_k».proof.Proof.SoftmaxGrad

/-! The gate of the scan's output: `gelu` in its form with the hyperbolic tangent, and its derivative on real numbers, in the
    kernel's form and in the form that the chain rule gives. -/

@[expose] public section

noncomputable section

namespace Cert.Gelu

open Idealize.ShloMosaic
open Cert.Attn

/-- One half, three and the root of `2 / π` as written in the programs. -/
def half : EReal := Ideal.ofBits .f32 0x3F000000#32
def three : EReal := Ideal.ofBits .f32 0x40400000#32
def root : EReal := Ideal.ofBits .f32 0x3F4C422A#32

/-- The weight of the cube, 0.044715, and three times it. -/
def cube : EReal := ((8943 / 200000 : ℝ) : EReal)
def threeCube : EReal := ((26829 / 200000 : ℝ) : EReal)

/-- On the host the weight is a quotient of two whole numbers. -/
def whole : EReal := Ideal.ofBits .f32 0x472EAB00#32
def million : EReal := Ideal.ofBits .f32 0x49742400#32

theorem half_eq : half = ((1 / 2 : ℝ) : EReal) := by
  simp [half, Ideal.ofBits, Ideal.ieee]
  rw [← EReal.coe_mul]
  norm_num

theorem three_eq : three = ((3 : ℝ) : EReal) := by
  simp [three, Ideal.ofBits, Ideal.ieee]
  rw [← EReal.coe_mul]
  norm_num

theorem whole_eq : whole = ((44715 : ℝ) : EReal) := by
  simp [whole, Ideal.ofBits, Ideal.ieee]
  rw [← EReal.coe_mul]
  norm_num

theorem million_eq : million = ((1000000 : ℝ) : EReal) := by
  simp [million, Ideal.ofBits, Ideal.ieee]
  rw [← EReal.coe_mul]
  norm_num

theorem quotient_eq : Ideal.div whole million = cube := by
  rw [whole_eq, million_eq, Ideal.div_coe (by norm_num), ← EReal.coe_mul, cube]
  norm_num

theorem exists_root : ∃ r : ℝ, root = (r : EReal) := by
  simp only [root, Ideal.ofBits, Ideal.ieee]
  exact ⟨_, rfl⟩

/-- The tangent's value, `gelu` and the logistic function. -/
def bend (x : EReal) : EReal := Ideal.tanh (root * (x + cube * (x * x * x)))
def value (x : EReal) : EReal := x * (half * (1 + bend x))
def sigma (s : EReal) : EReal := Ideal.div 1 (1 + Ideal.exp (-s))

/-- The kernel multiplies in another order. -/
theorem bend_form (x : EReal) : Ideal.tanh (root * (x + cube * x * x * x)) = bend x := by
  rw [bend, mul_assoc (cube * x) x x, mul_assoc cube x (x * x), mul_assoc x x x]
theorem value_form (x : EReal) : half * x * (1 + bend x) = value x := by
  rw [value, mul_comm half x, mul_assoc]

/-- On real numbers all three are real. -/
theorem exists_bend {x : EReal} (hx : ∃ r : ℝ, x = r) : ∃ r : ℝ, bend x = r := by
  obtain ⟨x, rfl⟩ := hx
  obtain ⟨r, hr⟩ := exists_root
  exact ⟨_, by rw [bend, hr, cube, ← EReal.coe_mul, ← EReal.coe_mul, ← EReal.coe_mul, ← EReal.coe_add, ← EReal.coe_mul, Ideal.tanh_coe]⟩
theorem exists_value {x : EReal} (hx : ∃ r : ℝ, x = r) : ∃ r : ℝ, value x = r := by
  obtain ⟨b, hb⟩ := exists_bend hx
  obtain ⟨x, rfl⟩ := hx
  exact ⟨_, by rw [value, hb, half_eq, ← EReal.coe_one, ← EReal.coe_add, ← EReal.coe_mul, ← EReal.coe_mul]⟩
theorem exists_sigma {s : EReal} (hs : ∃ r : ℝ, s = r) : ∃ r : ℝ, sigma s = r := by
  obtain ⟨s, rfl⟩ := hs
  have h : (1 + Real.exp (-s) : ℝ) ≠ 0 := by positivity
  exact ⟨1 * (1 / (1 + Real.exp (-s))), by
    rw [sigma, ← EReal.coe_neg, Ideal.exp_coe, ← EReal.coe_one, ← EReal.coe_add, Ideal.div_coe h, ← EReal.coe_mul]⟩

/-- The kernel's derivative of `gelu`, -/
def slope (x : EReal) : EReal :=
  half * (1 + bend x) + half * x * (1 - bend x * bend x) * root * (1 + threeCube * x * x)

/-- what the chain rule gives for the argument of the tangent, -/
def inner (x d : EReal) : EReal := root * (half * (x * d) * ((1 + bend x) * (1 - bend x)))

/-- THE DERIVATIVE: on real numbers the chain rule's terms sum to the kernel's product. -/
theorem slope_eq {x d : EReal} (hx : ∃ r : ℝ, x = r) (hd : ∃ r : ℝ, d = r) :
    d * (half * (1 + bend x)) + inner x d + cube * inner x d * (three * (x * x)) = d * slope x := by
  obtain ⟨b, hb⟩ := exists_bend hx
  obtain ⟨x, rfl⟩ := hx
  obtain ⟨d, rfl⟩ := hd
  obtain ⟨r, hr⟩ := exists_root
  simp only [inner, slope, hb, hr, half_eq, three_eq, cube, threeCube, ← EReal.coe_one, ← EReal.coe_add, ← EReal.coe_sub, ← EReal.coe_mul]
  congr 1
  ring

end Cert.Gelu

end
-- ==== Proof.OwnGluDx.lean ====
module

public import proofs.«01_k».proof.Defs
public import proofs.«01_k».proof.Proof.Gelu
public import proofs.«01_k».proof.Proof.Entries
public import proofs.«01_k».proof.Proof.Gen.GluDx.Frame
public import proofs.«01_k».proof.Proof.Gen.GluDxIdeal.Value
public import proofs.«01_k».proof.Proof.Gen.GluDxRefIdeal.Run
public import proofs.«01_k».proof.Proof.Gen.GluDxRefIdeal.Read
public import proofs.«01_k».proof.Proof.Gen.Pre_finite_glu
public import Idealize.ShloMosaic.Lib.Claim
public import Idealize.ShloMosaic.Lib.Pipeline.ValueKit
public import Idealize.ShloMosaic.Lib.Pipeline.ReadBack
public import Idealize.ShloMosaic.Lib.Quiescent

/-! The gradient through the gate of the scan's output: the kernel multiplies by a closed form of the derivative of `gelu`, the
    reference sums the terms of the chain rule. -/

@[expose] public section

set_option maxRecDepth 16384

noncomputable section

namespace Cert.GluDxIdeal.Rows

open Cert.GluDxIdeal Cert.GluDxIdeal.Gen Idealize.ShloMosaic Idealize.ShloMosaic.TcCoe Idealize.SL.Sem
open Idealize.ShloMosaic.Pipeline (Dat)
open Cert.Attn (Finite)
open Cert.Gelu

/-- The weight of the cube, and three times it, are in the kernel's body the numbers themselves. -/
theorem named : Named.named (F := Ideal) (φ := .f32) κ "cube" 0x3D372713#32 = cube :=
  IdealRules.named_const.ideal_named_scalar _ _ _ _ rfl
theorem named_three : Named.named (F := Ideal) (φ := .f32) κ "three_cube" 0x3E095D4F#32 = threeCube :=
  IdealRules.named_const.ideal_named_scalar _ _ _ _ rfl

/-- What comes back through the logistic function at an entry: the gradient `d` of the gated row, the row's entry `x`, its logit `s`. -/
def through (d x s : EReal) : EReal := d * value x * sigma s * (1 - sigma s)

/-- The gradient behind `gelu`: directly through the product, and through the weight of the gate. -/
theorem behind_at (d x s : FVec Ideal S512x1024 .bf16) (w : FVec Ideal S1024x1024 .bf16) (r : Fin 512) (n : Fin 1024) :
    k0_pay3 (F := Ideal) d x s w (ix2 r n)
      = d (ix2 r n) * sigma (s (ix2 r n)) + ∑ k : Fin 1024, through (d (ix2 r k)) (x (ix2 r k)) (s (ix2 r k)) * w (ix2 n k) := by
  refine Eq.trans (b := d (ix2 r n) * sigma (s (ix2 r n)) + ∑ k : Fin 1024,
    d (ix2 r k) * (half * x (ix2 r k) * (1 + Ideal.tanh (root * (x (ix2 r k) + cube * x (ix2 r k) * x (ix2 r k) * x (ix2 r k)))))
      * sigma (s (ix2 r k)) * (1 - sigma (s (ix2 r k))) * w (ix2 n k)) ?_ ?_
  · pointwise [k0_pay3, k0_pay2, half, root, sigma, named]
    simp only [zero_sub]
  · simp only [bend_form, value_form, through]

/-- The block the kernel stores. -/
theorem stored_at (x : FVec Ideal S512x1024 .bf16) (b : FVec Ideal S512x1024 .f32) (r : Fin 512) (n : Fin 1024) :
    k0_pay1 (F := Ideal) (k0_pay2 (F := Ideal) x) b (k0_pay4 (F := Ideal) x) (ix2 r n) = b (ix2 r n) * slope (x (ix2 r n)) := by
  refine Eq.trans (b := b (ix2 r n) * (half * (1 + Ideal.tanh (root * (x (ix2 r n) + cube * x (ix2 r n) * x (ix2 r n) * x (ix2 r n))))
    + half * x (ix2 r n) * (1 - Ideal.tanh (root * (x (ix2 r n) + cube * x (ix2 r n) * x (ix2 r n) * x (ix2 r n)))
        * Ideal.tanh (root * (x (ix2 r n) + cube * x (ix2 r n) * x (ix2 r n) * x (ix2 r n)))) * root
      * (1 + threeCube * x (ix2 r n) * x (ix2 r n)))) ?_ ?_
  · pointwise [k0_pay1, k0_pay2, k0_pay4, half, root, named, named_three]
  · simp only [bend_form, Cert.Gelu.slope]

variable (m : (ℓ : Loc nD τ sig) → Buf (Elt Ideal) ℓ) (c : Dev nD)

/-- The gradient of the gated rows (with that of the rest of the mixing beside it), the scan's rows, the gate's weight. -/
abbrev D : FVec Ideal S8192x2048 .bf16 := m ((c : Thread nD τ).loc main_arg0)
abbrev Y : FVec Ideal S8192x1024 .bf16 := m ((c : Thread nD τ).loc main_arg1)
abbrev W : FVec Ideal S1024x1024 .bf16 := m ((c : Thread nD τ).loc main_arg2)

/-- The gate's logits. -/
def logit (y : FVec Ideal S8192x1024 .bf16) (w : FVec Ideal S1024x1024 .bf16) (r : Fin 8192) (n : Fin 1024) : EReal :=
  ∑ k : Fin 1024, value (y (ix2 r k)) * w (ix2 k n)

/-- The gated rows are the first of the two halves. -/
def left (n : Fin 1024) : Fin 2048 := ⟨n.val, by omega⟩

/-- The blocks a grid point reads and the one it writes. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])

theorem iblk0 (t : Fin cfg0.N) (r : Fin 512) (n : Fin 1024) (r' : Fin 8192) (hr : r'.val = t.val * 512 + r.val) :
    iblk m c 0 t (ix2 r n) = D m c (ix2 r' (left n)) := by
  blk_ext [iblk, V, index0 t, hr, left]

theorem iblk1 (t : Fin cfg0.N) (r : Fin 512) (j : Fin 1024) (r' : Fin 8192) (hr : r'.val = t.val * 512 + r.val) :
    iblk m c 1 t (ix2 r j) = Y m c (ix2 r' j) := by
  blk_ext [iblk, V, index1 t, hr]

/-- The logits, as the host computes them before the launch. -/
theorem logit_at (r : Fin 8192) (n : Fin 1024) : (V m c main_v17 : FVec Ideal S8192x1024 .bf16) (ix2 r n) = logit (Y m c) (W m c) r n := by
  entry_read
  simp only [logit, value, bend, ← quotient_eq]
  pointwise [half, root, whole, million]

theorem iblk2 (t : Fin cfg0.N) (r : Fin 512) (j : Fin 1024) (r' : Fin 8192) (hr : r'.val = t.val * 512 + r.val) :
    iblk m c 2 t (ix2 r j) = logit (Y m c) (W m c) r' j := by
  refine Eq.trans ?_ (logit_at m c r' j)
  blk_ext [iblk, index2 t, hr]

theorem iblk3 (t : Fin cfg0.N) (k n : Fin 1024) : iblk m c 3 t (ix2 k n) = W m c (ix2 k n) := by
  blk_ext [iblk, V, index3 t]

/-- The gradient behind `gelu`, -/
def behind (d : FVec Ideal S8192x2048 .bf16) (y : FVec Ideal S8192x1024 .bf16) (w : FVec Ideal S1024x1024 .bf16) (r : Fin 8192) (n : Fin 1024) : EReal :=
  d (ix2 r (left n)) * sigma (logit y w r n)
    + ∑ k : Fin 1024, through (d (ix2 r (left k))) (y (ix2 r k)) (logit y w r k) * w (ix2 n k)

/-- and that of the scan's rows. -/
def grad (d : FVec Ideal S8192x2048 .bf16) (y : FVec Ideal S8192x1024 .bf16) (w : FVec Ideal S1024x1024 .bf16) (r : Fin 8192) (n : Fin 1024) : EReal :=
  behind d y w r n * slope (y (ix2 r n))

/-- THE ROWS' GRADIENT after the launch. -/
theorem final (y : S8192x1024.Idx) : (dats m 0 c).arrAt 4 cfg0.N y = grad (D m c) (Y m c) (W m c) (y 0) (y 1) := by
  refine congrFun ((dats m 0 c).arrAt_eq_of_covers 4 (fun y : S8192x1024.Idx => grad (D m c) (Y m c) (W m c) (y 0) (y 1)) (by decide +kernel) fun t hf y => ?_) y
  have hN : t.val < 16 := lt_of_lt_of_eq t.isLt (show cfg0.N = 16 from N_0)
  blk_simp
  rw [after0_4]
  idx_vars y
  have e0 : ((cfg0.win 4).blk t).view.emb (ix2 y0 y1) 0 = (⟨t.val * 512 + y0.val, by omega⟩ : Fin 8192) := by
    refine Fin.ext ?_
    blk_simp [index4 t]
  have e1 : ((cfg0.win 4).blk t).view.emb (ix2 y0 y1) 1 = y1 := by
    refine Fin.ext ?_
    blk_simp [index4 t]
  refine Eq.trans ?_ (congrArg₂ (grad (D m c) (Y m c) (W m c)) e0 e1).symm
  have ho : out0_4 (F := Ideal) (iblk m c 0 t) (iblk m c 1 t) (iblk m c 2 t) (iblk m c 3 t)
      = k0_pay1 (F := Ideal) (k0_pay2 (F := Ideal) (iblk m c 1 t)) (k0_pay3 (F := Ideal) (iblk m c 0 t) (iblk m c 1 t) (iblk m c 2 t) (iblk m c 3 t))
          (k0_pay4 (F := Ideal) (iblk m c 1 t)) := by
    frame_out
  rw [ho]
  refine (stored_at _ _ y0 y1).trans ?_
  rw [behind_at]
  have h0 := fun k => iblk0 m c t y0 k (⟨t.val * 512 + y0.val, by omega⟩ : Fin 8192) rfl
  have h1 := fun k => iblk1 m c t y0 k (⟨t.val * 512 + y0.val, by omega⟩ : Fin 8192) rfl
  have h2 := fun k => iblk2 m c t y0 k (⟨t.val * 512 + y0.val, by omega⟩ : Fin 8192) rfl
  simp only [h0, h1, h2, iblk3 m c t]
  rfl

end Cert.GluDxIdeal.Rows

namespace Cert.GluDxRefIdeal.Reading

open Cert.GluDxRefIdeal Cert.GluDxRefIdeal.Gen Cert.GluDxRefIdeal.Read Idealize.ShloMosaic
open Cert.Gelu
open Cert.GluDxIdeal.Rows (logit left through behind)

variable (x0 : (⟨S8192x2048, .bf16⟩ : BufTy).Contents (Elt Ideal)) (x1 : (⟨S8192x1024, .bf16⟩ : BufTy).Contents (Elt Ideal))
  (x2 : (⟨S1024x1024, .bf16⟩ : BufTy).Contents (Elt Ideal))

/-- The reference's tangent, its `gelu`, its logits, the logistic function of them, -/
theorem bend_at (r : Fin 8192) (n : Fin 1024) : val_main_v13 x1 (ix2 r n) = bend (x1 (ix2 r n)) := by
  simp only [bend, ← quotient_eq]
  pointwise [val_main_v13, val_main_v12, val_main_v11, val_main_v10, val_main_v9, val_main_v8, val_main_v4, val_main_v3, val_main_v2, val_main_v1,
    val_main_cst, val_main_cst_0, val_main_cst_2, root, whole, million]
theorem half_at (r : Fin 8192) (n : Fin 1024) : val_main_v22 x1 (ix2 r n) = half * (1 + bend (x1 (ix2 r n))) := by
  pointwise [val_main_v22, val_main_v21, val_main_v20, val_main_v19, val_main_cst_5, val_main_cst_6, half, bend_at]
theorem value_at (r : Fin 8192) (n : Fin 1024) : val_main_v23 x1 (ix2 r n) = value (x1 (ix2 r n)) := by
  pointwise [val_main_v23, val_main_v1, value, half_at]
theorem logit_at (r : Fin 8192) (n : Fin 1024) : val_main_v24 x1 x2 (ix2 r n) = logit x1 x2 r n := by
  pointwise [val_main_v24, val_main_v0, logit, value_at]
theorem sigma_at (r : Fin 8192) (n : Fin 1024) : val_main_v30 x1 x2 (ix2 r n) = sigma (logit x1 x2 r n) := by
  pointwise [val_main_v30, val_main_v29, val_main_v28, val_main_v27, val_main_v26, val_main_v25, val_main_cst_7, val_main_cst_8, sigma, logit_at]

/-- the half of the gradient it reads, what comes back through the logistic function, -/
theorem left_at (r : Fin 8192) (n : Fin 1024) : val_main_v36 x0 (ix2 r n) = x0 (ix2 r (left n)) := by
  pointwise [val_main_v36, val_main_v35, left]
theorem through_at (r : Fin 8192) (n : Fin 1024) :
    val_main_v39 x0 x1 x2 (ix2 r n) = through (x0 (ix2 r (left n))) (x1 (ix2 r n)) (logit x1 x2 r n) := by
  refine Eq.trans (b := value (x1 (ix2 r n)) * x0 (ix2 r (left n)) * (sigma (logit x1 x2 r n) * (1 - sigma (logit x1 x2 r n)))) ?_ ?_
  · pointwise [val_main_v39, val_main_v37, val_main_v33, val_main_v32, val_main_v31, val_main_cst_9, value_at, sigma_at, left_at]
  · rw [through, mul_comm (value _), mul_assoc (_ * _) (sigma _)]

/-- the gradient behind `gelu`, the part that comes back through the tangent's argument, -/
theorem behind_at (r : Fin 8192) (n : Fin 1024) : val_main_v41 x0 x1 x2 (ix2 r n) = behind x0 x1 x2 r n := by
  pointwise [val_main_v41, val_main_v40, val_main_v38, val_main_v0, behind, left_at, sigma_at, through_at]
theorem inner_at (r : Fin 8192) (n : Fin 1024) : val_main_v48 x0 x1 x2 (ix2 r n) = inner (x1 (ix2 r n)) (behind x0 x1 x2 r n) := by
  pointwise [val_main_v48, val_main_v47, val_main_v46, val_main_v45, val_main_v44, val_main_v42, val_main_v18, val_main_v17, val_main_v16, val_main_v15,
    val_main_v14, val_main_v1, val_main_cst_3, val_main_cst_4, val_main_cst_10, val_main_cst_11, Cert.Gelu.inner, half, root, bend_at, behind_at]

/-- and the sum of the chain rule's terms. -/
theorem result_at (r : Fin 8192) (n : Fin 1024) :
    val_main_v54 x0 x1 x2 (ix2 r n) = behind x0 x1 x2 r n * (half * (1 + bend (x1 (ix2 r n)))) + inner (x1 (ix2 r n)) (behind x0 x1 x2 r n)
      + cube * inner (x1 (ix2 r n)) (behind x0 x1 x2 r n) * (three * (x1 (ix2 r n) * x1 (ix2 r n))) := by
  simp only [← quotient_eq]
  pointwise [val_main_v54, val_main_v53, val_main_v52, val_main_v51, val_main_v50, val_main_v49, val_main_v43, val_main_v7, val_main_v6, val_main_v5,
    val_main_v2, val_main_v1, val_main_cst, val_main_cst_0, val_main_cst_1, three, whole, million, behind_at, half_at, inner_at]

end Cert.GluDxRefIdeal.Reading

namespace Cert.Proof.GluDx

open Idealize.ShloMosaic Idealize.SL.Sem
open Cert.Attn (Finite)

theorem frame_kernel : Cert.quiescent_GluDx := fun m ρ _ => Cert.GluDx.Gen.frame m ρ
theorem frame_ideal : Cert.quiescent_GluDxIdeal := fun m ρ _ => Cert.GluDxIdeal.Gen.frame m ρ
theorem frame_ideal_pre : Cert.quiescent_GluDxIdeal_pre_finite_glu := fun m ρ _ => Cert.GluDxIdeal.Gen.frame m ρ

/-- The reference runs on the host alone: it takes no semaphore. -/
theorem frame_reference : Cert.quiescent_GluDxRefIdeal := fun m ρ _ =>
  (θ_run Cert.GluDxRefIdeal.defs _ _).mono
    (fun r h => ⟨fun c => (h c).2, sem_eq_zero_of_no_sems (by decide) r.2⟩)
    (Cert.GluDxRefIdeal.Value.run (F := Ideal) m ρ)
theorem frame_reference_pre : Cert.quiescent_GluDxRefIdeal_pre_finite_glu := fun m ρ _ => frame_reference m ρ trivial

theorem preserves : Cert.preserves_GluDx_GluDxIdeal :=
  ⟨IdealRules.named_const.statement Cert.GluDxIdeal.κ "cube" .f32 0x3D372713#32 ((8943 / 200000 : ℝ) : EReal) rfl,
    IdealRules.named_const.statement Cert.GluDxIdeal.κ "three_cube" .f32 0x3E095D4F#32 ((26829 / 200000 : ℝ) : EReal) rfl⟩

open Cert.Pre_finite_glu in
/-- Where the precondition holds, every entry of the three arrays is a real number. -/
theorem finite_of {x0 : FVec Ideal S8192x2048 .bf16} {x1 : FVec Ideal S8192x1024 .bf16} {x2 : FVec Ideal S1024x1024 .bf16}
    (h : fn (F := Ideal) x0 x1 x2 = fun _ => 1#1) : (∀ i, ∃ r : ℝ, x0 i = (r : EReal)) ∧ (∀ i, ∃ r : ℝ, x1 i = (r : EReal)) ∧ ∀ i, ∃ r : ℝ, x2 i = (r : EReal) := by
  haveI : Subsingleton S_.Idx := ⟨fun a b => funext fun i => i.elim0⟩
  have hx := congrFun h (fun i => i.elim0)
  have ⟨h01, h2⟩ := IntOp.andi_eq_one.mp hx
  have ⟨h0, h1⟩ := IntOp.andi_eq_one.mp h01
  exact ⟨fun i => Cert.Pre_finite.Entries.exists_real (Host.reduce_andi_all _ _ _ _ _ h0 i),
    fun i => Cert.Pre_finite.Entries.exists_real (Host.reduce_andi_all _ _ _ _ _ h1 i),
    fun i => Cert.Pre_finite.Entries.exists_real (Host.reduce_andi_all _ _ _ _ _ h2 i)⟩

/-- Sums and products of real numbers are real. -/
theorem exists_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩
theorem exists_sub {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩
theorem exists_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩
theorem exists_sum {ι : Type} [Fintype ι] {x : ι → EReal} (hx : ∀ i, ∃ r : ℝ, x i = r) : ∃ r : ℝ, ∑ i, x i = r := by
  choose a ha using hx
  exact ⟨∑ i, a i, by rw [Cert.Attn.coe_sum]; exact Finset.sum_congr rfl fun i _ => ha i⟩

open Cert.GluDxIdeal Cert.GluDxIdeal.Rows Cert.Gelu in
/-- On finite arrays the gradient behind `gelu` is a real number. -/
theorem exists_behind {d : FVec Ideal S8192x2048 .bf16} {y : FVec Ideal S8192x1024 .bf16} {w : FVec Ideal S1024x1024 .bf16}
    (hd : ∀ i, ∃ r : ℝ, d i = (r : EReal)) (hy : ∀ i, ∃ r : ℝ, y i = (r : EReal)) (hw : ∀ i, ∃ r : ℝ, w i = (r : EReal)) (r : Fin 8192) (n : Fin 1024) :
    ∃ b : ℝ, behind d y w r n = (b : EReal) := by
  have hs : ∀ n, ∃ b : ℝ, sigma (logit y w r n) = (b : EReal) := fun n => exists_sigma (exists_sum fun k => exists_mul (exists_value (hy _)) (hw _))
  exact exists_add (exists_mul (hd _) (hs n)) (exists_sum fun k =>
    exists_mul (exists_mul (exists_mul (exists_mul (hd _) (exists_value (hy _))) (hs k)) (exists_sub ⟨1, EReal.coe_one.symm⟩ (hs k))) (hw _))

/-- THE VALUE CLAIM: on finite arguments the kernel's gradient of the scan's rows is the reference's. -/
theorem algebraic : Cert.algebraic_GluDxIdeal_GluDxRefIdeal_pre_finite_glu := by
  intro m g m' g' hpre hagree
  refine ⟨fun c => Cert.GluDxRefIdeal.Value.res_main_v54 m' c, ?_, ?_⟩
  · refine (θ_run Cert.GluDxIdeal.defs _ _).mono (fun r h c => ?_) (Cert.GluDxIdeal.Value.run_blocks (F := Ideal) m g)
    obtain ⟨f0, f1, f2⟩ := finite_of (hpre c)
    obtain ⟨a0, a1, a2⟩ := hagree c
    refine ⟨(h c).1.trans (funext fun y => ?_), (h c).2⟩
    refine (Cert.GluDxIdeal.Rows.final m c y).trans ?_
    refine Eq.symm ((congrFun (Cert.GluDxRefIdeal.Read.val_main_v54_eq m' c) y).trans ?_)
    rw [a0, a1, a2]
    idx_vars y
    refine (Cert.GluDxRefIdeal.Reading.result_at _ _ _ y0 y1).trans ?_
    exact Cert.Gelu.slope_eq (f1 _) (exists_behind f0 f1 f2 y0 y1)
  · exact Cert.GluDxRefIdeal.Value.run (F := Ideal) m' g'

end Cert.Proof.GluDx

end
-- ==== Proof.OwnOutDx.lean ====
module

public import proofs.«01_k».proof.Defs
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDxRefIdeal.Read
public import Idealize.ShloMosaic.Lib.Pipeline.ValueKit
public import Idealize.ShloMosaic.Lib.Pipeline.ReadBack
public import Idealize.ShloMosaic.Lib.Quiescent

/-! The gradient of the two mixers' outputs: blocks of the kernel's product with the transposed weight are blocks of the reference's. -/

@[expose] public section

set_option maxRecDepth 16384

noncomputable section

namespace Cert.OutDxIdeal.Product

open Cert.OutDxIdeal Cert.OutDxIdeal.Gen Idealize.ShloMosaic Idealize.ShloMosaic.TcCoe Idealize.SL.Sem
open Idealize.ShloMosaic.Pipeline (Dat)

/-- What the kernel stores: a row of the gradient against a row of the weight. -/
theorem stored_at (x : FVec Ideal S512x1024 .f32) (w : FVec Ideal S1024x1024 .bf16) (r : Fin 512) (n : Fin 1024) :
    k0_pay4 (F := Ideal) (k0_pay2 (F := Ideal) x w) (ix2 r n) = ∑ j : Fin 1024, x (ix2 r j) * w (ix2 n j) := by
  pointwise [k0_pay4, k0_pay2, k0_pay1]

variable (m : (ℓ : Loc nD τ sig) → Buf (Elt Ideal) ℓ) (c : Dev nD)

/-- The incoming gradient, -/
abbrev X : FVec Ideal S8192x1024 .f32 := m ((c : Thread nD τ).loc main_arg0)
/-- and the weight. -/
abbrev W : FVec Ideal S2048x1024 .bf16 := m ((c : Thread nD τ).loc main_arg1)

/-- The blocks a grid point reads and the one it writes. -/
theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, t.val % 2] := (by decide +kernel : ∀ t : Fin grid0.N, win0_2.index t = ![t.val / 2, t.val % 2])

theorem iblk0 (t : Fin cfg0.N) (r : Fin 512) (j : Fin 1024) (r' : Fin 8192) (hr : r'.val = t.val / 2 * 512 + r.val) :
    iblk m c 0 t (ix2 r j) = X m c (ix2 r' j) := by
  blk_ext [iblk, V, index0 t, hr]

theorem iblk1 (t : Fin cfg0.N) (n j : Fin 1024) (n' : Fin 2048) (hn : n'.val = t.val % 2 * 1024 + n.val) :
    iblk m c 1 t (ix2 n j) = W m c (ix2 n' j) := by
  blk_ext [iblk, V, index1 t, hn]

/-- The gradient at an entry. -/
def grad (x : FVec Ideal S8192x1024 .f32) (w : FVec Ideal S2048x1024 .bf16) (r : Fin 8192) (n : Fin 2048) : EReal :=
  ∑ j : Fin 1024, x (ix2 r j) * w (ix2 n j)

/-- THE GRADIENT after the launch. -/
theorem final (y : S8192x2048.Idx) : (dats m 0 c).arrAt 2 cfg0.N y = grad (X m c) (W m c) (y 0) (y 1) := by
  refine congrFun ((dats m 0 c).arrAt_eq_of_covers 2 (fun y : S8192x2048.Idx => grad (X m c) (W m c) (y 0) (y 1)) (by decide +kernel) fun t hf y => ?_) y
  have hN : t.val < 32 := lt_of_lt_of_eq t.isLt (show cfg0.N = 32 from N_0)
  blk_simp
  rw [after0_2]
  unfold outsAt0
  frame_out
  idx_vars y
  have e0 : ((cfg0.win 2).blk t).view.emb (ix2 y0 y1) 0 = (⟨t.val / 2 * 512 + y0.val, by omega⟩ : Fin 8192) := by
    refine Fin.ext ?_
    blk_simp [index2 t]
  have e1 : ((cfg0.win 2).blk t).view.emb (ix2 y0 y1) 1 = (⟨t.val % 2 * 1024 + y1.val, by omega⟩ : Fin 2048) := by
    refine Fin.ext ?_
    blk_simp [index2 t]
  refine Eq.trans ?_ (congrArg₂ (grad (X m c) (W m c)) e0 e1).symm
  refine (stored_at _ _ y0 y1).trans ?_
  refine Finset.sum_congr rfl fun j _ => ?_
  exact congrArg₂ (fun a b : EReal => a * b) (iblk0 m c t y0 j _ rfl) (iblk1 m c t y1 j _ rfl)

end Cert.OutDxIdeal.Product

namespace Cert.OutDxRefIdeal.Reading

open Cert.OutDxRefIdeal Cert.OutDxRefIdeal.Gen Cert.OutDxRefIdeal.Read Idealize.ShloMosaic

variable (x0 : (⟨S8192x1024, .f32⟩ : BufTy).Contents (Elt Ideal)) (x1 : (⟨S2048x1024, .bf16⟩ : BufTy).Contents (Elt Ideal))

/-- The reference's derivative, read at an entry. -/
theorem result_at (r : Fin 8192) (n : Fin 2048) :
    val_main_v4 x0 x1 (ix2 r n) = Cert.OutDxIdeal.Product.grad x0 x1 r n := by
  pointwise [val_main_v4, val_main_v3, val_main_v0]
  first
    | rfl
    | exact Finset.sum_congr rfl fun r _ => mul_comm _ _

end Cert.OutDxRefIdeal.Reading

namespace Cert.Proof.OutDx

open Idealize.ShloMosaic Idealize.SL.Sem

theorem frame_kernel : Cert.quiescent_OutDx := fun m ρ _ => Cert.OutDx.Gen.frame m ρ
theorem frame_ideal : Cert.quiescent_OutDxIdeal := fun m ρ _ => Cert.OutDxIdeal.Gen.frame m ρ

/-- The reference runs on the host alone: it takes no semaphore. -/
theorem frame_reference : Cert.quiescent_OutDxRefIdeal := fun m ρ _ =>
  (θ_run Cert.OutDxRefIdeal.defs _ _).mono
    (fun r h => ⟨fun c => ⟨(h c).2.1, (h c).2.2⟩, sem_eq_zero_of_no_sems (by decide) r.2⟩)
    (Cert.OutDxRefIdeal.Value.run (F := Ideal) m ρ)

theorem preserves : Cert.preserves_OutDx_OutDxIdeal := trivial

/-- THE VALUE CLAIM: the kernel's gradient of the two mixers' outputs is the reference's. -/
theorem algebraic : Cert.algebraic_OutDxIdeal_OutDxRefIdeal := by
  intro m g m' g' _ hagree
  refine ⟨fun c y => Cert.OutDxIdeal.Product.grad (Cert.OutDxIdeal.Product.X m c) (Cert.OutDxIdeal.Product.W m c) (y 0) (y 1), ?_, ?_⟩
  · exact (θ_run Cert.OutDxIdeal.defs _ _).mono (fun r h c => ⟨(h c).1.trans (funext (Cert.OutDxIdeal.Product.final m c)), (h c).2⟩)
      (Cert.OutDxIdeal.Value.run_blocks (F := Ideal) m g)
  · refine (θ_run Cert.OutDxRefIdeal.defs _ _).mono (fun r h c => ⟨(h c).1.trans ?_, (h c).2⟩) (Cert.OutDxRefIdeal.Value.run (F := Ideal) m' g')
    obtain ⟨a0, a1⟩ := hagree c
    refine (Cert.OutDxRefIdeal.Read.val_main_v4_eq _ _).trans (funext fun y => ?_)
    rw [a0, a1]
    idx_vars y
    exact Cert.OutDxRefIdeal.Reading.result_at _ _ y0 y1

end Cert.Proof.OutDx

end
-- ==== Proof.OwnOutDw.lean ====
module

public import proofs.«01_k».proof.Defs
public import proofs.«01_k».proof.Proof.Gen.OutDw.Frame
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Pipeline.ValueKit
public import Idealize.ShloMosaic.Lib.Pipeline.ReadBack
public import Idealize.ShloMosaic.Lib.Quiescent

/-! The gradient of the mixer's output weight: the kernel sums over sixteen blocks of 512 rows, the reference over the 8192 rows. -/

@[expose] public section

set_option maxRecDepth 16384

noncomputable section

namespace Cert.OutDwIdeal.Product

open Cert.OutDwIdeal Cert.OutDwIdeal.Gen Idealize.ShloMosaic Idealize.ShloMosaic.TcCoe Idealize.SL.Sem
open Idealize.ShloMosaic.Pipeline (Dat)

/-- What one block of 512 rows adds to an entry. -/
theorem part_at (a : FVec Ideal S512x2048 .bf16) (g : FVec Ideal S512x1024 .f32) (k : Fin 2048) (n : Fin 1024) :
    k0_pay1 (F := Ideal) a g (ix2 k n) = ∑ r : Fin 512, a (ix2 r k) * g (ix2 r n) := by
  pointwise [k0_pay1]

variable (m : (ℓ : Loc nD τ sig) → Buf (Elt Ideal) ℓ) (c : Dev nD)

/-- The saved outputs of the two mixers, -/
abbrev A : FVec Ideal S8192x2048 .bf16 := m ((c : Thread nD τ).loc main_arg0)
/-- and the gradient of the residual stream. -/
abbrev G : FVec Ideal S8192x1024 .f32 := m ((c : Thread nD τ).loc main_arg1)

/-- The blocks a grid point reads and the one it writes. -/
theorem index0 : ∀ t : Fin cfg0.N, win0_0.index t = ![t.val % 16, 0] := (by decide +kernel : ∀ t : Fin grid0.N, win0_0.index t = ![t.val % 16, 0])
theorem index1 : ∀ t : Fin cfg0.N, win0_1.index t = ![t.val % 16, 0] := (by decide +kernel : ∀ t : Fin grid0.N, win0_1.index t = ![t.val % 16, 0])
theorem index2 : ∀ t : Fin cfg0.N, win0_2.index t = ![0, 0] := (by decide +kernel : ∀ t : Fin grid0.N, win0_2.index t = ![0, 0])

/-- The first block of a run starts the sum, -/
theorem reset (t : Fin cfg0.N) (h : t.val % 16 = 0) (i : S2048x1024.Idx) :
    outsAt0 m c t.val t.isLt i = 0 + k0_pay1 (F := Ideal) (iblk m c 0 t) (iblk m c 1 t) i := by
  have hN : t.val < 16 := lt_of_lt_of_eq t.isLt (show cfg0.N = 16 from N_0)
  rw [outsAt0_A m c t h (by omega), zero_add]
  frame_out

/-- and each later block adds to it. -/
theorem step (t : Fin cfg0.N) (h : ¬t.val % 16 = 0) (i : S2048x1024.Idx) :
    outsAt0 m c t.val t.isLt i = outsAt0 m c (t.val - 1) (Nat.lt_of_le_of_lt (Nat.sub_le _ _) t.isLt) i + k0_pay1 (F := Ideal) (iblk m c 0 t) (iblk m c 1 t) i := by
  have hN : t.val < 16 := lt_of_lt_of_eq t.isLt (show cfg0.N = 16 from N_0)
  rw [outsAt0_B m c t h (by omega)]
  frame_out
  idx_vars i
  pointwise [k0_pay2]

theorem iblk0 (t : Fin cfg0.N) (r : Fin 512) (j : Fin 2048) (r' : Fin 8192) (hr : r'.val = t.val % 16 * 512 + r.val) :
    iblk m c 0 t (ix2 r j) = A m c (ix2 r' j) := by
  blk_ext [iblk, V, index0 t, hr]

theorem iblk1 (t : Fin cfg0.N) (r : Fin 512) (j : Fin 1024) (r' : Fin 8192) (hr : r'.val = t.val % 16 * 512 + r.val) :
    iblk m c 1 t (ix2 r j) = G m c (ix2 r' j) := by
  blk_ext [iblk, V, index1 t, hr]

/-- The gradient of the weight at an entry. -/
def grad (a : FVec Ideal S8192x2048 .bf16) (g : FVec Ideal S8192x1024 .f32) (k : Fin 2048) (n : Fin 1024) : EReal :=
  ∑ r : Fin 8192, a (ix2 r k) * g (ix2 r n)

/-- THE WEIGHT'S GRADIENT after the launch. -/
theorem final (y : S2048x1024.Idx) : (dats m 0 c).arrAt 2 cfg0.N y = grad (A m c) (G m c) (y 0) (y 1) := by
  refine congrFun ((dats m 0 c).arrAt_eq_of_covers 2 (fun y : S2048x1024.Idx => grad (A m c) (G m c) (y 0) (y 1)) (by decide +kernel) fun t hf y => ?_) y
  have ht := (flush0_2 t).mp hf
  have hN : t.val < 16 := lt_of_lt_of_eq t.isLt (show cfg0.N = 16 from N_0)
  blk_simp
  rw [after0_2, Pipeline.eq_sum_fin_of_reset_step_apply_of_flush (fun n h => outsAt0 m c n h) 16 (fun _ => 0) _
    (reset m c) (step m c) t ht _, zero_add]
  idx_vars y
  have e0 : ((cfg0.win 2).blk t).view.emb (ix2 y0 y1) 0 = y0 := by
    refine Fin.ext ?_
    blk_simp [index2 t]
  have e1 : ((cfg0.win 2).blk t).view.emb (ix2 y0 y1) 1 = y1 := by
    refine Fin.ext ?_
    blk_simp [index2 t]
  refine Eq.trans ?_ (congrArg₂ (grad (A m c) (G m c)) e0 e1).symm
  simp only [part_at]
  refine Fin.sum_mul_add_congr fun s k hl => ?_
  have hq : (16 * (t.val / 16) + s.val) % 16 = s.val := by omega
  refine congrArg₂ (fun a g : EReal => a * g) (iblk0 m c _ k y0 _ ?_) (iblk1 m c _ k y1 _ ?_)
  · show s.val * 512 + k.val = (16 * (t.val / 16) + s.val) % 16 * 512 + k.val
    rw [hq]
  · show s.val * 512 + k.val = (16 * (t.val / 16) + s.val) % 16 * 512 + k.val
    rw [hq]

end Cert.OutDwIdeal.Product

namespace Cert.OutDwRefIdeal.Reading

open Cert.OutDwRefIdeal Cert.OutDwRefIdeal.Gen Cert.OutDwRefIdeal.Read Idealize.ShloMosaic

variable (x0 : (⟨S8192x2048, .bf16⟩ : BufTy).Contents (Elt Ideal)) (x1 : (⟨S8192x1024, .f32⟩ : BufTy).Contents (Elt Ideal))

/-- The reference's derivative, read at an entry. -/
theorem result_at (k : Fin 2048) (n : Fin 1024) :
    val_main_v4 x0 x1 (ix2 k n) = Cert.OutDwIdeal.Product.grad x0 x1 k n := by
  pointwise [val_main_v4, val_main_v3, val_main_v0]
  first
    | rfl
    | exact Finset.sum_congr rfl fun r _ => mul_comm _ _

end Cert.OutDwRefIdeal.Reading

namespace Cert.Proof.OutDw

open Idealize.ShloMosaic Idealize.SL.Sem

theorem frame_kernel : Cert.quiescent_OutDw := fun m ρ _ => Cert.OutDw.Gen.frame m ρ
theorem frame_ideal : Cert.quiescent_OutDwIdeal := fun m ρ _ => Cert.OutDwIdeal.Gen.frame m ρ

/-- The reference runs on the host alone: it takes no semaphore. -/
theorem frame_reference : Cert.quiescent_OutDwRefIdeal := fun m ρ _ =>
  (θ_run Cert.OutDwRefIdeal.defs _ _).mono
    (fun r h => ⟨fun c => ⟨(h c).2.1, (h c).2.2⟩, sem_eq_zero_of_no_sems (by decide) r.2⟩)
    (Cert.OutDwRefIdeal.Value.run (F := Ideal) m ρ)

theorem preserves : Cert.preserves_OutDw_OutDwIdeal := trivial

/-- THE VALUE CLAIM: the kernel's gradient of the mixer's output weight is the reference's. -/
theorem algebraic : Cert.algebraic_OutDwIdeal_OutDwRefIdeal := by
  intro m g m' g' _ hagree
  refine ⟨fun c y => Cert.OutDwIdeal.Product.grad (Cert.OutDwIdeal.Product.A m c) (Cert.OutDwIdeal.Product.G m c) (y 0) (y 1), ?_, ?_⟩
  · exact (θ_run Cert.OutDwIdeal.defs _ _).mono (fun r h c => ⟨(h c).1.trans (funext (Cert.OutDwIdeal.Product.final m c)), (h c).2⟩)
      (Cert.OutDwIdeal.Value.run_blocks (F := Ideal) m g)
  · refine (θ_run Cert.OutDwRefIdeal.defs _ _).mono (fun r h c => ⟨(h c).1.trans ?_, (h c).2⟩) (Cert.OutDwRefIdeal.Value.run (F := Ideal) m' g')
    obtain ⟨a0, a1⟩ := hagree c
    refine (Cert.OutDwRefIdeal.Read.val_main_v4_eq _ _).trans (funext fun y => ?_)
    rw [a0, a1]
    idx_vars y
    exact Cert.OutDwRefIdeal.Reading.result_at _ _ y0 y1

end Cert.Proof.OutDw

end
-- ==== Proof.OwnAttnOutDx.lean ====
module

public import proofs.«01_k».proof.Defs
public import proofs.«01_k».proof.Proof.Gen.AttnOutDx.Frame
public import proofs.«01_k».proof.Proof.Gen.AttnOutDxIdeal.Value
public import proofs.«01_k».proof.Proof.Gen.AttnOutDxRefIdeal.Run
public import proofs.«01_k».proof.Proof.Gen.AttnOutDxRefIdeal.Read
public import Idealize.ShloMosaic.Lib.Pipeline.ValueKit
public import Idealize.ShloMosaic.Lib.Pipeline.ReadBack
public import Idealize.ShloMosaic.Lib.Quiescent

/-! The gradient of the attention's output: blocks of the kernel's product with the transposed weight are blocks of the reference's. -/

@[expose] public section

set_option maxRecDepth 16384

noncomputable section

namespace Cert.AttnOutDxIdeal.Product

open Cert.AttnOutDxIdeal Cert.AttnOutDxIdeal.Gen Idealize.ShloMosaic Idealize.ShloMosaic.TcCoe Idealize.SL.Sem
open Idealize.ShloMosaic.Pipeline (Dat)

/-- What the kernel stores: a row of the gradient against a row of the weight. -/
theorem stored_at (x : FVec Ideal S512x1024 .f32) (w : FVec Ideal S1024x1024 .bf16) (r : Fin 512) (n : Fin 1024) :
    k0_pay4 (F := Ideal) (k0_pay2 (F := Ideal) x w) (ix2 r n) = ∑ j : Fin 1024, x (ix2 r j) * w (ix2 n j) := by
  pointwise [k0_pay4, k0_pay2, k0_pay1]

variable (m : (ℓ : Loc nD τ sig) → Buf (Elt Ideal) ℓ) (c : Dev nD)

/-- The incoming gradient, -/
abbrev X : FVec Ideal S8192x1024 .f32 := m ((c : Thread nD τ).loc main_arg0)
/-- and the weight. -/
abbrev W : FVec Ideal S1024x1024 .bf16 := m ((c : Thread nD τ).loc main_arg1)

/-- The blocks a grid point reads and the one it writes. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

theorem iblk0 (t : Fin cfg0.N) (r : Fin 512) (j : Fin 1024) (r' : Fin 8192) (hr : r'.val = t.val * 512 + r.val) :
    iblk m c 0 t (ix2 r j) = X m c (ix2 r' j) := by
  blk_ext [iblk, V, index0 t, hr]

theorem iblk1 (t : Fin cfg0.N) (n j : Fin 1024) : iblk m c 1 t (ix2 n j) = W m c (ix2 n j) := by
  blk_ext [iblk, V, index1 t]

/-- The gradient at an entry. -/
def grad (x : FVec Ideal S8192x1024 .f32) (w : FVec Ideal S1024x1024 .bf16) (r : Fin 8192) (n : Fin 1024) : EReal :=
  ∑ j : Fin 1024, x (ix2 r j) * w (ix2 n j)

/-- THE GRADIENT after the launch. -/
theorem final (y : S8192x1024.Idx) : (dats m 0 c).arrAt 2 cfg0.N y = grad (X m c) (W m c) (y 0) (y 1) := by
  refine congrFun ((dats m 0 c).arrAt_eq_of_covers 2 (fun y : S8192x1024.Idx => grad (X m c) (W m c) (y 0) (y 1)) (by decide +kernel) fun t hf y => ?_) y
  have hN : t.val < 16 := lt_of_lt_of_eq t.isLt (show cfg0.N = 16 from N_0)
  blk_simp
  rw [after0_2]
  unfold outsAt0
  frame_out
  idx_vars y
  have e0 : ((cfg0.win 2).blk t).view.emb (ix2 y0 y1) 0 = (⟨t.val * 512 + y0.val, by omega⟩ : Fin 8192) := by
    refine Fin.ext ?_
    blk_simp [index2 t]
  have e1 : ((cfg0.win 2).blk t).view.emb (ix2 y0 y1) 1 = y1 := by
    refine Fin.ext ?_
    blk_simp [index2 t]
  refine Eq.trans ?_ (congrArg₂ (grad (X m c) (W m c)) e0 e1).symm
  refine (stored_at _ _ y0 y1).trans ?_
  refine Finset.sum_congr rfl fun j _ => ?_
  exact congrArg₂ (fun a b : EReal => a * b) (iblk0 m c t y0 j _ rfl) (iblk1 m c t y1 j)

end Cert.AttnOutDxIdeal.Product

namespace Cert.AttnOutDxRefIdeal.Reading

open Cert.AttnOutDxRefIdeal Cert.AttnOutDxRefIdeal.Gen Cert.AttnOutDxRefIdeal.Read Idealize.ShloMosaic

variable (x0 : (⟨S8192x1024, .f32⟩ : BufTy).Contents (Elt Ideal)) (x1 : (⟨S1024x1024, .bf16⟩ : BufTy).Contents (Elt Ideal))

/-- The reference's derivative, read at an entry. -/
theorem result_at (r : Fin 8192) (n : Fin 1024) :
    val_main_v4 x0 x1 (ix2 r n) = Cert.AttnOutDxIdeal.Product.grad x0 x1 r n := by
  pointwise [val_main_v4, val_main_v3, val_main_v0]
  first
    | rfl
    | exact Finset.sum_congr rfl fun r _ => mul_comm _ _

end Cert.AttnOutDxRefIdeal.Reading

namespace Cert.Proof.AttnOutDx

open Idealize.ShloMosaic Idealize.SL.Sem

theorem frame_kernel : Cert.quiescent_AttnOutDx := fun m ρ _ => Cert.AttnOutDx.Gen.frame m ρ
theorem frame_ideal : Cert.quiescent_AttnOutDxIdeal := fun m ρ _ => Cert.AttnOutDxIdeal.Gen.frame m ρ

/-- The reference runs on the host alone: it takes no semaphore. -/
theorem frame_reference : Cert.quiescent_AttnOutDxRefIdeal := fun m ρ _ =>
  (θ_run Cert.AttnOutDxRefIdeal.defs _ _).mono
    (fun r h => ⟨fun c => ⟨(h c).2.1, (h c).2.2⟩, sem_eq_zero_of_no_sems (by decide) r.2⟩)
    (Cert.AttnOutDxRefIdeal.Value.run (F := Ideal) m ρ)

theorem preserves : Cert.preserves_AttnOutDx_AttnOutDxIdeal := trivial

/-- THE VALUE CLAIM: the kernel's gradient of the attention's output is the reference's. -/
theorem algebraic : Cert.algebraic_AttnOutDxIdeal_AttnOutDxRefIdeal := by
  intro m g m' g' _ hagree
  refine ⟨fun c y => Cert.AttnOutDxIdeal.Product.grad (Cert.AttnOutDxIdeal.Product.X m c) (Cert.AttnOutDxIdeal.Product.W m c) (y 0) (y 1), ?_, ?_⟩
  · exact (θ_run Cert.AttnOutDxIdeal.defs _ _).mono (fun r h c => ⟨(h c).1.trans (funext (Cert.AttnOutDxIdeal.Product.final m c)), (h c).2⟩)
      (Cert.AttnOutDxIdeal.Value.run_blocks (F := Ideal) m g)
  · refine (θ_run Cert.AttnOutDxRefIdeal.defs _ _).mono (fun r h c => ⟨(h c).1.trans ?_, (h c).2⟩) (Cert.AttnOutDxRefIdeal.Value.run (F := Ideal) m' g')
    obtain ⟨a0, a1⟩ := hagree c
    refine (Cert.AttnOutDxRefIdeal.Read.val_main_v4_eq _ _).trans (funext fun y => ?_)
    rw [a0, a1]
    idx_vars y
    exact Cert.AttnOutDxRefIdeal.Reading.result_at _ _ y0 y1

end Cert.Proof.AttnOutDx

end
-- ==== Proof.OwnAttnOutDw.lean ====
module

public import proofs.«01_k».proof.Defs
public import proofs.«01_k».proof.Proof.Gen.AttnOutDw.Frame
public import proofs.«01_k».proof.Proof.Gen.AttnOutDwIdeal.Value
public import proofs.«01_k».proof.Proof.Gen.AttnOutDwRefIdeal.Run
public import proofs.«01_k».proof.Proof.Gen.AttnOutDwRefIdeal.Read
public import Idealize.ShloMosaic.Lib.Pipeline.ValueKit
public import Idealize.ShloMosaic.Lib.Pipeline.ReadBack
public import Idealize.ShloMosaic.Lib.Quiescent

/-! The gradient of the attention's output weight: the kernel sums over sixteen blocks of 512 rows, the reference over the 8192 rows. -/

@[expose] public section

set_option maxRecDepth 16384

noncomputable section

namespace Cert.AttnOutDwIdeal.Product

open Cert.AttnOutDwIdeal Cert.AttnOutDwIdeal.Gen Idealize.ShloMosaic Idealize.ShloMosaic.TcCoe Idealize.SL.Sem
open Idealize.ShloMosaic.Pipeline (Dat)

/-- What one block of 512 rows adds to an entry. -/
theorem part_at (a : FVec Ideal S512x1024 .bf16) (g : FVec Ideal S512x1024 .f32) (k : Fin 1024) (n : Fin 1024) :
    k0_pay1 (F := Ideal) a g (ix2 k n) = ∑ r : Fin 512, a (ix2 r k) * g (ix2 r n) := by
  pointwise [k0_pay1]

variable (m : (ℓ : Loc nD τ sig) → Buf (Elt Ideal) ℓ) (c : Dev nD)

/-- The saved output of the attention, -/
abbrev A : FVec Ideal S8192x1024 .bf16 := m ((c : Thread nD τ).loc main_arg0)
/-- and the gradient of the residual stream. -/
abbrev G : FVec Ideal S8192x1024 .f32 := m ((c : Thread nD τ).loc main_arg1)

/-- The blocks a grid point reads and the one it writes. -/
theorem index0 : ∀ t : Fin cfg0.N, win0_0.index t = ![t.val % 16, 0] := (by decide +kernel : ∀ t : Fin grid0.N, win0_0.index t = ![t.val % 16, 0])
theorem index1 : ∀ t : Fin cfg0.N, win0_1.index t = ![t.val % 16, 0] := (by decide +kernel : ∀ t : Fin grid0.N, win0_1.index t = ![t.val % 16, 0])
theorem index2 : ∀ t : Fin cfg0.N, win0_2.index t = ![0, 0] := (by decide +kernel : ∀ t : Fin grid0.N, win0_2.index t = ![0, 0])

/-- The first block of a run starts the sum, -/
theorem reset (t : Fin cfg0.N) (h : t.val % 16 = 0) (i : S1024x1024.Idx) :
    outsAt0 m c t.val t.isLt i = 0 + k0_pay1 (F := Ideal) (iblk m c 0 t) (iblk m c 1 t) i := by
  have hN : t.val < 16 := lt_of_lt_of_eq t.isLt (show cfg0.N = 16 from N_0)
  rw [outsAt0_A m c t h (by omega), zero_add]
  frame_out

/-- and each later block adds to it. -/
theorem step (t : Fin cfg0.N) (h : ¬t.val % 16 = 0) (i : S1024x1024.Idx) :
    outsAt0 m c t.val t.isLt i = outsAt0 m c (t.val - 1) (Nat.lt_of_le_of_lt (Nat.sub_le _ _) t.isLt) i + k0_pay1 (F := Ideal) (iblk m c 0 t) (iblk m c 1 t) i := by
  have hN : t.val < 16 := lt_of_lt_of_eq t.isLt (show cfg0.N = 16 from N_0)
  rw [outsAt0_B m c t h (by omega)]
  frame_out
  idx_vars i
  pointwise [k0_pay2]

theorem iblk0 (t : Fin cfg0.N) (r : Fin 512) (j : Fin 1024) (r' : Fin 8192) (hr : r'.val = t.val % 16 * 512 + r.val) :
    iblk m c 0 t (ix2 r j) = A m c (ix2 r' j) := by
  blk_ext [iblk, V, index0 t, hr]

theorem iblk1 (t : Fin cfg0.N) (r : Fin 512) (j : Fin 1024) (r' : Fin 8192) (hr : r'.val = t.val % 16 * 512 + r.val) :
    iblk m c 1 t (ix2 r j) = G m c (ix2 r' j) := by
  blk_ext [iblk, V, index1 t, hr]

/-- The gradient of the weight at an entry. -/
def grad (a : FVec Ideal S8192x1024 .bf16) (g : FVec Ideal S8192x1024 .f32) (k : Fin 1024) (n : Fin 1024) : EReal :=
  ∑ r : Fin 8192, a (ix2 r k) * g (ix2 r n)

/-- THE WEIGHT'S GRADIENT after the launch. -/
theorem final (y : S1024x1024.Idx) : (dats m 0 c).arrAt 2 cfg0.N y = grad (A m c) (G m c) (y 0) (y 1) := by
  refine congrFun ((dats m 0 c).arrAt_eq_of_covers 2 (fun y : S1024x1024.Idx => grad (A m c) (G m c) (y 0) (y 1)) (by decide +kernel) fun t hf y => ?_) y
  have ht := (flush0_2 t).mp hf
  have hN : t.val < 16 := lt_of_lt_of_eq t.isLt (show cfg0.N = 16 from N_0)
  blk_simp
  rw [after0_2, Pipeline.eq_sum_fin_of_reset_step_apply_of_flush (fun n h => outsAt0 m c n h) 16 (fun _ => 0) _
    (reset m c) (step m c) t ht _, zero_add]
  idx_vars y
  have e0 : ((cfg0.win 2).blk t).view.emb (ix2 y0 y1) 0 = y0 := by
    refine Fin.ext ?_
    blk_simp [index2 t]
  have e1 : ((cfg0.win 2).blk t).view.emb (ix2 y0 y1) 1 = y1 := by
    refine Fin.ext ?_
    blk_simp [index2 t]
  refine Eq.trans ?_ (congrArg₂ (grad (A m c) (G m c)) e0 e1).symm
  simp only [part_at]
  refine Fin.sum_mul_add_congr fun s k hl => ?_
  have hq : (16 * (t.val / 16) + s.val) % 16 = s.val := by omega
  refine congrArg₂ (fun a g : EReal => a * g) (iblk0 m c _ k y0 _ ?_) (iblk1 m c _ k y1 _ ?_)
  · show s.val * 512 + k.val = (16 * (t.val / 16) + s.val) % 16 * 512 + k.val
    rw [hq]
  · show s.val * 512 + k.val = (16 * (t.val / 16) + s.val) % 16 * 512 + k.val
    rw [hq]

end Cert.AttnOutDwIdeal.Product

namespace Cert.AttnOutDwRefIdeal.Reading

open Cert.AttnOutDwRefIdeal Cert.AttnOutDwRefIdeal.Gen Cert.AttnOutDwRefIdeal.Read Idealize.ShloMosaic

variable (x0 : (⟨S8192x1024, .bf16⟩ : BufTy).Contents (Elt Ideal)) (x1 : (⟨S8192x1024, .f32⟩ : BufTy).Contents (Elt Ideal))

/-- The reference's derivative, read at an entry. -/
theorem result_at (k : Fin 1024) (n : Fin 1024) :
    val_main_v4 x0 x1 (ix2 k n) = Cert.AttnOutDwIdeal.Product.grad x0 x1 k n := by
  pointwise [val_main_v4, val_main_v3, val_main_v0]
  first
    | rfl
    | exact Finset.sum_congr rfl fun r _ => mul_comm _ _

end Cert.AttnOutDwRefIdeal.Reading

namespace Cert.Proof.AttnOutDw

open Idealize.ShloMosaic Idealize.SL.Sem

theorem frame_kernel : Cert.quiescent_AttnOutDw := fun m ρ _ => Cert.AttnOutDw.Gen.frame m ρ
theorem frame_ideal : Cert.quiescent_AttnOutDwIdeal := fun m ρ _ => Cert.AttnOutDwIdeal.Gen.frame m ρ

/-- The reference runs on the host alone: it takes no semaphore. -/
theorem frame_reference : Cert.quiescent_AttnOutDwRefIdeal := fun m ρ _ =>
  (θ_run Cert.AttnOutDwRefIdeal.defs _ _).mono
    (fun r h => ⟨fun c => ⟨(h c).2.1, (h c).2.2⟩, sem_eq_zero_of_no_sems (by decide) r.2⟩)
    (Cert.AttnOutDwRefIdeal.Value.run (F := Ideal) m ρ)

theorem preserves : Cert.preserves_AttnOutDw_AttnOutDwIdeal := trivial

/-- THE VALUE CLAIM: the kernel's gradient of the attention's output weight is the reference's. -/
theorem algebraic : Cert.algebraic_AttnOutDwIdeal_AttnOutDwRefIdeal := by
  intro m g m' g' _ hagree
  refine ⟨fun c y => Cert.AttnOutDwIdeal.Product.grad (Cert.AttnOutDwIdeal.Product.A m c) (Cert.AttnOutDwIdeal.Product.G m c) (y 0) (y 1), ?_, ?_⟩
  · exact (θ_run Cert.AttnOutDwIdeal.defs _ _).mono (fun r h c => ⟨(h c).1.trans (funext (Cert.AttnOutDwIdeal.Product.final m c)), (h c).2⟩)
      (Cert.AttnOutDwIdeal.Value.run_blocks (F := Ideal) m g)
  · refine (θ_run Cert.AttnOutDwRefIdeal.defs _ _).mono (fun r h c => ⟨(h c).1.trans ?_, (h c).2⟩) (Cert.AttnOutDwRefIdeal.Value.run (F := Ideal) m' g')
    obtain ⟨a0, a1⟩ := hagree c
    refine (Cert.AttnOutDwRefIdeal.Read.val_main_v4_eq _ _).trans (funext fun y => ?_)
    rw [a0, a1]
    idx_vars y
    exact Cert.AttnOutDwRefIdeal.Reading.result_at _ _ y0 y1

end Cert.Proof.AttnOutDw

end
-- ==== Proof.OwnQDx.lean ====
module

public import proofs.«01_k».proof.Defs
public import proofs.«01_k».proof.Proof.NormGrad
public import proofs.«01_k».proof.Proof.Entries
public import proofs.«01_k».proof.Proof.Gen.QDx.Frame
public import proofs.«01_k».proof.Proof.Gen.QDxIdeal.Value
public import proofs.«01_k».proof.Proof.Gen.QDxRefIdeal.Run
public import proofs.«01_k».proof.Proof.Gen.QDxRefIdeal.Read
public import proofs.«01_k».proof.Proof.Gen.Pre_finite_q
public import Idealize.ShloMosaic.Lib.Claim
public import Idealize.ShloMosaic.Lib.Pipeline.ValueKit
public import Idealize.ShloMosaic.Lib.Pipeline.ReadBack
public import Idealize.ShloMosaic.Lib.Quiescent

/-! The gradient through the attention's query product and the normalisation before it. -/

@[expose] public section

set_option maxRecDepth 16384

noncomputable section

namespace Cert.QDxIdeal.Rows

open Cert.QDxIdeal Cert.QDxIdeal.Gen Idealize.ShloMosaic Idealize.ShloMosaic.TcCoe Idealize.SL.Sem
open Idealize.ShloMosaic.Pipeline (Dat)
open Cert.Attn (Finite)
open Cert.Norm

/-- A block of rows of the product with the transposed weight, -/
theorem part_at (p : FVec Ideal S512x1024 .bf16) (w : FVec Ideal S1024x1024 .bf16) (i : Fin 512) (n : Fin 1024) :
    k0_pay2 (F := Ideal) p w (ix2 i n) = ∑ j : Fin 1024, p (ix2 i j) * w (ix2 n j) := by
  pointwise [k0_pay2, k0_pay1]

/-- the row's gradient from the finished product, -/
theorem row_at (d x : FVec Ideal S512x1024 .f32) (f : FVec Ideal S512x1 .f32) (g : FVec Ideal S1x1024 .f32) (b : FVec Ideal S512x1024 .f32)
    (i : Fin 512) (n : Fin 1024) :
    k0_pay6 (F := Ideal) d x f g b (ix2 i n) = b (ix2 i n) + f (ix2 i 0) * (d (ix2 i n) * g (ix2 0 n)
      - x (ix2 i n) * f (ix2 i 0) * Ideal.div (∑ k : Fin 1024, d (ix2 i k) * g (ix2 0 k) * (x (ix2 i k) * f (ix2 i 0))) width) := by
  pointwise [k0_pay6, k0_pay5, k0_pay4, width]

/-- and what a block of rows adds to the gradient of the gain. -/
theorem gain_at (d x : FVec Ideal S512x1024 .f32) (f : FVec Ideal S512x1 .f32) (n : Fin 1024) :
    k0_pay7 (F := Ideal) d x f (ix2 0 n) = ∑ i : Fin 512, d (ix2 i n) * (x (ix2 i n) * f (ix2 i 0)) := by
  pointwise [k0_pay7, k0_pay5, k0_pay4]

variable (m : (ℓ : Loc nD τ sig) → Buf (Elt Ideal) ℓ) (c : Dev nD)

/-- The rows that were normalised, their gain, the weight, the gradient behind the product, the gradient of the residual stream. -/
abbrev X : FVec Ideal S8192x1024 .f32 := m ((c : Thread nD τ).loc main_arg0)
abbrev G : FVec Ideal S1x1024 .f32 := m ((c : Thread nD τ).loc main_arg1)
abbrev W : FVec Ideal S1024x1024 .bf16 := m ((c : Thread nD τ).loc main_arg2)
abbrev P : FVec Ideal S8192x1024 .bf16 := m ((c : Thread nD τ).loc main_arg3)
abbrev B : FVec Ideal S8192x1024 .f32 := m ((c : Thread nD τ).loc main_arg4)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0] := (by decide +kernel : ∀ t : Fin grid0.N, win0_7.index t = ![0, 0])

/-- The blocks a grid point reads. -/
theorem iblk0 (t : Fin cfg0.N) (i : Fin 512) (j : Fin 1024) (r : Fin 8192) (hr : r.val = t.val * 512 + i.val) :
    iblk m c 0 t (ix2 i j) = P m c (ix2 r j) := by
  blk_ext [iblk, V, index0 t, hr]
theorem iblk1 (t : Fin cfg0.N) (n j : Fin 1024) : iblk m c 1 t (ix2 n j) = W m c (ix2 n j) := by
  blk_ext [iblk, V, index1 t]
theorem iblk2 (t : Fin cfg0.N) (i : Fin 512) (j : Fin 1024) (r : Fin 8192) (hr : r.val = t.val * 512 + i.val) :
    iblk m c 2 t (ix2 i j) = X m c (ix2 r j) := by
  blk_ext [iblk, V, index2 t, hr]
theorem iblk4 (t : Fin cfg0.N) (j : Fin 1024) : iblk m c 4 t (ix2 0 j) = G m c (ix2 0 j) := by
  blk_ext [iblk, V, index4 t]
theorem iblk5 (t : Fin cfg0.N) (i : Fin 512) (j : Fin 1024) (r : Fin 8192) (hr : r.val = t.val * 512 + i.val) :
    iblk m c 5 t (ix2 i j) = B m c (ix2 r j) := by
  blk_ext [iblk, V, index5 t, hr]

/-- The factors of the rows, as the host computes them before the launch. -/
theorem factor_at (r : Fin 8192) : (V m c main_v7 : FVec Ideal S8192x1 .f32) (ix2 r 0) = factor fun k => X m c (ix2 r k) := by
  entry_read
  pointwise [factor, power, width, small]
theorem iblk3 (t : Fin cfg0.N) (i : Fin 512) (r : Fin 8192) (hr : r.val = t.val * 512 + i.val) :
    iblk m c 3 t (ix2 i 0) = factor fun k => X m c (ix2 r k) := by
  refine Eq.trans ?_ (factor_at m c r)
  blk_ext [iblk, index3 t, hr]

/-- The product of a block of rows. -/
abbrev product (t : Fin cfg0.N) : FVec Ideal S512x1024 .f32 := k0_pay2 (F := Ideal) (iblk m c 0 t) (iblk m c 1 t)

/-- What the block adds to the gradient of the gain. -/
def gainPart (t : Fin cfg0.N) : FVec Ideal S1x1024 .f32 := k0_pay7 (F := Ideal) (product m c t) (iblk m c 2 t) (iblk m c 3 t)

/-- At every block of rows the rows' gradient is stored, -/
theorem stored (t : Fin cfg0.N) :
    (outsAt0 m c t.val t.isLt).1 = k0_pay6 (F := Ideal) (product m c t) (iblk m c 2 t) (iblk m c 3 t) (iblk m c 4 t) (iblk m c 5 t) := by
  have hN : t.val < 16 := lt_of_lt_of_eq t.isLt (show cfg0.N = 16 from N_0)
  by_cases h : t.val % 16 = 0
  · rw [outsAt0_A m c t h (by omega)]
    dsimp only
    frame_out
  · rw [outsAt0_B m c t h (by omega)]
    dsimp only
    frame_out

/-- and the gain's gradient starts at the first -/
theorem gain_reset (t : Fin cfg0.N) (h : t.val % 16 = 0) (i : S1x1024.Idx) :
    (outsAt0 m c t.val t.isLt).2 i = 0 + gainPart m c t i := by
  have hN : t.val < 16 := lt_of_lt_of_eq t.isLt (show cfg0.N = 16 from N_0)
  rw [outsAt0_A m c t h (by omega), zero_add, gainPart]
  dsimp only
  frame_out

/-- and grows at each later one. -/
theorem gain_step (t : Fin cfg0.N) (h : ¬t.val % 16 = 0) (i : S1x1024.Idx) :
    (outsAt0 m c t.val t.isLt).2 i = (outsAt0 m c (t.val - 1) (Nat.lt_of_le_of_lt (Nat.sub_le _ _) t.isLt)).2 i + gainPart m c t i := by
  rw [outsAt0_B m c t h (by omega), gainPart]
  dsimp only
  frame_out
  idx_vars i
  pointwise [k0_pay8]

/-- The gradient behind the normalised and scaled row, -/
def behind (w : FVec Ideal S1024x1024 .bf16) (p : FVec Ideal S8192x1024 .bf16) (r : Fin 8192) (n : Fin 1024) : EReal :=
  ∑ j : Fin 1024, p (ix2 r j) * w (ix2 n j)

/-- the gradient of the rows with the residual stream's added, -/
def grad (x : FVec Ideal S8192x1024 .f32) (g : FVec Ideal S1x1024 .f32) (w : FVec Ideal S1024x1024 .bf16) (p : FVec Ideal S8192x1024 .bf16)
    (b : FVec Ideal S8192x1024 .f32) (r : Fin 8192) (n : Fin 1024) : EReal :=
  b (ix2 r n) + kernelGrad (fun k => x (ix2 r k)) (fun k => behind w p r k * g (ix2 0 k)) n

/-- and the gradient of the gain. -/
def gain (x : FVec Ideal S8192x1024 .f32) (w : FVec Ideal S1024x1024 .bf16) (p : FVec Ideal S8192x1024 .bf16) (n : Fin 1024) : EReal :=
  ∑ r : Fin 8192, behind w p r n * (x (ix2 r n) * factor fun k => x (ix2 r k))

/-- The product's entries. -/
theorem product_at (t : Fin cfg0.N) (i : Fin 512) (n : Fin 1024) (r : Fin 8192) (hr : r.val = t.val * 512 + i.val) :
    product m c t (ix2 i n) = behind (W m c) (P m c) r n := by
  refine (part_at _ _ i n).trans ?_
  have h0 := fun j => iblk0 m c t i j r hr
  simp only [h0, iblk1 m c t]
  rfl

/-- THE ROWS' GRADIENT after the launch. -/
theorem final6 (y : S8192x1024.Idx) : (dats m 0 c).arrAt 6 cfg0.N y = grad (X m c) (G m c) (W m c) (P m c) (B m c) (y 0) (y 1) := by
  refine congrFun ((dats m 0 c).arrAt_eq_of_covers 6 (fun y : S8192x1024.Idx => grad (X m c) (G m c) (W m c) (P m c) (B m c) (y 0) (y 1)) (by decide +kernel) fun t hf y => ?_) y
  have hN : t.val < 16 := lt_of_lt_of_eq t.isLt (show cfg0.N = 16 from N_0)
  blk_simp
  rw [after0_6, stored m c t]
  idx_vars y
  have e0 : ((cfg0.win 6).blk t).view.emb (ix2 y0 y1) 0 = (⟨t.val * 512 + y0.val, by omega⟩ : Fin 8192) := by
    refine Fin.ext ?_
    blk_simp [index6 t]
  have e1 : ((cfg0.win 6).blk t).view.emb (ix2 y0 y1) 1 = y1 := by
    refine Fin.ext ?_
    blk_simp [index6 t]
  refine Eq.trans ?_ (congrArg₂ (grad (X m c) (G m c) (W m c) (P m c) (B m c)) e0 e1).symm
  refine (row_at _ _ _ _ _ y0 y1).trans ?_
  have hp := fun k => product_at m c t y0 k (⟨t.val * 512 + y0.val, by omega⟩ : Fin 8192) rfl
  have hx := fun k => iblk2 m c t y0 k (⟨t.val * 512 + y0.val, by omega⟩ : Fin 8192) rfl
  have hb := iblk5 m c t y0 y1 (⟨t.val * 512 + y0.val, by omega⟩ : Fin 8192) rfl
  have hf := iblk3 m c t y0 (⟨t.val * 512 + y0.val, by omega⟩ : Fin 8192) rfl
  simp only [hp, hx, hb, hf, iblk4 m c t]
  rfl

/-- After all blocks the gain's gradient is a sum over all rows. -/
theorem gain_total (t : Fin cfg0.N) (ht : t.val % 16 = 15) (n : Fin 1024) : (outsAt0 m c t.val t.isLt).2 (ix2 0 n) = gain (X m c) (W m c) (P m c) n := by
  have hN : t.val < 16 := lt_of_lt_of_eq t.isLt (show cfg0.N = 16 from N_0)
  rw [Pipeline.eq_sum_fin_of_reset_step_apply_of_flush (fun n h => (outsAt0 m c n h).2) 16 (fun _ => 0) _ (gain_reset m c) (gain_step m c) t ht _, zero_add]
  simp only [gainPart, gain_at]
  refine Fin.sum_mul_add_congr fun s i hl => ?_
  have hd : 16 * (t.val / 16) + s.val = s.val := by omega
  have hr : s.val * 512 + i.val = (16 * (t.val / 16) + s.val) * 512 + i.val := by rw [hd]
  exact congrArg₂ (fun a b : EReal => a * b) (product_at m c _ i n ⟨s.val * 512 + i.val, hl⟩ hr)
    (congrArg₂ (fun a b : EReal => a * b) (iblk2 m c _ i n ⟨s.val * 512 + i.val, hl⟩ hr) (iblk3 m c _ i ⟨s.val * 512 + i.val, hl⟩ hr))

/-- THE GAIN'S GRADIENT after the launch. -/
theorem final7 (y : S1x1024.Idx) : (dats m 0 c).arrAt 7 cfg0.N y = gain (X m c) (W m c) (P m c) (y 1) := by
  refine congrFun ((dats m 0 c).arrAt_eq_of_covers 7 (fun y : S1x1024.Idx => gain (X m c) (W m c) (P m c) (y 1)) (by decide +kernel) fun t hf y => ?_) y
  have ht := (flush0_7 t).mp hf
  blk_simp
  rw [after0_7]
  idx_vars y
  have e1 : ((cfg0.win 7).blk t).view.emb (ix2 y0 y1) 1 = y1 := by
    refine Fin.ext ?_
    blk_simp [index7 t]
  refine Eq.trans ?_ (congrArg (gain (X m c) (W m c) (P m c)) e1).symm
  obtain rfl : y0 = 0 := Subsingleton.elim _ _
  exact gain_total m c t ht y1

end Cert.QDxIdeal.Rows

namespace Cert.QDxRefIdeal.Reading

open Cert.QDxRefIdeal Cert.QDxRefIdeal.Gen Cert.QDxRefIdeal.Read Idealize.ShloMosaic
open Cert.Norm

variable (x0 : (⟨S8192x1024, .f32⟩ : BufTy).Contents (Elt Ideal)) (x1 : (⟨S1x1024, .f32⟩ : BufTy).Contents (Elt Ideal))
  (x2 : (⟨S1024x1024, .bf16⟩ : BufTy).Contents (Elt Ideal)) (x3 : (⟨S8192x1024, .bf16⟩ : BufTy).Contents (Elt Ideal))
  (x4 : (⟨S8192x1024, .f32⟩ : BufTy).Contents (Elt Ideal))

/-- The reference's gradient behind the normalised row, -/
theorem behind_at (r : Fin 8192) (n : Fin 1024) : val_main_v18 x2 x3 (ix2 r n) = Cert.QDxIdeal.Rows.behind x2 x3 r n := by
  pointwise [val_main_v18, val_main_v17, val_main_v0, Cert.QDxIdeal.Rows.behind]

/-- what stands under its root, the factor of the row, -/
theorem power_at (r : Fin 8192) : val_main_v7 x0 (ix2 r 0) = power fun k => x0 (ix2 r k) := by
  pointwise [val_main_v7, val_main_v6, val_main_v5, val_main_v4, val_main_v3, val_main_v2, val_main_v1, val_main_cst, val_main_cst_0, val_main_cst_1, power, width, small]
theorem factor_at (r : Fin 8192) : val_main_v8 x0 (ix2 r 0) = factor fun k => x0 (ix2 r k) :=
  congrArg Ideal.rsqrt (power_at x0 r)

/-- the normalised row scaled by what comes back through the root, -/
theorem slope_at (r : Fin 8192) (n : Fin 1024) :
    val_main_v33 x0 x1 x2 x3 (ix2 r n) = slope (fun k => x0 (ix2 r k)) (fun k => Cert.QDxIdeal.Rows.behind x2 x3 r k * x1 (ix2 0 k)) := by
  pointwise [val_main_v33, val_main_v32, val_main_v31, val_main_v30, val_main_v29, val_main_v26, val_main_v25, val_main_v24, val_main_v23, val_main_v22,
    val_main_v11, val_main_v10, val_main_v9, val_main_cst_2, val_main_cst_4, val_main_cst_5, val_main_cst_6, width, half, behind_at]
  simp only [Fin.sum_univ_one, power_at, factor_at, Cert.Norm.slope, width, half]

/-- and its two results. -/
theorem rows_at (r : Fin 8192) (n : Fin 1024) :
    val_main_v38 x0 x1 x2 x3 x4 (ix2 r n)
      = x4 (ix2 r n) + chainGrad (fun k => x0 (ix2 r k)) (fun k => Cert.QDxIdeal.Rows.behind x2 x3 r k * x1 (ix2 0 k)) n := by
  pointwise [val_main_v38, val_main_v37, val_main_v36, val_main_v35, val_main_v34, val_main_v28, val_main_v27, val_main_v23, val_main_v22,
    chainGrad, behind_at, factor_at, slope_at]
theorem gain_at (n : Fin 1024) : val_main_v21 x0 x2 x3 (ix2 0 n) = Cert.QDxIdeal.Rows.gain x0 x2 x3 n := by
  pointwise [val_main_v21, val_main_v20, val_main_v19, val_main_v13, val_main_v12, val_main_cst_3, Cert.QDxIdeal.Rows.gain, behind_at, factor_at]
  exact Finset.sum_congr rfl fun r _ => mul_comm _ _

end Cert.QDxRefIdeal.Reading

namespace Cert.Proof.QDx

open Idealize.ShloMosaic Idealize.SL.Sem
open Cert.Attn (Finite)

theorem frame_kernel : Cert.quiescent_QDx := fun m ρ _ => Cert.QDx.Gen.frame m ρ
theorem frame_ideal : Cert.quiescent_QDxIdeal := fun m ρ _ => Cert.QDxIdeal.Gen.frame m ρ
theorem frame_ideal_pre : Cert.quiescent_QDxIdeal_pre_finite_q := fun m ρ _ => Cert.QDxIdeal.Gen.frame m ρ

/-- The reference runs on the host alone: it takes no semaphore. -/
theorem frame_reference : Cert.quiescent_QDxRefIdeal := fun m ρ _ =>
  (θ_run Cert.QDxRefIdeal.defs _ _).mono
    (fun r h => ⟨fun c => (h c).2.2, sem_eq_zero_of_no_sems (by decide) r.2⟩)
    (Cert.QDxRefIdeal.Value.run (F := Ideal) m ρ)
theorem frame_reference_pre : Cert.quiescent_QDxRefIdeal_pre_finite_q := fun m ρ _ => frame_reference m ρ trivial

theorem preserves : Cert.preserves_QDx_QDxIdeal := trivial

open Cert.Pre_finite_q in
/-- Where the precondition holds, every entry of the arrays it names is a real number. -/
theorem finite_of {x0 : FVec Ideal S8192x1024 .f32} {x1 : FVec Ideal S1x1024 .f32} {x2 : FVec Ideal S1024x1024 .bf16} {x3 : FVec Ideal S8192x1024 .bf16}
    {x4 : FVec Ideal S8192x1024 .f32} (h : fn (F := Ideal) x0 x1 x2 x3 x4 = fun _ => 1#1) : Finite x0 ∧ Finite x1 ∧ Finite x2 ∧ Finite x3 := by
  haveI : Subsingleton S_.Idx := ⟨fun a b => funext fun i => i.elim0⟩
  have hx := congrFun h (fun i => i.elim0)
  have ⟨h012, h3⟩ := IntOp.andi_eq_one.mp hx
  have ⟨h01, h2⟩ := IntOp.andi_eq_one.mp h012
  have ⟨h0, h1⟩ := IntOp.andi_eq_one.mp h01
  have f0 : ∀ i, ∃ r : ℝ, x0 i = (r : EReal) := fun i => Cert.Pre_finite.Entries.exists_real (Host.reduce_andi_all _ _ _ _ _ h0 i)
  have f1 : ∀ i, ∃ r : ℝ, x1 i = (r : EReal) := fun i => Cert.Pre_finite.Entries.exists_real (Host.reduce_andi_all _ _ _ _ _ h1 i)
  have f2 : ∀ i, ∃ r : ℝ, x2 i = (r : EReal) := fun i => Cert.Pre_finite.Entries.exists_real (Host.reduce_andi_all _ _ _ _ _ h2 i)
  have f3 : ∀ i, ∃ r : ℝ, x3 i = (r : EReal) := fun i => Cert.Pre_finite.Entries.exists_real (Host.reduce_andi_all _ _ _ _ _ h3 i)
  exact ⟨⟨_, fun i => (f0 i).choose_spec⟩, ⟨_, fun i => (f1 i).choose_spec⟩, ⟨_, fun i => (f2 i).choose_spec⟩, ⟨_, fun i => (f3 i).choose_spec⟩⟩

open Cert.QDxIdeal Cert.QDxIdeal.Rows Cert.Norm in
/-- On finite arrays the two forms of the rows' gradient agree. -/
theorem grad_eq {x : FVec Ideal S8192x1024 .f32} {g : FVec Ideal S1x1024 .f32} {w : FVec Ideal S1024x1024 .bf16} {p : FVec Ideal S8192x1024 .bf16}
    (hx : Finite x) (hg : Finite g) (hw : Finite w) (hp : Finite p) (b : FVec Ideal S8192x1024 .f32) (r : Fin 8192) (n : Fin 1024) :
    grad x g w p b r n = b (ix2 r n) + chainGrad (fun k => x (ix2 r k)) (fun k => behind w p r k * g (ix2 0 k)) n := by
  obtain ⟨a, ha⟩ := hx
  obtain ⟨e, he⟩ := hg
  obtain ⟨v, hv⟩ := hw
  obtain ⟨q, hq⟩ := hp
  refine congrArg (b (ix2 r n) + ·) (kernelGrad_eq ⟨fun k => a (ix2 r k), fun k => ha _⟩ ⟨fun k => (∑ j : Fin 1024, q (ix2 r j) * v (ix2 k j)) * e (ix2 0 k), fun k => ?_⟩ n)
  simp only [behind, ha, he, hv, hq, ← EReal.coe_mul, ← Cert.Attn.coe_sum]

/-- THE VALUE CLAIM: on finite arguments the kernel's gradients of the rows and of the gain are the reference's. -/
theorem algebraic : Cert.algebraic_QDxIdeal_QDxRefIdeal_pre_finite_q := by
  intro m g m' g' hpre hagree
  refine ⟨fun c => Cert.QDxRefIdeal.Value.res_main_v38 m' c,
    fun c y => Cert.QDxIdeal.Rows.gain (Cert.QDxIdeal.Rows.X m c) (Cert.QDxIdeal.Rows.W m c) (Cert.QDxIdeal.Rows.P m c) (y 1), ?_, ?_⟩
  · refine (θ_run Cert.QDxIdeal.defs _ _).mono (fun r h c => ?_) (Cert.QDxIdeal.Value.run_blocks (F := Ideal) m g)
    obtain ⟨f0, f1, f2, f3⟩ := finite_of (hpre c)
    obtain ⟨a0, a1, a2, a3, a4⟩ := hagree c
    refine ⟨(h c).1.trans (funext fun y => ?_), (h c).2.1.trans (funext (Cert.QDxIdeal.Rows.final7 m c)), (h c).2.2⟩
    refine (Cert.QDxIdeal.Rows.final6 m c y).trans ((grad_eq f0 f1 f2 f3 _ _ _).trans ?_)
    refine Eq.symm ((congrFun (Cert.QDxRefIdeal.Read.val_main_v38_eq m' c) y).trans ?_)
    rw [a0, a1, a2, a3, a4]
    idx_vars y
    exact Cert.QDxRefIdeal.Reading.rows_at _ _ _ _ _ y0 y1
  · refine (θ_run Cert.QDxRefIdeal.defs _ _).mono (fun r h c => ⟨(h c).1, (h c).2.1.trans ?_, (h c).2.2⟩) (Cert.QDxRefIdeal.Value.run (F := Ideal) m' g')
    obtain ⟨a0, a1, a2, a3, a4⟩ := hagree c
    refine (Cert.QDxRefIdeal.Read.val_main_v21_eq _ _ _).trans (funext fun y => ?_)
    rw [a0, a2, a3]
    idx_vars y
    obtain rfl : y0 = 0 := Subsingleton.elim _ _
    exact Cert.QDxRefIdeal.Reading.gain_at _ _ _ y1

end Cert.Proof.QDx

end
-- ==== Proof.OwnQDw.lean ====
module

public import proofs.«01_k».proof.Defs
public import proofs.«01_k».proof.Proof.Gen.QDw.Frame
public import proofs.«01_k».proof.Proof.Gen.QDwIdeal.Value
public import proofs.«01_k».proof.Proof.Gen.QDwRefIdeal.Run
public import proofs.«01_k».proof.Proof.Gen.QDwRefIdeal.Read
public import Idealize.ShloMosaic.Lib.Pipeline.ValueKit
public import Idealize.ShloMosaic.Lib.Pipeline.ReadBack
public import Idealize.ShloMosaic.Lib.Quiescent

/-! The gradient of the query weight: the kernel sums over sixteen blocks of 512 rows, the reference over the 8192 rows. -/

@[expose] public section

set_option maxRecDepth 16384

noncomputable section

namespace Cert.QDwIdeal.Product

open Cert.QDwIdeal Cert.QDwIdeal.Gen Idealize.ShloMosaic Idealize.ShloMosaic.TcCoe Idealize.SL.Sem
open Idealize.ShloMosaic.Pipeline (Dat)

/-- What one block of 512 rows adds to an entry. -/
theorem part_at (a : FVec Ideal S512x1024 .bf16) (g : FVec Ideal S512x1024 .bf16) (k : Fin 1024) (n : Fin 1024) :
    k0_pay1 (F := Ideal) a g (ix2 k n) = ∑ r : Fin 512, a (ix2 r k) * g (ix2 r n) := by
  pointwise [k0_pay1]

variable (m : (ℓ : Loc nD τ sig) → Buf (Elt Ideal) ℓ) (c : Dev nD)

/-- The saved normalised rows, -/
abbrev A : FVec Ideal S8192x1024 .bf16 := m ((c : Thread nD τ).loc main_arg0)
/-- and the gradient of the queries. -/
abbrev G : FVec Ideal S8192x1024 .bf16 := m ((c : Thread nD τ).loc main_arg1)

/-- The blocks a grid point reads and the one it writes. -/
theorem index0 : ∀ t : Fin cfg0.N, win0_0.index t = ![t.val % 16, 0] := (by decide +kernel : ∀ t : Fin grid0.N, win0_0.index t = ![t.val % 16, 0])
theorem index1 : ∀ t : Fin cfg0.N, win0_1.index t = ![t.val % 16, 0] := (by decide +kernel : ∀ t : Fin grid0.N, win0_1.index t = ![t.val % 16, 0])
theorem index2 : ∀ t : Fin cfg0.N, win0_2.index t = ![0, 0] := (by decide +kernel : ∀ t : Fin grid0.N, win0_2.index t = ![0, 0])

/-- The first block of a run starts the sum, -/
theorem reset (t : Fin cfg0.N) (h : t.val % 16 = 0) (i : S1024x1024.Idx) :
    outsAt0 m c t.val t.isLt i = 0 + k0_pay1 (F := Ideal) (iblk m c 0 t) (iblk m c 1 t) i := by
  have hN : t.val < 16 := lt_of_lt_of_eq t.isLt (show cfg0.N = 16 from N_0)
  rw [outsAt0_A m c t h (by omega), zero_add]
  frame_out

/-- and each later block adds to it. -/
theorem step (t : Fin cfg0.N) (h : ¬t.val % 16 = 0) (i : S1024x1024.Idx) :
    outsAt0 m c t.val t.isLt i = outsAt0 m c (t.val - 1) (Nat.lt_of_le_of_lt (Nat.sub_le _ _) t.isLt) i + k0_pay1 (F := Ideal) (iblk m c 0 t) (iblk m c 1 t) i := by
  have hN : t.val < 16 := lt_of_lt_of_eq t.isLt (show cfg0.N = 16 from N_0)
  rw [outsAt0_B m c t h (by omega)]
  frame_out
  idx_vars i
  pointwise [k0_pay2]

theorem iblk0 (t : Fin cfg0.N) (r : Fin 512) (j : Fin 1024) (r' : Fin 8192) (hr : r'.val = t.val % 16 * 512 + r.val) :
    iblk m c 0 t (ix2 r j) = A m c (ix2 r' j) := by
  blk_ext [iblk, V, index0 t, hr]

theorem iblk1 (t : Fin cfg0.N) (r : Fin 512) (j : Fin 1024) (r' : Fin 8192) (hr : r'.val = t.val % 16 * 512 + r.val) :
    iblk m c 1 t (ix2 r j) = G m c (ix2 r' j) := by
  blk_ext [iblk, V, index1 t, hr]

/-- The gradient of the weight at an entry. -/
def grad (a : FVec Ideal S8192x1024 .bf16) (g : FVec Ideal S8192x1024 .bf16) (k : Fin 1024) (n : Fin 1024) : EReal :=
  ∑ r : Fin 8192, a (ix2 r k) * g (ix2 r n)

/-- THE WEIGHT'S GRADIENT after the launch. -/
theorem final (y : S1024x1024.Idx) : (dats m 0 c).arrAt 2 cfg0.N y = grad (A m c) (G m c) (y 0) (y 1) := by
  refine congrFun ((dats m 0 c).arrAt_eq_of_covers 2 (fun y : S1024x1024.Idx => grad (A m c) (G m c) (y 0) (y 1)) (by decide +kernel) fun t hf y => ?_) y
  have ht := (flush0_2 t).mp hf
  have hN : t.val < 16 := lt_of_lt_of_eq t.isLt (show cfg0.N = 16 from N_0)
  blk_simp
  rw [after0_2, Pipeline.eq_sum_fin_of_reset_step_apply_of_flush (fun n h => outsAt0 m c n h) 16 (fun _ => 0) _
    (reset m c) (step m c) t ht _, zero_add]
  idx_vars y
  have e0 : ((cfg0.win 2).blk t).view.emb (ix2 y0 y1) 0 = y0 := by
    refine Fin.ext ?_
    blk_simp [index2 t]
  have e1 : ((cfg0.win 2).blk t).view.emb (ix2 y0 y1) 1 = y1 := by
    refine Fin.ext ?_
    blk_simp [index2 t]
  refine Eq.trans ?_ (congrArg₂ (grad (A m c) (G m c)) e0 e1).symm
  simp only [part_at]
  refine Fin.sum_mul_add_congr fun s k hl => ?_
  have hq : (16 * (t.val / 16) + s.val) % 16 = s.val := by omega
  refine congrArg₂ (fun a g : EReal => a * g) (iblk0 m c _ k y0 _ ?_) (iblk1 m c _ k y1 _ ?_)
  · show s.val * 512 + k.val = (16 * (t.val / 16) + s.val) % 16 * 512 + k.val
    rw [hq]
  · show s.val * 512 + k.val = (16 * (t.val / 16) + s.val) % 16 * 512 + k.val
    rw [hq]

end Cert.QDwIdeal.Product

namespace Cert.QDwRefIdeal.Reading

open Cert.QDwRefIdeal Cert.QDwRefIdeal.Gen Cert.QDwRefIdeal.Read Idealize.ShloMosaic

variable (x0 : (⟨S8192x1024, .bf16⟩ : BufTy).Contents (Elt Ideal)) (x1 : (⟨S8192x1024, .bf16⟩ : BufTy).Contents (Elt Ideal))

/-- The reference's derivative, read at an entry. -/
theorem result_at (k : Fin 1024) (n : Fin 1024) :
    val_main_v5 x0 x1 (ix2 k n) = Cert.QDwIdeal.Product.grad x0 x1 k n := by
  pointwise [val_main_v5, val_main_v4, val_main_v3, val_main_v0]
  first
    | rfl
    | exact Finset.sum_congr rfl fun r _ => mul_comm _ _

end Cert.QDwRefIdeal.Reading

namespace Cert.Proof.QDw

open Idealize.ShloMosaic Idealize.SL.Sem

theorem frame_kernel : Cert.quiescent_QDw := fun m ρ _ => Cert.QDw.Gen.frame m ρ
theorem frame_ideal : Cert.quiescent_QDwIdeal := fun m ρ _ => Cert.QDwIdeal.Gen.frame m ρ

/-- The reference runs on the host alone: it takes no semaphore. -/
theorem frame_reference : Cert.quiescent_QDwRefIdeal := fun m ρ _ =>
  (θ_run Cert.QDwRefIdeal.defs _ _).mono
    (fun r h => ⟨fun c => ⟨(h c).2.1, (h c).2.2⟩, sem_eq_zero_of_no_sems (by decide) r.2⟩)
    (Cert.QDwRefIdeal.Value.run (F := Ideal) m ρ)

theorem preserves : Cert.preserves_QDw_QDwIdeal := trivial

/-- THE VALUE CLAIM: the kernel's gradient of the query weight is the reference's. -/
theorem algebraic : Cert.algebraic_QDwIdeal_QDwRefIdeal := by
  intro m g m' g' _ hagree
  refine ⟨fun c y => Cert.QDwIdeal.Product.grad (Cert.QDwIdeal.Product.A m c) (Cert.QDwIdeal.Product.G m c) (y 0) (y 1), ?_, ?_⟩
  · exact (θ_run Cert.QDwIdeal.defs _ _).mono (fun r h c => ⟨(h c).1.trans (funext (Cert.QDwIdeal.Product.final m c)), (h c).2⟩)
      (Cert.QDwIdeal.Value.run_blocks (F := Ideal) m g)
  · refine (θ_run Cert.QDwRefIdeal.defs _ _).mono (fun r h c => ⟨(h c).1.trans ?_, (h c).2⟩) (Cert.QDwRefIdeal.Value.run (F := Ideal) m' g')
    obtain ⟨a0, a1⟩ := hagree c
    refine (Cert.QDwRefIdeal.Read.val_main_v5_eq _ _).trans (funext fun y => ?_)
    rw [a0, a1]
    idx_vars y
    exact Cert.QDwRefIdeal.Reading.result_at _ _ y0 y1

end Cert.Proof.QDw

end
-- ==== Proof.OwnInDx.lean ====
module

public import proofs.«01_k».proof.Defs
public import proofs.«01_k».proof.Proof.NormGrad
public import proofs.«01_k».proof.Proof.Entries
public import proofs.«01_k».proof.Proof.Gen.InDx.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.Pre_finite_in
public import Idealize.ShloMosaic.Lib.Claim
public import Idealize.ShloMosaic.Lib.Pipeline.ValueKit
public import Idealize.ShloMosaic.Lib.Pipeline.ReadBack
public import Idealize.ShloMosaic.Lib.Quiescent

/-! The gradient through the scan's two input products and the normalisation before them. -/

@[expose] public section

set_option maxRecDepth 16384

noncomputable section

namespace Cert.InDxIdeal.Rows

open Cert.InDxIdeal Cert.InDxIdeal.Gen Idealize.ShloMosaic Idealize.ShloMosaic.TcCoe Idealize.SL.Sem
open Idealize.ShloMosaic.Pipeline (Dat)
open Cert.Attn (Finite)
open Cert.Norm

/-- One block of columns of the wide product, -/
theorem part_at (p : FVec Ideal S512x1024 .bf16) (w : FVec Ideal S1024x1024 .bf16) (i : Fin 512) (n : Fin 1024) :
    k0_pay1 (F := Ideal) p w (ix2 i n) = ∑ j : Fin 1024, p (ix2 i j) * w (ix2 j n) := by
  pointwise [k0_pay1]

/-- the narrow product added to the wide one, -/
def both (a : FVec Ideal S512x1024 .f32) (d : FVec Ideal S512x128 .f32) (w : FVec Ideal S128x1024 .bf16) (i : Fin 512) (n : Fin 1024) : EReal :=
  a (ix2 i n) + ∑ e : Fin 128, d (ix2 i e) * w (ix2 e n)
theorem both_at (a : FVec Ideal S512x1024 .f32) (d : FVec Ideal S512x128 .f32) (w : FVec Ideal S128x1024 .bf16) (i : Fin 512) (n : Fin 1024) :
    k0_pay5 (F := Ideal) a d w (ix2 i n) = both a d w i n := by
  pointwise [k0_pay5, both]

/-- the row's gradient from the finished products, -/
theorem row_at (a : FVec Ideal S512x1024 .f32) (d : FVec Ideal S512x128 .f32) (w : FVec Ideal S128x1024 .bf16) (x : FVec Ideal S512x1024 .f32)
    (f : FVec Ideal S512x1 .f32) (g : FVec Ideal S1x1024 .f32) (b : FVec Ideal S512x1024 .f32) (i : Fin 512) (n : Fin 1024) :
    k0_pay8 (F := Ideal) a d w x f g b (ix2 i n) = b (ix2 i n) + f (ix2 i 0) * (both a d w i n * g (ix2 0 n)
      - x (ix2 i n) * f (ix2 i 0) * Ideal.div (∑ k : Fin 1024, both a d w i k * g (ix2 0 k) * (x (ix2 i k) * f (ix2 i 0))) width) := by
  pointwise [k0_pay8, k0_pay7, k0_pay6, width, both_at]

/-- and what a block of rows adds to the gradient of the gain. -/
theorem gain_at (a : FVec Ideal S512x1024 .f32) (d : FVec Ideal S512x128 .f32) (w : FVec Ideal S128x1024 .bf16) (x : FVec Ideal S512x1024 .f32)
    (f : FVec Ideal S512x1 .f32) (n : Fin 1024) :
    k0_pay9 (F := Ideal) a d w x f (ix2 0 n) = ∑ i : Fin 512, both a d w i n * (x (ix2 i n) * f (ix2 i 0)) := by
  pointwise [k0_pay9, k0_pay7, k0_pay6, both_at]

variable (m : (ℓ : Loc nD τ sig) → Buf (Elt Ideal) ℓ) (c : Dev nD)

/-- The rows that were normalised, their gain, the two weights, the gradients behind the two products, that of the residual stream. -/
abbrev X : FVec Ideal S8192x1024 .f32 := m ((c : Thread nD τ).loc main_arg0)
abbrev G : FVec Ideal S1x1024 .f32 := m ((c : Thread nD τ).loc main_arg1)
abbrev W : FVec Ideal S4096x1024 .bf16 := m ((c : Thread nD τ).loc main_arg2)
abbrev U : FVec Ideal S128x1024 .bf16 := m ((c : Thread nD τ).loc main_arg3)
abbrev P : FVec Ideal S8192x4096 .bf16 := m ((c : Thread nD τ).loc main_arg4)
abbrev D : FVec Ideal S8192x128 .f32 := m ((c : Thread nD τ).loc main_arg5)
abbrev B : FVec Ideal S8192x1024 .f32 := m ((c : Thread nD τ).loc main_arg6)

theorem index0 : ∀ t : Fin cfg0.N, win0_0.index t = ![t.val / 4, t.val % 4] := (by decide +kernel : ∀ t : Fin grid0.N, win0_0.index t = ![t.val / 4, t.val % 4])
theorem index1 : ∀ t : Fin cfg0.N, win0_1.index t = ![t.val % 4, 0] := (by decide +kernel : ∀ t : Fin grid0.N, win0_1.index t = ![t.val % 4, 0])
theorem index2 : ∀ t : Fin cfg0.N, win0_2.index t = ![t.val / 4, 0] := (by decide +kernel : ∀ t : Fin grid0.N, win0_2.index t = ![t.val / 4, 0])
theorem index3 : ∀ t : Fin cfg0.N, win0_3.index t = ![0, 0] := (by decide +kernel : ∀ t : Fin grid0.N, win0_3.index t = ![0, 0])
theorem index4 : ∀ t : Fin cfg0.N, win0_4.index t = ![t.val / 4, 0] := (by decide +kernel : ∀ t : Fin grid0.N, win0_4.index t = ![t.val / 4, 0])
theorem index5 : ∀ t : Fin cfg0.N, win0_5.index t = ![t.val / 4, 0] := (by decide +kernel : ∀ t : Fin grid0.N, win0_5.index t = ![t.val / 4, 0])
theorem index6 : ∀ t : Fin cfg0.N, win0_6.index t = ![0, 0] := (by decide +kernel : ∀ t : Fin grid0.N, win0_6.index t = ![0, 0])
theorem index7 : ∀ t : Fin cfg0.N, win0_7.index t = ![t.val / 4, 0] := (by decide +kernel : ∀ t : Fin grid0.N, win0_7.index t = ![t.val / 4, 0])
theorem index8 : ∀ t : Fin cfg0.N, win0_8.index t = ![t.val / 4, 0] := (by decide +kernel : ∀ t : Fin grid0.N, win0_8.index t = ![t.val / 4, 0])
theorem index9 : ∀ t : Fin cfg0.N, win0_9.index t = ![0, 0] := (by decide +kernel : ∀ t : Fin grid0.N, win0_9.index t = ![0, 0])

/-- The blocks a grid point reads. -/
theorem iblk0 (t : Fin cfg0.N) (i : Fin 512) (j : Fin 1024) (r : Fin 8192) (k : Fin 4096) (hr : r.val = t.val / 4 * 512 + i.val)
    (hk : k.val = t.val % 4 * 1024 + j.val) : iblk m c 0 t (ix2 i j) = P m c (ix2 r k) := by
  blk_ext [iblk, V, index0 t, hr, hk]
theorem iblk1 (t : Fin cfg0.N) (j n : Fin 1024) (k : Fin 4096) (hk : k.val = t.val % 4 * 1024 + j.val) :
    iblk m c 1 t (ix2 j n) = W m c (ix2 k n) := by
  blk_ext [iblk, V, index1 t, hk]
theorem iblk2 (t : Fin cfg0.N) (i : Fin 512) (e : Fin 128) (r : Fin 8192) (hr : r.val = t.val / 4 * 512 + i.val) :
    iblk m c 2 t (ix2 i e) = D m c (ix2 r e) := by
  blk_ext [iblk, V, index2 t, hr]
theorem iblk3 (t : Fin cfg0.N) (e : Fin 128) (n : Fin 1024) : iblk m c 3 t (ix2 e n) = U m c (ix2 e n) := by
  blk_ext [iblk, V, index3 t]
theorem iblk4 (t : Fin cfg0.N) (i : Fin 512) (j : Fin 1024) (r : Fin 8192) (hr : r.val = t.val / 4 * 512 + i.val) :
    iblk m c 4 t (ix2 i j) = X m c (ix2 r j) := by
  blk_ext [iblk, V, index4 t, hr]
theorem iblk6 (t : Fin cfg0.N) (j : Fin 1024) : iblk m c 6 t (ix2 0 j) = G m c (ix2 0 j) := by
  blk_ext [iblk, V, index6 t]
theorem iblk7 (t : Fin cfg0.N) (i : Fin 512) (j : Fin 1024) (r : Fin 8192) (hr : r.val = t.val / 4 * 512 + i.val) :
    iblk m c 7 t (ix2 i j) = B m c (ix2 r j) := by
  blk_ext [iblk, V, index7 t, hr]

/-- The factors of the rows, as the host computes them before the launch. -/
theorem factor_at (r : Fin 8192) : (V m c main_v7 : FVec Ideal S8192x1 .f32) (ix2 r 0) = factor fun k => X m c (ix2 r k) := by
  entry_read
  pointwise [factor, power, width, small]
theorem iblk5 (t : Fin cfg0.N) (i : Fin 512) (r : Fin 8192) (hr : r.val = t.val / 4 * 512 + i.val) :
    iblk m c 5 t (ix2 i 0) = factor fun k => X m c (ix2 r k) := by
  refine Eq.trans ?_ (factor_at m c r)
  blk_ext [iblk, index5 t, hr]

/-- THE PRODUCT accumulates over four blocks of columns: the first starts it, -/
theorem reset (t : Fin cfg0.N) (h : t.val % 4 = 0) (i : S512x1024.Idx) :
    (outsAt0 m c t.val t.isLt).2.2 i = 0 + k0_pay1 (F := Ideal) (iblk m c 0 t) (iblk m c 1 t) i := by
  rw [outsAt0_A m c t h (by omega) (by omega), zero_add]
  dsimp only
  frame_out
  idx_vars i
  pointwise [k0_pay2]

/-- each later one adds to it. -/
theorem step (t : Fin cfg0.N) (h : ¬t.val % 4 = 0) (i : S512x1024.Idx) :
    (outsAt0 m c t.val t.isLt).2.2 i = (outsAt0 m c (t.val - 1) (Nat.lt_of_le_of_lt (Nat.sub_le _ _) t.isLt)).2.2 i
      + k0_pay1 (F := Ideal) (iblk m c 0 t) (iblk m c 1 t) i := by
  by_cases h3 : t.val % 4 = 3
  · by_cases h4 : t.val < 4
    · rw [outsAt0_C m c t h (by omega) h3 h4 (by omega)]
      dsimp only
      frame_out
      idx_vars i
      pointwise [k0_pay3]
      rw [read_unread_whole]
    · rw [outsAt0_D m c t h (by omega) h3 h4 (by omega)]
      dsimp only
      frame_out
      idx_vars i
      pointwise [k0_pay3]
      rw [read_unread_whole]
  · rw [outsAt0_B m c t h (by omega) h3]
    dsimp only
    frame_out
    idx_vars i
    pointwise [k0_pay3]
    rw [read_unread_whole]

/-- At the last block of columns the rows' gradient is stored, -/
theorem stored (t : Fin cfg0.N) (h3 : t.val % 4 = 3) :
    (outsAt0 m c t.val t.isLt).1 = k0_pay8 (F := Ideal) (outsAt0 m c t.val t.isLt).2.2 (iblk m c 2 t) (iblk m c 3 t) (iblk m c 4 t) (iblk m c 5 t) (iblk m c 6 t) (iblk m c 7 t) := by
  by_cases h4 : t.val < 4
  · rw [outsAt0_C m c t (by omega) (by omega) h3 h4 (by omega)]
    dsimp only
    frame_out
  · rw [outsAt0_D m c t (by omega) (by omega) h3 h4 (by omega)]
    dsimp only
    frame_out

/-- and the gain's gradient starts at the first block of rows -/
theorem gain_first (t : Fin cfg0.N) (h3 : t.val = 3) :
    (outsAt0 m c t.val t.isLt).2.1 = k0_pay9 (F := Ideal) (outsAt0 m c t.val t.isLt).2.2 (iblk m c 2 t) (iblk m c 3 t) (iblk m c 4 t) (iblk m c 5 t) := by
  rw [outsAt0_C m c t (by omega) (by omega) (by omega) (by omega) (by omega)]
  dsimp only
  frame_out

/-- and grows at each later one. -/
theorem gain_next (t : Fin cfg0.N) (h3 : t.val % 4 = 3) (h4 : 4 ≤ t.val) (i : S1x1024.Idx) :
    (outsAt0 m c t.val t.isLt).2.1 i = (outsAt0 m c (t.val - 1) (Nat.lt_of_le_of_lt (Nat.sub_le _ _) t.isLt)).2.1 i
      + k0_pay9 (F := Ideal) (outsAt0 m c t.val t.isLt).2.2 (iblk m c 2 t) (iblk m c 3 t) (iblk m c 4 t) (iblk m c 5 t) i := by
  rw [outsAt0_D m c t (by omega) (by omega) h3 (by omega) h4]
  dsimp only
  frame_out
  idx_vars i
  pointwise [k0_pay4]

/-- The other grid points leave it. -/
theorem gain_same (t : Fin cfg0.N) (h3 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h3]
    rfl
  · rw [outsAt0_B m c t h0 (by omega) h3]
    rfl

/-- The wide product, the gradient behind the normalised and scaled row, -/
def wide (w : FVec Ideal S4096x1024 .bf16) (p : FVec Ideal S8192x4096 .bf16) (r : Fin 8192) (n : Fin 1024) : EReal :=
  ∑ j : Fin 4096, p (ix2 r j) * w (ix2 j n)
def behind (w : FVec Ideal S4096x1024 .bf16) (u : FVec Ideal S128x1024 .bf16) (p : FVec Ideal S8192x4096 .bf16) (d : FVec Ideal S8192x128 .f32)
    (r : Fin 8192) (n : Fin 1024) : EReal :=
  wide w p r n + ∑ e : Fin 128, d (ix2 r e) * u (ix2 e n)

/-- the gradient of the rows with the residual stream's added, -/
def grad (x : FVec Ideal S8192x1024 .f32) (g : FVec Ideal S1x1024 .f32) (w : FVec Ideal S4096x1024 .bf16) (u : FVec Ideal S128x1024 .bf16)
    (p : FVec Ideal S8192x4096 .bf16) (d : FVec Ideal S8192x128 .f32) (b : FVec Ideal S8192x1024 .f32) (r : Fin 8192) (n : Fin 1024) : EReal :=
  b (ix2 r n) + kernelGrad (fun k => x (ix2 r k)) (fun k => behind w u p d r k * g (ix2 0 k)) n

/-- and the gradient of the gain. -/
def gain (x : FVec Ideal S8192x1024 .f32) (w : FVec Ideal S4096x1024 .bf16) (u : FVec Ideal S128x1024 .bf16) (p : FVec Ideal S8192x4096 .bf16)
    (d : FVec Ideal S8192x128 .f32) (n : Fin 1024) : EReal :=
  ∑ r : Fin 8192, behind w u p d r n * (x (ix2 r n) * factor fun k => x (ix2 r k))

/-- The finished product of a block of rows. -/
theorem product_at (t : Fin cfg0.N) (h3 : t.val % 4 = 3) (i : Fin 512) (n : Fin 1024) (r : Fin 8192) (hr : r.val = t.val / 4 * 512 + i.val) :
    (outsAt0 m c t.val t.isLt).2.2 (ix2 i n) = wide (W m c) (P m c) r n := by
  rw [Pipeline.eq_sum_fin_of_reset_step_apply_of_flush (fun n h => (outsAt0 m c n h).2.2) 4 (fun _ => 0) _ (reset m c) (step m c) t h3 _, zero_add]
  simp only [part_at]
  refine Fin.sum_mul_add_congr fun s j hl => ?_
  have hq : (4 * (t.val / 4) + s.val) % 4 = s.val := by omega
  have hd : (4 * (t.val / 4) + s.val) / 4 = t.val / 4 := by omega
  refine congrArg₂ (fun a b : EReal => a * b) (iblk0 m c _ i j _ _ ?_ ?_) (iblk1 m c _ j n _ ?_)
  · show r.val = (4 * (t.val / 4) + s.val) / 4 * 512 + i.val
    rw [hd, hr]
  · show s.val * 1024 + j.val = (4 * (t.val / 4) + s.val) % 4 * 1024 + j.val
    rw [hq]
  · show s.val * 1024 + j.val = (4 * (t.val / 4) + s.val) % 4 * 1024 + j.val
    rw [hq]

/-- THE ROWS' GRADIENT after the launch. -/
theorem final8 (y : S8192x1024.Idx) : (dats m 0 c).arrAt 8 cfg0.N y = grad (X m c) (G m c) (W m c) (U m c) (P m c) (D m c) (B m c) (y 0) (y 1) := by
  refine congrFun ((dats m 0 c).arrAt_eq_of_covers 8 (fun y : S8192x1024.Idx => grad (X m c) (G m c) (W m c) (U m c) (P m c) (D m c) (B m c) (y 0) (y 1)) (by decide +kernel) fun t hf y => ?_) y
  have ht := (flush0_8 t).mp hf
  have hN : t.val < 64 := lt_of_lt_of_eq t.isLt (show cfg0.N = 64 from N_0)
  blk_simp
  rw [after0_8, stored m c t ht]
  idx_vars y
  have e0 : ((cfg0.win 8).blk t).view.emb (ix2 y0 y1) 0 = (⟨t.val / 4 * 512 + y0.val, by omega⟩ : Fin 8192) := by
    refine Fin.ext ?_
    blk_simp [index8 t]
  have e1 : ((cfg0.win 8).blk t).view.emb (ix2 y0 y1) 1 = y1 := by
    refine Fin.ext ?_
    blk_simp [index8 t]
  refine Eq.trans ?_ (congrArg₂ (grad (X m c) (G m c) (W m c) (U m c) (P m c) (D m c) (B m c)) e0 e1).symm
  refine (row_at _ _ _ _ _ _ _ y0 y1).trans ?_
  have hp := fun k => product_at m c t ht y0 k (⟨t.val / 4 * 512 + y0.val, by omega⟩ : Fin 8192) rfl
  have hx := fun k => iblk4 m c t y0 k (⟨t.val / 4 * 512 + y0.val, by omega⟩ : Fin 8192) rfl
  have hb := iblk7 m c t y0 y1 (⟨t.val / 4 * 512 + y0.val, by omega⟩ : Fin 8192) rfl
  have hf := iblk5 m c t y0 (⟨t.val / 4 * 512 + y0.val, by omega⟩ : Fin 8192) rfl
  have hd := fun e => iblk2 m c t y0 e (⟨t.val / 4 * 512 + y0.val, by omega⟩ : Fin 8192) rfl
  simp only [both, hp, hx, hb, hf, hd, iblk3 m c t, iblk6 m c t]
  rfl

/-- The grid point that finishes a block of rows. -/
theorem last_lt {q : ℕ} (h : q < 16) : 4 * q + 3 < cfg0.N := lt_of_lt_of_eq (show 4 * q + 3 < 64 by omega) (show cfg0.N = 64 from N_0).symm
def last (q : Fin 16) : Fin cfg0.N := ⟨4 * q.val + 3, last_lt q.isLt⟩

/-- The gain's gradient after a block of rows. -/
def gainAfter (q : ℕ) (h : q < 16) : FVec Ideal S1x1024 .f32 := (outsAt0 m c (4 * q + 3) (last_lt h)).2.1

theorem gain_last (t : Fin cfg0.N) (q : Fin 16) (e : t = last q) (i : S1x1024.Idx) :
    (outsAt0 m c t.val t.isLt).2.1 i = gainAfter m c q.val q.isLt i := by
  subst e
  rfl

/-- What the block adds to it. -/
def gainPart (q : Fin 16) : FVec Ideal S1x1024 .f32 :=
  k0_pay9 (F := Ideal) (outsAt0 m c (last q).val (last q).isLt).2.2 (iblk m c 2 (last q)) (iblk m c 3 (last q)) (iblk m c 4 (last q)) (iblk m c 5 (last q))

theorem gain_back (n : ℕ) (hn : n < cfg0.N) (h : ¬n % 4 = 3) (n' : ℕ) (hn' : n' < cfg0.N) (e : n' = n - 1) :
    (outsAt0 m c n hn).2.1 = (outsAt0 m c n' hn').2.1 := by
  subst e
  exact gain_same m c ⟨n, hn⟩ h

theorem gain_reset (q : Fin 16) (h : q.val % 16 = 0) (i : S1x1024.Idx) : gainAfter m c q.val q.isLt i = 0 + gainPart m c q i := by
  rw [zero_add]
  exact congrFun (gain_first m c (last q) (show 4 * q.val + 3 = 3 by omega)) i

theorem gain_step (q : Fin 16) (h : ¬q.val % 16 = 0) (i : S1x1024.Idx) :
    gainAfter m c q.val q.isLt i = gainAfter m c (q.val - 1) (Nat.lt_of_le_of_lt (Nat.sub_le _ _) q.isLt) i + gainPart m c q i := by
  have hq := q.isLt
  have l0 : 4 * q.val < cfg0.N := lt_trans (by omega) (last_lt hq)
  have l1 : 4 * q.val + 1 < cfg0.N := lt_trans (by omega) (last_lt hq)
  have e : (outsAt0 m c ((last q).val - 1) (Nat.lt_of_le_of_lt (Nat.sub_le _ _) (last q).isLt)).2.1
      = gainAfter m c (q.val - 1) (Nat.lt_of_le_of_lt (Nat.sub_le _ _) q.isLt) := by
    refine (gain_back m c _ _ (show ¬(4 * q.val + 3 - 1) % 4 = 3 by omega) (4 * q.val + 1) l1 (show 4 * q.val + 1 = 4 * q.val + 3 - 1 - 1 by omega)).trans ?_
    refine (gain_back m c _ _ (by omega) (4 * q.val) l0 (by omega)).trans ?_
    exact gain_back m c _ _ (by omega) (4 * (q.val - 1) + 3) (last_lt (by omega)) (by omega)
  refine (gain_next m c (last q) (show (4 * q.val + 3) % 4 = 3 by omega) (show 4 ≤ 4 * q.val + 3 by omega) i).trans ?_
  rw [e]
  rfl

/-- After all blocks it is a sum over all rows. -/
theorem gain_total (n : Fin 1024) : gainAfter m c (15 : Fin 16).val (15 : Fin 16).isLt (ix2 0 n) = gain (X m c) (W m c) (U m c) (P m c) (D m c) n := by
  refine (Pipeline.eq_sum_fin_of_reset_step_apply_of_flush (gainAfter m c) 16 (fun _ => 0) _ (gain_reset m c) (gain_step m c) (15 : Fin 16) rfl _).trans ?_
  rw [zero_add]
  simp only [gainPart, gain_at]
  refine Fin.sum_mul_add_congr fun s i hl => ?_
  have hr : s.val * 512 + i.val = (4 * (16 * (15 / 16) + s.val) + 3) / 4 * 512 + i.val := by omega
  have h3 : (4 * (16 * (15 / 16) + s.val) + 3) % 4 = 3 := by omega
  have hp := product_at m c (last ⟨16 * ((15 : Fin 16).val / 16) + s.val, by have := s.isLt; show 16 * (15 / 16) + s.val < 16; omega⟩) h3 i n ⟨s.val * 512 + i.val, hl⟩ hr
  have hx := iblk4 m c (last ⟨16 * ((15 : Fin 16).val / 16) + s.val, by have := s.isLt; show 16 * (15 / 16) + s.val < 16; omega⟩) i n ⟨s.val * 512 + i.val, hl⟩ hr
  have hf := iblk5 m c (last ⟨16 * ((15 : Fin 16).val / 16) + s.val, by have := s.isLt; show 16 * (15 / 16) + s.val < 16; omega⟩) i ⟨s.val * 512 + i.val, hl⟩ hr
  have hd := fun e => iblk2 m c (last ⟨16 * ((15 : Fin 16).val / 16) + s.val, by have := s.isLt; show 16 * (15 / 16) + s.val < 16; omega⟩) i e ⟨s.val * 512 + i.val, hl⟩ hr
  have hu := fun e => iblk3 m c (last ⟨16 * ((15 : Fin 16).val / 16) + s.val, by have := s.isLt; show 16 * (15 / 16) + s.val < 16; omega⟩) e n
  exact congrArg₂ (fun a b : EReal => a * b) (congrArg₂ (fun a b : EReal => a + b) hp (Finset.sum_congr rfl fun e _ => congrArg₂ (fun a b : EReal => a * b) (hd e) (hu e)))
    (congrArg₂ (fun a b : EReal => a * b) hx hf)

/-- THE GAIN'S GRADIENT after the launch. -/
theorem final9 (y : S1x1024.Idx) : (dats m 0 c).arrAt 9 cfg0.N y = gain (X m c) (W m c) (U m c) (P m c) (D m c) (y 1) := by
  refine congrFun ((dats m 0 c).arrAt_eq_of_covers 9 (fun y : S1x1024.Idx => gain (X m c) (W m c) (U m c) (P m c) (D m c) (y 1)) (by decide +kernel) fun t hf y => ?_) y
  have ht := (flush0_9 t).mp hf
  have hN : t.val < 64 := lt_of_lt_of_eq t.isLt (show cfg0.N = 64 from N_0)
  have e : t = last 15 := Fin.ext (show t.val = 4 * 15 + 3 by omega)
  blk_simp
  rw [after0_9]
  idx_vars y
  have e1 : ((cfg0.win 9).blk t).view.emb (ix2 y0 y1) 1 = y1 := by
    refine Fin.ext ?_
    blk_simp [index9 t]
  refine Eq.trans ?_ (congrArg (gain (X m c) (W m c) (U m c) (P m c) (D m c)) e1).symm
  obtain rfl : y0 = 0 := Subsingleton.elim _ _
  exact (gain_last m c t 15 e _).trans (gain_total m c y1)

end Cert.InDxIdeal.Rows

namespace Cert.InDxRefIdeal.Reading

open Cert.InDxRefIdeal Cert.InDxRefIdeal.Gen Cert.InDxRefIdeal.Read Idealize.ShloMosaic
open Cert.Norm

variable (x0 : (⟨S8192x1024, .f32⟩ : BufTy).Contents (Elt Ideal)) (x1 : (⟨S1x1024, .f32⟩ : BufTy).Contents (Elt Ideal))
  (x2 : (⟨S4096x1024, .bf16⟩ : BufTy).Contents (Elt Ideal)) (x3 : (⟨S128x1024, .bf16⟩ : BufTy).Contents (Elt Ideal))
  (x4 : (⟨S8192x4096, .bf16⟩ : BufTy).Contents (Elt Ideal)) (x5 : (⟨S8192x128, .f32⟩ : BufTy).Contents (Elt Ideal))
  (x6 : (⟨S8192x1024, .f32⟩ : BufTy).Contents (Elt Ideal))

/-- The reference's gradient behind the normalised row: it adds the two products in the other order. -/
theorem behind_at (r : Fin 8192) (n : Fin 1024) : val_main_v24 x2 x3 x4 x5 (ix2 r n) = Cert.InDxIdeal.Rows.behind x2 x3 x4 x5 r n := by
  refine Eq.trans (b := (∑ e : Fin 128, x5 (ix2 r e) * x3 (ix2 e n)) + ∑ j : Fin 4096, x4 (ix2 r j) * x2 (ix2 j n)) ?_ (add_comm _ _)
  pointwise [val_main_v24, val_main_v23, val_main_v22, val_main_v21, val_main_v19, val_main_v18, val_main_v16, val_main_v15]

/-- What stands under its root, the factor of the row, -/
theorem power_at (r : Fin 8192) : val_main_v6 x0 (ix2 r 0) = power fun k => x0 (ix2 r k) := by
  pointwise [val_main_v6, val_main_v5, val_main_v4, val_main_v3, val_main_v2, val_main_v1, val_main_v0, val_main_cst, val_main_cst_0, val_main_cst_1, power, width, small]
theorem factor_at (r : Fin 8192) : val_main_v7 x0 (ix2 r 0) = factor fun k => x0 (ix2 r k) :=
  congrArg Ideal.rsqrt (power_at x0 r)

/-- the normalised row scaled by what comes back through the root, -/
theorem slope_at (r : Fin 8192) (n : Fin 1024) :
    val_main_v39 x0 x1 x2 x3 x4 x5 (ix2 r n)
      = slope (fun k => x0 (ix2 r k)) (fun k => Cert.InDxIdeal.Rows.behind x2 x3 x4 x5 r k * x1 (ix2 0 k)) := by
  pointwise [val_main_v39, val_main_v38, val_main_v37, val_main_v36, val_main_v35, val_main_v32, val_main_v31, val_main_v30, val_main_v29, val_main_v28,
    val_main_v10, val_main_v9, val_main_v8, val_main_cst_2, val_main_cst_4, val_main_cst_5, val_main_cst_6, width, half, behind_at]
  simp only [Fin.sum_univ_one, power_at, factor_at, Cert.Norm.slope, width, half]

/-- and its two results. -/
theorem rows_at (r : Fin 8192) (n : Fin 1024) :
    val_main_v44 x0 x1 x2 x3 x4 x5 x6 (ix2 r n)
      = x6 (ix2 r n) + chainGrad (fun k => x0 (ix2 r k)) (fun k => Cert.InDxIdeal.Rows.behind x2 x3 x4 x5 r k * x1 (ix2 0 k)) n := by
  pointwise [val_main_v44, val_main_v43, val_main_v42, val_main_v41, val_main_v40, val_main_v34, val_main_v33, val_main_v29, val_main_v28,
    chainGrad, behind_at, factor_at, slope_at]
theorem gain_at (n : Fin 1024) : val_main_v27 x0 x2 x3 x4 x5 (ix2 0 n) = Cert.InDxIdeal.Rows.gain x0 x2 x3 x4 x5 n := by
  pointwise [val_main_v27, val_main_v26, val_main_v25, val_main_v12, val_main_v11, val_main_cst_3, Cert.InDxIdeal.Rows.gain, behind_at, factor_at]
  exact Finset.sum_congr rfl fun r _ => mul_comm _ _

end Cert.InDxRefIdeal.Reading

namespace Cert.Proof.InDx

open Idealize.ShloMosaic Idealize.SL.Sem
open Cert.Attn (Finite)

theorem frame_kernel : Cert.quiescent_InDx := fun m ρ _ => Cert.InDx.Gen.frame m ρ
theorem frame_ideal : Cert.quiescent_InDxIdeal := fun m ρ _ => Cert.InDxIdeal.Gen.frame m ρ
theorem frame_ideal_pre : Cert.quiescent_InDxIdeal_pre_finite_in := fun m ρ _ => Cert.InDxIdeal.Gen.frame m ρ

/-- The reference runs on the host alone: it takes no semaphore. -/
theorem frame_reference : Cert.quiescent_InDxRefIdeal := fun m ρ _ =>
  (θ_run Cert.InDxRefIdeal.defs _ _).mono
    (fun r h => ⟨fun c => (h c).2.2, sem_eq_zero_of_no_sems (by decide) r.2⟩)
    (Cert.InDxRefIdeal.Value.run (F := Ideal) m ρ)
theorem frame_reference_pre : Cert.quiescent_InDxRefIdeal_pre_finite_in := fun m ρ _ => frame_reference m ρ trivial

theorem preserves : Cert.preserves_InDx_InDxIdeal := trivial

open Cert.Pre_finite_in in
/-- Where the precondition holds, every entry of the arrays it names is a real number. -/
theorem finite_of {x0 : FVec Ideal S8192x1024 .f32} {x1 : FVec Ideal S1x1024 .f32} {x2 : FVec Ideal S4096x1024 .bf16} {x3 : FVec Ideal S128x1024 .bf16}
    {x4 : FVec Ideal S8192x4096 .bf16} {x5 : FVec Ideal S8192x128 .f32} {x6 : FVec Ideal S8192x1024 .f32}
    (h : fn (F := Ideal) x0 x1 x2 x3 x4 x5 x6 = fun _ => 1#1) : Finite x0 ∧ Finite x1 ∧ Finite x2 ∧ Finite x3 ∧ Finite x4 ∧ Finite x5 := by
  haveI : Subsingleton S_.Idx := ⟨fun a b => funext fun i => i.elim0⟩
  have hx := congrFun h (fun i => i.elim0)
  have ⟨h01234, h5⟩ := IntOp.andi_eq_one.mp hx
  have ⟨h0123, h4⟩ := IntOp.andi_eq_one.mp h01234
  have ⟨h012, h3⟩ := IntOp.andi_eq_one.mp h0123
  have ⟨h01, h2⟩ := IntOp.andi_eq_one.mp h012
  have ⟨h0, h1⟩ := IntOp.andi_eq_one.mp h01
  have f0 : ∀ i, ∃ r : ℝ, x0 i = (r : EReal) := fun i => Cert.Pre_finite.Entries.exists_real (Host.reduce_andi_all _ _ _ _ _ h0 i)
  have f1 : ∀ i, ∃ r : ℝ, x1 i = (r : EReal) := fun i => Cert.Pre_finite.Entries.exists_real (Host.reduce_andi_all _ _ _ _ _ h1 i)
  have f2 : ∀ i, ∃ r : ℝ, x2 i = (r : EReal) := fun i => Cert.Pre_finite.Entries.exists_real (Host.reduce_andi_all _ _ _ _ _ h2 i)
  have f3 : ∀ i, ∃ r : ℝ, x3 i = (r : EReal) := fun i => Cert.Pre_finite.Entries.exists_real (Host.reduce_andi_all _ _ _ _ _ h3 i)
  have f4 : ∀ i, ∃ r : ℝ, x4 i = (r : EReal) := fun i => Cert.Pre_finite.Entries.exists_real (Host.reduce_andi_all _ _ _ _ _ h4 i)
  have f5 : ∀ i, ∃ r : ℝ, x5 i = (r : EReal) := fun i => Cert.Pre_finite.Entries.exists_real (Host.reduce_andi_all _ _ _ _ _ h5 i)
  exact ⟨⟨_, fun i => (f0 i).choose_spec⟩, ⟨_, fun i => (f1 i).choose_spec⟩, ⟨_, fun i => (f2 i).choose_spec⟩, ⟨_, fun i => (f3 i).choose_spec⟩, ⟨_, fun i => (f4 i).choose_spec⟩, ⟨_, fun i => (f5 i).choose_spec⟩⟩

open Cert.InDxIdeal Cert.InDxIdeal.Rows Cert.Norm in
/-- On finite arrays the two forms of the rows' gradient agree. -/
theorem grad_eq {x : FVec Ideal S8192x1024 .f32} {g : FVec Ideal S1x1024 .f32} {w : FVec Ideal S4096x1024 .bf16} {u : FVec Ideal S128x1024 .bf16}
    {p : FVec Ideal S8192x4096 .bf16} {d : FVec Ideal S8192x128 .f32} (hx : Finite x) (hg : Finite g) (hw : Finite w) (hu : Finite u) (hp : Finite p)
    (hd : Finite d) (b : FVec Ideal S8192x1024 .f32) (r : Fin 8192) (n : Fin 1024) :
    grad x g w u p d b r n = b (ix2 r n) + chainGrad (fun k => x (ix2 r k)) (fun k => behind w u p d r k * g (ix2 0 k)) n := by
  obtain ⟨a, ha⟩ := hx
  obtain ⟨e, he⟩ := hg
  obtain ⟨v, hv⟩ := hw
  obtain ⟨z, hz⟩ := hu
  obtain ⟨q, hq⟩ := hp
  obtain ⟨y, hy⟩ := hd
  refine congrArg (b (ix2 r n) + ·) (kernelGrad_eq ⟨fun k => a (ix2 r k), fun k => ha _⟩
    ⟨fun k => ((∑ j : Fin 4096, q (ix2 r j) * v (ix2 j k)) + ∑ i : Fin 128, y (ix2 r i) * z (ix2 i k)) * e (ix2 0 k), fun k => ?_⟩ n)
  simp only [behind, wide, he, hv, hz, hq, hy, ← EReal.coe_mul, ← Cert.Attn.coe_sum, ← EReal.coe_add]

/-- THE VALUE CLAIM: on finite arguments the kernel's gradients of the rows and of the gain are the reference's. -/
theorem algebraic : Cert.algebraic_InDxIdeal_InDxRefIdeal_pre_finite_in := by
  intro m g m' g' hpre hagree
  refine ⟨fun c => Cert.InDxRefIdeal.Value.res_main_v44 m' c,
    fun c y => Cert.InDxIdeal.Rows.gain (Cert.InDxIdeal.Rows.X m c) (Cert.InDxIdeal.Rows.W m c) (Cert.InDxIdeal.Rows.U m c) (Cert.InDxIdeal.Rows.P m c)
      (Cert.InDxIdeal.Rows.D m c) (y 1), ?_, ?_⟩
  · refine (θ_run Cert.InDxIdeal.defs _ _).mono (fun r h c => ?_) (Cert.InDxIdeal.Value.run_blocks (F := Ideal) m g)
    obtain ⟨f0, f1, f2, f3, f4, f5⟩ := finite_of (hpre c)
    obtain ⟨a0, a1, a2, a3, a4, a5, a6⟩ := hagree c
    refine ⟨(h c).1.trans (funext fun y => ?_), (h c).2.1.trans (funext (Cert.InDxIdeal.Rows.final9 m c)), (h c).2.2⟩
    refine (Cert.InDxIdeal.Rows.final8 m c y).trans ((grad_eq f0 f1 f2 f3 f4 f5 _ _ _).trans ?_)
    refine Eq.symm ((congrFun (Cert.InDxRefIdeal.Read.val_main_v44_eq m' c) y).trans ?_)
    rw [a0, a1, a2, a3, a4, a5, a6]
    idx_vars y
    exact Cert.InDxRefIdeal.Reading.rows_at _ _ _ _ _ _ _ y0 y1
  · refine (θ_run Cert.InDxRefIdeal.defs _ _).mono (fun r h c => ⟨(h c).1, (h c).2.1.trans ?_, (h c).2.2⟩) (Cert.InDxRefIdeal.Value.run (F := Ideal) m' g')
    obtain ⟨a0, a1, a2, a3, a4, a5, a6⟩ := hagree c
    refine (Cert.InDxRefIdeal.Read.val_main_v27_eq _ _ _ _ _).trans (funext fun y => ?_)
    rw [a0, a2, a3, a4, a5]
    idx_vars y
    obtain rfl : y0 = 0 := Subsingleton.elim _ _
    exact Cert.InDxRefIdeal.Reading.gain_at _ _ _ _ _ y1

end Cert.Proof.InDx

end
-- ==== Proof.OwnInDw.lean ====
module

public import proofs.«01_k».proof.Defs
public import proofs.«01_k».proof.Proof.Gen.InDw.Frame
public import proofs.«01_k».proof.Proof.Gen.InDwIdeal.Value
public import proofs.«01_k».proof.Proof.Gen.InDwRefIdeal.Run
public import proofs.«01_k».proof.Proof.Gen.InDwRefIdeal.Read
public import Idealize.ShloMosaic.Lib.Pipeline.ValueKit
public import Idealize.ShloMosaic.Lib.Pipeline.ReadBack
public import Idealize.ShloMosaic.Lib.Quiescent

/-! The gradient of the input weight, transposed: the kernel sums over sixteen blocks of 512 rows, the reference over the 8192 rows. -/

@[expose] public section

set_option maxRecDepth 16384

noncomputable section

namespace Cert.InDwIdeal.Product

open Cert.InDwIdeal Cert.InDwIdeal.Gen Idealize.ShloMosaic Idealize.ShloMosaic.TcCoe Idealize.SL.Sem
open Idealize.ShloMosaic.Pipeline (Dat)

/-- What one block of 512 rows adds to an entry. -/
theorem part_at (a : FVec Ideal S512x1024 .bf16) (g : FVec Ideal S512x1024 .bf16) (k : Fin 1024) (n : Fin 1024) :
    k0_pay1 (F := Ideal) a g (ix2 k n) = ∑ r : Fin 512, a (ix2 r k) * g (ix2 r n) := by
  pointwise [k0_pay1]

variable (m : (ℓ : Loc nD τ sig) → Buf (Elt Ideal) ℓ) (c : Dev nD)

/-- The gradient of the projected rows, -/
abbrev A : FVec Ideal S8192x4096 .bf16 := m ((c : Thread nD τ).loc main_arg0)
/-- and the saved normalised rows. -/
abbrev G : FVec Ideal S8192x1024 .bf16 := m ((c : Thread nD τ).loc main_arg1)

/-- The blocks a grid point reads and the one it writes. -/
theorem index0 : ∀ t : Fin cfg0.N, win0_0.index t = ![t.val % 16, t.val / 16] := (by decide +kernel : ∀ t : Fin grid0.N, win0_0.index t = ![t.val % 16, t.val / 16])
theorem index1 : ∀ t : Fin cfg0.N, win0_1.index t = ![t.val % 16, 0] := (by decide +kernel : ∀ t : Fin grid0.N, win0_1.index t = ![t.val % 16, 0])
theorem index2 : ∀ t : Fin cfg0.N, win0_2.index t = ![t.val / 16, 0] := (by decide +kernel : ∀ t : Fin grid0.N, win0_2.index t = ![t.val / 16, 0])

/-- The first block of a run starts the sum, -/
theorem reset (t : Fin cfg0.N) (h : t.val % 16 = 0) (i : S1024x1024.Idx) :
    outsAt0 m c t.val t.isLt i = 0 + k0_pay1 (F := Ideal) (iblk m c 0 t) (iblk m c 1 t) i := by
  have hN : t.val < 64 := lt_of_lt_of_eq t.isLt (show cfg0.N = 64 from N_0)
  rw [outsAt0_A m c t h (by omega), zero_add]
  frame_out

/-- and each later block adds to it. -/
theorem step (t : Fin cfg0.N) (h : ¬t.val % 16 = 0) (i : S1024x1024.Idx) :
    outsAt0 m c t.val t.isLt i = outsAt0 m c (t.val - 1) (Nat.lt_of_le_of_lt (Nat.sub_le _ _) t.isLt) i + k0_pay1 (F := Ideal) (iblk m c 0 t) (iblk m c 1 t) i := by
  have hN : t.val < 64 := lt_of_lt_of_eq t.isLt (show cfg0.N = 64 from N_0)
  rw [outsAt0_B m c t h (by omega)]
  frame_out
  idx_vars i
  pointwise [k0_pay2]

theorem iblk0 (t : Fin cfg0.N) (r : Fin 512) (j : Fin 1024) (r' : Fin 8192) (j' : Fin 4096) (hr : r'.val = t.val % 16 * 512 + r.val)
    (hj : j'.val = t.val / 16 * 1024 + j.val) : iblk m c 0 t (ix2 r j) = A m c (ix2 r' j') := by
  blk_ext [iblk, V, index0 t, hr, hj]

theorem iblk1 (t : Fin cfg0.N) (r : Fin 512) (j : Fin 1024) (r' : Fin 8192) (hr : r'.val = t.val % 16 * 512 + r.val) :
    iblk m c 1 t (ix2 r j) = G m c (ix2 r' j) := by
  blk_ext [iblk, V, index1 t, hr]

/-- The gradient of the weight at an entry. -/
def grad (a : FVec Ideal S8192x4096 .bf16) (g : FVec Ideal S8192x1024 .bf16) (k : Fin 4096) (n : Fin 1024) : EReal :=
  ∑ r : Fin 8192, a (ix2 r k) * g (ix2 r n)

/-- THE WEIGHT'S GRADIENT after the launch. -/
theorem final (y : S4096x1024.Idx) : (dats m 0 c).arrAt 2 cfg0.N y = grad (A m c) (G m c) (y 0) (y 1) := by
  refine congrFun ((dats m 0 c).arrAt_eq_of_covers 2 (fun y : S4096x1024.Idx => grad (A m c) (G m c) (y 0) (y 1)) (by decide +kernel) fun t hf y => ?_) y
  have ht := (flush0_2 t).mp hf
  have hN : t.val < 64 := lt_of_lt_of_eq t.isLt (show cfg0.N = 64 from N_0)
  blk_simp
  rw [after0_2, Pipeline.eq_sum_fin_of_reset_step_apply_of_flush (fun n h => outsAt0 m c n h) 16 (fun _ => 0) _
    (reset m c) (step m c) t ht _, zero_add]
  idx_vars y
  have e0 : ((cfg0.win 2).blk t).view.emb (ix2 y0 y1) 0 = (⟨t.val / 16 * 1024 + y0.val, by omega⟩ : Fin 4096) := by
    refine Fin.ext ?_
    blk_simp [index2 t]
  have e1 : ((cfg0.win 2).blk t).view.emb (ix2 y0 y1) 1 = y1 := by
    refine Fin.ext ?_
    blk_simp [index2 t]
  refine Eq.trans ?_ (congrArg₂ (grad (A m c) (G m c)) e0 e1).symm
  simp only [part_at]
  refine Fin.sum_mul_add_congr fun s k hl => ?_
  have hq : (16 * (t.val / 16) + s.val) % 16 = s.val := by omega
  have hd : (16 * (t.val / 16) + s.val) / 16 = t.val / 16 := by omega
  refine congrArg₂ (fun a g : EReal => a * g) (iblk0 m c _ k y0 _ _ ?_ ?_) (iblk1 m c _ k y1 _ ?_)
  · show s.val * 512 + k.val = (16 * (t.val / 16) + s.val) % 16 * 512 + k.val
    rw [hq]
  · show t.val / 16 * 1024 + y0.val = (16 * (t.val / 16) + s.val) / 16 * 1024 + y0.val
    rw [hd]
  · show s.val * 512 + k.val = (16 * (t.val / 16) + s.val) % 16 * 512 + k.val
    rw [hq]

end Cert.InDwIdeal.Product

namespace Cert.InDwRefIdeal.Reading

open Cert.InDwRefIdeal Cert.InDwRefIdeal.Gen Cert.InDwRefIdeal.Read Idealize.ShloMosaic

variable (x0 : (⟨S8192x4096, .bf16⟩ : BufTy).Contents (Elt Ideal)) (x1 : (⟨S8192x1024, .bf16⟩ : BufTy).Contents (Elt Ideal))

/-- The reference's derivative, read at an entry. -/
theorem result_at (k : Fin 4096) (n : Fin 1024) :
    val_main_v7 x0 x1 (ix2 k n) = Cert.InDwIdeal.Product.grad x0 x1 k n := by
  pointwise [val_main_v7, val_main_v6, val_main_v5, val_main_v4, val_main_v3, val_main_v0]
  first
    | rfl
    | exact Finset.sum_congr rfl fun r _ => mul_comm _ _

end Cert.InDwRefIdeal.Reading

namespace Cert.Proof.InDw

open Idealize.ShloMosaic Idealize.SL.Sem

theorem frame_kernel : Cert.quiescent_InDw := fun m ρ _ => Cert.InDw.Gen.frame m ρ
theorem frame_ideal : Cert.quiescent_InDwIdeal := fun m ρ _ => Cert.InDwIdeal.Gen.frame m ρ

/-- The reference runs on the host alone: it takes no semaphore. -/
theorem frame_reference : Cert.quiescent_InDwRefIdeal := fun m ρ _ =>
  (θ_run Cert.InDwRefIdeal.defs _ _).mono
    (fun r h => ⟨fun c => ⟨(h c).2.1, (h c).2.2⟩, sem_eq_zero_of_no_sems (by decide) r.2⟩)
    (Cert.InDwRefIdeal.Value.run (F := Ideal) m ρ)

theorem preserves : Cert.preserves_InDw_InDwIdeal := trivial

/-- THE VALUE CLAIM: the kernel's gradient of the input weight, transposed is the reference's. -/
theorem algebraic : Cert.algebraic_InDwIdeal_InDwRefIdeal := by
  intro m g m' g' _ hagree
  refine ⟨fun c y => Cert.InDwIdeal.Product.grad (Cert.InDwIdeal.Product.A m c) (Cert.InDwIdeal.Product.G m c) (y 0) (y 1), ?_, ?_⟩
  · exact (θ_run Cert.InDwIdeal.defs _ _).mono (fun r h c => ⟨(h c).1.trans (funext (Cert.InDwIdeal.Product.final m c)), (h c).2⟩)
      (Cert.InDwIdeal.Value.run_blocks (F := Ideal) m g)
  · refine (θ_run Cert.InDwRefIdeal.defs _ _).mono (fun r h c => ⟨(h c).1.trans ?_, (h c).2⟩) (Cert.InDwRefIdeal.Value.run (F := Ideal) m' g')
    obtain ⟨a0, a1⟩ := hagree c
    refine (Cert.InDwRefIdeal.Read.val_main_v7_eq _ _).trans (funext fun y => ?_)
    rw [a0, a1]
    idx_vars y
    exact Cert.InDwRefIdeal.Reading.result_at _ _ y0 y1

end Cert.Proof.InDw

end
-- ==== Proof.OwnGluDw.lean ====
module

public import proofs.«01_k».proof.Defs
public import proofs.«01_k».proof.Proof.Gelu
public import proofs.«01_k».proof.Proof.Gen.GluDw.Frame
public import proofs.«01_k».proof.Proof.Gen.GluDwIdeal.Value
public import proofs.«01_k».proof.Proof.Gen.GluDwRefIdeal.Run
public import proofs.«01_k».proof.Proof.Gen.GluDwRefIdeal.Read
public import Idealize.ShloMosaic.Lib.Pipeline.ValueKit
public import Idealize.ShloMosaic.Lib.Pipeline.ReadBack
public import Idealize.ShloMosaic.Lib.Quiescent

/-! The gradient of the weight in the gate of the scan's output: the kernel recomputes `gelu` and the logistic function block by
    block and sums over sixteen blocks of 512 rows, the reference over the 8192 rows. -/

@[expose] public section

set_option maxRecDepth 16384

noncomputable section

namespace Cert.GluDwIdeal.Product

open Cert.GluDwIdeal Cert.GluDwIdeal.Gen Idealize.ShloMosaic Idealize.ShloMosaic.TcCoe Idealize.SL.Sem
open Idealize.ShloMosaic.Pipeline (Dat)
open Cert.Gelu

/-- What comes back through the logistic function at an entry: the gradient `d` of the gated row, the row's entry `x`, its logit `s`. -/
def through (d x s : EReal) : EReal := d * value x * sigma s * (1 - sigma s)

/-- The weight of the cube in the kernel's body is the number itself. -/
theorem named : Named.named (F := Ideal) (φ := .f32) κ "cube" 0x3D372713#32 = cube :=
  IdealRules.named_const.ideal_named_scalar _ _ _ _ rfl

/-- What one block of 512 rows adds to an entry. -/
theorem part_at (a s d : FVec Ideal S512x1024 .bf16) (k n : Fin 1024) :
    k0_pay2 (F := Ideal) a s d (ix2 k n)
      = ∑ r : Fin 512, value (a (ix2 r k)) * through (d (ix2 r n)) (a (ix2 r n)) (s (ix2 r n)) := by
  refine Eq.trans (b := ∑ r : Fin 512, half * a (ix2 r k) * (1 + Ideal.tanh (root * (a (ix2 r k) + cube * a (ix2 r k) * a (ix2 r k) * a (ix2 r k))))
    * (d (ix2 r n) * (half * a (ix2 r n) * (1 + Ideal.tanh (root * (a (ix2 r n) + cube * a (ix2 r n) * a (ix2 r n) * a (ix2 r n)))))
      * sigma (s (ix2 r n)) * (1 - sigma (s (ix2 r n))))) ?_ ?_
  · pointwise [k0_pay2, half, root, sigma, named]
    simp only [zero_sub]
  · simp only [bend_form, value_form, through]

variable (m : (ℓ : Loc nD τ sig) → Buf (Elt Ideal) ℓ) (c : Dev nD)

/-- The gradient of the gated rows (with that of the rest of the mixing beside it), the scan's rows, the gate's weight. -/
abbrev D : FVec Ideal S8192x2048 .bf16 := m ((c : Thread nD τ).loc main_arg0)
abbrev Y : FVec Ideal S8192x1024 .bf16 := m ((c : Thread nD τ).loc main_arg1)
abbrev W : FVec Ideal S1024x1024 .bf16 := m ((c : Thread nD τ).loc main_arg2)

/-- The gate's logits. -/
def logit (y : FVec Ideal S8192x1024 .bf16) (w : FVec Ideal S1024x1024 .bf16) (r : Fin 8192) (n : Fin 1024) : EReal :=
  ∑ k : Fin 1024, value (y (ix2 r k)) * w (ix2 k n)

/-- The gated rows are the first of the two halves. -/
def left (n : Fin 1024) : Fin 2048 := ⟨n.val, by omega⟩

/-- The blocks a grid point reads and the one it writes. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])

/-- The first block of a run starts the sum, -/
theorem reset (t : Fin cfg0.N) (h : t.val % 16 = 0) (i : S1024x1024.Idx) :
    outsAt0 m c t.val t.isLt i = 0 + k0_pay2 (F := Ideal) (iblk m c 1 t) (iblk m c 2 t) (iblk m c 0 t) i := by
  have hN : t.val < 16 := lt_of_lt_of_eq t.isLt (show cfg0.N = 16 from N_0)
  rw [outsAt0_A m c t h (by omega), zero_add]
  frame_out

/-- and each later block adds to it. -/
theorem step (t : Fin cfg0.N) (h : ¬t.val % 16 = 0) (i : S1024x1024.Idx) :
    outsAt0 m c t.val t.isLt i = outsAt0 m c (t.val - 1) (Nat.lt_of_le_of_lt (Nat.sub_le _ _) t.isLt) i
      + k0_pay2 (F := Ideal) (iblk m c 1 t) (iblk m c 2 t) (iblk m c 0 t) i := by
  have hN : t.val < 16 := lt_of_lt_of_eq t.isLt (show cfg0.N = 16 from N_0)
  rw [outsAt0_B m c t h (by omega)]
  frame_out
  idx_vars i
  pointwise [k0_pay1]

theorem iblk0 (t : Fin cfg0.N) (r : Fin 512) (n : Fin 1024) (r' : Fin 8192) (hr : r'.val = t.val * 512 + r.val) :
    iblk m c 0 t (ix2 r n) = D m c (ix2 r' (left n)) := by
  blk_ext [iblk, V, index0 t, hr, left]

theorem iblk1 (t : Fin cfg0.N) (r : Fin 512) (j : Fin 1024) (r' : Fin 8192) (hr : r'.val = t.val * 512 + r.val) :
    iblk m c 1 t (ix2 r j) = Y m c (ix2 r' j) := by
  blk_ext [iblk, V, index1 t, hr]

/-- The logits, as the host computes them before the launch. -/
theorem logit_at (r : Fin 8192) (n : Fin 1024) : (V m c main_v17 : FVec Ideal S8192x1024 .bf16) (ix2 r n) = logit (Y m c) (W m c) r n := by
  entry_read
  simp only [logit, value, bend, ← quotient_eq]
  pointwise [half, root, whole, million]

theorem iblk2 (t : Fin cfg0.N) (r : Fin 512) (j : Fin 1024) (r' : Fin 8192) (hr : r'.val = t.val * 512 + r.val) :
    iblk m c 2 t (ix2 r j) = logit (Y m c) (W m c) r' j := by
  refine Eq.trans ?_ (logit_at m c r' j)
  blk_ext [iblk, index2 t, hr]

/-- The gradient of the weight at an entry. -/
def grad (d : FVec Ideal S8192x2048 .bf16) (y : FVec Ideal S8192x1024 .bf16) (w : FVec Ideal S1024x1024 .bf16) (k n : Fin 1024) : EReal :=
  ∑ r : Fin 8192, value (y (ix2 r k)) * through (d (ix2 r (left n))) (y (ix2 r n)) (logit y w r n)

/-- THE WEIGHT'S GRADIENT after the launch. -/
theorem final (y : S1024x1024.Idx) : (dats m 0 c).arrAt 3 cfg0.N y = grad (D m c) (Y m c) (W m c) (y 0) (y 1) := by
  refine congrFun ((dats m 0 c).arrAt_eq_of_covers 3 (fun y : S1024x1024.Idx => grad (D m c) (Y m c) (W m c) (y 0) (y 1)) (by decide +kernel) fun t hf y => ?_) y
  have ht := (flush0_3 t).mp hf
  have hN : t.val < 16 := lt_of_lt_of_eq t.isLt (show cfg0.N = 16 from N_0)
  blk_simp
  rw [after0_3, Pipeline.eq_sum_fin_of_reset_step_apply_of_flush (fun n h => outsAt0 m c n h) 16 (fun _ => 0) _
    (reset m c) (step m c) t ht _, zero_add]
  idx_vars y
  have e0 : ((cfg0.win 3).blk t).view.emb (ix2 y0 y1) 0 = y0 := by
    refine Fin.ext ?_
    blk_simp [index3 t]
  have e1 : ((cfg0.win 3).blk t).view.emb (ix2 y0 y1) 1 = y1 := by
    refine Fin.ext ?_
    blk_simp [index3 t]
  refine Eq.trans ?_ (congrArg₂ (grad (D m c) (Y m c) (W m c)) e0 e1).symm
  simp only [part_at]
  refine Fin.sum_mul_add_congr fun s k hl => ?_
  have hq : s.val * 512 + k.val = (16 * (t.val / 16) + s.val) * 512 + k.val := by omega
  have h1 := fun n => iblk1 m c ⟨16 * (t.val / 16) + s.val, lt_of_lt_of_eq (by omega) (show cfg0.N = 16 from N_0).symm⟩ k n ⟨s.val * 512 + k.val, hl⟩ hq
  have h0 := iblk0 m c ⟨16 * (t.val / 16) + s.val, lt_of_lt_of_eq (by omega) (show cfg0.N = 16 from N_0).symm⟩ k y1 ⟨s.val * 512 + k.val, hl⟩ hq
  have h2 := iblk2 m c ⟨16 * (t.val / 16) + s.val, lt_of_lt_of_eq (by omega) (show cfg0.N = 16 from N_0).symm⟩ k y1 ⟨s.val * 512 + k.val, hl⟩ hq
  refine congrArg₂ (fun a g : EReal => a * g) (congrArg (value) (h1 y0)) ?_
  rw [h0, h1, h2]

end Cert.GluDwIdeal.Product

namespace Cert.GluDwRefIdeal.Reading

open Cert.GluDwRefIdeal Cert.GluDwRefIdeal.Gen Cert.GluDwRefIdeal.Read Idealize.ShloMosaic
open Cert.Gelu
open Cert.GluDwIdeal.Product (logit left through grad)

variable (x0 : (⟨S8192x2048, .bf16⟩ : BufTy).Contents (Elt Ideal)) (x1 : (⟨S8192x1024, .bf16⟩ : BufTy).Contents (Elt Ideal))
  (x2 : (⟨S1024x1024, .bf16⟩ : BufTy).Contents (Elt Ideal))

/-- The reference's `gelu`, its logits, the logistic function of them, -/
theorem value_at (r : Fin 8192) (n : Fin 1024) : val_main_v15 x1 (ix2 r n) = value (x1 (ix2 r n)) := by
  simp only [value, bend, ← quotient_eq]
  pointwise [val_main_v15, val_main_v14, val_main_v13, val_main_v12, val_main_v11, val_main_v10, val_main_v9, val_main_v8, val_main_v7, val_main_v6, val_main_v5, val_main_v4,
    val_main_v3, val_main_v2, val_main_v0, val_main_cst, val_main_cst_0, val_main_cst_1, val_main_cst_2, val_main_cst_3, half, root, whole, million]
theorem logit_at (r : Fin 8192) (n : Fin 1024) : val_main_v16 x1 x2 (ix2 r n) = logit x1 x2 r n := by
  pointwise [val_main_v16, val_main_v1, logit, value_at]
theorem sigma_at (r : Fin 8192) (n : Fin 1024) : val_main_v22 x1 x2 (ix2 r n) = sigma (logit x1 x2 r n) := by
  pointwise [val_main_v22, val_main_v21, val_main_v20, val_main_v19, val_main_v18, val_main_v17, val_main_cst_4, val_main_cst_5, sigma, logit_at]

/-- the half of the gradient it reads, -/
theorem left_at (r : Fin 8192) (n : Fin 1024) : val_main_v28 x0 (ix2 r n) = x0 (ix2 r (left n)) := by
  pointwise [val_main_v28, val_main_v27, left]

/-- and its derivative at an entry. -/
theorem through_at (r : Fin 8192) (n : Fin 1024) :
    val_main_v30 x0 x1 x2 (ix2 r n) = through (x0 (ix2 r (left n))) (x1 (ix2 r n)) (logit x1 x2 r n) := by
  refine Eq.trans (b := value (x1 (ix2 r n)) * x0 (ix2 r (left n)) * (sigma (logit x1 x2 r n) * (1 - sigma (logit x1 x2 r n)))) ?_ ?_
  · pointwise [val_main_v30, val_main_v29, val_main_v25, val_main_v24, val_main_v23, val_main_cst_6, value_at, sigma_at, left_at]
  · rw [through, mul_comm (value _), mul_assoc (_ * _) (sigma _)]
theorem result_at (k n : Fin 1024) : val_main_v32 x0 x1 x2 (ix2 k n) = grad x0 x1 x2 k n := by
  pointwise [val_main_v32, val_main_v31, grad, value_at, through_at]
  first
    | rfl
    | exact Finset.sum_congr rfl fun r _ => mul_comm _ _

end Cert.GluDwRefIdeal.Reading

namespace Cert.Proof.GluDw

open Idealize.ShloMosaic Idealize.SL.Sem

theorem frame_kernel : Cert.quiescent_GluDw := fun m ρ _ => Cert.GluDw.Gen.frame m ρ
theorem frame_ideal : Cert.quiescent_GluDwIdeal := fun m ρ _ => Cert.GluDwIdeal.Gen.frame m ρ

/-- The reference runs on the host alone: it takes no semaphore. -/
theorem frame_reference : Cert.quiescent_GluDwRefIdeal := fun m ρ _ =>
  (θ_run Cert.GluDwRefIdeal.defs _ _).mono
    (fun r h => ⟨fun c => (h c).2, sem_eq_zero_of_no_sems (by decide) r.2⟩)
    (Cert.GluDwRefIdeal.Value.run (F := Ideal) m ρ)

theorem preserves : Cert.preserves_GluDw_GluDwIdeal :=
  IdealRules.named_const.statement Cert.GluDwIdeal.κ "cube" .f32 0x3D372713#32 ((8943 / 200000 : ℝ) : EReal) rfl

/-- THE VALUE CLAIM: the kernel's gradient of the gate's weight is the reference's. -/
theorem algebraic : Cert.algebraic_GluDwIdeal_GluDwRefIdeal := by
  intro m g m' g' _ hagree
  refine ⟨fun c y => Cert.GluDwIdeal.Product.grad (Cert.GluDwIdeal.Product.D m c) (Cert.GluDwIdeal.Product.Y m c) (Cert.GluDwIdeal.Product.W m c) (y 0) (y 1), ?_, ?_⟩
  · exact (θ_run Cert.GluDwIdeal.defs _ _).mono (fun r h c => ⟨(h c).1.trans (funext (Cert.GluDwIdeal.Product.final m c)), (h c).2⟩)
      (Cert.GluDwIdeal.Value.run_blocks (F := Ideal) m g)
  · refine (θ_run Cert.GluDwRefIdeal.defs _ _).mono (fun r h c => ⟨(h c).1.trans ?_, (h c).2⟩) (Cert.GluDwRefIdeal.Value.run (F := Ideal) m' g')
    obtain ⟨a0, a1, a2⟩ := hagree c
    refine (Cert.GluDwRefIdeal.Read.val_main_v32_eq m' c).trans (funext fun y => ?_)
    rw [a0, a1, a2]
    idx_vars y
    exact Cert.GluDwRefIdeal.Reading.result_at _ _ _ y0 y1

end Cert.Proof.GluDw

end
-- ==== Proof.MlpUpIdealLaunch.lean ====
module

public import proofs.«01_k».proof.Proof.Gen.MlpUpIdeal.Frame
public import proofs.«01_k».proof.Proof.Gen.MlpUpIdeal.Skeleton
public import Idealize.ShloMosaic.Lib.Pipeline.FrameBody
public import Idealize.ShloMosaic.Lib.Pipeline.Frame
public import Idealize.ShloMosaic.Lib.Pipeline.TableIdle
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim

/-! What the body of this program leaves in its buffers at every grid point, and the launch from that: the normalised rows and their factors
    are stored at the first point of a run of 4 and kept over the rest of it; the product's block is stored at every point. -/

@[expose] public section

set_option maxRecDepth 16384

noncomputable section

namespace Cert.MlpUpIdeal.Launch

open Cert.MlpUpIdeal Cert.MlpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The rows are normalised at the first point of a run. -/
theorem first_iff (t : Fin cfg0.N) : k0_cond1 (grid0.coords t) = 1#1 ↔ t.val % 4 = 0 := by
  have ht : t.val < 64 := Nat.lt_of_lt_of_eq t.isLt N_0
  have e1 : (grid0.coords t 1).val = t.val / 1 % 4 := Pipeline.Grid.coords_val t 1 (by decide) rfl
  simp only [k0_cond1, e1]
  word_cmp

set_option maxHeartbeats 1000000 in
/-- THE BODY at the first point of a run: it normalises the rows, stores them and their factors, and multiplies. -/
theorem run_first (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1 .f32) (harg7 : arg7.IsWhole) (hc : k0_cond1 i = 1#1)
    (x0 : Vec F S512x1024 .f32) (x1 : Vec F S1x1024 .f32) (x2 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x1) x2) ∗ owns (c : Thread nD τ) arg6 fullShare (k0_pay2 x0 x1) ∗ owns (c : Thread nD τ) arg7 fullShare (k0_pay1 x0)) -∗ K ⟨⟩))
      ⊢ wp frame (wpE (defs₀ (F := F)) Variants.none c none) E (cc0_mlp_up i arg2 harg2 arg3 harg3 arg4 harg4 arg5 harg5 arg6 harg6 arg7 harg7) K := by
  simp only [cc0_mlp_up_eq_skeleton]; unfold cc0_mlp_up_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]
  isplitl [H4]
  · iexists _; isplitr
    swap; · iexact H4
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]
  iexists _; isplitr
  swap; · iexact H5
  ipureintro
  try sl_unfold_words
  rw [View.read_writes_eq_canon _ _ _ (View.cover_of_tiledL _ S512x1.size (by sl_kernel_rfl)), View.canon_unit_zero (S := S512x1) hz2]
  simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]

set_option maxHeartbeats 1000000 in
/-- THE BODY at any other point: it multiplies the normalised rows it finds. -/
theorem run_later (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1 .f32) (harg7 : arg7.IsWhole) (hc : ¬k0_cond1 i = 1#1)
    (x0 : Vec F S512x1024 .f32) (x1 : Vec F S1x1024 .f32) (x2 : Vec F S1024x1024 .bf16) (y : Vec F S512x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (k0_pay3 y x2) ∗ owns (c : Thread nD τ) arg6 fullShare y) -∗ K ⟨⟩))
      ⊢ wp frame (wpE (defs₀ (F := F)) Variants.none c none) E (cc0_mlp_up i arg2 harg2 arg3 harg3 arg4 harg4 arg5 harg5 arg6 harg6 arg7 harg7) K := by
  simp only [cc0_mlp_up_eq_skeleton]; unfold cc0_mlp_up_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]
  iexists _; isplitr; · ipureintro; exact harg6.read_unread _
  iexact H4

variable (m : (ℓ : Loc nD τ sig) → Buf (Elt F) ℓ) (ρ : Dev nD → PrngReg)

/-- The first point of a point's run. -/
def head (t : Fin cfg0.N) : Fin cfg0.N := ⟨4 * (t.val / 4), Nat.lt_of_le_of_lt (Nat.mul_div_le _ _) t.isLt⟩

theorem head_first (t : Fin cfg0.N) (h : t.val % 4 = 0) : head t = t := Fin.ext (by show 4 * (t.val / 4) = t.val; omega)

theorem head_later (t : Fin cfg0.N) (h : ¬t.val % 4 = 0) (hp : t.val - 1 < cfg0.N) : head ⟨t.val - 1, hp⟩ = head t :=
  Fin.ext (by show 4 * ((t.val - 1) / 4) = 4 * (t.val / 4); omega)

/-- The normalised rows and their factors, as the first point of the run stored them. -/
def rows (c : Dev nD) (t : Fin cfg0.N) : Vec F S512x1024 .bf16 := k0_pay2 (iblk m c 0 (head t)) (iblk m c 1 (head t))
def factors (c : Dev nD) (t : Fin cfg0.N) : Vec F S512x1 .f32 := k0_pay1 (iblk m c 0 (head t))

/-- What the buffers hold after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (rows m c t) (iblk m c 2 t)
    | ⟨4, _⟩ => rows m c t
    | ⟨5, _⟩ => factors m c t

  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (rows m c t) (iblk m c 2 t) := by dsimp only [dats]
theorem after4 (c : Dev nD) (t : Fin cfg0.N) : (dats m 0 c).after 4 t = rows m c t := by dsimp only [dats]
theorem after5 (c : Dev nD) (t : Fin cfg0.N) : (dats m 0 c).after 5 t = factors m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Output 4 is stored at the first point of a run alone. -/
theorem idle4 (t : Fin cfg0.N) : cfg0.idle 4 (grid0.coords t) = !(decide (t.val % 4 = 0)) := by
  show (!(k0_cond1 (grid0.coords t) == 1#1)) = _
  by_cases h : t.val % 4 = 0
  · rw [(first_iff t).mpr h, decide_eq_true h]; rfl
  · rw [decide_eq_false h, beq_false_of_ne fun e => h ((first_iff t).mp e)]

/-- So its buffer holds nothing stored at the first point of a run, and what that point stored at the others. -/
theorem fresh4 : ∀ n, n ≤ cfg0.N → cfg0.fresh 4 n = decide (n % 4 = 0) :=
  cfg0.fresh_tab 4 (fun n => decide (n % 4 = 0)) rfl fun t => by
    show decide ((t.val + 1) % 4 = 0) = ((cfg0.win 4).flush t || (cfg0.idle 4 (grid0.coords t) && decide (t.val % 4 = 0)))
    rw [idle4 t]
    by_cases h : t.val % 4 = 3
    · rw [(flush0_4 t).mpr h, decide_eq_true (by omega : (t.val + 1) % 4 = 0)]; rfl
    · rw [Bool.eq_false_iff.mpr fun e => h ((flush0_4 t).mp e), decide_eq_false (by omega : ¬(t.val + 1) % 4 = 0)]
      by_cases h0 : t.val % 4 = 0
      · rw [decide_eq_true h0]; rfl
      · rw [decide_eq_false h0]; rfl

theorem before4 (c : Dev nD) (t : Fin cfg0.N) (h : ¬t.val % 4 = 0) (d) : (dats m 0 c).before 4 t d = rows m c t := by
  rw [Dat.before_out_traj _ 4 rfl (fun _ _ => rfl) (fun s hs hi _ => ?_) t.val t rfl d,
    if_neg (by rw [fresh4 _ (Nat.le_of_lt t.isLt), decide_eq_false h]; exact Bool.false_ne_true), after4]
  · unfold rows; rw [head_later t h]
  · rw [after4, after4]
    unfold rows
    rw [head_later s (fun e => ?_)]
    rw [idle4 s, decide_eq_true e] at hi
    exact Bool.false_ne_true hi

/-- The body leaves it at that in every case. -/
theorem leaves4 (c : Dev nD) (t : Fin cfg0.N) :
    owns (c : Thread nD τ) (st0_4 t) fullShare ((dats m 0 c).after 4 t) ⊢ (dats m 0 c).leavesExact 4 t := by
  by_cases h : t.val % 4 = 0
  · have hi : cfg0.idle 4 (cfg0.grid.coords t) = false := by rw [show cfg0.idle 4 (cfg0.grid.coords t) = _ from idle4 t, decide_eq_true h]; rfl
    unfold Dat.leavesExact; rw [hi]
  · have hi : cfg0.idle 4 (cfg0.grid.coords t) = true := by rw [show cfg0.idle 4 (cfg0.grid.coords t) = _ from idle4 t, decide_eq_false h]; rfl
    by_cases hf : (cfg0.win 4).flush t = true
    · unfold Dat.leavesExact; rw [hi, hf]
    · rw [Dat.leavesExact_idle (dats m 0 c) 4 t hi (Bool.eq_false_iff.mpr hf)]
      iintro H
      iexists (dats m 0 c).after 4 t
      rw [before4 m c t h, after4]
      iexact H

/-- Output 5 is stored at the first point of a run alone. -/
theorem idle5 (t : Fin cfg0.N) : cfg0.idle 5 (grid0.coords t) = !(decide (t.val % 4 = 0)) := by
  show (!(k0_cond1 (grid0.coords t) == 1#1)) = _
  by_cases h : t.val % 4 = 0
  · rw [(first_iff t).mpr h, decide_eq_true h]; rfl
  · rw [decide_eq_false h, beq_false_of_ne fun e => h ((first_iff t).mp e)]

/-- So its buffer holds nothing stored at the first point of a run, and what that point stored at the others. -/
theorem fresh5 : ∀ n, n ≤ cfg0.N → cfg0.fresh 5 n = decide (n % 4 = 0) :=
  cfg0.fresh_tab 5 (fun n => decide (n % 4 = 0)) rfl fun t => by
    show decide ((t.val + 1) % 4 = 0) = ((cfg0.win 5).flush t || (cfg0.idle 5 (grid0.coords t) && decide (t.val % 4 = 0)))
    rw [idle5 t]
    by_cases h : t.val % 4 = 3
    · rw [(flush0_5 t).mpr h, decide_eq_true (by omega : (t.val + 1) % 4 = 0)]; rfl
    · rw [Bool.eq_false_iff.mpr fun e => h ((flush0_5 t).mp e), decide_eq_false (by omega : ¬(t.val + 1) % 4 = 0)]
      by_cases h0 : t.val % 4 = 0
      · rw [decide_eq_true h0]; rfl
      · rw [decide_eq_false h0]; rfl

theorem before5 (c : Dev nD) (t : Fin cfg0.N) (h : ¬t.val % 4 = 0) (d) : (dats m 0 c).before 5 t d = factors m c t := by
  rw [Dat.before_out_traj _ 5 rfl (fun _ _ => rfl) (fun s hs hi _ => ?_) t.val t rfl d,
    if_neg (by rw [fresh5 _ (Nat.le_of_lt t.isLt), decide_eq_false h]; exact Bool.false_ne_true), after5]
  · unfold factors; rw [head_later t h]
  · rw [after5, after5]
    unfold factors
    rw [head_later s (fun e => ?_)]
    rw [idle5 s, decide_eq_true e] at hi
    exact Bool.false_ne_true hi

/-- The body leaves it at that in every case. -/
theorem leaves5 (c : Dev nD) (t : Fin cfg0.N) :
    owns (c : Thread nD τ) (st0_5 t) fullShare ((dats m 0 c).after 5 t) ⊢ (dats m 0 c).leavesExact 5 t := by
  by_cases h : t.val % 4 = 0
  · have hi : cfg0.idle 5 (cfg0.grid.coords t) = false := by rw [show cfg0.idle 5 (cfg0.grid.coords t) = _ from idle5 t, decide_eq_true h]; rfl
    unfold Dat.leavesExact; rw [hi]
  · have hi : cfg0.idle 5 (cfg0.grid.coords t) = true := by rw [show cfg0.idle 5 (cfg0.grid.coords t) = _ from idle5 t, decide_eq_false h]; rfl
    by_cases hf : (cfg0.win 5).flush t = true
    · unfold Dat.leavesExact; rw [hi, hf]
    · rw [Dat.leavesExact_idle (dats m 0 c) 5 t hi (Bool.eq_false_iff.mpr hf)]
      iintro H
      iexists (dats m 0 c).after 5 t
      rw [before5 m c t h, after5]
      iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    after0, after1, after2, after3]
  by_cases h : t.val % 4 = 0
  · iintro ⟨HΦ, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ ((first_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · unfold rows; rw [head_first t h]; iexact H3
    isplitl [H4]; · iapply (leaves4 m c t); rw [after4]; unfold rows; rw [head_first t h]; iexact H4
    iapply (leaves5 m c t); rw [after5]; unfold factors; rw [head_first t h]; iexact H5
  · simp only [before4 m c t h, before5 m c t h]
    iintro ⟨HΦ, Ho, ⟨%d0, H0⟩, ⟨%d1, H1⟩, ⟨%d2, H2⟩, ⟨%d3, H3⟩, ⟨%d4, H4⟩, ⟨%d5, H5⟩⟩
    iapply (run_later c Set.univ (grid0.coords t) _ _ _ _ _ _ _ _ _ _ _ _ (fun e => h ((first_iff t).mp e)) (iblk m c 0 t) (iblk m c 1 t) (iblk m c 2 t) (rows m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves4 m c t); rw [after4]; iexact H4
    iapply (leaves5 m c t); rw [after5]; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH: every array ends at what its write-backs leave, every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- THE FRAME: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.MlpUpIdeal.Launch

end
-- ==== Proof.OwnMlpUp.lean ====
module

public import proofs.«01_k».proof.Defs
public import proofs.«01_k».proof.Proof.NormGrad
public import proofs.«01_k».proof.Proof.MlpUpLaunch
public import proofs.«01_k».proof.Proof.MlpUpIdealLaunch
public import proofs.«01_k».proof.Proof.Gen.MlpUpRefIdeal.Run
public import proofs.«01_k».proof.Proof.Gen.MlpUpRefIdeal.Read
public import Idealize.ShloMosaic.Lib.Pipeline.ValueKit
public import Idealize.ShloMosaic.Lib.Pipeline.ReadBack
public import Idealize.ShloMosaic.Lib.Quiescent

/-! The normalised rows and the MLP's first product: the kernel's blocks are the reference's entries. -/

@[expose] public section

set_option maxRecDepth 16384

noncomputable section

namespace Cert.MlpUpIdeal.Rows

open Cert.MlpUpIdeal Cert.MlpUpIdeal.Gen Idealize.ShloMosaic Idealize.ShloMosaic.TcCoe Idealize.SL.Sem
open Cert.Norm

/-- A normalised row, scaled by the gain, -/
def normed (x : FVec Ideal S8192x1024 .f32) (g : FVec Ideal S1x1024 .f32) (r : Fin 8192) (k : Fin 1024) : EReal :=
  x (ix2 r k) * (factor fun j => x (ix2 r j)) * g (ix2 0 k)

/-- and the product with it, at an entry. -/
def value (x : FVec Ideal S8192x1024 .f32) (g : FVec Ideal S1x1024 .f32) (w : FVec Ideal S1024x4096 .bf16) (r : Fin 8192) (n : Fin 4096) : EReal :=
  ∑ k : Fin 1024, normed x g r k * w (ix2 k n)

/-- What the kernel stores: the factor of a row, -/
theorem factor_at (x : FVec Ideal S512x1024 .f32) (i : Fin 512) : Gen.k0_pay1 (F := Ideal) x (ix2 i 0) = factor fun k => x (ix2 i k) := by
  pointwise [k0_pay1, factor, power, width, small]

/-- the row, -/
theorem row_at (x : FVec Ideal S512x1024 .f32) (g : FVec Ideal S1x1024 .f32) (i : Fin 512) (k : Fin 1024) :
    Gen.k0_pay2 (F := Ideal) x g (ix2 i k) = x (ix2 i k) * (factor fun j => x (ix2 i j)) * g (ix2 0 k) := by
  pointwise [k0_pay2, factor_at]

/-- the product of rows with a block of the weight. -/
theorem product_at (y : FVec Ideal S512x1024 .bf16) (w : FVec Ideal S1024x1024 .bf16) (i : Fin 512) (n : Fin 1024) :
    k0_pay3 (F := Ideal) y w (ix2 i n) = ∑ k : Fin 1024, y (ix2 i k) * w (ix2 k n) := by
  pointwise [k0_pay3]

variable (m : (ℓ : Loc nD τ sig) → Buf (Elt Ideal) ℓ) (c : Dev nD)

/-- The rows, the gain and the weight. -/
abbrev X : FVec Ideal S8192x1024 .f32 := m ((c : Thread nD τ).loc main_arg0)
abbrev G : FVec Ideal S1x1024 .f32 := m ((c : Thread nD τ).loc main_arg1)
abbrev W : FVec Ideal S1024x4096 .bf16 := m ((c : Thread nD τ).loc main_arg2)

/-- The blocks a grid point reads and writes. -/
theorem index0 : ∀ t : Fin cfg0.N, win0_0.index t = ![t.val / 4, 0] := (by decide +kernel : ∀ t : Fin grid0.N, win0_0.index t = ![t.val / 4, 0])
theorem index1 : ∀ t : Fin cfg0.N, win0_1.index t = ![0, 0] := (by decide +kernel : ∀ t : Fin grid0.N, win0_1.index t = ![0, 0])
theorem index2 : ∀ t : Fin cfg0.N, win0_2.index t = ![0, t.val % 4] := (by decide +kernel : ∀ t : Fin grid0.N, win0_2.index t = ![0, t.val % 4])
theorem index3 : ∀ t : Fin cfg0.N, win0_3.index t = ![t.val / 4, t.val % 4] := (by decide +kernel : ∀ t : Fin grid0.N, win0_3.index t = ![t.val / 4, t.val % 4])
theorem index4 : ∀ t : Fin cfg0.N, win0_4.index t = ![t.val / 4, 0] := (by decide +kernel : ∀ t : Fin grid0.N, win0_4.index t = ![t.val / 4, 0])
theorem index5 : ∀ t : Fin cfg0.N, win0_5.index t = ![t.val / 4, 0] := (by decide +kernel : ∀ t : Fin grid0.N, win0_5.index t = ![t.val / 4, 0])

theorem iblk0 (t : Fin cfg0.N) (i : Fin 512) (k : Fin 1024) (r : Fin 8192) (hr : r.val = t.val / 4 * 512 + i.val) :
    iblk m c 0 t (ix2 i k) = X m c (ix2 r k) := by
  blk_ext [iblk, V, index0 t, hr]
theorem iblk1 (t : Fin cfg0.N) (k : Fin 1024) : iblk m c 1 t (ix2 0 k) = G m c (ix2 0 k) := by
  blk_ext [iblk, V, index1 t]
theorem iblk2 (t : Fin cfg0.N) (k n : Fin 1024) (n' : Fin 4096) (hn : n'.val = t.val % 4 * 1024 + n.val) :
    iblk m c 2 t (ix2 k n) = W m c (ix2 k n') := by
  blk_ext [iblk, V, index2 t, hn]

/-- The first point of a run reads the same rows. -/
theorem head_rows (t : Fin cfg0.N) (i : Fin 512) (r : Fin 8192) (hr : r.val = t.val / 4 * 512 + i.val) :
    r.val = (Launch.head t).val / 4 * 512 + i.val := by
  have e : (Launch.head t).val / 4 = t.val / 4 := by show 4 * (t.val / 4) / 4 = t.val / 4; omega
  rw [e, hr]

theorem rows_at (t : Fin cfg0.N) (i : Fin 512) (k : Fin 1024) (r : Fin 8192) (hr : r.val = t.val / 4 * 512 + i.val) :
    Launch.rows m c t (ix2 i k) = normed (X m c) (G m c) r k := by
  have hx := fun j => iblk0 m c (Launch.head t) i j r (head_rows t i r hr)
  refine (row_at _ _ i k).trans ?_
  simp only [hx, iblk1 m c (Launch.head t) k]
  rfl

theorem factors_at (t : Fin cfg0.N) (i : Fin 512) (r : Fin 8192) (hr : r.val = t.val / 4 * 512 + i.val) :
    Launch.factors m c t (ix2 i 0) = factor fun k => X m c (ix2 r k) := by
  have hx := fun j => iblk0 m c (Launch.head t) i j r (head_rows t i r hr)
  refine (factor_at _ i).trans ?_
  simp only [hx]

/-- THE PRODUCT after the launch, -/
theorem final_product (y : S8192x4096.Idx) : (Launch.dats m 0 c).arrAt 3 cfg0.N y = value (X m c) (G m c) (W m c) (y 0) (y 1) := by
  refine congrFun ((Launch.dats m 0 c).arrAt_eq_of_covers 3 (fun y : S8192x4096.Idx => value (X m c) (G m c) (W m c) (y 0) (y 1)) (by decide +kernel) fun t hf y => ?_) y
  have hN : t.val < 64 := lt_of_lt_of_eq t.isLt (show cfg0.N = 64 from N_0)
  blk_simp
  rw [Launch.after3]
  idx_vars y
  have e0 : ((cfg0.win 3).blk t).view.emb (ix2 y0 y1) 0 = (⟨t.val / 4 * 512 + y0.val, by omega⟩ : Fin 8192) := by
    refine Fin.ext ?_
    blk_simp [index3 t]
  have e1 : ((cfg0.win 3).blk t).view.emb (ix2 y0 y1) 1 = (⟨t.val % 4 * 1024 + y1.val, by omega⟩ : Fin 4096) := by
    refine Fin.ext ?_
    blk_simp [index3 t]
  refine Eq.trans ?_ (congrArg₂ (value (X m c) (G m c) (W m c)) e0 e1).symm
  refine (product_at _ _ y0 y1).trans (Finset.sum_congr rfl fun k _ => ?_)
  exact congrArg₂ (fun a b : EReal => a * b) (rows_at m c t y0 k _ rfl) (iblk2 m c t k y1 _ rfl)

/-- the normalised rows, -/
theorem final_rows (y : S8192x1024.Idx) : (Launch.dats m 0 c).arrAt 4 cfg0.N y = normed (X m c) (G m c) (y 0) (y 1) := by
  refine congrFun ((Launch.dats m 0 c).arrAt_eq_of_covers 4 (fun y : S8192x1024.Idx => normed (X m c) (G m c) (y 0) (y 1)) (by decide +kernel) fun t hf y => ?_) y
  have hN : t.val < 64 := lt_of_lt_of_eq t.isLt (show cfg0.N = 64 from N_0)
  blk_simp
  rw [Launch.after4]
  idx_vars y
  have e0 : ((cfg0.win 4).blk t).view.emb (ix2 y0 y1) 0 = (⟨t.val / 4 * 512 + y0.val, by omega⟩ : Fin 8192) := by
    refine Fin.ext ?_
    blk_simp [index4 t]
  have e1 : ((cfg0.win 4).blk t).view.emb (ix2 y0 y1) 1 = y1 := by
    refine Fin.ext ?_
    blk_simp [index4 t]
  refine Eq.trans ?_ (congrArg₂ (normed (X m c) (G m c)) e0 e1).symm
  exact rows_at m c t y0 y1 _ rfl

/-- and their factors. -/
theorem final_factors (y : S8192x1.Idx) : (Launch.dats m 0 c).arrAt 5 cfg0.N y = factor fun k => X m c (ix2 (y 0) k) := by
  refine congrFun ((Launch.dats m 0 c).arrAt_eq_of_covers 5 (fun y : S8192x1.Idx => factor fun k => X m c (ix2 (y 0) k)) (by decide +kernel) fun t hf y => ?_) y
  have hN : t.val < 64 := lt_of_lt_of_eq t.isLt (show cfg0.N = 64 from N_0)
  blk_simp
  rw [Launch.after5]
  idx_vars y
  have e0 : ((cfg0.win 5).blk t).view.emb (ix2 y0 y1) 0 = (⟨t.val / 4 * 512 + y0.val, by omega⟩ : Fin 8192) := by
    refine Fin.ext ?_
    blk_simp [index5 t]
  refine Eq.trans ?_ (congrArg (fun r : Fin 8192 => factor fun k => X m c (ix2 r k)) e0).symm
  obtain rfl : y1 = 0 := Subsingleton.elim _ _
  exact factors_at m c t y0 _ rfl

/-- The launch with each array named. -/
theorem run (ρ : Dev nD → PrngReg) : θ_run defs (onTc (τ := τ) (main (F := Ideal))) ⟨m, fun _ => 0, ρ⟩ fun r => ∀ c : Dev nD,
      r.2.mem ((c : Thread nD τ).loc main_v0_0) = (Launch.dats m 0 c).arrAt 3 cfg0.N
      ∧ r.2.mem ((c : Thread nD τ).loc main_v0_1) = (Launch.dats m 0 c).arrAt 4 cfg0.N
      ∧ r.2.mem ((c : Thread nD τ).loc main_v0_2) = (Launch.dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      (h c).1 4,
      (h c).1 5,
      ((h c).1 0).trans (((Launch.dats m 0 c).arrAt_in 0 rfl _).trans ((Launch.A_eq m c 0).trans (V_main_arg0 m c))),
      ((h c).1 1).trans (((Launch.dats m 0 c).arrAt_in 1 rfl _).trans ((Launch.A_eq m c 1).trans (V_main_arg1 m c))),
      ((h c).1 2).trans (((Launch.dats m 0 c).arrAt_in 2 rfl _).trans ((Launch.A_eq m c 2).trans (V_main_arg2 m c)))⟩)
    (Launch.run m ρ)

end Cert.MlpUpIdeal.Rows

namespace Cert.MlpUpRefIdeal.Reading

open Cert.MlpUpRefIdeal Cert.MlpUpRefIdeal.Gen Cert.MlpUpRefIdeal.Read Idealize.ShloMosaic
open Cert.Norm

variable (x0 : (⟨S8192x1024, .f32⟩ : BufTy).Contents (Elt Ideal)) (x1 : (⟨S1x1024, .f32⟩ : BufTy).Contents (Elt Ideal))
  (x2 : (⟨S1024x4096, .bf16⟩ : BufTy).Contents (Elt Ideal))

/-- The factors of the rows, wherever the reference computes them; -/
theorem factor_at (r : Fin 8192) : val_main_v8 x0 (ix2 r 0) = factor fun k => x0 (ix2 r k) := by
  pointwise [val_main_v8, val_main_v7, val_main_v6, val_main_v5, val_main_v4, val_main_v3, val_main_v2, val_main_v1, val_main_cst, val_main_cst_0, val_main_cst_1, factor, power, width, small]

/-- once more for its third result. -/
theorem third_at (r : Fin 8192) : val_main_v23 x0 (ix2 r 0) = factor fun k => x0 (ix2 r k) := by
  pointwise [val_main_v23, val_main_v22, val_main_v21, val_main_v20, val_main_v19, val_main_v18, val_main_v17, val_main_v16, val_main_cst_2, val_main_cst_3, val_main_cst_4, factor, power, width, small]

/-- The normalised rows, -/
theorem normed_at (r : Fin 8192) (k : Fin 1024) : val_main_v12 x0 x1 (ix2 r k) = Cert.MlpUpIdeal.Rows.normed x0 x1 r k := by
  pointwise [val_main_v12, val_main_v11, val_main_v10, val_main_v9, factor_at, Cert.MlpUpIdeal.Rows.normed]

theorem rows_at (r : Fin 8192) (k : Fin 1024) : val_main_v15 x0 x1 (ix2 r k) = Cert.MlpUpIdeal.Rows.normed x0 x1 r k := by
  pointwise [val_main_v15, normed_at]

/-- and the product. -/
theorem product_at (r : Fin 8192) (n : Fin 4096) : val_main_v14 x0 x1 x2 (ix2 r n) = Cert.MlpUpIdeal.Rows.value x0 x1 x2 r n := by
  pointwise [val_main_v14, val_main_v13, val_main_v0, normed_at, Cert.MlpUpIdeal.Rows.value]

end Cert.MlpUpRefIdeal.Reading

namespace Cert.Proof.MlpUp

open Idealize.ShloMosaic Idealize.SL.Sem

theorem frame_kernel : Cert.quiescent_MlpUp := fun m ρ _ => Cert.MlpUp.Launch.frame m ρ
theorem frame_ideal : Cert.quiescent_MlpUpIdeal := fun m ρ _ => Cert.MlpUpIdeal.Launch.frame m ρ

/-- The reference runs on the host alone: it takes no semaphore. -/
theorem frame_reference : Cert.quiescent_MlpUpRefIdeal := fun m ρ _ =>
  (θ_run Cert.MlpUpRefIdeal.defs _ _).mono
    (fun r h => ⟨fun c => (h c).2.2.2, sem_eq_zero_of_no_sems (by decide) r.2⟩)
    (Cert.MlpUpRefIdeal.Value.run (F := Ideal) m ρ)

theorem preserves : Cert.preserves_MlpUp_MlpUpIdeal := trivial

/-- THE VALUE CLAIM: every result of the kernel is the reference's. -/
theorem algebraic : Cert.algebraic_MlpUpIdeal_MlpUpRefIdeal := by
  intro m g m' g' _ hagree
  refine ⟨fun c y => Cert.MlpUpIdeal.Rows.value (Cert.MlpUpIdeal.Rows.X m c) (Cert.MlpUpIdeal.Rows.G m c) (Cert.MlpUpIdeal.Rows.W m c) (y 0) (y 1),
    fun c y => Cert.MlpUpIdeal.Rows.normed (Cert.MlpUpIdeal.Rows.X m c) (Cert.MlpUpIdeal.Rows.G m c) (y 0) (y 1),
    fun c y => Cert.Norm.factor fun k => Cert.MlpUpIdeal.Rows.X m c (ix2 (y 0) k), ?_, ?_⟩
  · exact (θ_run Cert.MlpUpIdeal.defs _ _).mono (fun r h c => ⟨(h c).1.trans (funext (Cert.MlpUpIdeal.Rows.final_product m c)), (h c).2.1.trans (funext (Cert.MlpUpIdeal.Rows.final_rows m c)), (h c).2.2.1.trans (funext (Cert.MlpUpIdeal.Rows.final_factors m c)), (h c).2.2.2⟩)
      (Cert.MlpUpIdeal.Rows.run m g)
  · refine (θ_run Cert.MlpUpRefIdeal.defs _ _).mono (fun r h c => ⟨(h c).1.trans ?_, (h c).2.1.trans ?_, (h c).2.2.1.trans ?_, (h c).2.2.2⟩) (Cert.MlpUpRefIdeal.Value.run (F := Ideal) m' g')
    · obtain ⟨a0, a1, a2⟩ := hagree c
      refine (Cert.MlpUpRefIdeal.Read.val_main_v14_eq _ _ _).trans (funext fun y => ?_)
      rw [a0, a1, a2]
      idx_vars y
      exact Cert.MlpUpRefIdeal.Reading.product_at _ _ _ y0 y1
    · obtain ⟨a0, a1, a2⟩ := hagree c
      refine (Cert.MlpUpRefIdeal.Read.val_main_v15_eq _ _).trans (funext fun y => ?_)
      rw [a0, a1]
      idx_vars y
      exact Cert.MlpUpRefIdeal.Reading.rows_at _ _ y0 y1
    · obtain ⟨a0, a1, a2⟩ := hagree c
      refine (Cert.MlpUpRefIdeal.Read.val_main_v23_eq _).trans (funext fun y => ?_)
      rw [a0]
      idx_vars y
      obtain rfl : y1 = 0 := Subsingleton.elim _ _
      exact Cert.MlpUpRefIdeal.Reading.third_at _ y0

end Cert.Proof.MlpUp

end
-- ==== Proof.OwnMlpDown.lean ====
module

public import proofs.«01_k».proof.Defs
public import proofs.«01_k».proof.Proof.Gen.MlpDown.Frame
public import proofs.«01_k».proof.Proof.Gen.MlpDownIdeal.Value
public import proofs.«01_k».proof.Proof.Gen.MlpDownRefIdeal.Run
public import proofs.«01_k».proof.Proof.Gen.MlpDownRefIdeal.Read
public import Idealize.ShloMosaic.Lib.Pipeline.ValueKit
public import Idealize.ShloMosaic.Lib.Pipeline.ReadBack
public import Idealize.ShloMosaic.Lib.Quiescent

/-! The MLP's second product added to the residual: the kernel sums over four blocks of 1024 columns, the reference over the 4096 columns. -/

@[expose] public section

set_option maxRecDepth 16384

noncomputable section

namespace Cert.MlpDownIdeal.Product

open Cert.MlpDownIdeal Cert.MlpDownIdeal.Gen Idealize.ShloMosaic Idealize.ShloMosaic.TcCoe Idealize.SL.Sem
open Idealize.ShloMosaic.Pipeline (Dat)

/-- The activation of the MLP. -/
def relu2 (h : EReal) : EReal := max h 0 * max h 0

/-- What one block of columns adds to an entry. -/
def part (a : FVec Ideal S512x1024 .bf16) (w : FVec Ideal S1024x1024 .bf16) (r : Fin 512) (n : Fin 1024) : EReal :=
  ∑ k : Fin 1024, relu2 (a (ix2 r k)) * w (ix2 k n)

/-- What the kernel stores: what the block held and the block's product. -/
theorem stored_at (v : FVec Ideal S512x1024 .f32) (a : FVec Ideal S512x1024 .bf16) (w : FVec Ideal S1024x1024 .bf16) (r : Fin 512) (n : Fin 1024) :
    k0_pay1 (F := Ideal) v a w (ix2 r n) = v (ix2 r n) + part a w r n := by
  pointwise [k0_pay1]
  rfl

variable (m : (ℓ : Loc nD τ sig) → Buf (Elt Ideal) ℓ) (c : Dev nD)

/-- The product's rows, -/
abbrev A : FVec Ideal S8192x4096 .bf16 := m ((c : Thread nD τ).loc main_arg0)
/-- its weight -/
abbrev W : FVec Ideal S4096x1024 .bf16 := m ((c : Thread nD τ).loc main_arg1)
/-- and the residual's rows. -/
abbrev R : FVec Ideal S8192x1024 .f32 := m ((c : Thread nD τ).loc main_arg2)

/-- The residual plus the product, at an entry. -/
def value (a : FVec Ideal S8192x4096 .bf16) (w : FVec Ideal S4096x1024 .bf16) (x : FVec Ideal S8192x1024 .f32) (r : Fin 8192) (n : Fin 1024) : EReal :=
  x (ix2 r n) + ∑ k : Fin 4096, relu2 (a (ix2 r k)) * w (ix2 k n)

/-- The blocks a grid point reads and the one it writes. -/
theorem index0 : ∀ t : Fin cfg0.N, win0_0.index t = ![t.val / 4, t.val % 4] := (by decide +kernel : ∀ t : Fin grid0.N, win0_0.index t = ![t.val / 4, t.val % 4])
theorem index1 : ∀ t : Fin cfg0.N, win0_1.index t = ![t.val % 4, 0] := (by decide +kernel : ∀ t : Fin grid0.N, win0_1.index t = ![t.val % 4, 0])
theorem index2 : ∀ t : Fin cfg0.N, win0_2.index t = ![t.val / 4, 0] := (by decide +kernel : ∀ t : Fin grid0.N, win0_2.index t = ![t.val / 4, 0])
theorem index3 : ∀ t : Fin cfg0.N, win0_3.index t = ![t.val / 4, 0] := (by decide +kernel : ∀ t : Fin grid0.N, win0_3.index t = ![t.val / 4, 0])

/-- The residual enters at the first block of a run. -/
def entering (v : FVec Ideal S512x1024 .f32) (n : Nat) (i : S512x1024.Idx) : EReal := if n = 0 then v i else 0

/-- What a grid point contributes: the first block of a run brings the residual too. -/
def term (t : Fin cfg0.N) (i : S512x1024.Idx) : EReal :=
  entering (iblk m c 2 t) (t.val % 4) i + part (iblk m c 0 t) (iblk m c 1 t) (i 0) (i 1)

/-- The first block of a run starts the sum, -/
theorem reset (t : Fin cfg0.N) (h : t.val % 4 = 0) (i : S512x1024.Idx) :
    outsAt0 m c t.val t.isLt i = 0 + term m c t i := by
  rw [outsAt0_A m c t h, zero_add, term, entering, if_pos h]
  frame_out
  idx_vars i
  exact stored_at _ _ _ i0 i1

/-- and each later block adds to it. -/
theorem step (t : Fin cfg0.N) (h : ¬t.val % 4 = 0) (i : S512x1024.Idx) :
    outsAt0 m c t.val t.isLt i = outsAt0 m c (t.val - 1) (Nat.lt_of_le_of_lt (Nat.sub_le _ _) t.isLt) i + term m c t i := by
  rw [outsAt0_B m c t h, term, entering, if_neg h, zero_add]
  frame_out
  idx_vars i
  exact stored_at _ _ _ i0 i1

theorem iblk0 (t : Fin cfg0.N) (r : Fin 512) (k : Fin 1024) (r' : Fin 8192) (k' : Fin 4096) (hr : r'.val = t.val / 4 * 512 + r.val)
    (hk : k'.val = t.val % 4 * 1024 + k.val) : iblk m c 0 t (ix2 r k) = A m c (ix2 r' k') := by
  blk_ext [iblk, V, index0 t, hr, hk]

theorem iblk1 (t : Fin cfg0.N) (k n : Fin 1024) (k' : Fin 4096) (hk : k'.val = t.val % 4 * 1024 + k.val) :
    iblk m c 1 t (ix2 k n) = W m c (ix2 k' n) := by
  blk_ext [iblk, V, index1 t, hk]

theorem iblk2 (t : Fin cfg0.N) (r : Fin 512) (n : Fin 1024) (r' : Fin 8192) (hr : r'.val = t.val / 4 * 512 + r.val) :
    iblk m c 2 t (ix2 r n) = R m c (ix2 r' n) := by
  blk_ext [iblk, V, index2 t, hr]

/-- THE RESULT after the launch. -/
theorem final (y : S8192x1024.Idx) : (dats m 0 c).arrAt 3 cfg0.N y = value (A m c) (W m c) (R m c) (y 0) (y 1) := by
  refine congrFun ((dats m 0 c).arrAt_eq_of_covers 3 (fun y : S8192x1024.Idx => value (A m c) (W m c) (R m c) (y 0) (y 1)) (by decide +kernel) fun t hf y => ?_) y
  have ht := (flush0_3 t).mp hf
  have hN : t.val < 64 := lt_of_lt_of_eq t.isLt (show cfg0.N = 64 from N_0)
  blk_simp
  rw [after0_3, Pipeline.eq_sum_fin_of_reset_step_apply_of_flush (fun n h => outsAt0 m c n h) 4 (fun _ => 0) _
    (reset m c) (step m c) t ht _, zero_add]
  idx_vars y
  have e0 : ((cfg0.win 3).blk t).view.emb (ix2 y0 y1) 0 = (⟨t.val / 4 * 512 + y0.val, by omega⟩ : Fin 8192) := by
    refine Fin.ext ?_
    blk_simp [index3 t]
  have e1 : ((cfg0.win 3).blk t).view.emb (ix2 y0 y1) 1 = y1 := by
    refine Fin.ext ?_
    blk_simp [index3 t]
  refine Eq.trans ?_ (congrArg₂ (value (A m c) (W m c) (R m c)) e0 e1).symm
  simp only [term, entering]
  rw [Finset.sum_add_distrib]
  refine congrArg₂ (fun a b : EReal => a + b) ?_ ?_
  · rw [Fin.sum_univ_succ]
    rw [if_pos (by show (4 * (t.val / 4) + 0) % 4 = 0; omega), Finset.sum_eq_zero, add_zero]
    · exact iblk2 m c _ y0 y1 _ (by show t.val / 4 * 512 + y0.val = (4 * (t.val / 4) + 0) / 4 * 512 + y0.val; omega)
    · intro s _
      exact if_neg (by show ¬(4 * (t.val / 4) + (s.val + 1)) % 4 = 0; omega)
  simp only [part]
  refine Fin.sum_mul_add_congr fun s k hl => ?_
  have hq : (4 * (t.val / 4) + s.val) % 4 = s.val := by omega
  have hd : (4 * (t.val / 4) + s.val) / 4 = t.val / 4 := by omega
  refine congrArg₂ (fun a w : EReal => relu2 a * w) (iblk0 m c _ y0 k _ _ ?_ ?_) (iblk1 m c _ k y1 _ ?_)
  · show t.val / 4 * 512 + y0.val = (4 * (t.val / 4) + s.val) / 4 * 512 + y0.val
    rw [hd]
  · show s.val * 1024 + k.val = (4 * (t.val / 4) + s.val) % 4 * 1024 + k.val
    rw [hq]
  · show s.val * 1024 + k.val = (4 * (t.val / 4) + s.val) % 4 * 1024 + k.val
    rw [hq]

end Cert.MlpDownIdeal.Product

namespace Cert.MlpDownRefIdeal.Reading

open Cert.MlpDownRefIdeal Cert.MlpDownRefIdeal.Gen Cert.MlpDownRefIdeal.Read Idealize.ShloMosaic

variable (x0 : (⟨S8192x4096, .bf16⟩ : BufTy).Contents (Elt Ideal)) (x1 : (⟨S4096x1024, .bf16⟩ : BufTy).Contents (Elt Ideal)) (x2 : (⟨S8192x1024, .f32⟩ : BufTy).Contents (Elt Ideal))

/-- The reference's result, read at an entry. -/
theorem result_at (r : Fin 8192) (n : Fin 1024) :
    val_main_v5 x0 x1 x2 (ix2 r n) = Cert.MlpDownIdeal.Product.value x0 x1 x2 r n := by
  pointwise [val_main_v5, val_main_v4, val_main_v3, val_main_v2, val_main_v1, val_main_v0, val_main_call0_v0, val_main_call0_cst]
  rfl

end Cert.MlpDownRefIdeal.Reading

namespace Cert.Proof.MlpDown

open Idealize.ShloMosaic Idealize.SL.Sem

theorem frame_kernel : Cert.quiescent_MlpDown := fun m ρ _ => Cert.MlpDown.Gen.frame m ρ
theorem frame_ideal : Cert.quiescent_MlpDownIdeal := fun m ρ _ => Cert.MlpDownIdeal.Gen.frame m ρ

/-- The reference runs on the host alone: it takes no semaphore. -/
theorem frame_reference : Cert.quiescent_MlpDownRefIdeal := fun m ρ _ =>
  (θ_run Cert.MlpDownRefIdeal.defs _ _).mono
    (fun r h => ⟨fun c => (h c).2, sem_eq_zero_of_no_sems (by decide) r.2⟩)
    (Cert.MlpDownRefIdeal.Value.run (F := Ideal) m ρ)

theorem preserves : Cert.preserves_MlpDown_MlpDownIdeal := trivial

/-- THE VALUE CLAIM: the kernel's sum of residual and product is the reference's. -/
theorem algebraic : Cert.algebraic_MlpDownIdeal_MlpDownRefIdeal := by
  intro m g m' g' _ hagree
  refine ⟨fun c y => Cert.MlpDownIdeal.Product.value (Cert.MlpDownIdeal.Product.A m c) (Cert.MlpDownIdeal.Product.W m c) (Cert.MlpDownIdeal.Product.R m c) (y 0) (y 1), ?_, ?_⟩
  · exact (θ_run Cert.MlpDownIdeal.defs _ _).mono (fun r h c => ⟨(h c).1.trans (funext (Cert.MlpDownIdeal.Product.final m c)), (h c).2⟩)
      (Cert.MlpDownIdeal.Value.run_blocks (F := Ideal) m g)
  · refine (θ_run Cert.MlpDownRefIdeal.defs _ _).mono (fun r h c => ⟨(h c).1.trans ?_, (h c).2⟩) (Cert.MlpDownRefIdeal.Value.run (F := Ideal) m' g')
    obtain ⟨a0, a1, a2⟩ := hagree c
    refine (Cert.MlpDownRefIdeal.Read.val_main_v5_eq _ _ _).trans (funext fun y => ?_)
    rw [a0, a1, a2]
    idx_vars y
    exact Cert.MlpDownRefIdeal.Reading.result_at _ _ _ y0 y1

end Cert.Proof.MlpDown

end
-- ==== Proof.InProjIdealLaunch.lean ====
module

public import proofs.«01_k».proof.Proof.Gen.InProjIdeal.Frame
public import proofs.«01_k».proof.Proof.Gen.InProjIdeal.Skeleton
public import Idealize.ShloMosaic.Lib.Pipeline.FrameBody
public import Idealize.ShloMosaic.Lib.Pipeline.Frame
public import Idealize.ShloMosaic.Lib.Pipeline.TableIdle
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim

/-! What the body of this program leaves in its buffers at every grid point, and the launch from that: the normalised rows, their factors and the second product
    are stored at the first point of a run of 4 and kept over the rest of it; the product's block is stored at every point. -/

@[expose] public section

set_option maxRecDepth 16384

noncomputable section

namespace Cert.InProjIdeal.Launch

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The rows are normalised at the first point of a run. -/
theorem first_iff (t : Fin cfg0.N) : k0_cond1 (grid0.coords t) = 1#1 ↔ t.val % 4 = 0 := by
  have ht : t.val < 64 := Nat.lt_of_lt_of_eq t.isLt N_0
  have e1 : (grid0.coords t 1).val = t.val / 1 % 4 := Pipeline.Grid.coords_val t 1 (by decide) rfl
  simp only [k0_cond1, e1]
  word_cmp

set_option maxHeartbeats 1000000 in
/-- THE BODY at the first point of a run: it normalises the rows, stores them, their factors and the second product, and multiplies. -/
theorem run_first (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x128 .f32) (harg9 : arg9.IsWhole) (hc : k0_cond1 i = 1#1)
    (x0 : Vec F S512x1024 .f32) (x1 : Vec F S1x1024 .f32) (x2 : Vec F S1024x1024 .bf16) (x3 : Vec F S128x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay2 x0 x1) x2) ∗ owns (c : Thread nD τ) arg7 fullShare (k0_pay2 x0 x1) ∗ owns (c : Thread nD τ) arg8 fullShare (k0_pay1 x0) ∗ owns (c : Thread nD τ) arg9 fullShare (k0_pay3 x0 x1 x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, View.ld_unit_zero (S := S128x1024) hz2, harg2.read_unread, harg3.read_unread, harg4.read_unread, harg5.read_unread, harg6.read_unread, harg7.read_unread, harg8.read_unread, harg9.read_unread]
  isplitl [H5]
  · iexists _; isplitr
    swap; · iexact H5
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, View.ld_unit_zero (S := S128x1024) hz2, harg2.read_unread, harg3.read_unread, harg4.read_unread, harg5.read_unread, harg6.read_unread, harg7.read_unread, harg8.read_unread, harg9.read_unread]
  isplitl [H6]
  · iexists _; isplitr
    swap; · iexact H6
    ipureintro
    try sl_unfold_words
    rw [View.read_writes_eq_canon _ _ _ (View.cover_of_tiledL _ S512x1.size (by sl_kernel_rfl)), View.canon_unit_zero (S := S512x1) hz2]
    simp only [View.readCov_unit_zero (S := S512x1024) _ hz2, View.readAt_eq_ld, View.ld_unit_zero (S := S512x1024) hz2, View.ld_unit_zero (S := S1x1024) hz2, View.ld_unit_zero (S := S1024x1024) hz2, View.ld_unit_zero (S := S128x1024) hz2, harg2.read_unread, harg3.read_unread, harg4.read_unread, harg5.read_unread, harg6.read_unread, harg7.read_unread, harg8.read_unread, harg9.read_unread]
  iexists _; isplitr
  swap; · iexact H7
  ipureintro
  try sl_unfold_words
  rw [View.read_writes_eq_canon _ _ _ (View.cover_of_tiledL _ S512x128.size (by sl_kernel_rfl)), View.canon_unit_zero (S := S512x128) hz2]
  simp only [View.readCov_unit_zero (S := S512x1024) _ hz2, View.readAt_eq_ld, View.ld_unit_zero (S := S512x1024) hz2, View.ld_unit_zero (S := S1x1024) hz2, View.ld_unit_zero (S := S1024x1024) hz2, View.ld_unit_zero (S := S128x1024) hz2, harg2.read_unread, harg3.read_unread, harg4.read_unread, harg5.read_unread, harg6.read_unread, harg7.read_unread, harg8.read_unread, harg9.read_unread]

set_option maxHeartbeats 1000000 in
/-- THE BODY at any other point: it multiplies the normalised rows it finds. -/
theorem run_later (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1 .f32) (harg8 : arg8.IsWhole) (arg9 : Memref sig .tc .vmem S512x128 .f32) (harg9 : arg9.IsWhole) (hc : ¬k0_cond1 i = 1#1)
    (x0 : Vec F S512x1024 .f32) (x1 : Vec F S1x1024 .f32) (x2 : Vec F S1024x1024 .bf16) (x3 : Vec F S128x1024 .bf16) (y : Vec F S512x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 y x2) ∗ owns (c : Thread nD τ) arg7 fullShare y) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, View.ld_unit_zero (S := S128x1024) hz2, harg2.read_unread, harg3.read_unread, harg4.read_unread, harg5.read_unread, harg6.read_unread, harg7.read_unread, harg8.read_unread, harg9.read_unread]
  iexists _; isplitr; · ipureintro; exact harg7.read_unread _
  iexact H5

variable (m : (ℓ : Loc nD τ sig) → Buf (Elt F) ℓ) (ρ : Dev nD → PrngReg)

/-- The first point of a point's run. -/
def head (t : Fin cfg0.N) : Fin cfg0.N := ⟨4 * (t.val / 4), Nat.lt_of_le_of_lt (Nat.mul_div_le _ _) t.isLt⟩

theorem head_first (t : Fin cfg0.N) (h : t.val % 4 = 0) : head t = t := Fin.ext (by show 4 * (t.val / 4) = t.val; omega)

theorem head_later (t : Fin cfg0.N) (h : ¬t.val % 4 = 0) (hp : t.val - 1 < cfg0.N) : head ⟨t.val - 1, hp⟩ = head t :=
  Fin.ext (by show 4 * ((t.val - 1) / 4) = 4 * (t.val / 4); omega)

/-- The normalised rows and their factors, as the first point of the run stored them. -/
def rows (c : Dev nD) (t : Fin cfg0.N) : Vec F S512x1024 .bf16 := k0_pay2 (iblk m c 0 (head t)) (iblk m c 1 (head t))
def factors (c : Dev nD) (t : Fin cfg0.N) : Vec F S512x1 .f32 := k0_pay1 (iblk m c 0 (head t))
def second (c : Dev nD) (t : Fin cfg0.N) : Vec F S512x128 .f32 := k0_pay3 (iblk m c 0 (head t)) (iblk m c 1 (head t)) (iblk m c 3 (head t))

/-- What the buffers hold after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t) (iblk m c 2 t)
    | ⟨5, _⟩ => rows m c t
    | ⟨6, _⟩ => factors m c t
    | ⟨7, _⟩ => second m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (rows m c t) (iblk m c 2 t) := by dsimp only [dats]
theorem after5 (c : Dev nD) (t : Fin cfg0.N) : (dats m 0 c).after 5 t = rows m c t := by dsimp only [dats]
theorem after6 (c : Dev nD) (t : Fin cfg0.N) : (dats m 0 c).after 6 t = factors m c t := by dsimp only [dats]
theorem after7 (c : Dev nD) (t : Fin cfg0.N) : (dats m 0 c).after 7 t = second m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Output 5 is stored at the first point of a run alone. -/
theorem idle5 (t : Fin cfg0.N) : cfg0.idle 5 (grid0.coords t) = !(decide (t.val % 4 = 0)) := by
  show (!(k0_cond1 (grid0.coords t) == 1#1)) = _
  by_cases h : t.val % 4 = 0
  · rw [(first_iff t).mpr h, decide_eq_true h]; rfl
  · rw [decide_eq_false h, beq_false_of_ne fun e => h ((first_iff t).mp e)]

/-- So its buffer holds nothing stored at the first point of a run, and what that point stored at the others. -/
theorem fresh5 : ∀ n, n ≤ cfg0.N → cfg0.fresh 5 n = decide (n % 4 = 0) :=
  cfg0.fresh_tab 5 (fun n => decide (n % 4 = 0)) rfl fun t => by
    show decide ((t.val + 1) % 4 = 0) = ((cfg0.win 5).flush t || (cfg0.idle 5 (grid0.coords t) && decide (t.val % 4 = 0)))
    rw [idle5 t]
    by_cases h : t.val % 4 = 3
    · rw [(flush0_5 t).mpr h, decide_eq_true (by omega : (t.val + 1) % 4 = 0)]; rfl
    · rw [Bool.eq_false_iff.mpr fun e => h ((flush0_5 t).mp e), decide_eq_false (by omega : ¬(t.val + 1) % 4 = 0)]
      by_cases h0 : t.val % 4 = 0
      · rw [decide_eq_true h0]; rfl
      · rw [decide_eq_false h0]; rfl

theorem before5 (c : Dev nD) (t : Fin cfg0.N) (h : ¬t.val % 4 = 0) (d) : (dats m 0 c).before 5 t d = rows m c t := by
  rw [Dat.before_out_traj _ 5 rfl (fun _ _ => rfl) (fun s hs hi _ => ?_) t.val t rfl d,
    if_neg (by rw [fresh5 _ (Nat.le_of_lt t.isLt), decide_eq_false h]; exact Bool.false_ne_true), after5]
  · unfold rows; rw [head_later t h]
  · rw [after5, after5]
    unfold rows
    rw [head_later s (fun e => ?_)]
    rw [idle5 s, decide_eq_true e] at hi
    exact Bool.false_ne_true hi

/-- The body leaves it at that in every case. -/
theorem leaves5 (c : Dev nD) (t : Fin cfg0.N) :
    owns (c : Thread nD τ) (st0_5 t) fullShare ((dats m 0 c).after 5 t) ⊢ (dats m 0 c).leavesExact 5 t := by
  by_cases h : t.val % 4 = 0
  · have hi : cfg0.idle 5 (cfg0.grid.coords t) = false := by rw [show cfg0.idle 5 (cfg0.grid.coords t) = _ from idle5 t, decide_eq_true h]; rfl
    unfold Dat.leavesExact; rw [hi]
  · have hi : cfg0.idle 5 (cfg0.grid.coords t) = true := by rw [show cfg0.idle 5 (cfg0.grid.coords t) = _ from idle5 t, decide_eq_false h]; rfl
    by_cases hf : (cfg0.win 5).flush t = true
    · unfold Dat.leavesExact; rw [hi, hf]
    · rw [Dat.leavesExact_idle (dats m 0 c) 5 t hi (Bool.eq_false_iff.mpr hf)]
      iintro H
      iexists (dats m 0 c).after 5 t
      rw [before5 m c t h, after5]
      iexact H

/-- Output 6 is stored at the first point of a run alone. -/
theorem idle6 (t : Fin cfg0.N) : cfg0.idle 6 (grid0.coords t) = !(decide (t.val % 4 = 0)) := by
  show (!(k0_cond1 (grid0.coords t) == 1#1)) = _
  by_cases h : t.val % 4 = 0
  · rw [(first_iff t).mpr h, decide_eq_true h]; rfl
  · rw [decide_eq_false h, beq_false_of_ne fun e => h ((first_iff t).mp e)]

/-- So its buffer holds nothing stored at the first point of a run, and what that point stored at the others. -/
theorem fresh6 : ∀ n, n ≤ cfg0.N → cfg0.fresh 6 n = decide (n % 4 = 0) :=
  cfg0.fresh_tab 6 (fun n => decide (n % 4 = 0)) rfl fun t => by
    show decide ((t.val + 1) % 4 = 0) = ((cfg0.win 6).flush t || (cfg0.idle 6 (grid0.coords t) && decide (t.val % 4 = 0)))
    rw [idle6 t]
    by_cases h : t.val % 4 = 3
    · rw [(flush0_6 t).mpr h, decide_eq_true (by omega : (t.val + 1) % 4 = 0)]; rfl
    · rw [Bool.eq_false_iff.mpr fun e => h ((flush0_6 t).mp e), decide_eq_false (by omega : ¬(t.val + 1) % 4 = 0)]
      by_cases h0 : t.val % 4 = 0
      · rw [decide_eq_true h0]; rfl
      · rw [decide_eq_false h0]; rfl

theorem before6 (c : Dev nD) (t : Fin cfg0.N) (h : ¬t.val % 4 = 0) (d) : (dats m 0 c).before 6 t d = factors m c t := by
  rw [Dat.before_out_traj _ 6 rfl (fun _ _ => rfl) (fun s hs hi _ => ?_) t.val t rfl d,
    if_neg (by rw [fresh6 _ (Nat.le_of_lt t.isLt), decide_eq_false h]; exact Bool.false_ne_true), after6]
  · unfold factors; rw [head_later t h]
  · rw [after6, after6]
    unfold factors
    rw [head_later s (fun e => ?_)]
    rw [idle6 s, decide_eq_true e] at hi
    exact Bool.false_ne_true hi

/-- The body leaves it at that in every case. -/
theorem leaves6 (c : Dev nD) (t : Fin cfg0.N) :
    owns (c : Thread nD τ) (st0_6 t) fullShare ((dats m 0 c).after 6 t) ⊢ (dats m 0 c).leavesExact 6 t := by
  by_cases h : t.val % 4 = 0
  · have hi : cfg0.idle 6 (cfg0.grid.coords t) = false := by rw [show cfg0.idle 6 (cfg0.grid.coords t) = _ from idle6 t, decide_eq_true h]; rfl
    unfold Dat.leavesExact; rw [hi]
  · have hi : cfg0.idle 6 (cfg0.grid.coords t) = true := by rw [show cfg0.idle 6 (cfg0.grid.coords t) = _ from idle6 t, decide_eq_false h]; rfl
    by_cases hf : (cfg0.win 6).flush t = true
    · unfold Dat.leavesExact; rw [hi, hf]
    · rw [Dat.leavesExact_idle (dats m 0 c) 6 t hi (Bool.eq_false_iff.mpr hf)]
      iintro H
      iexists (dats m 0 c).after 6 t
      rw [before6 m c t h, after6]
      iexact H

/-- Output 7 is stored at the first point of a run alone. -/
theorem idle7 (t : Fin cfg0.N) : cfg0.idle 7 (grid0.coords t) = !(decide (t.val % 4 = 0)) := by
  show (!(k0_cond1 (grid0.coords t) == 1#1)) = _
  by_cases h : t.val % 4 = 0
  · rw [(first_iff t).mpr h, decide_eq_true h]; rfl
  · rw [decide_eq_false h, beq_false_of_ne fun e => h ((first_iff t).mp e)]

/-- So its buffer holds nothing stored at the first point of a run, and what that point stored at the others. -/
theorem fresh7 : ∀ n, n ≤ cfg0.N → cfg0.fresh 7 n = decide (n % 4 = 0) :=
  cfg0.fresh_tab 7 (fun n => decide (n % 4 = 0)) rfl fun t => by
    show decide ((t.val + 1) % 4 = 0) = ((cfg0.win 7).flush t || (cfg0.idle 7 (grid0.coords t) && decide (t.val % 4 = 0)))
    rw [idle7 t]
    by_cases h : t.val % 4 = 3
    · rw [(flush0_7 t).mpr h, decide_eq_true (by omega : (t.val + 1) % 4 = 0)]; rfl
    · rw [Bool.eq_false_iff.mpr fun e => h ((flush0_7 t).mp e), decide_eq_false (by omega : ¬(t.val + 1) % 4 = 0)]
      by_cases h0 : t.val % 4 = 0
      · rw [decide_eq_true h0]; rfl
      · rw [decide_eq_false h0]; rfl

theorem before7 (c : Dev nD) (t : Fin cfg0.N) (h : ¬t.val % 4 = 0) (d) : (dats m 0 c).before 7 t d = second m c t := by
  rw [Dat.before_out_traj _ 7 rfl (fun _ _ => rfl) (fun s hs hi _ => ?_) t.val t rfl d,
    if_neg (by rw [fresh7 _ (Nat.le_of_lt t.isLt), decide_eq_false h]; exact Bool.false_ne_true), after7]
  · unfold second; rw [head_later t h]
  · rw [after7, after7]
    unfold second
    rw [head_later s (fun e => ?_)]
    rw [idle7 s, decide_eq_true e] at hi
    exact Bool.false_ne_true hi

/-- The body leaves it at that in every case. -/
theorem leaves7 (c : Dev nD) (t : Fin cfg0.N) :
    owns (c : Thread nD τ) (st0_7 t) fullShare ((dats m 0 c).after 7 t) ⊢ (dats m 0 c).leavesExact 7 t := by
  by_cases h : t.val % 4 = 0
  · have hi : cfg0.idle 7 (cfg0.grid.coords t) = false := by rw [show cfg0.idle 7 (cfg0.grid.coords t) = _ from idle7 t, decide_eq_true h]; rfl
    unfold Dat.leavesExact; rw [hi]
  · have hi : cfg0.idle 7 (cfg0.grid.coords t) = true := by rw [show cfg0.idle 7 (cfg0.grid.coords t) = _ from idle7 t, decide_eq_false h]; rfl
    by_cases hf : (cfg0.win 7).flush t = true
    · unfold Dat.leavesExact; rw [hi, hf]
    · rw [Dat.leavesExact_idle (dats m 0 c) 7 t hi (Bool.eq_false_iff.mpr hf)]
      iintro H
      iexists (dats m 0 c).after 7 t
      rw [before7 m c t h, after7]
      iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    show (dats m 0 c).leavesExact 4 t = owns (c : Thread nD τ) (st0_4 t) fullShare ((dats m 0 c).after 4 t) from rfl,
    after0, after1, after2, after3, after4]
  by_cases h : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid0.coords t) _ _ _ _ _ _ _ _ _ _ _ _ _ _ _ _ ((first_iff t).mpr h) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · unfold rows; rw [head_first t h]; iexact H4
    isplitl [H5]; · iapply (leaves5 m c t); rw [after5]; unfold rows; rw [head_first t h]; iexact H5
    isplitl [H6]; · iapply (leaves6 m c t); rw [after6]; unfold factors; rw [head_first t h]; iexact H6
    iapply (leaves7 m c t); rw [after7]; unfold second; rw [head_first t h]; iexact H7
  · simp only [before5 m c t h, before6 m c t h, before7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c Set.univ (grid0.coords t) _ _ _ _ _ _ _ _ _ _ _ _ _ _ _ _ (fun e => h ((first_iff t).mp e)) (iblk m c 0 t) (iblk m c 1 t) (iblk m c 2 t) (iblk m c 3 t) (rows m c t) _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); rw [after5]; iexact H5
    isplitl [H6]; · iapply (leaves6 m c t); rw [after6]; iexact H6
    iapply (leaves7 m c t); rw [after7]; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH: every array ends at what its write-backs leave, every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- THE FRAME: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.InProjIdeal.Launch

end
-- ==== Proof.OwnInProj.lean ====
module

public import proofs.«01_k».proof.Defs
public import proofs.«01_k».proof.Proof.NormGrad
public import proofs.«01_k».proof.Proof.InProjLaunch
public import proofs.«01_k».proof.Proof.InProjIdealLaunch
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Quiescent

/-! The normalised rows, the product with the transposed weight and the second product: the kernel's blocks are the reference's entries. -/

@[expose] public section

set_option maxRecDepth 16384

noncomputable section

namespace Cert.InProjIdeal.Rows

open Cert.InProjIdeal Cert.InProjIdeal.Gen Idealize.ShloMosaic Idealize.ShloMosaic.TcCoe Idealize.SL.Sem
open Cert.Norm

/-- A normalised row, scaled by the gain, -/
def normed (x : FVec Ideal S8192x1024 .f32) (g : FVec Ideal S1x1024 .f32) (r : Fin 8192) (k : Fin 1024) : EReal :=
  x (ix2 r k) * (factor fun j => x (ix2 r j)) * g (ix2 0 k)

/-- and the product with it, at an entry. -/
def value (x : FVec Ideal S8192x1024 .f32) (g : FVec Ideal S1x1024 .f32) (w : FVec Ideal S4096x1024 .bf16) (r : Fin 8192) (n : Fin 4096) : EReal :=
  ∑ k : Fin 1024, normed x g r k * w (ix2 n k)

/-- The second product. -/
def value2 (x : FVec Ideal S8192x1024 .f32) (g : FVec Ideal S1x1024 .f32) (w : FVec Ideal S128x1024 .bf16) (r : Fin 8192) (n : Fin 128) : EReal :=
  ∑ k : Fin 1024, normed x g r k * w (ix2 n k)

/-- What the kernel stores: the factor of a row, -/
theorem factor_at (x : FVec Ideal S512x1024 .f32) (i : Fin 512) : Gen.k0_pay1 (F := Ideal) x (ix2 i 0) = factor fun k => x (ix2 i k) := by
  pointwise [k0_pay1, factor, power, width, small]

/-- the row, -/
theorem row_at (x : FVec Ideal S512x1024 .f32) (g : FVec Ideal S1x1024 .f32) (i : Fin 512) (k : Fin 1024) :
    Gen.k0_pay2 (F := Ideal) x g (ix2 i k) = x (ix2 i k) * (factor fun j => x (ix2 i j)) * g (ix2 0 k) := by
  pointwise [k0_pay2, factor_at]

/-- the product of rows with a block of the weight. -/
theorem product_at (y : FVec Ideal S512x1024 .bf16) (w : FVec Ideal S1024x1024 .bf16) (i : Fin 512) (n : Fin 1024) :
    k0_pay4 (F := Ideal) y w (ix2 i n) = ∑ k : Fin 1024, y (ix2 i k) * w (ix2 n k) := by
  pointwise [k0_pay4]

theorem second_at (x : FVec Ideal S512x1024 .f32) (g : FVec Ideal S1x1024 .f32) (w : FVec Ideal S128x1024 .bf16) (i : Fin 512) (n : Fin 128) :
    k0_pay3 (F := Ideal) x g w (ix2 i n) = ∑ k : Fin 1024, x (ix2 i k) * (factor fun j => x (ix2 i j)) * g (ix2 0 k) * w (ix2 n k) := by
  pointwise [k0_pay3, row_at]

variable (m : (ℓ : Loc nD τ sig) → Buf (Elt Ideal) ℓ) (c : Dev nD)

/-- The rows, the gain and the weights. -/
abbrev X : FVec Ideal S8192x1024 .f32 := m ((c : Thread nD τ).loc main_arg0)
abbrev G : FVec Ideal S1x1024 .f32 := m ((c : Thread nD τ).loc main_arg1)
abbrev W : FVec Ideal S4096x1024 .bf16 := m ((c : Thread nD τ).loc main_arg2)
abbrev W2 : FVec Ideal S128x1024 .bf16 := m ((c : Thread nD τ).loc main_arg3)

/-- The blocks a grid point reads and writes. -/
theorem index0 : ∀ t : Fin cfg0.N, win0_0.index t = ![t.val / 4, 0] := (by decide +kernel : ∀ t : Fin grid0.N, win0_0.index t = ![t.val / 4, 0])
theorem index1 : ∀ t : Fin cfg0.N, win0_1.index t = ![0, 0] := (by decide +kernel : ∀ t : Fin grid0.N, win0_1.index t = ![0, 0])
theorem index2 : ∀ t : Fin cfg0.N, win0_2.index t = ![t.val % 4, 0] := (by decide +kernel : ∀ t : Fin grid0.N, win0_2.index t = ![t.val % 4, 0])
theorem index3 : ∀ t : Fin cfg0.N, win0_3.index t = ![0, 0] := (by decide +kernel : ∀ t : Fin grid0.N, win0_3.index t = ![0, 0])
theorem index4 : ∀ t : Fin cfg0.N, win0_4.index t = ![t.val / 4, t.val % 4] := (by decide +kernel : ∀ t : Fin grid0.N, win0_4.index t = ![t.val / 4, t.val % 4])
theorem index5 : ∀ t : Fin cfg0.N, win0_5.index t = ![t.val / 4, 0] := (by decide +kernel : ∀ t : Fin grid0.N, win0_5.index t = ![t.val / 4, 0])
theorem index6 : ∀ t : Fin cfg0.N, win0_6.index t = ![t.val / 4, 0] := (by decide +kernel : ∀ t : Fin grid0.N, win0_6.index t = ![t.val / 4, 0])
theorem index7 : ∀ t : Fin cfg0.N, win0_7.index t = ![t.val / 4, 0] := (by decide +kernel : ∀ t : Fin grid0.N, win0_7.index t = ![t.val / 4, 0])

theorem iblk0 (t : Fin cfg0.N) (i : Fin 512) (k : Fin 1024) (r : Fin 8192) (hr : r.val = t.val / 4 * 512 + i.val) :
    iblk m c 0 t (ix2 i k) = X m c (ix2 r k) := by
  blk_ext [iblk, V, index0 t, hr]
theorem iblk1 (t : Fin cfg0.N) (k : Fin 1024) : iblk m c 1 t (ix2 0 k) = G m c (ix2 0 k) := by
  blk_ext [iblk, V, index1 t]
theorem iblk2 (t : Fin cfg0.N) (k n : Fin 1024) (n' : Fin 4096) (hn : n'.val = t.val % 4 * 1024 + n.val) :
    iblk m c 2 t (ix2 n k) = W m c (ix2 n' k) := by
  blk_ext [iblk, V, index2 t, hn]
theorem iblk3 (t : Fin cfg0.N) (n : Fin 128) (k : Fin 1024) : iblk m c 3 t (ix2 n k) = W2 m c (ix2 n k) := by
  blk_ext [iblk, V, index3 t]

/-- The first point of a run reads the same rows. -/
theorem head_rows (t : Fin cfg0.N) (i : Fin 512) (r : Fin 8192) (hr : r.val = t.val / 4 * 512 + i.val) :
    r.val = (Launch.head t).val / 4 * 512 + i.val := by
  have e : (Launch.head t).val / 4 = t.val / 4 := by show 4 * (t.val / 4) / 4 = t.val / 4; omega
  rw [e, hr]

theorem rows_at (t : Fin cfg0.N) (i : Fin 512) (k : Fin 1024) (r : Fin 8192) (hr : r.val = t.val / 4 * 512 + i.val) :
    Launch.rows m c t (ix2 i k) = normed (X m c) (G m c) r k := by
  have hx := fun j => iblk0 m c (Launch.head t) i j r (head_rows t i r hr)
  refine (row_at _ _ i k).trans ?_
  simp only [hx, iblk1 m c (Launch.head t) k]
  rfl

theorem factors_at (t : Fin cfg0.N) (i : Fin 512) (r : Fin 8192) (hr : r.val = t.val / 4 * 512 + i.val) :
    Launch.factors m c t (ix2 i 0) = factor fun k => X m c (ix2 r k) := by
  have hx := fun j => iblk0 m c (Launch.head t) i j r (head_rows t i r hr)
  refine (factor_at _ i).trans ?_
  simp only [hx]

theorem seconds_at (t : Fin cfg0.N) (i : Fin 512) (n : Fin 128) (r : Fin 8192) (hr : r.val = t.val / 4 * 512 + i.val) :
    Launch.second m c t (ix2 i n) = value2 (X m c) (G m c) (W2 m c) r n := by
  have hx := fun j => iblk0 m c (Launch.head t) i j r (head_rows t i r hr)
  have hg := fun k => iblk1 m c (Launch.head t) k
  have hw := fun k => iblk3 m c (Launch.head t) n k
  refine (second_at _ _ _ i n).trans ?_
  simp only [hx, hg, hw]
  rfl

/-- THE PRODUCT after the launch, -/
theorem final_product (y : S8192x4096.Idx) : (Launch.dats m 0 c).arrAt 4 cfg0.N y = value (X m c) (G m c) (W m c) (y 0) (y 1) := by
  refine congrFun ((Launch.dats m 0 c).arrAt_eq_of_covers 4 (fun y : S8192x4096.Idx => value (X m c) (G m c) (W m c) (y 0) (y 1)) (by decide +kernel) fun t hf y => ?_) y
  have hN : t.val < 64 := lt_of_lt_of_eq t.isLt (show cfg0.N = 64 from N_0)
  blk_simp
  rw [Launch.after4]
  idx_vars y
  have e0 : ((cfg0.win 4).blk t).view.emb (ix2 y0 y1) 0 = (⟨t.val / 4 * 512 + y0.val, by omega⟩ : Fin 8192) := by
    refine Fin.ext ?_
    blk_simp [index4 t]
  have e1 : ((cfg0.win 4).blk t).view.emb (ix2 y0 y1) 1 = (⟨t.val % 4 * 1024 + y1.val, by omega⟩ : Fin 4096) := by
    refine Fin.ext ?_
    blk_simp [index4 t]
  refine Eq.trans ?_ (congrArg₂ (value (X m c) (G m c) (W m c)) e0 e1).symm
  refine (product_at _ _ y0 y1).trans (Finset.sum_congr rfl fun k _ => ?_)
  exact congrArg₂ (fun a b : EReal => a * b) (rows_at m c t y0 k _ rfl) (iblk2 m c t k y1 _ rfl)

/-- the normalised rows, -/
theorem final_rows (y : S8192x1024.Idx) : (Launch.dats m 0 c).arrAt 5 cfg0.N y = normed (X m c) (G m c) (y 0) (y 1) := by
  refine congrFun ((Launch.dats m 0 c).arrAt_eq_of_covers 5 (fun y : S8192x1024.Idx => normed (X m c) (G m c) (y 0) (y 1)) (by decide +kernel) fun t hf y => ?_) y
  have hN : t.val < 64 := lt_of_lt_of_eq t.isLt (show cfg0.N = 64 from N_0)
  blk_simp
  rw [Launch.after5]
  idx_vars y
  have e0 : ((cfg0.win 5).blk t).view.emb (ix2 y0 y1) 0 = (⟨t.val / 4 * 512 + y0.val, by omega⟩ : Fin 8192) := by
    refine Fin.ext ?_
    blk_simp [index5 t]
  have e1 : ((cfg0.win 5).blk t).view.emb (ix2 y0 y1) 1 = y1 := by
    refine Fin.ext ?_
    blk_simp [index5 t]
  refine Eq.trans ?_ (congrArg₂ (normed (X m c) (G m c)) e0 e1).symm
  exact rows_at m c t y0 y1 _ rfl

/-- and their factors. -/
theorem final_factors (y : S8192x1.Idx) : (Launch.dats m 0 c).arrAt 6 cfg0.N y = factor fun k => X m c (ix2 (y 0) k) := by
  refine congrFun ((Launch.dats m 0 c).arrAt_eq_of_covers 6 (fun y : S8192x1.Idx => factor fun k => X m c (ix2 (y 0) k)) (by decide +kernel) fun t hf y => ?_) y
  have hN : t.val < 64 := lt_of_lt_of_eq t.isLt (show cfg0.N = 64 from N_0)
  blk_simp
  rw [Launch.after6]
  idx_vars y
  have e0 : ((cfg0.win 6).blk t).view.emb (ix2 y0 y1) 0 = (⟨t.val / 4 * 512 + y0.val, by omega⟩ : Fin 8192) := by
    refine Fin.ext ?_
    blk_simp [index6 t]
  refine Eq.trans ?_ (congrArg (fun r : Fin 8192 => factor fun k => X m c (ix2 r k)) e0).symm
  obtain rfl : y1 = 0 := Subsingleton.elim _ _
  exact factors_at m c t y0 _ rfl

/-- The second product. -/
theorem final_second (y : S8192x128.Idx) : (Launch.dats m 0 c).arrAt 7 cfg0.N y = value2 (X m c) (G m c) (W2 m c) (y 0) (y 1) := by
  refine congrFun ((Launch.dats m 0 c).arrAt_eq_of_covers 7 (fun y : S8192x128.Idx => value2 (X m c) (G m c) (W2 m c) (y 0) (y 1)) (by decide +kernel) fun t hf y => ?_) y
  have hN : t.val < 64 := lt_of_lt_of_eq t.isLt (show cfg0.N = 64 from N_0)
  blk_simp
  rw [Launch.after7]
  idx_vars y
  have e0 : ((cfg0.win 7).blk t).view.emb (ix2 y0 y1) 0 = (⟨t.val / 4 * 512 + y0.val, by omega⟩ : Fin 8192) := by
    refine Fin.ext ?_
    blk_simp [index7 t]
  have e1 : ((cfg0.win 7).blk t).view.emb (ix2 y0 y1) 1 = y1 := by
    refine Fin.ext ?_
    blk_simp [index7 t]
  refine Eq.trans ?_ (congrArg₂ (value2 (X m c) (G m c) (W2 m c)) e0 e1).symm
  exact seconds_at m c t y0 y1 _ rfl

/-- The launch with each array named. -/
theorem run (ρ : Dev nD → PrngReg) : θ_run defs (onTc (τ := τ) (main (F := Ideal))) ⟨m, fun _ => 0, ρ⟩ fun r => ∀ c : Dev nD,
      r.2.mem ((c : Thread nD τ).loc main_v0_0) = (Launch.dats m 0 c).arrAt 4 cfg0.N
      ∧ r.2.mem ((c : Thread nD τ).loc main_v0_1) = (Launch.dats m 0 c).arrAt 5 cfg0.N
      ∧ r.2.mem ((c : Thread nD τ).loc main_v0_2) = (Launch.dats m 0 c).arrAt 6 cfg0.N
      ∧ r.2.mem ((c : Thread nD τ).loc main_v0_3) = (Launch.dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      (h c).1 5,
      (h c).1 6,
      (h c).1 7,
      ((h c).1 0).trans (((Launch.dats m 0 c).arrAt_in 0 rfl _).trans ((Launch.A_eq m c 0).trans (V_main_arg0 m c))),
      ((h c).1 1).trans (((Launch.dats m 0 c).arrAt_in 1 rfl _).trans ((Launch.A_eq m c 1).trans (V_main_arg1 m c))),
      ((h c).1 2).trans (((Launch.dats m 0 c).arrAt_in 2 rfl _).trans ((Launch.A_eq m c 2).trans (V_main_arg2 m c))),
      ((h c).1 3).trans (((Launch.dats m 0 c).arrAt_in 3 rfl _).trans ((Launch.A_eq m c 3).trans (V_main_arg3 m c)))⟩)
    (Launch.run m ρ)

end Cert.InProjIdeal.Rows

namespace Cert.InProjRefIdeal.Reading

open Cert.InProjRefIdeal Cert.InProjRefIdeal.Gen Cert.InProjRefIdeal.Read Idealize.ShloMosaic
open Cert.Norm

variable (x0 : (⟨S8192x1024, .f32⟩ : BufTy).Contents (Elt Ideal)) (x1 : (⟨S1x1024, .f32⟩ : BufTy).Contents (Elt Ideal))
  (x2 : (⟨S4096x1024, .bf16⟩ : BufTy).Contents (Elt Ideal)) (x3 : (⟨S128x1024, .bf16⟩ : BufTy).Contents (Elt Ideal))

/-- The factors of the rows, wherever the reference computes them; -/
theorem factor_at (r : Fin 8192) : val_main_v9 x0 (ix2 r 0) = factor fun k => x0 (ix2 r k) := by
  pointwise [val_main_v9, val_main_v8, val_main_v7, val_main_v6, val_main_v5, val_main_v4, val_main_v3, val_main_v2, val_main_cst, val_main_cst_0, val_main_cst_1, factor, power, width, small]

/-- once more for its third result. -/
theorem third_at (r : Fin 8192) : val_main_v24 x0 (ix2 r 0) = factor fun k => x0 (ix2 r k) := by
  pointwise [val_main_v24, val_main_v23, val_main_v22, val_main_v21, val_main_v20, val_main_v19, val_main_v18, val_main_v17, val_main_cst_2, val_main_cst_3, val_main_cst_4, factor, power, width, small]

theorem factor_again_at (r : Fin 8192) : val_main_v32 x0 (ix2 r 0) = factor fun k => x0 (ix2 r k) := by
  pointwise [val_main_v32, val_main_v31, val_main_v30, val_main_v29, val_main_v28, val_main_v27, val_main_v26, val_main_v25, val_main_cst_5, val_main_cst_6, val_main_cst_7, factor, power, width, small]

/-- The normalised rows, -/
theorem normed_at (r : Fin 8192) (k : Fin 1024) : val_main_v13 x0 x1 (ix2 r k) = Cert.InProjIdeal.Rows.normed x0 x1 r k := by
  pointwise [val_main_v13, val_main_v12, val_main_v11, val_main_v10, factor_at, Cert.InProjIdeal.Rows.normed]

theorem rows_at (r : Fin 8192) (k : Fin 1024) : val_main_v16 x0 x1 (ix2 r k) = Cert.InProjIdeal.Rows.normed x0 x1 r k := by
  pointwise [val_main_v16, normed_at]

/-- and the product. -/
theorem product_at (r : Fin 8192) (n : Fin 4096) : val_main_v15 x0 x1 x2 (ix2 r n) = Cert.InProjIdeal.Rows.value x0 x1 x2 r n := by
  pointwise [val_main_v15, val_main_v14, val_main_v1, val_main_v0, normed_at, Cert.InProjIdeal.Rows.value]

theorem normed_again_at (r : Fin 8192) (k : Fin 1024) : val_main_v36 x0 x1 (ix2 r k) = Cert.InProjIdeal.Rows.normed x0 x1 r k := by
  pointwise [val_main_v36, val_main_v35, val_main_v34, val_main_v33, factor_again_at, Cert.InProjIdeal.Rows.normed]

/-- The second product. -/
theorem second_at (r : Fin 8192) (n : Fin 128) : val_main_v39 x0 x1 x3 (ix2 r n) = Cert.InProjIdeal.Rows.value2 x0 x1 x3 r n := by
  pointwise [val_main_v39, val_main_v38, val_main_v37, normed_again_at, Cert.InProjIdeal.Rows.value2]

end Cert.InProjRefIdeal.Reading

namespace Cert.Proof.InProj

open Idealize.ShloMosaic Idealize.SL.Sem

theorem frame_kernel : Cert.quiescent_InProj := fun m ρ _ => Cert.InProj.Launch.frame m ρ
theorem frame_ideal : Cert.quiescent_InProjIdeal := fun m ρ _ => Cert.InProjIdeal.Launch.frame m ρ

/-- The reference runs on the host alone: it takes no semaphore. -/
theorem frame_reference : Cert.quiescent_InProjRefIdeal := fun m ρ _ =>
  (θ_run Cert.InProjRefIdeal.defs _ _).mono
    (fun r h => ⟨fun c => (h c).2.2.2.2, sem_eq_zero_of_no_sems (by decide) r.2⟩)
    (Cert.InProjRefIdeal.Value.run (F := Ideal) m ρ)

theorem preserves : Cert.preserves_InProj_InProjIdeal := trivial

/-- THE VALUE CLAIM: every result of the kernel is the reference's. -/
theorem algebraic : Cert.algebraic_InProjIdeal_InProjRefIdeal := by
  intro m g m' g' _ hagree
  refine ⟨fun c y => Cert.InProjIdeal.Rows.value (Cert.InProjIdeal.Rows.X m c) (Cert.InProjIdeal.Rows.G m c) (Cert.InProjIdeal.Rows.W m c) (y 0) (y 1),
    fun c y => Cert.InProjIdeal.Rows.normed (Cert.InProjIdeal.Rows.X m c) (Cert.InProjIdeal.Rows.G m c) (y 0) (y 1),
    fun c y => Cert.Norm.factor fun k => Cert.InProjIdeal.Rows.X m c (ix2 (y 0) k),
    fun c y => Cert.InProjIdeal.Rows.value2 (Cert.InProjIdeal.Rows.X m c) (Cert.InProjIdeal.Rows.G m c) (Cert.InProjIdeal.Rows.W2 m c) (y 0) (y 1), ?_, ?_⟩
  · exact (θ_run Cert.InProjIdeal.defs _ _).mono (fun r h c => ⟨(h c).1.trans (funext (Cert.InProjIdeal.Rows.final_product m c)), (h c).2.1.trans (funext (Cert.InProjIdeal.Rows.final_rows m c)), (h c).2.2.1.trans (funext (Cert.InProjIdeal.Rows.final_factors m c)), (h c).2.2.2.1.trans (funext (Cert.InProjIdeal.Rows.final_second m c)), (h c).2.2.2.2⟩)
      (Cert.InProjIdeal.Rows.run m g)
  · refine (θ_run Cert.InProjRefIdeal.defs _ _).mono (fun r h c => ⟨(h c).1.trans ?_, (h c).2.1.trans ?_, (h c).2.2.1.trans ?_, (h c).2.2.2.1.trans ?_, (h c).2.2.2.2⟩) (Cert.InProjRefIdeal.Value.run (F := Ideal) m' g')
    · obtain ⟨a0, a1, a2, a3⟩ := hagree c
      refine (Cert.InProjRefIdeal.Read.val_main_v15_eq _ _ _).trans (funext fun y => ?_)
      rw [a0, a1, a2]
      idx_vars y
      exact Cert.InProjRefIdeal.Reading.product_at _ _ _ y0 y1
    · obtain ⟨a0, a1, a2, a3⟩ := hagree c
      refine (Cert.InProjRefIdeal.Read.val_main_v16_eq _ _).trans (funext fun y => ?_)
      rw [a0, a1]
      idx_vars y
      exact Cert.InProjRefIdeal.Reading.rows_at _ _ y0 y1
    · obtain ⟨a0, a1, a2, a3⟩ := hagree c
      refine (Cert.InProjRefIdeal.Read.val_main_v24_eq _).trans (funext fun y => ?_)
      rw [a0]
      idx_vars y
      obtain rfl : y1 = 0 := Subsingleton.elim _ _
      exact Cert.InProjRefIdeal.Reading.third_at _ y0
    · obtain ⟨a0, a1, a2, a3⟩ := hagree c
      refine (Cert.InProjRefIdeal.Read.val_main_v39_eq _ _ _).trans (funext fun y => ?_)
      rw [a0, a1, a3]
      idx_vars y
      exact Cert.InProjRefIdeal.Reading.second_at _ _ _ y0 y1

end Cert.Proof.InProj

end
-- ==== Proof.OwnOutProj.lean ====
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.ReadBack
public import Idealize.ShloMosaic.Lib.Quiescent

/-! The mixer's output product added to the residual: the kernel sums over two blocks of 1024 columns, the reference over the 2048 columns. -/

@[expose] public section

set_option maxRecDepth 16384

noncomputable section

namespace Cert.OutProjIdeal.Product

open Cert.OutProjIdeal Cert.OutProjIdeal.Gen Idealize.ShloMosaic Idealize.ShloMosaic.TcCoe Idealize.SL.Sem
open Idealize.ShloMosaic.Pipeline (Dat)

/-- What one block of columns adds to an entry. -/
def part (a : FVec Ideal S512x1024 .bf16) (w : FVec Ideal S1024x1024 .bf16) (r : Fin 512) (n : Fin 1024) : EReal :=
  ∑ k : Fin 1024, a (ix2 r k) * w (ix2 k n)

/-- What the kernel stores: what the block held and the block's product. -/
theorem stored_at (v : FVec Ideal S512x1024 .f32) (a : FVec Ideal S512x1024 .bf16) (w : FVec Ideal S1024x1024 .bf16) (r : Fin 512) (n : Fin 1024) :
    k0_pay1 (F := Ideal) v a w (ix2 r n) = v (ix2 r n) + part a w r n := by
  pointwise [k0_pay1]
  rfl

variable (m : (ℓ : Loc nD τ sig) → Buf (Elt Ideal) ℓ) (c : Dev nD)

/-- The product's rows, -/
abbrev A : FVec Ideal S8192x2048 .bf16 := m ((c : Thread nD τ).loc main_arg0)
/-- its weight -/
abbrev W : FVec Ideal S2048x1024 .bf16 := m ((c : Thread nD τ).loc main_arg1)
/-- and the residual's rows. -/
abbrev R : FVec Ideal S8192x1024 .f32 := m ((c : Thread nD τ).loc main_arg2)

/-- The residual plus the product, at an entry. -/
def value (a : FVec Ideal S8192x2048 .bf16) (w : FVec Ideal S2048x1024 .bf16) (x : FVec Ideal S8192x1024 .f32) (r : Fin 8192) (n : Fin 1024) : EReal :=
  x (ix2 r n) + ∑ k : Fin 2048, a (ix2 r k) * w (ix2 k n)

/-- The blocks a grid point reads and the one it writes. -/
theorem index0 : ∀ t : Fin cfg0.N, win0_0.index t = ![t.val / 2, t.val % 2] := (by decide +kernel : ∀ t : Fin grid0.N, win0_0.index t = ![t.val / 2, t.val % 2])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, 0] := (by decide +kernel : ∀ t : Fin grid0.N, win0_2.index t = ![t.val / 2, 0])
theorem index3 : ∀ t : Fin cfg0.N, win0_3.index t = ![t.val / 2, 0] := (by decide +kernel : ∀ t : Fin grid0.N, win0_3.index t = ![t.val / 2, 0])

/-- The residual enters at the first block of a run. -/
def entering (v : FVec Ideal S512x1024 .f32) (n : Nat) (i : S512x1024.Idx) : EReal := if n = 0 then v i else 0

/-- What a grid point contributes: the first block of a run brings the residual too. -/
def term (t : Fin cfg0.N) (i : S512x1024.Idx) : EReal :=
  entering (iblk m c 2 t) (t.val % 2) i + part (iblk m c 0 t) (iblk m c 1 t) (i 0) (i 1)

/-- The first block of a run starts the sum, -/
theorem reset (t : Fin cfg0.N) (h : t.val % 2 = 0) (i : S512x1024.Idx) :
    outsAt0 m c t.val t.isLt i = 0 + term m c t i := by
  rw [outsAt0_A m c t h, zero_add, term, entering, if_pos h]
  frame_out
  idx_vars i
  exact stored_at _ _ _ i0 i1

/-- and each later block adds to it. -/
theorem step (t : Fin cfg0.N) (h : ¬t.val % 2 = 0) (i : S512x1024.Idx) :
    outsAt0 m c t.val t.isLt i = outsAt0 m c (t.val - 1) (Nat.lt_of_le_of_lt (Nat.sub_le _ _) t.isLt) i + term m c t i := by
  rw [outsAt0_B m c t h, term, entering, if_neg h, zero_add]
  frame_out
  idx_vars i
  exact stored_at _ _ _ i0 i1

theorem iblk0 (t : Fin cfg0.N) (r : Fin 512) (k : Fin 1024) (r' : Fin 8192) (k' : Fin 2048) (hr : r'.val = t.val / 2 * 512 + r.val)
    (hk : k'.val = t.val % 2 * 1024 + k.val) : iblk m c 0 t (ix2 r k) = A m c (ix2 r' k') := by
  blk_ext [iblk, V, index0 t, hr, hk]

theorem iblk1 (t : Fin cfg0.N) (k n : Fin 1024) (k' : Fin 2048) (hk : k'.val = t.val % 2 * 1024 + k.val) :
    iblk m c 1 t (ix2 k n) = W m c (ix2 k' n) := by
  blk_ext [iblk, V, index1 t, hk]

theorem iblk2 (t : Fin cfg0.N) (r : Fin 512) (n : Fin 1024) (r' : Fin 8192) (hr : r'.val = t.val / 2 * 512 + r.val) :
    iblk m c 2 t (ix2 r n) = R m c (ix2 r' n) := by
  blk_ext [iblk, V, index2 t, hr]

/-- THE RESULT after the launch. -/
theorem final (y : S8192x1024.Idx) : (dats m 0 c).arrAt 3 cfg0.N y = value (A m c) (W m c) (R m c) (y 0) (y 1) := by
  refine congrFun ((dats m 0 c).arrAt_eq_of_covers 3 (fun y : S8192x1024.Idx => value (A m c) (W m c) (R m c) (y 0) (y 1)) (by decide +kernel) fun t hf y => ?_) y
  have ht := (flush0_3 t).mp hf
  have hN : t.val < 32 := lt_of_lt_of_eq t.isLt (show cfg0.N = 32 from N_0)
  blk_simp
  rw [after0_3, Pipeline.eq_sum_fin_of_reset_step_apply_of_flush (fun n h => outsAt0 m c n h) 2 (fun _ => 0) _
    (reset m c) (step m c) t ht _, zero_add]
  idx_vars y
  have e0 : ((cfg0.win 3).blk t).view.emb (ix2 y0 y1) 0 = (⟨t.val / 2 * 512 + y0.val, by omega⟩ : Fin 8192) := by
    refine Fin.ext ?_
    blk_simp [index3 t]
  have e1 : ((cfg0.win 3).blk t).view.emb (ix2 y0 y1) 1 = y1 := by
    refine Fin.ext ?_
    blk_simp [index3 t]
  refine Eq.trans ?_ (congrArg₂ (value (A m c) (W m c) (R m c)) e0 e1).symm
  simp only [term, entering]
  rw [Finset.sum_add_distrib]
  refine congrArg₂ (fun a b : EReal => a + b) ?_ ?_
  · rw [Fin.sum_univ_succ]
    rw [if_pos (by show (2 * (t.val / 2) + 0) % 2 = 0; omega), Finset.sum_eq_zero, add_zero]
    · exact iblk2 m c _ y0 y1 _ (by show t.val / 2 * 512 + y0.val = (2 * (t.val / 2) + 0) / 2 * 512 + y0.val; omega)
    · intro s _
      exact if_neg (by show ¬(2 * (t.val / 2) + (s.val + 1)) % 2 = 0; omega)
  simp only [part]
  refine Fin.sum_mul_add_congr fun s k hl => ?_
  have hq : (2 * (t.val / 2) + s.val) % 2 = s.val := by omega
  have hd : (2 * (t.val / 2) + s.val) / 2 = t.val / 2 := by omega
  refine congrArg₂ (fun a w : EReal => a * w) (iblk0 m c _ y0 k _ _ ?_ ?_) (iblk1 m c _ k y1 _ ?_)
  · show t.val / 2 * 512 + y0.val = (2 * (t.val / 2) + s.val) / 2 * 512 + y0.val
    rw [hd]
  · show s.val * 1024 + k.val = (2 * (t.val / 2) + s.val) % 2 * 1024 + k.val
    rw [hq]
  · show s.val * 1024 + k.val = (2 * (t.val / 2) + s.val) % 2 * 1024 + k.val
    rw [hq]

end Cert.OutProjIdeal.Product

namespace Cert.OutProjRefIdeal.Reading

open Cert.OutProjRefIdeal Cert.OutProjRefIdeal.Gen Cert.OutProjRefIdeal.Read Idealize.ShloMosaic

variable (x0 : (⟨S8192x2048, .bf16⟩ : BufTy).Contents (Elt Ideal)) (x1 : (⟨S2048x1024, .bf16⟩ : BufTy).Contents (Elt Ideal)) (x2 : (⟨S8192x1024, .f32⟩ : BufTy).Contents (Elt Ideal))

/-- The reference's result, read at an entry. -/
theorem result_at (r : Fin 8192) (n : Fin 1024) :
    val_main_v3 x0 x1 x2 (ix2 r n) = Cert.OutProjIdeal.Product.value x0 x1 x2 r n := by
  pointwise [val_main_v3, val_main_v2, val_main_v1, val_main_v0]
  rfl

end Cert.OutProjRefIdeal.Reading

namespace Cert.Proof.OutProj

open Idealize.ShloMosaic Idealize.SL.Sem

theorem frame_kernel : Cert.quiescent_OutProj := fun m ρ _ => Cert.OutProj.Gen.frame m ρ
theorem frame_ideal : Cert.quiescent_OutProjIdeal := fun m ρ _ => Cert.OutProjIdeal.Gen.frame m ρ

/-- The reference runs on the host alone: it takes no semaphore. -/
theorem frame_reference : Cert.quiescent_OutProjRefIdeal := fun m ρ _ =>
  (θ_run Cert.OutProjRefIdeal.defs _ _).mono
    (fun r h => ⟨fun c => (h c).2, sem_eq_zero_of_no_sems (by decide) r.2⟩)
    (Cert.OutProjRefIdeal.Value.run (F := Ideal) m ρ)

theorem preserves : Cert.preserves_OutProj_OutProjIdeal := trivial

/-- THE VALUE CLAIM: the kernel's sum of residual and product is the reference's. -/
theorem algebraic : Cert.algebraic_OutProjIdeal_OutProjRefIdeal := by
  intro m g m' g' _ hagree
  refine ⟨fun c y => Cert.OutProjIdeal.Product.value (Cert.OutProjIdeal.Product.A m c) (Cert.OutProjIdeal.Product.W m c) (Cert.OutProjIdeal.Product.R m c) (y 0) (y 1), ?_, ?_⟩
  · exact (θ_run Cert.OutProjIdeal.defs _ _).mono (fun r h c => ⟨(h c).1.trans (funext (Cert.OutProjIdeal.Product.final m c)), (h c).2⟩)
      (Cert.OutProjIdeal.Value.run_blocks (F := Ideal) m g)
  · refine (θ_run Cert.OutProjRefIdeal.defs _ _).mono (fun r h c => ⟨(h c).1.trans ?_, (h c).2⟩) (Cert.OutProjRefIdeal.Value.run (F := Ideal) m' g')
    obtain ⟨a0, a1, a2⟩ := hagree c
    refine (Cert.OutProjRefIdeal.Read.val_main_v3_eq _ _ _).trans (funext fun y => ?_)
    rw [a0, a1, a2]
    idx_vars y
    exact Cert.OutProjRefIdeal.Reading.result_at _ _ _ y0 y1

end Cert.Proof.OutProj

end
-- ==== Proof.QProjIdealLaunch.lean ====
module

public import proofs.«01_k».proof.Proof.Gen.QProjIdeal.Frame
public import proofs.«01_k».proof.Proof.Gen.QProjIdeal.Skeleton
public import Idealize.ShloMosaic.Lib.Pipeline.FrameBody
public import Idealize.ShloMosaic.Lib.Pipeline.Frame
public import Idealize.ShloMosaic.Lib.Pipeline.TableIdle
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim

/-! What the body of this program leaves in its buffers at every grid point, and the launch from that: the normalised rows and their factors
    are stored at the first point of a run of 1 and kept over the rest of it; the product's block is stored at every point. -/

@[expose] public section

set_option maxRecDepth 16384

noncomputable section

namespace Cert.QProjIdeal.Launch

open Cert.QProjIdeal Cert.QProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The rows are normalised at the first point of a run. -/
theorem first_iff (t : Fin cfg0.N) : k0_cond1 (grid0.coords t) = 1#1 ↔ t.val % 1 = 0 := by
  have ht : t.val < 16 := Nat.lt_of_lt_of_eq t.isLt N_0
  have e1 : (grid0.coords t 1).val = t.val / 1 % 1 := Pipeline.Grid.coords_val t 1 (by decide) rfl
  simp only [k0_cond1, e1]
  word_cmp

set_option maxHeartbeats 1000000 in
/-- THE BODY at the first point of a run: it normalises the rows, stores them and their factors, and multiplies. -/
theorem run_first (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1 .f32) (harg7 : arg7.IsWhole) (hc : k0_cond1 i = 1#1)
    (x0 : Vec F S512x1024 .f32) (x1 : Vec F S1x1024 .f32) (x2 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x1) x2) ∗ owns (c : Thread nD τ) arg6 fullShare (k0_pay2 x0 x1) ∗ owns (c : Thread nD τ) arg7 fullShare (k0_pay1 x0)) -∗ K ⟨⟩))
      ⊢ wp frame (wpE (defs₀ (F := F)) Variants.none c none) E (cc0_q_proj i arg2 harg2 arg3 harg3 arg4 harg4 arg5 harg5 arg6 harg6 arg7 harg7) K := by
  simp only [cc0_q_proj_eq_skeleton]; unfold cc0_q_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]
  isplitl [H4]
  · iexists _; isplitr
    swap; · iexact H4
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]
  iexists _; isplitr
  swap; · iexact H5
  ipureintro
  try sl_unfold_words
  rw [View.read_writes_eq_canon _ _ _ (View.cover_of_tiledL _ S512x1.size (by sl_kernel_rfl)), View.canon_unit_zero (S := S512x1) hz2]
  simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]

set_option maxHeartbeats 1000000 in
/-- THE BODY at any other point: it multiplies the normalised rows it finds. -/
theorem run_later (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1 .f32) (harg7 : arg7.IsWhole) (hc : ¬k0_cond1 i = 1#1)
    (x0 : Vec F S512x1024 .f32) (x1 : Vec F S1x1024 .f32) (x2 : Vec F S1024x1024 .bf16) (y : Vec F S512x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (k0_pay3 y x2) ∗ owns (c : Thread nD τ) arg6 fullShare y) -∗ K ⟨⟩))
      ⊢ wp frame (wpE (defs₀ (F := F)) Variants.none c none) E (cc0_q_proj i arg2 harg2 arg3 harg3 arg4 harg4 arg5 harg5 arg6 harg6 arg7 harg7) K := by
  simp only [cc0_q_proj_eq_skeleton]; unfold cc0_q_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (View.cover_of_tiledL _ S512x1024.size (by sl_kernel_rfl)), View.canon_unit_zero (S := S512x1024) hz2]
    simp only [View.readCov_unit_zero (S := S512x1024) _ hz2, View.readAt_eq_ld, View.ld_unit_zero (S := S512x1024) hz2, View.ld_unit_zero (S := S1x1024) hz2, View.ld_unit_zero (S := S1024x1024) hz2, harg2.read_unread, harg3.read_unread, harg4.read_unread, harg5.read_unread, harg6.read_unread, harg7.read_unread]
  iexists _; isplitr; · ipureintro; exact harg6.read_unread _
  iexact H4

variable (m : (ℓ : Loc nD τ sig) → Buf (Elt F) ℓ) (ρ : Dev nD → PrngReg)

/-- The first point of a point's run. -/
def head (t : Fin cfg0.N) : Fin cfg0.N := ⟨1 * (t.val / 1), Nat.lt_of_le_of_lt (Nat.mul_div_le _ _) t.isLt⟩

theorem head_first (t : Fin cfg0.N) (h : t.val % 1 = 0) : head t = t := Fin.ext (by show 1 * (t.val / 1) = t.val; omega)

theorem head_later (t : Fin cfg0.N) (h : ¬t.val % 1 = 0) (hp : t.val - 1 < cfg0.N) : head ⟨t.val - 1, hp⟩ = head t :=
  Fin.ext (by show 1 * ((t.val - 1) / 1) = 1 * (t.val / 1); omega)

/-- The normalised rows and their factors, as the first point of the run stored them. -/
def rows (c : Dev nD) (t : Fin cfg0.N) : Vec F S512x1024 .bf16 := k0_pay2 (iblk m c 0 (head t)) (iblk m c 1 (head t))
def factors (c : Dev nD) (t : Fin cfg0.N) : Vec F S512x1 .f32 := k0_pay1 (iblk m c 0 (head t))

/-- What the buffers hold after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (rows m c t) (iblk m c 2 t)
    | ⟨4, _⟩ => rows m c t
    | ⟨5, _⟩ => factors m c t

  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (rows m c t) (iblk m c 2 t) := by dsimp only [dats]
theorem after4 (c : Dev nD) (t : Fin cfg0.N) : (dats m 0 c).after 4 t = rows m c t := by dsimp only [dats]
theorem after5 (c : Dev nD) (t : Fin cfg0.N) : (dats m 0 c).after 5 t = factors m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Output 4 is stored at the first point of a run alone. -/
theorem idle4 (t : Fin cfg0.N) : cfg0.idle 4 (grid0.coords t) = !(decide (t.val % 1 = 0)) := by
  show (!(k0_cond1 (grid0.coords t) == 1#1)) = _
  by_cases h : t.val % 1 = 0
  · rw [(first_iff t).mpr h, decide_eq_true h]; rfl
  · rw [decide_eq_false h, beq_false_of_ne fun e => h ((first_iff t).mp e)]

/-- So its buffer holds nothing stored at the first point of a run, and what that point stored at the others. -/
theorem fresh4 : ∀ n, n ≤ cfg0.N → cfg0.fresh 4 n = decide (n % 1 = 0) :=
  cfg0.fresh_tab 4 (fun n => decide (n % 1 = 0)) rfl fun t => by
    show decide ((t.val + 1) % 1 = 0) = ((cfg0.win 4).flush t || (cfg0.idle 4 (grid0.coords t) && decide (t.val % 1 = 0)))
    rw [idle4 t]
    by_cases h : t.val % 1 = 0
    · rw [flush0_4 t, decide_eq_true (by omega : (t.val + 1) % 1 = 0)]; rfl
    · exact absurd (Nat.mod_one _) h

theorem before4 (c : Dev nD) (t : Fin cfg0.N) (h : ¬t.val % 1 = 0) (d) : (dats m 0 c).before 4 t d = rows m c t := by
  rw [Dat.before_out_traj _ 4 rfl (fun _ _ => rfl) (fun s hs hi _ => ?_) t.val t rfl d,
    if_neg (by rw [fresh4 _ (Nat.le_of_lt t.isLt), decide_eq_false h]; exact Bool.false_ne_true), after4]
  · unfold rows; rw [head_later t h]
  · rw [after4, after4]
    unfold rows
    rw [head_later s (fun e => ?_)]
    rw [idle4 s, decide_eq_true e] at hi
    exact Bool.false_ne_true hi

/-- The body leaves it at that in every case. -/
theorem leaves4 (c : Dev nD) (t : Fin cfg0.N) :
    owns (c : Thread nD τ) (st0_4 t) fullShare ((dats m 0 c).after 4 t) ⊢ (dats m 0 c).leavesExact 4 t := by
  by_cases h : t.val % 1 = 0
  · have hi : cfg0.idle 4 (cfg0.grid.coords t) = false := by rw [show cfg0.idle 4 (cfg0.grid.coords t) = _ from idle4 t, decide_eq_true h]; rfl
    unfold Dat.leavesExact; rw [hi]
  · have hi : cfg0.idle 4 (cfg0.grid.coords t) = true := by rw [show cfg0.idle 4 (cfg0.grid.coords t) = _ from idle4 t, decide_eq_false h]; rfl
    by_cases hf : (cfg0.win 4).flush t = true
    · unfold Dat.leavesExact; rw [hi, hf]
    · rw [Dat.leavesExact_idle (dats m 0 c) 4 t hi (Bool.eq_false_iff.mpr hf)]
      iintro H
      iexists (dats m 0 c).after 4 t
      rw [before4 m c t h, after4]
      iexact H

/-- Output 5 is stored at the first point of a run alone. -/
theorem idle5 (t : Fin cfg0.N) : cfg0.idle 5 (grid0.coords t) = !(decide (t.val % 1 = 0)) := by
  show (!(k0_cond1 (grid0.coords t) == 1#1)) = _
  by_cases h : t.val % 1 = 0
  · rw [(first_iff t).mpr h, decide_eq_true h]; rfl
  · rw [decide_eq_false h, beq_false_of_ne fun e => h ((first_iff t).mp e)]

/-- So its buffer holds nothing stored at the first point of a run, and what that point stored at the others. -/
theorem fresh5 : ∀ n, n ≤ cfg0.N → cfg0.fresh 5 n = decide (n % 1 = 0) :=
  cfg0.fresh_tab 5 (fun n => decide (n % 1 = 0)) rfl fun t => by
    show decide ((t.val + 1) % 1 = 0) = ((cfg0.win 5).flush t || (cfg0.idle 5 (grid0.coords t) && decide (t.val % 1 = 0)))
    rw [idle5 t]
    by_cases h : t.val % 1 = 0
    · rw [flush0_5 t, decide_eq_true (by omega : (t.val + 1) % 1 = 0)]; rfl
    · exact absurd (Nat.mod_one _) h

theorem before5 (c : Dev nD) (t : Fin cfg0.N) (h : ¬t.val % 1 = 0) (d) : (dats m 0 c).before 5 t d = factors m c t := by
  rw [Dat.before_out_traj _ 5 rfl (fun _ _ => rfl) (fun s hs hi _ => ?_) t.val t rfl d,
    if_neg (by rw [fresh5 _ (Nat.le_of_lt t.isLt), decide_eq_false h]; exact Bool.false_ne_true), after5]
  · unfold factors; rw [head_later t h]
  · rw [after5, after5]
    unfold factors
    rw [head_later s (fun e => ?_)]
    rw [idle5 s, decide_eq_true e] at hi
    exact Bool.false_ne_true hi

/-- The body leaves it at that in every case. -/
theorem leaves5 (c : Dev nD) (t : Fin cfg0.N) :
    owns (c : Thread nD τ) (st0_5 t) fullShare ((dats m 0 c).after 5 t) ⊢ (dats m 0 c).leavesExact 5 t := by
  by_cases h : t.val % 1 = 0
  · have hi : cfg0.idle 5 (cfg0.grid.coords t) = false := by rw [show cfg0.idle 5 (cfg0.grid.coords t) = _ from idle5 t, decide_eq_true h]; rfl
    unfold Dat.leavesExact; rw [hi]
  · have hi : cfg0.idle 5 (cfg0.grid.coords t) = true := by rw [show cfg0.idle 5 (cfg0.grid.coords t) = _ from idle5 t, decide_eq_false h]; rfl
    by_cases hf : (cfg0.win 5).flush t = true
    · unfold Dat.leavesExact; rw [hi, hf]
    · rw [Dat.leavesExact_idle (dats m 0 c) 5 t hi (Bool.eq_false_iff.mpr hf)]
      iintro H
      iexists (dats m 0 c).after 5 t
      rw [before5 m c t h, after5]
      iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    after0, after1, after2, after3]
  by_cases h : t.val % 1 = 0
  · iintro ⟨HΦ, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ ((first_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · unfold rows; rw [head_first t h]; iexact H3
    isplitl [H4]; · iapply (leaves4 m c t); rw [after4]; unfold rows; rw [head_first t h]; iexact H4
    iapply (leaves5 m c t); rw [after5]; unfold factors; rw [head_first t h]; iexact H5
  · simp only [before4 m c t h, before5 m c t h]
    iintro ⟨HΦ, Ho, ⟨%d0, H0⟩, ⟨%d1, H1⟩, ⟨%d2, H2⟩, ⟨%d3, H3⟩, ⟨%d4, H4⟩, ⟨%d5, H5⟩⟩
    iapply (run_later c Set.univ (grid0.coords t) _ _ _ _ _ _ _ _ _ _ _ _ (fun e => h ((first_iff t).mp e)) (iblk m c 0 t) (iblk m c 1 t) (iblk m c 2 t) (rows m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves4 m c t); rw [after4]; iexact H4
    iapply (leaves5 m c t); rw [after5]; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH: every array ends at what its write-backs leave, every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- THE FRAME: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.QProjIdeal.Launch

end
-- ==== Proof.OwnQProj.lean ====
module

public import proofs.«01_k».proof.Defs
public import proofs.«01_k».proof.Proof.NormGrad
public import proofs.«01_k».proof.Proof.QProjLaunch
public import proofs.«01_k».proof.Proof.QProjIdealLaunch
public import proofs.«01_k».proof.Proof.Gen.QProjRefIdeal.Run
public import proofs.«01_k».proof.Proof.Gen.QProjRefIdeal.Read
public import Idealize.ShloMosaic.Lib.Pipeline.ValueKit
public import Idealize.ShloMosaic.Lib.Pipeline.ReadBack
public import Idealize.ShloMosaic.Lib.Quiescent

/-! The normalised rows and the queries: the kernel's blocks are the reference's entries. -/

@[expose] public section

set_option maxRecDepth 16384

noncomputable section

namespace Cert.QProjIdeal.Rows

open Cert.QProjIdeal Cert.QProjIdeal.Gen Idealize.ShloMosaic Idealize.ShloMosaic.TcCoe Idealize.SL.Sem
open Cert.Norm

/-- A normalised row, scaled by the gain, -/
def normed (x : FVec Ideal S8192x1024 .f32) (g : FVec Ideal S1x1024 .f32) (r : Fin 8192) (k : Fin 1024) : EReal :=
  x (ix2 r k) * (factor fun j => x (ix2 r j)) * g (ix2 0 k)

/-- and the product with it, at an entry. -/
def value (x : FVec Ideal S8192x1024 .f32) (g : FVec Ideal S1x1024 .f32) (w : FVec Ideal S1024x1024 .bf16) (r : Fin 8192) (n : Fin 1024) : EReal :=
  ∑ k : Fin 1024, normed x g r k * w (ix2 k n)

/-- What the kernel stores: the factor of a row, -/
theorem factor_at (x : FVec Ideal S512x1024 .f32) (i : Fin 512) : Gen.k0_pay1 (F := Ideal) x (ix2 i 0) = factor fun k => x (ix2 i k) := by
  pointwise [k0_pay1, factor, power, width, small]

/-- the row, -/
theorem row_at (x : FVec Ideal S512x1024 .f32) (g : FVec Ideal S1x1024 .f32) (i : Fin 512) (k : Fin 1024) :
    Gen.k0_pay2 (F := Ideal) x g (ix2 i k) = x (ix2 i k) * (factor fun j => x (ix2 i j)) * g (ix2 0 k) := by
  pointwise [k0_pay2, factor_at]

/-- the product of rows with a block of the weight. -/
theorem product_at (y : FVec Ideal S512x1024 .bf16) (w : FVec Ideal S1024x1024 .bf16) (i : Fin 512) (n : Fin 1024) :
    k0_pay3 (F := Ideal) y w (ix2 i n) = ∑ k : Fin 1024, y (ix2 i k) * w (ix2 k n) := by
  pointwise [k0_pay3]

variable (m : (ℓ : Loc nD τ sig) → Buf (Elt Ideal) ℓ) (c : Dev nD)

/-- The rows, the gain and the weight. -/
abbrev X : FVec Ideal S8192x1024 .f32 := m ((c : Thread nD τ).loc main_arg0)
abbrev G : FVec Ideal S1x1024 .f32 := m ((c : Thread nD τ).loc main_arg1)
abbrev W : FVec Ideal S1024x1024 .bf16 := m ((c : Thread nD τ).loc main_arg2)

/-- The blocks a grid point reads and writes. -/
theorem index0 : ∀ t : Fin cfg0.N, win0_0.index t = ![t.val / 1, 0] := (by decide +kernel : ∀ t : Fin grid0.N, win0_0.index t = ![t.val / 1, 0])
theorem index1 : ∀ t : Fin cfg0.N, win0_1.index t = ![0, 0] := (by decide +kernel : ∀ t : Fin grid0.N, win0_1.index t = ![0, 0])
theorem index2 : ∀ t : Fin cfg0.N, win0_2.index t = ![0, t.val % 1] := (by decide +kernel : ∀ t : Fin grid0.N, win0_2.index t = ![0, t.val % 1])
theorem index3 : ∀ t : Fin cfg0.N, win0_3.index t = ![t.val / 1, t.val % 1] := (by decide +kernel : ∀ t : Fin grid0.N, win0_3.index t = ![t.val / 1, t.val % 1])
theorem index4 : ∀ t : Fin cfg0.N, win0_4.index t = ![t.val / 1, 0] := (by decide +kernel : ∀ t : Fin grid0.N, win0_4.index t = ![t.val / 1, 0])
theorem index5 : ∀ t : Fin cfg0.N, win0_5.index t = ![t.val / 1, 0] := (by decide +kernel : ∀ t : Fin grid0.N, win0_5.index t = ![t.val / 1, 0])

theorem iblk0 (t : Fin cfg0.N) (i : Fin 512) (k : Fin 1024) (r : Fin 8192) (hr : r.val = t.val / 1 * 512 + i.val) :
    iblk m c 0 t (ix2 i k) = X m c (ix2 r k) := by
  blk_ext [iblk, V, index0 t, hr]
theorem iblk1 (t : Fin cfg0.N) (k : Fin 1024) : iblk m c 1 t (ix2 0 k) = G m c (ix2 0 k) := by
  blk_ext [iblk, V, index1 t]
theorem iblk2 (t : Fin cfg0.N) (k n : Fin 1024) (n' : Fin 1024) (hn : n'.val = t.val % 1 * 1024 + n.val) :
    iblk m c 2 t (ix2 k n) = W m c (ix2 k n') := by
  blk_ext [iblk, V, index2 t, hn]

/-- The first point of a run reads the same rows. -/
theorem head_rows (t : Fin cfg0.N) (i : Fin 512) (r : Fin 8192) (hr : r.val = t.val / 1 * 512 + i.val) :
    r.val = (Launch.head t).val / 1 * 512 + i.val := by
  have e : (Launch.head t).val / 1 = t.val / 1 := by show 1 * (t.val / 1) / 1 = t.val / 1; omega
  rw [e, hr]

theorem rows_at (t : Fin cfg0.N) (i : Fin 512) (k : Fin 1024) (r : Fin 8192) (hr : r.val = t.val / 1 * 512 + i.val) :
    Launch.rows m c t (ix2 i k) = normed (X m c) (G m c) r k := by
  have hx := fun j => iblk0 m c (Launch.head t) i j r (head_rows t i r hr)
  refine (row_at _ _ i k).trans ?_
  simp only [hx, iblk1 m c (Launch.head t) k]
  rfl

theorem factors_at (t : Fin cfg0.N) (i : Fin 512) (r : Fin 8192) (hr : r.val = t.val / 1 * 512 + i.val) :
    Launch.factors m c t (ix2 i 0) = factor fun k => X m c (ix2 r k) := by
  have hx := fun j => iblk0 m c (Launch.head t) i j r (head_rows t i r hr)
  refine (factor_at _ i).trans ?_
  simp only [hx]

/-- THE PRODUCT after the launch, -/
theorem final_product (y : S8192x1024.Idx) : (Launch.dats m 0 c).arrAt 3 cfg0.N y = value (X m c) (G m c) (W m c) (y 0) (y 1) := by
  refine congrFun ((Launch.dats m 0 c).arrAt_eq_of_covers 3 (fun y : S8192x1024.Idx => value (X m c) (G m c) (W m c) (y 0) (y 1)) (by decide +kernel) fun t hf y => ?_) y
  have hN : t.val < 16 := lt_of_lt_of_eq t.isLt (show cfg0.N = 16 from N_0)
  blk_simp
  rw [Launch.after3]
  idx_vars y
  have e0 : ((cfg0.win 3).blk t).view.emb (ix2 y0 y1) 0 = (⟨t.val / 1 * 512 + y0.val, by omega⟩ : Fin 8192) := by
    refine Fin.ext ?_
    blk_simp [index3 t]
  have e1 : ((cfg0.win 3).blk t).view.emb (ix2 y0 y1) 1 = (⟨t.val % 1 * 1024 + y1.val, by omega⟩ : Fin 1024) := by
    refine Fin.ext ?_
    blk_simp [index3 t]
  refine Eq.trans ?_ (congrArg₂ (value (X m c) (G m c) (W m c)) e0 e1).symm
  refine (product_at _ _ y0 y1).trans (Finset.sum_congr rfl fun k _ => ?_)
  exact congrArg₂ (fun a b : EReal => a * b) (rows_at m c t y0 k _ rfl) (iblk2 m c t k y1 _ rfl)

/-- the normalised rows, -/
theorem final_rows (y : S8192x1024.Idx) : (Launch.dats m 0 c).arrAt 4 cfg0.N y = normed (X m c) (G m c) (y 0) (y 1) := by
  refine congrFun ((Launch.dats m 0 c).arrAt_eq_of_covers 4 (fun y : S8192x1024.Idx => normed (X m c) (G m c) (y 0) (y 1)) (by decide +kernel) fun t hf y => ?_) y
  have hN : t.val < 16 := lt_of_lt_of_eq t.isLt (show cfg0.N = 16 from N_0)
  blk_simp
  rw [Launch.after4]
  idx_vars y
  have e0 : ((cfg0.win 4).blk t).view.emb (ix2 y0 y1) 0 = (⟨t.val / 1 * 512 + y0.val, by omega⟩ : Fin 8192) := by
    refine Fin.ext ?_
    blk_simp [index4 t]
  have e1 : ((cfg0.win 4).blk t).view.emb (ix2 y0 y1) 1 = y1 := by
    refine Fin.ext ?_
    blk_simp [index4 t]
  refine Eq.trans ?_ (congrArg₂ (normed (X m c) (G m c)) e0 e1).symm
  exact rows_at m c t y0 y1 _ rfl

/-- and their factors. -/
theorem final_factors (y : S8192x1.Idx) : (Launch.dats m 0 c).arrAt 5 cfg0.N y = factor fun k => X m c (ix2 (y 0) k) := by
  refine congrFun ((Launch.dats m 0 c).arrAt_eq_of_covers 5 (fun y : S8192x1.Idx => factor fun k => X m c (ix2 (y 0) k)) (by decide +kernel) fun t hf y => ?_) y
  have hN : t.val < 16 := lt_of_lt_of_eq t.isLt (show cfg0.N = 16 from N_0)
  blk_simp
  rw [Launch.after5]
  idx_vars y
  have e0 : ((cfg0.win 5).blk t).view.emb (ix2 y0 y1) 0 = (⟨t.val / 1 * 512 + y0.val, by omega⟩ : Fin 8192) := by
    refine Fin.ext ?_
    blk_simp [index5 t]
  refine Eq.trans ?_ (congrArg (fun r : Fin 8192 => factor fun k => X m c (ix2 r k)) e0).symm
  obtain rfl : y1 = 0 := Subsingleton.elim _ _
  exact factors_at m c t y0 _ rfl

/-- The launch with each array named. -/
theorem run (ρ : Dev nD → PrngReg) : θ_run defs (onTc (τ := τ) (main (F := Ideal))) ⟨m, fun _ => 0, ρ⟩ fun r => ∀ c : Dev nD,
      r.2.mem ((c : Thread nD τ).loc main_v0_0) = (Launch.dats m 0 c).arrAt 3 cfg0.N
      ∧ r.2.mem ((c : Thread nD τ).loc main_v0_1) = (Launch.dats m 0 c).arrAt 4 cfg0.N
      ∧ r.2.mem ((c : Thread nD τ).loc main_v0_2) = (Launch.dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      (h c).1 4,
      (h c).1 5,
      ((h c).1 0).trans (((Launch.dats m 0 c).arrAt_in 0 rfl _).trans ((Launch.A_eq m c 0).trans (V_main_arg0 m c))),
      ((h c).1 1).trans (((Launch.dats m 0 c).arrAt_in 1 rfl _).trans ((Launch.A_eq m c 1).trans (V_main_arg1 m c))),
      ((h c).1 2).trans (((Launch.dats m 0 c).arrAt_in 2 rfl _).trans ((Launch.A_eq m c 2).trans (V_main_arg2 m c)))⟩)
    (Launch.run m ρ)

end Cert.QProjIdeal.Rows

namespace Cert.QProjRefIdeal.Reading

open Cert.QProjRefIdeal Cert.QProjRefIdeal.Gen Cert.QProjRefIdeal.Read Idealize.ShloMosaic
open Cert.Norm

variable (x0 : (⟨S8192x1024, .f32⟩ : BufTy).Contents (Elt Ideal)) (x1 : (⟨S1x1024, .f32⟩ : BufTy).Contents (Elt Ideal))
  (x2 : (⟨S1024x1024, .bf16⟩ : BufTy).Contents (Elt Ideal))

/-- The factors of the rows, wherever the reference computes them; -/
theorem factor_at (r : Fin 8192) : val_main_v8 x0 (ix2 r 0) = factor fun k => x0 (ix2 r k) := by
  pointwise [val_main_v8, val_main_v7, val_main_v6, val_main_v5, val_main_v4, val_main_v3, val_main_v2, val_main_v1, val_main_cst, val_main_cst_0, val_main_cst_1, factor, power, width, small]

/-- once more for its third result. -/
theorem third_at (r : Fin 8192) : val_main_v23 x0 (ix2 r 0) = factor fun k => x0 (ix2 r k) := by
  pointwise [val_main_v23, val_main_v22, val_main_v21, val_main_v20, val_main_v19, val_main_v18, val_main_v17, val_main_v16, val_main_cst_2, val_main_cst_3, val_main_cst_4, factor, power, width, small]

/-- The normalised rows, -/
theorem normed_at (r : Fin 8192) (k : Fin 1024) : val_main_v12 x0 x1 (ix2 r k) = Cert.QProjIdeal.Rows.normed x0 x1 r k := by
  pointwise [val_main_v12, val_main_v11, val_main_v10, val_main_v9, factor_at, Cert.QProjIdeal.Rows.normed]

theorem rows_at (r : Fin 8192) (k : Fin 1024) : val_main_v15 x0 x1 (ix2 r k) = Cert.QProjIdeal.Rows.normed x0 x1 r k := by
  pointwise [val_main_v15, normed_at]

/-- and the product. -/
theorem product_at (r : Fin 8192) (n : Fin 1024) : val_main_v14 x0 x1 x2 (ix2 r n) = Cert.QProjIdeal.Rows.value x0 x1 x2 r n := by
  pointwise [val_main_v14, val_main_v13, val_main_v0, normed_at, Cert.QProjIdeal.Rows.value]

end Cert.QProjRefIdeal.Reading

namespace Cert.Proof.QProj

open Idealize.ShloMosaic Idealize.SL.Sem

theorem frame_kernel : Cert.quiescent_QProj := fun m ρ _ => Cert.QProj.Launch.frame m ρ
theorem frame_ideal : Cert.quiescent_QProjIdeal := fun m ρ _ => Cert.QProjIdeal.Launch.frame m ρ

/-- The reference runs on the host alone: it takes no semaphore. -/
theorem frame_reference : Cert.quiescent_QProjRefIdeal := fun m ρ _ =>
  (θ_run Cert.QProjRefIdeal.defs _ _).mono
    (fun r h => ⟨fun c => (h c).2.2.2, sem_eq_zero_of_no_sems (by decide) r.2⟩)
    (Cert.QProjRefIdeal.Value.run (F := Ideal) m ρ)

theorem preserves : Cert.preserves_QProj_QProjIdeal := trivial

/-- THE VALUE CLAIM: every result of the kernel is the reference's. -/
theorem algebraic : Cert.algebraic_QProjIdeal_QProjRefIdeal := by
  intro m g m' g' _ hagree
  refine ⟨fun c y => Cert.QProjIdeal.Rows.value (Cert.QProjIdeal.Rows.X m c) (Cert.QProjIdeal.Rows.G m c) (Cert.QProjIdeal.Rows.W m c) (y 0) (y 1),
    fun c y => Cert.QProjIdeal.Rows.normed (Cert.QProjIdeal.Rows.X m c) (Cert.QProjIdeal.Rows.G m c) (y 0) (y 1),
    fun c y => Cert.Norm.factor fun k => Cert.QProjIdeal.Rows.X m c (ix2 (y 0) k), ?_, ?_⟩
  · exact (θ_run Cert.QProjIdeal.defs _ _).mono (fun r h c => ⟨(h c).1.trans (funext (Cert.QProjIdeal.Rows.final_product m c)), (h c).2.1.trans (funext (Cert.QProjIdeal.Rows.final_rows m c)), (h c).2.2.1.trans (funext (Cert.QProjIdeal.Rows.final_factors m c)), (h c).2.2.2⟩)
      (Cert.QProjIdeal.Rows.run m g)
  · refine (θ_run Cert.QProjRefIdeal.defs _ _).mono (fun r h c => ⟨(h c).1.trans ?_, (h c).2.1.trans ?_, (h c).2.2.1.trans ?_, (h c).2.2.2⟩) (Cert.QProjRefIdeal.Value.run (F := Ideal) m' g')
    · obtain ⟨a0, a1, a2⟩ := hagree c
      refine (Cert.QProjRefIdeal.Read.val_main_v14_eq _ _ _).trans (funext fun y => ?_)
      rw [a0, a1, a2]
      idx_vars y
      exact Cert.QProjRefIdeal.Reading.product_at _ _ _ y0 y1
    · obtain ⟨a0, a1, a2⟩ := hagree c
      refine (Cert.QProjRefIdeal.Read.val_main_v15_eq _ _).trans (funext fun y => ?_)
      rw [a0, a1]
      idx_vars y
      exact Cert.QProjRefIdeal.Reading.rows_at _ _ y0 y1
    · obtain ⟨a0, a1, a2⟩ := hagree c
      refine (Cert.QProjRefIdeal.Read.val_main_v23_eq _).trans (funext fun y => ?_)
      rw [a0]
      idx_vars y
      obtain rfl : y1 = 0 := Subsingleton.elim _ _
      exact Cert.QProjRefIdeal.Reading.third_at _ y0

end Cert.Proof.QProj

end
-- ==== Proof.OwnAttnOut.lean ====
module

public import proofs.«01_k».proof.Defs
public import proofs.«01_k».proof.Proof.Gen.AttnOut.Frame
public import proofs.«01_k».proof.Proof.Gen.AttnOutIdeal.Value
public import proofs.«01_k».proof.Proof.Gen.AttnOutRefIdeal.Run
public import proofs.«01_k».proof.Proof.Gen.AttnOutRefIdeal.Read
public import Idealize.ShloMosaic.Lib.Pipeline.ValueKit
public import Idealize.ShloMosaic.Lib.Pipeline.ReadBack
public import Idealize.ShloMosaic.Lib.Quiescent

/-! The attention's output product added to the residual, in blocks of 512 rows. -/

@[expose] public section

set_option maxRecDepth 16384

noncomputable section

namespace Cert.AttnOutIdeal.Product

open Cert.AttnOutIdeal Cert.AttnOutIdeal.Gen Idealize.ShloMosaic Idealize.ShloMosaic.TcCoe Idealize.SL.Sem
open Idealize.ShloMosaic.Pipeline (Dat)

/-- What one block of columns adds to an entry. -/
def part (a : FVec Ideal S512x1024 .bf16) (w : FVec Ideal S1024x1024 .bf16) (r : Fin 512) (n : Fin 1024) : EReal :=
  ∑ k : Fin 1024, a (ix2 r k) * w (ix2 k n)

/-- What the kernel stores: what the block held and the block's product. -/
theorem stored_at (v : FVec Ideal S512x1024 .f32) (a : FVec Ideal S512x1024 .bf16) (w : FVec Ideal S1024x1024 .bf16) (r : Fin 512) (n : Fin 1024) :
    k0_pay1 (F := Ideal) v a w (ix2 r n) = v (ix2 r n) + part a w r n := by
  pointwise [k0_pay1]
  rfl

variable (m : (ℓ : Loc nD τ sig) → Buf (Elt Ideal) ℓ) (c : Dev nD)

/-- The product's rows, -/
abbrev A : FVec Ideal S8192x1024 .bf16 := m ((c : Thread nD τ).loc main_arg0)
/-- its weight -/
abbrev W : FVec Ideal S1024x1024 .bf16 := m ((c : Thread nD τ).loc main_arg1)
/-- and the residual's rows. -/
abbrev R : FVec Ideal S8192x1024 .f32 := m ((c : Thread nD τ).loc main_arg2)

/-- The residual plus the product, at an entry. -/
def value (a : FVec Ideal S8192x1024 .bf16) (w : FVec Ideal S1024x1024 .bf16) (x : FVec Ideal S8192x1024 .f32) (r : Fin 8192) (n : Fin 1024) : EReal :=
  x (ix2 r n) + ∑ k : Fin 1024, a (ix2 r k) * w (ix2 k n)

/-- The blocks a grid point reads and the one it writes. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

theorem iblk0 (t : Fin cfg0.N) (r : Fin 512) (k : Fin 1024) (r' : Fin 8192) (hr : r'.val = t.val * 512 + r.val) :
    iblk m c 0 t (ix2 r k) = A m c (ix2 r' k) := by
  blk_ext [iblk, V, index0 t, hr]

theorem iblk1 (t : Fin cfg0.N) (k n : Fin 1024) : iblk m c 1 t (ix2 k n) = W m c (ix2 k n) := by
  blk_ext [iblk, V, index1 t]

theorem iblk2 (t : Fin cfg0.N) (r : Fin 512) (n : Fin 1024) (r' : Fin 8192) (hr : r'.val = t.val * 512 + r.val) :
    iblk m c 2 t (ix2 r n) = R m c (ix2 r' n) := by
  blk_ext [iblk, V, index2 t, hr]

/-- THE RESULT after the launch. -/
theorem final (y : S8192x1024.Idx) : (dats m 0 c).arrAt 3 cfg0.N y = value (A m c) (W m c) (R m c) (y 0) (y 1) := by
  refine congrFun ((dats m 0 c).arrAt_eq_of_covers 3 (fun y : S8192x1024.Idx => value (A m c) (W m c) (R m c) (y 0) (y 1)) (by decide +kernel) fun t hf y => ?_) y
  have hN : t.val < 16 := lt_of_lt_of_eq t.isLt (show cfg0.N = 16 from N_0)
  blk_simp
  rw [after0_3]
  unfold outsAt0
  frame_out
  idx_vars y
  have e0 : ((cfg0.win 3).blk t).view.emb (ix2 y0 y1) 0 = (⟨t.val * 512 + y0.val, by omega⟩ : Fin 8192) := by
    refine Fin.ext ?_
    blk_simp [index3 t]
  have e1 : ((cfg0.win 3).blk t).view.emb (ix2 y0 y1) 1 = y1 := by
    refine Fin.ext ?_
    blk_simp [index3 t]
  refine Eq.trans ?_ (congrArg₂ (value (A m c) (W m c) (R m c)) e0 e1).symm
  refine (stored_at _ _ _ y0 y1).trans ?_
  refine congrArg₂ (fun a b : EReal => a + b) (iblk2 m c t y0 y1 _ rfl) (Finset.sum_congr rfl fun k _ => ?_)
  exact congrArg₂ (fun a b : EReal => a * b) (iblk0 m c t y0 k _ rfl) (iblk1 m c t k y1)

end Cert.AttnOutIdeal.Product

namespace Cert.AttnOutRefIdeal.Reading

open Cert.AttnOutRefIdeal Cert.AttnOutRefIdeal.Gen Cert.AttnOutRefIdeal.Read Idealize.ShloMosaic

variable (x0 : (⟨S8192x1024, .bf16⟩ : BufTy).Contents (Elt Ideal)) (x1 : (⟨S1024x1024, .bf16⟩ : BufTy).Contents (Elt Ideal)) (x2 : (⟨S8192x1024, .f32⟩ : BufTy).Contents (Elt Ideal))

/-- The reference's result, read at an entry. -/
theorem result_at (r : Fin 8192) (n : Fin 1024) :
    val_main_v3 x0 x1 x2 (ix2 r n) = Cert.AttnOutIdeal.Product.value x0 x1 x2 r n := by
  pointwise [val_main_v3, val_main_v2, val_main_v1, val_main_v0]
  rfl

end Cert.AttnOutRefIdeal.Reading

namespace Cert.Proof.AttnOut

open Idealize.ShloMosaic Idealize.SL.Sem

theorem frame_kernel : Cert.quiescent_AttnOut := fun m ρ _ => Cert.AttnOut.Gen.frame m ρ
theorem frame_ideal : Cert.quiescent_AttnOutIdeal := fun m ρ _ => Cert.AttnOutIdeal.Gen.frame m ρ

/-- The reference runs on the host alone: it takes no semaphore. -/
theorem frame_reference : Cert.quiescent_AttnOutRefIdeal := fun m ρ _ =>
  (θ_run Cert.AttnOutRefIdeal.defs _ _).mono
    (fun r h => ⟨fun c => (h c).2, sem_eq_zero_of_no_sems (by decide) r.2⟩)
    (Cert.AttnOutRefIdeal.Value.run (F := Ideal) m ρ)

theorem preserves : Cert.preserves_AttnOut_AttnOutIdeal := trivial

/-- THE VALUE CLAIM: the kernel's sum of residual and product is the reference's. -/
theorem algebraic : Cert.algebraic_AttnOutIdeal_AttnOutRefIdeal := by
  intro m g m' g' _ hagree
  refine ⟨fun c y => Cert.AttnOutIdeal.Product.value (Cert.AttnOutIdeal.Product.A m c) (Cert.AttnOutIdeal.Product.W m c) (Cert.AttnOutIdeal.Product.R m c) (y 0) (y 1), ?_, ?_⟩
  · exact (θ_run Cert.AttnOutIdeal.defs _ _).mono (fun r h c => ⟨(h c).1.trans (funext (Cert.AttnOutIdeal.Product.final m c)), (h c).2⟩)
      (Cert.AttnOutIdeal.Value.run_blocks (F := Ideal) m g)
  · refine (θ_run Cert.AttnOutRefIdeal.defs _ _).mono (fun r h c => ⟨(h c).1.trans ?_, (h c).2⟩) (Cert.AttnOutRefIdeal.Value.run (F := Ideal) m' g')
    obtain ⟨a0, a1, a2⟩ := hagree c
    refine (Cert.AttnOutRefIdeal.Read.val_main_v3_eq _ _ _).trans (funext fun y => ?_)
    rw [a0, a1, a2]
    idx_vars y
    exact Cert.AttnOutRefIdeal.Reading.result_at _ _ _ y0 y1

end Cert.Proof.AttnOut

end
-- ==== Proof.OwnAttnFwd.lean ====
module

public import proofs.«01_k».proof.Defs
public import proofs.«01_k».proof.Proof.Arrays
public import proofs.«01_k».proof.Proof.SoftmaxGrad
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.Gen.AttnFwdRefIdeal.Read
public import Idealize.ShloMosaic.Lib.Pipeline.ValueKit
public import Idealize.ShloMosaic.Lib.Quiescent

/-! The attention of the forward pass: each head's weighted sum of the values. -/

@[expose] public section

set_option maxRecDepth 16384

noncomputable section

namespace Cert.Attn

open Idealize.ShloMosaic

/-- The attention of query `t` in head `h`, at coordinate `d`. -/
def attended {N : Nat} (q : (⟨2, ![N, 1024]⟩ : Shape).Idx → EReal) (kv : (⟨2, ![256, 2048]⟩ : Shape).Idx → EReal)
    (h : Fin 4) (t : Fin N) (d : Fin 256) : EReal := ∑ k : Fin 256, prob (score q kv h t) k * kv (ix2 k (valCol h d))

/-- The attention by row and column. -/
def attendedAt (q : (⟨2, ![8192, 1024]⟩ : Shape).Idx → EReal) (kv : (⟨2, ![256, 2048]⟩ : Shape).Idx → EReal)
    (t : Fin 8192) (j : Fin 1024) : EReal := attended q kv ⟨j.val / 256, by omega⟩ t ⟨j.val % 256, by omega⟩

theorem head_col (h : Fin 4) (d : Fin 256) (p) : (⟨(col h d).val / 256, p⟩ : Fin 4) = h :=
  Fin.ext (by show (256 * h.val + d.val) / 256 = h.val; omega)
theorem coord_col (h : Fin 4) (d : Fin 256) (p) : (⟨(col h d).val % 256, p⟩ : Fin 256) = d :=
  Fin.ext (by show (256 * h.val + d.val) % 256 = d.val; omega)

theorem attendedAt_col (q : (⟨2, ![8192, 1024]⟩ : Shape).Idx → EReal) (kv : (⟨2, ![256, 2048]⟩ : Shape).Idx → EReal)
    (t : Fin 8192) (h : Fin 4) (d : Fin 256) : attendedAt q kv t (col h d) = attended q kv h t d := by
  unfold attendedAt
  rw [head_col, coord_col]

end Cert.Attn

namespace Cert.AttnFwdIdeal.Attended

open Cert.AttnFwdIdeal Cert.AttnFwdIdeal.Gen Idealize.ShloMosaic Idealize.ShloMosaic.TcCoe Idealize.SL.Sem
open Cert.Attn Cert.KernelIdeal.Block

/-- The scores of one query of a head's slab against its keys. -/
def scores (Q : FVec Ideal S512x256 .bf16) (K : FVec Ideal S256x256 .bf16) (r : Fin 512) (k : Fin 256) : EReal :=
  (∑ d : Fin 256, Q (ix2 r d) * K (ix2 k d)) * scale

/-- A slab's weighted sum of values. -/
def weighted (Q : FVec Ideal S512x256 .bf16) (K V : FVec Ideal S256x256 .bf16) (r : Fin 512) (d : Fin 256) : EReal :=
  ∑ k : Fin 256, prob (scores Q K r) k * V (ix2 k d)

/-! What the body stores for each head; the four are printed apart. -/

section
variable (Q : FVec Ideal S512x256 .bf16) (K V : FVec Ideal S256x256 .bf16) (r : Fin 512) (d : Fin 256)

theorem weighted_zero : k0_pay2 (F := Ideal) K V Q (ix2 r d) = weighted Q K V r d := by
  pointwise! [k0_pay2, weighted, prob, rowExp, rowMax, scores, scale]

theorem prob_one (k : Fin 256) : k0_pay3 (F := Ideal) K Q (ix2 r k) = prob (scores Q K r) k := by
  pointwise! [k0_pay3, prob, rowExp, rowMax, scores, scale]

theorem weighted_one : k0_pay4 (F := Ideal) V (k0_pay3 (F := Ideal) K Q) (ix2 r d) = weighted Q K V r d := by
  pointwise! [k0_pay4, prob_one, weighted]

theorem weighted_two : k0_pay5 (F := Ideal) K V Q (ix2 r d) = weighted Q K V r d := by
  pointwise! [k0_pay5, weighted, prob, rowExp, rowMax, scores, scale]

theorem exp_three (k : Fin 256) : k0_pay6 (F := Ideal) K Q (ix2 r k) = rowExp (scores Q K r) k := by
  pointwise! [k0_pay6, rowExp, rowMax, scores, scale]

theorem weighted_three : k0_pay1 (F := Ideal) V (k0_pay6 (F := Ideal) K Q) (ix2 r d) = weighted Q K V r d := by
  pointwise! [k0_pay1, exp_three, weighted, prob]

end

/-- A slab's weighted sum is the head's attention. -/
theorem weighted_slab (q : FVec Ideal S512x1024 .bf16) (kv : FVec Ideal S256x2048 .bf16) (h : Fin 4)
    (Q : FVec Ideal S512x256 .bf16) (K V : FVec Ideal S256x256 .bf16)
    (hQ : ∀ r d, Q (ix2 r d) = q (ix2 r (col h d))) (hK : ∀ k d, K (ix2 k d) = kv (ix2 k (keyCol h d)))
    (hV : ∀ k d, V (ix2 k d) = kv (ix2 k (valCol h d))) (r : Fin 512) (d : Fin 256) :
    weighted Q K V r d = attended q kv h r d := by
  have e : scores Q K = score q kv h := by
    funext r k
    simp only [scores, score, hQ, hK]
  simp only [weighted, attended, e, hV]

/-- What the body leaves in its block. -/
theorem out_at (q : FVec Ideal S512x1024 .bf16) (kv : FVec Ideal S256x2048 .bf16) (h : Fin 4) (r : Fin 512) (d : Fin 256) :
    out0_2 (F := Ideal) q kv (ix2 r (col h d)) = attended q kv h r d := by
  unfold out0_2
  canon_tiles x hx
  · idx_vars x
    have e0 : r.val = x0.val := hx0
    have e1 : 256 * h.val + d.val = 768 + x1.val := hx1
    obtain rfl : h = 3 := Fin.ext (by show h.val = 3; omega)
    obtain rfl : r = x0 := Fin.ext e0
    obtain rfl : d = x1 := Fin.ext (by change 256 * 3 + d.val = _ at e1; omega)
    exact (weighted_three _ _ _ r d).trans (weighted_slab q kv 3 _ _ _ (fun r d => congrArg q (slab_idx 768 _ r d r (col 3 d) rfl rfl))
      (fun k d => congrArg kv (slab_idx 768 _ k d k (keyCol 3 d) rfl rfl))
      (fun k d => congrArg kv (slab_idx 1792 _ k d k (valCol 3 d) rfl rfl)) r d)
  · idx_vars x
    have e0 : r.val = x0.val := hx0
    have e1 : 256 * h.val + d.val = 512 + x1.val := hx1
    obtain rfl : h = 2 := Fin.ext (by show h.val = 2; omega)
    obtain rfl : r = x0 := Fin.ext e0
    obtain rfl : d = x1 := Fin.ext (by change 256 * 2 + d.val = _ at e1; omega)
    exact (weighted_two _ _ _ r d).trans (weighted_slab q kv 2 _ _ _ (fun r d => congrArg q (slab_idx 512 _ r d r (col 2 d) rfl rfl))
      (fun k d => congrArg kv (slab_idx 512 _ k d k (keyCol 2 d) rfl rfl))
      (fun k d => congrArg kv (slab_idx 1536 _ k d k (valCol 2 d) rfl rfl)) r d)
  · idx_vars x
    have e0 : r.val = x0.val := hx0
    have e1 : 256 * h.val + d.val = 256 + x1.val := hx1
    obtain rfl : h = 1 := Fin.ext (by show h.val = 1; omega)
    obtain rfl : r = x0 := Fin.ext e0
    obtain rfl : d = x1 := Fin.ext (by change 256 * 1 + d.val = _ at e1; omega)
    exact (weighted_one _ _ _ r d).trans (weighted_slab q kv 1 _ _ _ (fun r d => congrArg q (slab_idx 256 _ r d r (col 1 d) rfl rfl))
      (fun k d => congrArg kv (slab_idx 256 _ k d k (keyCol 1 d) rfl rfl))
      (fun k d => congrArg kv (slab_idx 1280 _ k d k (valCol 1 d) rfl rfl)) r d)
  · idx_vars x
    have e0 : r.val = x0.val := hx0
    have e1 : 256 * h.val + d.val = 0 + x1.val := hx1.trans (Nat.zero_add _).symm
    obtain rfl : h = 0 := Fin.ext (by show h.val = 0; omega)
    obtain rfl : r = x0 := Fin.ext e0
    obtain rfl : d = x1 := Fin.ext (by change 256 * 0 + d.val = _ at e1; omega)
    exact (weighted_zero _ _ _ r d).trans (weighted_slab q kv 0 _ _ _ (fun r d => congrArg q (slab_idx 0 _ r d r (col 0 d) rfl rfl))
      (fun k d => congrArg kv (slab_idx 0 _ k d k (keyCol 0 d) rfl rfl))
      (fun k d => congrArg kv (slab_idx 1024 _ k d k (valCol 0 d) rfl rfl)) r d)

variable (m : (ℓ : Loc nD τ sig) → Buf (Elt Ideal) ℓ) (c : Dev nD)

/-- The queries, and the keys and values. -/
abbrev Q : FVec Ideal S8192x1024 .bf16 := m ((c : Thread nD τ).loc main_arg0)
abbrev KV : FVec Ideal S256x2048 .bf16 := m ((c : Thread nD τ).loc main_arg1)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- A grid point's number. -/
abbrev pt (t : Fin cfg0.N) : Fin 16 := ⟨t.val, lt_of_lt_of_eq t.isLt (show cfg0.N = 16 from N_0)⟩

theorem iblk0 (t : Fin cfg0.N) (r : Fin 512) (j : Fin 1024) : iblk m c 0 t (ix2 r j) = Q m c (ix2 (row (pt t) r) j) := by
  blk_ext [iblk, V, index0 t, row]

theorem iblk1 (t : Fin cfg0.N) : iblk m c 1 t = KV m c := by
  funext y
  blk_ext [iblk, V, index1 t]

theorem block_at (t : Fin cfg0.N) (h : Fin 4) (r : Fin 512) (d : Fin 256) :
    out0_2 (F := Ideal) (iblk m c 0 t) (iblk m c 1 t) (ix2 r (col h d)) = attendedAt (Q m c) (KV m c) (row (pt t) r) (col h d) := by
  rw [attendedAt_col]
  refine (out_at (iblk m c 0 t) (iblk m c 1 t) h r d).trans ?_
  have e : score (iblk m c 0 t) (iblk m c 1 t) h r = score (Q m c) (KV m c) h (row (pt t) r) := by
    funext k
    simp only [score, iblk0, iblk1]
  unfold attended
  rw [e, iblk1]

/-- THE ATTENTION after the launch. -/
theorem final (y : S8192x1024.Idx) : (dats m 0 c).arrAt 2 cfg0.N y = attendedAt (Q m c) (KV m c) (y 0) (y 1) := by
  refine congrFun ((dats m 0 c).arrAt_eq_of_covers 2 (fun y : S8192x1024.Idx => attendedAt (Q m c) (KV m c) (y 0) (y 1)) (by decide +kernel) fun t hf y => ?_) y
  blk_simp
  rw [after0_2]
  idx_vars y
  obtain ⟨h, d, rfl⟩ := exists_col y1
  refine (block_at m c t h y0 d).trans ?_
  generalize col h d = j
  have e0 : ((cfg0.win 2).blk t).view.emb (ix2 y0 j) 0 = row (pt t) y0 := by
    refine Fin.ext ?_
    blk_simp [index2 t, row]
  have e1 : ((cfg0.win 2).blk t).view.emb (ix2 y0 j) 1 = j := by
    refine Fin.ext ?_
    blk_simp [index2 t, row]
  exact (congrArg₂ (attendedAt (Q m c) (KV m c)) e0 e1).symm

end Cert.AttnFwdIdeal.Attended

namespace Cert.AttnFwdRefIdeal.Reading

open Cert.AttnFwdRefIdeal Cert.AttnFwdRefIdeal.Gen Cert.AttnFwdRefIdeal.Read Idealize.ShloMosaic
open Cert.Attn

variable (x0 : (⟨S8192x1024, .bf16⟩ : BufTy).Contents (Elt Ideal)) (x1 : (⟨S256x2048, .bf16⟩ : BufTy).Contents (Elt Ideal))
  (h : Fin 4) (t : Fin 8192) (k d : Fin 256)

theorem query_at : val_main_v4 x0 (ix4 0 t h d) = x0 (ix2 t (col h d)) := by
  pointwise! [val_main_v4, val_main_v3]
  exact congrArg (fun j => x0 (ix2 t j)) (Fin.ext (by show h.val * 256 + d.val = 256 * h.val + d.val; omega))

theorem key_at : val_main_v5 x1 (ix4 0 k h d) = x1 (ix2 k (keyCol h d)) := by
  pointwise! [val_main_v5, val_main_v1, val_main_v0]
  exact congrArg (fun j => x1 (ix2 k j)) (Fin.ext (by show h.val * 256 + d.val = 256 * h.val + d.val; omega))

theorem value_at : val_main_v6 x1 (ix4 0 k h d) = x1 (ix2 k (valCol h d)) := by
  pointwise! [val_main_v6, val_main_v2, val_main_v0]
  exact congrArg (fun j => x1 (ix2 k j)) (Fin.ext (by show 1024 + (h.val * 256 + d.val) = 1024 + 256 * h.val + d.val; omega))

theorem score_at : val_main_v9 x0 x1 (ix4 0 h t k) = score x0 x1 h t k := by
  pointwise! [val_main_v9, val_main_v8, val_main_v7, val_main_cst]
  simp only [query_at, key_at, score, scale]

theorem fold_at : val_main_v10 x0 x1 (ix3 0 h t) = rowMax (score x0 x1 h t) := by
  pointwise [val_main_v10, val_main_cst_0]
  simp only [score_at]
  rfl

theorem max_at : val_main_v12 x0 x1 (ix3 0 h t) = rowMax (score x0 x1 h t) := by
  have e : val_main_v12 x0 x1 (ix3 0 h t) = max (Ideal.ofBits .f32 0xFF800000#32) (rowMax (score x0 x1 h t)) := by
    rw [val_main_v12_apply, fold_at, val_main_v11_apply, val_main_cst_1_apply]
    rfl
  rw [e, max_rowMax]

theorem exp_at : val_main_v16 x0 x1 (ix4 0 h t k) = rowExp (score x0 x1 h t) k := by
  pointwise [val_main_v16, val_main_v15, val_main_v14, val_main_v13]
  simp only [score_at, max_at, rowExp]

theorem sum_at : val_main_v17 x0 x1 (ix3 0 h t) = ∑ k, rowExp (score x0 x1 h t) k := by
  pointwise [val_main_v17, val_main_cst_2]
  simp only [exp_at]

theorem prob_at : val_main_v20 x0 x1 (ix4 0 h t k) = prob (score x0 x1 h t) k := by
  pointwise [val_main_v20, val_main_v19, val_main_v18]
  simp only [exp_at, sum_at, prob]

/-- The reference's result, read at an entry. -/
theorem result_at : val_main_v24 x0 x1 (ix2 t (col h d)) = attendedAt x0 x1 t (col h d) := by
  rw [attendedAt_col]
  pointwise [val_main_v24, val_main_v23, val_main_v22, val_main_v21]
  simp only [value_at, prob_at, head_col, coord_col, attended]
  first | done | exact Finset.sum_congr rfl fun _ _ => mul_comm _ _

end Cert.AttnFwdRefIdeal.Reading

namespace Cert.Proof.AttnFwd

open Idealize.ShloMosaic Idealize.SL.Sem

theorem frame_kernel : Cert.quiescent_AttnFwd := fun m ρ _ => Cert.AttnFwd.Gen.frame m ρ
theorem frame_ideal : Cert.quiescent_AttnFwdIdeal := fun m ρ _ => Cert.AttnFwdIdeal.Gen.frame m ρ

/-- The reference runs on the host alone: it takes no semaphore. -/
theorem frame_reference : Cert.quiescent_AttnFwdRefIdeal := fun m ρ _ =>
  (θ_run Cert.AttnFwdRefIdeal.defs _ _).mono
    (fun r h => ⟨fun c => (h c).2, sem_eq_zero_of_no_sems (by decide) r.2⟩)
    (Cert.AttnFwdRefIdeal.Value.run (F := Ideal) m ρ)

theorem preserves : Cert.preserves_AttnFwd_AttnFwdIdeal := trivial

/-- THE VALUE CLAIM: the kernel's attention is the reference's. -/
theorem algebraic : Cert.algebraic_AttnFwdIdeal_AttnFwdRefIdeal := by
  intro m g m' g' _ hagree
  refine ⟨fun c y => Cert.Attn.attendedAt (Cert.AttnFwdIdeal.Attended.Q m c) (Cert.AttnFwdIdeal.Attended.KV m c) (y 0) (y 1), ?_, ?_⟩
  · exact (θ_run Cert.AttnFwdIdeal.defs _ _).mono (fun r h c => ⟨(h c).1.trans (funext (Cert.AttnFwdIdeal.Attended.final m c)), (h c).2⟩)
      (Cert.AttnFwdIdeal.Value.run_blocks (F := Ideal) m g)
  · refine (θ_run Cert.AttnFwdRefIdeal.defs _ _).mono (fun r h c => ⟨(h c).1.trans ?_, (h c).2⟩) (Cert.AttnFwdRefIdeal.Value.run (F := Ideal) m' g')
    obtain ⟨a0, a1⟩ := hagree c
    refine (Cert.AttnFwdRefIdeal.Read.val_main_v24_eq _ _).trans (funext fun y => ?_)
    rw [a0, a1]
    idx_vars y
    obtain ⟨h, d, rfl⟩ := Cert.Attn.exists_col y1
    exact Cert.AttnFwdRefIdeal.Reading.result_at _ _ h y0 d

end Cert.Proof.AttnFwd

end
-- ==== Proof.KvProjIdealLaunch.lean ====
module

public import proofs.«01_k».proof.Proof.Gen.KvProjIdeal.Frame
public import proofs.«01_k».proof.Proof.Gen.KvProjIdeal.Skeleton
public import Idealize.ShloMosaic.Lib.Pipeline.FrameBody
public import Idealize.ShloMosaic.Lib.Pipeline.Frame
public import Idealize.ShloMosaic.Lib.Pipeline.TableIdle
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim

/-! What the body of this program leaves in its buffers at every grid point, and the launch from that: the normalised rows and their factors
    are stored at the first point of a run of 2 and kept over the rest of it; the product's block is stored at every point. -/

@[expose] public section

set_option maxRecDepth 16384

noncomputable section

namespace Cert.KvProjIdeal.Launch

open Cert.KvProjIdeal Cert.KvProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The rows are normalised at the first point of a run. -/
theorem first_iff (t : Fin cfg0.N) : k0_cond1 (grid0.coords t) = 1#1 ↔ t.val % 2 = 0 := by
  have ht : t.val < 2 := Nat.lt_of_lt_of_eq t.isLt N_0
  have e1 : (grid0.coords t 1).val = t.val / 1 % 2 := Pipeline.Grid.coords_val t 1 (by decide) rfl
  simp only [k0_cond1, e1]
  word_cmp

set_option maxHeartbeats 1000000 in
/-- THE BODY at the first point of a run: it normalises the rows, stores them and their factors, and multiplies. -/
theorem run_first (c : Dev nD) (E : Set ℕ) (i : grid0.Coords) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1 .f32) (harg7 : arg7.IsWhole) (hc : k0_cond1 i = 1#1)
    (x0 : Vec F S256x1024 .f32) (x1 : Vec F S1x1024 .f32) (x2 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x1) x2) ∗ owns (c : Thread nD τ) arg6 fullShare (k0_pay2 x0 x1) ∗ owns (c : Thread nD τ) arg7 fullShare (k0_pay1 x0)) -∗ K ⟨⟩))
      ⊢ wp frame (wpE (defs₀ (F := F)) Variants.none c none) E (cc0_kv_proj i arg2 harg2 arg3 harg3 arg4 harg4 arg5 harg5 arg6 harg6 arg7 harg7) K := by
  simp only [cc0_kv_proj_eq_skeleton]; unfold cc0_kv_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (View.cover_of_tiledL _ S256x1024.size (by sl_kernel_rfl)), View.canon_unit_zero (S := S256x1024) hz2]
    simp only [View.readCov_unit_zero (S := S256x1024) _ hz2, View.readAt_eq_ld, View.ld_unit_zero (S := S256x1024) hz2, View.ld_unit_zero (S := S1x1024) hz2, View.ld_unit_zero (S := S1024x1024) hz2, harg2.read_unread, harg3.read_unread, harg4.read_unread, harg5.read_unread, harg6.read_unread, harg7.read_unread]
  isplitl [H4]
  · iexists _; isplitr
    swap; · iexact H4
    ipureintro
    try sl_unfold_words
    rw [View.read_writes_eq_canon _ _ _ (View.cover_of_tiledL _ S256x1024.size (by sl_kernel_rfl)), View.canon_unit_zero (S := S256x1024) hz2]
    simp only [View.readCov_unit_zero (S := S256x1024) _ hz2, View.readAt_eq_ld, View.ld_unit_zero (S := S256x1024) hz2, View.ld_unit_zero (S := S1x1024) hz2, View.ld_unit_zero (S := S1024x1024) hz2, harg2.read_unread, harg3.read_unread, harg4.read_unread, harg5.read_unread, harg6.read_unread, harg7.read_unread]
  iexists _; isplitr
  swap; · iexact H5
  ipureintro
  try sl_unfold_words
  rw [View.read_writes_eq_canon _ _ _ (View.cover_of_tiledL _ S256x1.size (by sl_kernel_rfl)), View.canon_unit_zero (S := S256x1) hz2]
  simp only [View.readCov_unit_zero (S := S256x1024) _ hz2, View.readAt_eq_ld, View.ld_unit_zero (S := S256x1024) hz2, View.ld_unit_zero (S := S1x1024) hz2, View.ld_unit_zero (S := S1024x1024) hz2, harg2.read_unread, harg3.read_unread, harg4.read_unread, harg5.read_unread, harg6.read_unread, harg7.read_unread]

set_option maxHeartbeats 1000000 in
/-- THE BODY at any other point: it multiplies the normalised rows it finds. -/
theorem run_later (c : Dev nD) (E : Set ℕ) (i : grid0.Coords) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1 .f32) (harg7 : arg7.IsWhole) (hc : ¬k0_cond1 i = 1#1)
    (x0 : Vec F S256x1024 .f32) (x1 : Vec F S1x1024 .f32) (x2 : Vec F S1024x1024 .bf16) (y : Vec F S256x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (k0_pay3 y x2) ∗ owns (c : Thread nD τ) arg6 fullShare y) -∗ K ⟨⟩))
      ⊢ wp frame (wpE (defs₀ (F := F)) Variants.none c none) E (cc0_kv_proj i arg2 harg2 arg3 harg3 arg4 harg4 arg5 harg5 arg6 harg6 arg7 harg7) K := by
  simp only [cc0_kv_proj_eq_skeleton]; unfold cc0_kv_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (View.cover_of_tiledL _ S256x1024.size (by sl_kernel_rfl)), View.canon_unit_zero (S := S256x1024) hz2]
    simp only [View.readCov_unit_zero (S := S256x1024) _ hz2, View.readAt_eq_ld, View.ld_unit_zero (S := S256x1024) hz2, View.ld_unit_zero (S := S1x1024) hz2, View.ld_unit_zero (S := S1024x1024) hz2, harg2.read_unread, harg3.read_unread, harg4.read_unread, harg5.read_unread, harg6.read_unread, harg7.read_unread]
  iexists _; isplitr; · ipureintro; exact harg6.read_unread _
  iexact H4

variable (m : (ℓ : Loc nD τ sig) → Buf (Elt F) ℓ) (ρ : Dev nD → PrngReg)

/-- The first point of a point's run. -/
def head (t : Fin cfg0.N) : Fin cfg0.N := ⟨2 * (t.val / 2), Nat.lt_of_le_of_lt (Nat.mul_div_le _ _) t.isLt⟩

theorem head_first (t : Fin cfg0.N) (h : t.val % 2 = 0) : head t = t := Fin.ext (by show 2 * (t.val / 2) = t.val; omega)

theorem head_later (t : Fin cfg0.N) (h : ¬t.val % 2 = 0) (hp : t.val - 1 < cfg0.N) : head ⟨t.val - 1, hp⟩ = head t :=
  Fin.ext (by show 2 * ((t.val - 1) / 2) = 2 * (t.val / 2); omega)

/-- The normalised rows and their factors, as the first point of the run stored them. -/
def rows (c : Dev nD) (t : Fin cfg0.N) : Vec F S256x1024 .bf16 := k0_pay2 (iblk m c 0 (head t)) (iblk m c 1 (head t))
def factors (c : Dev nD) (t : Fin cfg0.N) : Vec F S256x1 .f32 := k0_pay1 (iblk m c 0 (head t))

/-- What the buffers hold after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (rows m c t) (iblk m c 2 t)
    | ⟨4, _⟩ => rows m c t
    | ⟨5, _⟩ => factors m c t

  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (rows m c t) (iblk m c 2 t) := by dsimp only [dats]
theorem after4 (c : Dev nD) (t : Fin cfg0.N) : (dats m 0 c).after 4 t = rows m c t := by dsimp only [dats]
theorem after5 (c : Dev nD) (t : Fin cfg0.N) : (dats m 0 c).after 5 t = factors m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Output 4 is stored at the first point of a run alone. -/
theorem idle4 (t : Fin cfg0.N) : cfg0.idle 4 (grid0.coords t) = !(decide (t.val % 2 = 0)) := by
  show (!(k0_cond1 (grid0.coords t) == 1#1)) = _
  by_cases h : t.val % 2 = 0
  · rw [(first_iff t).mpr h, decide_eq_true h]; rfl
  · rw [decide_eq_false h, beq_false_of_ne fun e => h ((first_iff t).mp e)]

/-- So its buffer holds nothing stored at the first point of a run, and what that point stored at the others. -/
theorem fresh4 : ∀ n, n ≤ cfg0.N → cfg0.fresh 4 n = decide (n % 2 = 0) :=
  cfg0.fresh_tab 4 (fun n => decide (n % 2 = 0)) rfl fun t => by
    show decide ((t.val + 1) % 2 = 0) = ((cfg0.win 4).flush t || (cfg0.idle 4 (grid0.coords t) && decide (t.val % 2 = 0)))
    rw [idle4 t]
    by_cases h : t.val % 2 = 1
    · rw [(flush0_4 t).mpr h, decide_eq_true (by omega : (t.val + 1) % 2 = 0)]; rfl
    · rw [Bool.eq_false_iff.mpr fun e => h ((flush0_4 t).mp e), decide_eq_false (by omega : ¬(t.val + 1) % 2 = 0)]
      by_cases h0 : t.val % 2 = 0
      · rw [decide_eq_true h0]; rfl
      · rw [decide_eq_false h0]; rfl

theorem before4 (c : Dev nD) (t : Fin cfg0.N) (h : ¬t.val % 2 = 0) (d) : (dats m 0 c).before 4 t d = rows m c t := by
  rw [Dat.before_out_traj _ 4 rfl (fun _ _ => rfl) (fun s hs hi _ => ?_) t.val t rfl d,
    if_neg (by rw [fresh4 _ (Nat.le_of_lt t.isLt), decide_eq_false h]; exact Bool.false_ne_true), after4]
  · unfold rows; rw [head_later t h]
  · rw [after4, after4]
    unfold rows
    rw [head_later s (fun e => ?_)]
    rw [idle4 s, decide_eq_true e] at hi
    exact Bool.false_ne_true hi

/-- The body leaves it at that in every case. -/
theorem leaves4 (c : Dev nD) (t : Fin cfg0.N) :
    owns (c : Thread nD τ) (st0_4 t) fullShare ((dats m 0 c).after 4 t) ⊢ (dats m 0 c).leavesExact 4 t := by
  by_cases h : t.val % 2 = 0
  · have hi : cfg0.idle 4 (cfg0.grid.coords t) = false := by rw [show cfg0.idle 4 (cfg0.grid.coords t) = _ from idle4 t, decide_eq_true h]; rfl
    unfold Dat.leavesExact; rw [hi]
  · have hi : cfg0.idle 4 (cfg0.grid.coords t) = true := by rw [show cfg0.idle 4 (cfg0.grid.coords t) = _ from idle4 t, decide_eq_false h]; rfl
    by_cases hf : (cfg0.win 4).flush t = true
    · unfold Dat.leavesExact; rw [hi, hf]
    · rw [Dat.leavesExact_idle (dats m 0 c) 4 t hi (Bool.eq_false_iff.mpr hf)]
      iintro H
      iexists (dats m 0 c).after 4 t
      rw [before4 m c t h, after4]
      iexact H

/-- Output 5 is stored at the first point of a run alone. -/
theorem idle5 (t : Fin cfg0.N) : cfg0.idle 5 (grid0.coords t) = !(decide (t.val % 2 = 0)) := by
  show (!(k0_cond1 (grid0.coords t) == 1#1)) = _
  by_cases h : t.val % 2 = 0
  · rw [(first_iff t).mpr h, decide_eq_true h]; rfl
  · rw [decide_eq_false h, beq_false_of_ne fun e => h ((first_iff t).mp e)]

/-- So its buffer holds nothing stored at the first point of a run, and what that point stored at the others. -/
theorem fresh5 : ∀ n, n ≤ cfg0.N → cfg0.fresh 5 n = decide (n % 2 = 0) :=
  cfg0.fresh_tab 5 (fun n => decide (n % 2 = 0)) rfl fun t => by
    show decide ((t.val + 1) % 2 = 0) = ((cfg0.win 5).flush t || (cfg0.idle 5 (grid0.coords t) && decide (t.val % 2 = 0)))
    rw [idle5 t]
    by_cases h : t.val % 2 = 1
    · rw [(flush0_5 t).mpr h, decide_eq_true (by omega : (t.val + 1) % 2 = 0)]; rfl
    · rw [Bool.eq_false_iff.mpr fun e => h ((flush0_5 t).mp e), decide_eq_false (by omega : ¬(t.val + 1) % 2 = 0)]
      by_cases h0 : t.val % 2 = 0
      · rw [decide_eq_true h0]; rfl
      · rw [decide_eq_false h0]; rfl

theorem before5 (c : Dev nD) (t : Fin cfg0.N) (h : ¬t.val % 2 = 0) (d) : (dats m 0 c).before 5 t d = factors m c t := by
  rw [Dat.before_out_traj _ 5 rfl (fun _ _ => rfl) (fun s hs hi _ => ?_) t.val t rfl d,
    if_neg (by rw [fresh5 _ (Nat.le_of_lt t.isLt), decide_eq_false h]; exact Bool.false_ne_true), after5]
  · unfold factors; rw [head_later t h]
  · rw [after5, after5]
    unfold factors
    rw [head_later s (fun e => ?_)]
    rw [idle5 s, decide_eq_true e] at hi
    exact Bool.false_ne_true hi

/-- The body leaves it at that in every case. -/
theorem leaves5 (c : Dev nD) (t : Fin cfg0.N) :
    owns (c : Thread nD τ) (st0_5 t) fullShare ((dats m 0 c).after 5 t) ⊢ (dats m 0 c).leavesExact 5 t := by
  by_cases h : t.val % 2 = 0
  · have hi : cfg0.idle 5 (cfg0.grid.coords t) = false := by rw [show cfg0.idle 5 (cfg0.grid.coords t) = _ from idle5 t, decide_eq_true h]; rfl
    unfold Dat.leavesExact; rw [hi]
  · have hi : cfg0.idle 5 (cfg0.grid.coords t) = true := by rw [show cfg0.idle 5 (cfg0.grid.coords t) = _ from idle5 t, decide_eq_false h]; rfl
    by_cases hf : (cfg0.win 5).flush t = true
    · unfold Dat.leavesExact; rw [hi, hf]
    · rw [Dat.leavesExact_idle (dats m 0 c) 5 t hi (Bool.eq_false_iff.mpr hf)]
      iintro H
      iexists (dats m 0 c).after 5 t
      rw [before5 m c t h, after5]
      iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    after0, after1, after2, after3]
  by_cases h : t.val % 2 = 0
  · iintro ⟨HΦ, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ ((first_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · unfold rows; rw [head_first t h]; iexact H3
    isplitl [H4]; · iapply (leaves4 m c t); rw [after4]; unfold rows; rw [head_first t h]; iexact H4
    iapply (leaves5 m c t); rw [after5]; unfold factors; rw [head_first t h]; iexact H5
  · simp only [before4 m c t h, before5 m c t h]
    iintro ⟨HΦ, Ho, ⟨%d0, H0⟩, ⟨%d1, H1⟩, ⟨%d2, H2⟩, ⟨%d3, H3⟩, ⟨%d4, H4⟩, ⟨%d5, H5⟩⟩
    iapply (run_later c Set.univ (grid0.coords t) _ _ _ _ _ _ _ _ _ _ _ _ (fun e => h ((first_iff t).mp e)) (iblk m c 0 t) (iblk m c 1 t) (iblk m c 2 t) (rows m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves4 m c t); rw [after4]; iexact H4
    iapply (leaves5 m c t); rw [after5]; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH: every array ends at what its write-backs leave, every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- THE FRAME: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.KvProjIdeal.Launch

end
-- ==== Proof.OwnKvProj.lean ====
module

public import proofs.«01_k».proof.Defs
public import proofs.«01_k».proof.Proof.NormGrad
public import proofs.«01_k».proof.Proof.KvProjLaunch
public import proofs.«01_k».proof.Proof.KvProjIdealLaunch
public import proofs.«01_k».proof.Proof.Gen.KvProjRefIdeal.Run
public import proofs.«01_k».proof.Proof.Gen.KvProjRefIdeal.Read
public import Idealize.ShloMosaic.Lib.Pipeline.ValueKit
public import Idealize.ShloMosaic.Lib.Pipeline.ReadBack
public import Idealize.ShloMosaic.Lib.Quiescent

/-! The normalised memory and its keys and values: the kernel's blocks are the reference's entries. -/

@[expose] public section

set_option maxRecDepth 16384

noncomputable section

namespace Cert.KvProjIdeal.Rows

open Cert.KvProjIdeal Cert.KvProjIdeal.Gen Idealize.ShloMosaic Idealize.ShloMosaic.TcCoe Idealize.SL.Sem
open Cert.Norm

/-- A normalised row, scaled by the gain, -/
def normed (x : FVec Ideal S256x1024 .f32) (g : FVec Ideal S1x1024 .f32) (r : Fin 256) (k : Fin 1024) : EReal :=
  x (ix2 r k) * (factor fun j => x (ix2 r j)) * g (ix2 0 k)

/-- and the product with it, at an entry. -/
def value (x : FVec Ideal S256x1024 .f32) (g : FVec Ideal S1x1024 .f32) (w : FVec Ideal S1024x2048 .bf16) (r : Fin 256) (n : Fin 2048) : EReal :=
  ∑ k : Fin 1024, normed x g r k * w (ix2 k n)

/-- What the kernel stores: the factor of a row, -/
theorem factor_at (x : FVec Ideal S256x1024 .f32) (i : Fin 256) : Gen.k0_pay1 (F := Ideal) x (ix2 i 0) = factor fun k => x (ix2 i k) := by
  pointwise [k0_pay1, factor, power, width, small]

/-- the row, -/
theorem row_at (x : FVec Ideal S256x1024 .f32) (g : FVec Ideal S1x1024 .f32) (i : Fin 256) (k : Fin 1024) :
    Gen.k0_pay2 (F := Ideal) x g (ix2 i k) = x (ix2 i k) * (factor fun j => x (ix2 i j)) * g (ix2 0 k) := by
  pointwise [k0_pay2, factor_at]

/-- the product of rows with a block of the weight. -/
theorem product_at (y : FVec Ideal S256x1024 .bf16) (w : FVec Ideal S1024x1024 .bf16) (i : Fin 256) (n : Fin 1024) :
    k0_pay3 (F := Ideal) y w (ix2 i n) = ∑ k : Fin 1024, y (ix2 i k) * w (ix2 k n) := by
  pointwise [k0_pay3]

variable (m : (ℓ : Loc nD τ sig) → Buf (Elt Ideal) ℓ) (c : Dev nD)

/-- The rows, the gain and the weight. -/
abbrev X : FVec Ideal S256x1024 .f32 := m ((c : Thread nD τ).loc main_arg0)
abbrev G : FVec Ideal S1x1024 .f32 := m ((c : Thread nD τ).loc main_arg1)
abbrev W : FVec Ideal S1024x2048 .bf16 := m ((c : Thread nD τ).loc main_arg2)

/-- The blocks a grid point reads and writes. -/
theorem index0 : ∀ t : Fin cfg0.N, win0_0.index t = ![t.val / 2, 0] := (by decide +kernel : ∀ t : Fin grid0.N, win0_0.index t = ![t.val / 2, 0])
theorem index1 : ∀ t : Fin cfg0.N, win0_1.index t = ![0, 0] := (by decide +kernel : ∀ t : Fin grid0.N, win0_1.index t = ![0, 0])
theorem index2 : ∀ t : Fin cfg0.N, win0_2.index t = ![0, t.val % 2] := (by decide +kernel : ∀ t : Fin grid0.N, win0_2.index t = ![0, t.val % 2])
theorem index3 : ∀ t : Fin cfg0.N, win0_3.index t = ![t.val / 2, t.val % 2] := (by decide +kernel : ∀ t : Fin grid0.N, win0_3.index t = ![t.val / 2, t.val % 2])
theorem index4 : ∀ t : Fin cfg0.N, win0_4.index t = ![t.val / 2, 0] := (by decide +kernel : ∀ t : Fin grid0.N, win0_4.index t = ![t.val / 2, 0])
theorem index5 : ∀ t : Fin cfg0.N, win0_5.index t = ![t.val / 2, 0] := (by decide +kernel : ∀ t : Fin grid0.N, win0_5.index t = ![t.val / 2, 0])

theorem iblk0 (t : Fin cfg0.N) (i : Fin 256) (k : Fin 1024) (r : Fin 256) (hr : r.val = t.val / 2 * 256 + i.val) :
    iblk m c 0 t (ix2 i k) = X m c (ix2 r k) := by
  blk_ext [iblk, V, index0 t, hr]
theorem iblk1 (t : Fin cfg0.N) (k : Fin 1024) : iblk m c 1 t (ix2 0 k) = G m c (ix2 0 k) := by
  blk_ext [iblk, V, index1 t]
theorem iblk2 (t : Fin cfg0.N) (k n : Fin 1024) (n' : Fin 2048) (hn : n'.val = t.val % 2 * 1024 + n.val) :
    iblk m c 2 t (ix2 k n) = W m c (ix2 k n') := by
  blk_ext [iblk, V, index2 t, hn]

/-- The first point of a run reads the same rows. -/
theorem head_rows (t : Fin cfg0.N) (i : Fin 256) (r : Fin 256) (hr : r.val = t.val / 2 * 256 + i.val) :
    r.val = (Launch.head t).val / 2 * 256 + i.val := by
  have e : (Launch.head t).val / 2 = t.val / 2 := by show 2 * (t.val / 2) / 2 = t.val / 2; omega
  rw [e, hr]

theorem rows_at (t : Fin cfg0.N) (i : Fin 256) (k : Fin 1024) (r : Fin 256) (hr : r.val = t.val / 2 * 256 + i.val) :
    Launch.rows m c t (ix2 i k) = normed (X m c) (G m c) r k := by
  have hx := fun j => iblk0 m c (Launch.head t) i j r (head_rows t i r hr)
  refine (row_at _ _ i k).trans ?_
  simp only [hx, iblk1 m c (Launch.head t) k]
  rfl

theorem factors_at (t : Fin cfg0.N) (i : Fin 256) (r : Fin 256) (hr : r.val = t.val / 2 * 256 + i.val) :
    Launch.factors m c t (ix2 i 0) = factor fun k => X m c (ix2 r k) := by
  have hx := fun j => iblk0 m c (Launch.head t) i j r (head_rows t i r hr)
  refine (factor_at _ i).trans ?_
  simp only [hx]

/-- THE PRODUCT after the launch, -/
theorem final_product (y : S256x2048.Idx) : (Launch.dats m 0 c).arrAt 3 cfg0.N y = value (X m c) (G m c) (W m c) (y 0) (y 1) := by
  refine congrFun ((Launch.dats m 0 c).arrAt_eq_of_covers 3 (fun y : S256x2048.Idx => value (X m c) (G m c) (W m c) (y 0) (y 1)) (by decide +kernel) fun t hf y => ?_) y
  have hN : t.val < 2 := lt_of_lt_of_eq t.isLt (show cfg0.N = 2 from N_0)
  blk_simp
  rw [Launch.after3]
  idx_vars y
  have e0 : ((cfg0.win 3).blk t).view.emb (ix2 y0 y1) 0 = (⟨t.val / 2 * 256 + y0.val, by omega⟩ : Fin 256) := by
    refine Fin.ext ?_
    blk_simp [index3 t]
  have e1 : ((cfg0.win 3).blk t).view.emb (ix2 y0 y1) 1 = (⟨t.val % 2 * 1024 + y1.val, by omega⟩ : Fin 2048) := by
    refine Fin.ext ?_
    blk_simp [index3 t]
  refine Eq.trans ?_ (congrArg₂ (value (X m c) (G m c) (W m c)) e0 e1).symm
  refine (product_at _ _ y0 y1).trans (Finset.sum_congr rfl fun k _ => ?_)
  exact congrArg₂ (fun a b : EReal => a * b) (rows_at m c t y0 k _ rfl) (iblk2 m c t k y1 _ rfl)

/-- the normalised rows, -/
theorem final_rows (y : S256x1024.Idx) : (Launch.dats m 0 c).arrAt 4 cfg0.N y = normed (X m c) (G m c) (y 0) (y 1) := by
  refine congrFun ((Launch.dats m 0 c).arrAt_eq_of_covers 4 (fun y : S256x1024.Idx => normed (X m c) (G m c) (y 0) (y 1)) (by decide +kernel) fun t hf y => ?_) y
  have hN : t.val < 2 := lt_of_lt_of_eq t.isLt (show cfg0.N = 2 from N_0)
  blk_simp
  rw [Launch.after4]
  idx_vars y
  have e0 : ((cfg0.win 4).blk t).view.emb (ix2 y0 y1) 0 = (⟨t.val / 2 * 256 + y0.val, by omega⟩ : Fin 256) := by
    refine Fin.ext ?_
    blk_simp [index4 t]
  have e1 : ((cfg0.win 4).blk t).view.emb (ix2 y0 y1) 1 = y1 := by
    refine Fin.ext ?_
    blk_simp [index4 t]
  refine Eq.trans ?_ (congrArg₂ (normed (X m c) (G m c)) e0 e1).symm
  exact rows_at m c t y0 y1 _ rfl

/-- and their factors. -/
theorem final_factors (y : S256x1.Idx) : (Launch.dats m 0 c).arrAt 5 cfg0.N y = factor fun k => X m c (ix2 (y 0) k) := by
  refine congrFun ((Launch.dats m 0 c).arrAt_eq_of_covers 5 (fun y : S256x1.Idx => factor fun k => X m c (ix2 (y 0) k)) (by decide +kernel) fun t hf y => ?_) y
  have hN : t.val < 2 := lt_of_lt_of_eq t.isLt (show cfg0.N = 2 from N_0)
  blk_simp
  rw [Launch.after5]
  idx_vars y
  have e0 : ((cfg0.win 5).blk t).view.emb (ix2 y0 y1) 0 = (⟨t.val / 2 * 256 + y0.val, by omega⟩ : Fin 256) := by
    refine Fin.ext ?_
    blk_simp [index5 t]
  refine Eq.trans ?_ (congrArg (fun r : Fin 256 => factor fun k => X m c (ix2 r k)) e0).symm
  obtain rfl : y1 = 0 := Subsingleton.elim _ _
  exact factors_at m c t y0 _ rfl

/-- The launch with each array named. -/
theorem run (ρ : Dev nD → PrngReg) : θ_run defs (onTc (τ := τ) (main (F := Ideal))) ⟨m, fun _ => 0, ρ⟩ fun r => ∀ c : Dev nD,
      r.2.mem ((c : Thread nD τ).loc main_v0_0) = (Launch.dats m 0 c).arrAt 3 cfg0.N
      ∧ r.2.mem ((c : Thread nD τ).loc main_v0_1) = (Launch.dats m 0 c).arrAt 4 cfg0.N
      ∧ r.2.mem ((c : Thread nD τ).loc main_v0_2) = (Launch.dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      (h c).1 4,
      (h c).1 5,
      ((h c).1 0).trans (((Launch.dats m 0 c).arrAt_in 0 rfl _).trans ((Launch.A_eq m c 0).trans (V_main_arg0 m c))),
      ((h c).1 1).trans (((Launch.dats m 0 c).arrAt_in 1 rfl _).trans ((Launch.A_eq m c 1).trans (V_main_arg1 m c))),
      ((h c).1 2).trans (((Launch.dats m 0 c).arrAt_in 2 rfl _).trans ((Launch.A_eq m c 2).trans (V_main_arg2 m c)))⟩)
    (Launch.run m ρ)

end Cert.KvProjIdeal.Rows

namespace Cert.KvProjRefIdeal.Reading

open Cert.KvProjRefIdeal Cert.KvProjRefIdeal.Gen Cert.KvProjRefIdeal.Read Idealize.ShloMosaic
open Cert.Norm

variable (x0 : (⟨S256x1024, .f32⟩ : BufTy).Contents (Elt Ideal)) (x1 : (⟨S1x1024, .f32⟩ : BufTy).Contents (Elt Ideal))
  (x2 : (⟨S1024x2048, .bf16⟩ : BufTy).Contents (Elt Ideal))

/-- The factors of the rows, wherever the reference computes them; -/
theorem factor_at (r : Fin 256) : val_main_v8 x0 (ix2 r 0) = factor fun k => x0 (ix2 r k) := by
  pointwise [val_main_v8, val_main_v7, val_main_v6, val_main_v5, val_main_v4, val_main_v3, val_main_v2, val_main_v1, val_main_cst, val_main_cst_0, val_main_cst_1, factor, power, width, small]

/-- once more for its third result. -/
theorem third_at (r : Fin 256) : val_main_v23 x0 (ix2 r 0) = factor fun k => x0 (ix2 r k) := by
  pointwise [val_main_v23, val_main_v22, val_main_v21, val_main_v20, val_main_v19, val_main_v18, val_main_v17, val_main_v16, val_main_cst_2, val_main_cst_3, val_main_cst_4, factor, power, width, small]

/-- The normalised rows, -/
theorem normed_at (r : Fin 256) (k : Fin 1024) : val_main_v12 x0 x1 (ix2 r k) = Cert.KvProjIdeal.Rows.normed x0 x1 r k := by
  pointwise [val_main_v12, val_main_v11, val_main_v10, val_main_v9, factor_at, Cert.KvProjIdeal.Rows.normed]

theorem rows_at (r : Fin 256) (k : Fin 1024) : val_main_v15 x0 x1 (ix2 r k) = Cert.KvProjIdeal.Rows.normed x0 x1 r k := by
  pointwise [val_main_v15, normed_at]

/-- and the product. -/
theorem product_at (r : Fin 256) (n : Fin 2048) : val_main_v14 x0 x1 x2 (ix2 r n) = Cert.KvProjIdeal.Rows.value x0 x1 x2 r n := by
  pointwise [val_main_v14, val_main_v13, val_main_v0, normed_at, Cert.KvProjIdeal.Rows.value]

end Cert.KvProjRefIdeal.Reading

namespace Cert.Proof.KvProj

open Idealize.ShloMosaic Idealize.SL.Sem

theorem frame_kernel : Cert.quiescent_KvProj := fun m ρ _ => Cert.KvProj.Launch.frame m ρ
theorem frame_ideal : Cert.quiescent_KvProjIdeal := fun m ρ _ => Cert.KvProjIdeal.Launch.frame m ρ

/-- The reference runs on the host alone: it takes no semaphore. -/
theorem frame_reference : Cert.quiescent_KvProjRefIdeal := fun m ρ _ =>
  (θ_run Cert.KvProjRefIdeal.defs _ _).mono
    (fun r h => ⟨fun c => (h c).2.2.2, sem_eq_zero_of_no_sems (by decide) r.2⟩)
    (Cert.KvProjRefIdeal.Value.run (F := Ideal) m ρ)

theorem preserves : Cert.preserves_KvProj_KvProjIdeal := trivial

/-- THE VALUE CLAIM: every result of the kernel is the reference's. -/
theorem algebraic : Cert.algebraic_KvProjIdeal_KvProjRefIdeal := by
  intro m g m' g' _ hagree
  refine ⟨fun c y => Cert.KvProjIdeal.Rows.value (Cert.KvProjIdeal.Rows.X m c) (Cert.KvProjIdeal.Rows.G m c) (Cert.KvProjIdeal.Rows.W m c) (y 0) (y 1),
    fun c y => Cert.KvProjIdeal.Rows.normed (Cert.KvProjIdeal.Rows.X m c) (Cert.KvProjIdeal.Rows.G m c) (y 0) (y 1),
    fun c y => Cert.Norm.factor fun k => Cert.KvProjIdeal.Rows.X m c (ix2 (y 0) k), ?_, ?_⟩
  · exact (θ_run Cert.KvProjIdeal.defs _ _).mono (fun r h c => ⟨(h c).1.trans (funext (Cert.KvProjIdeal.Rows.final_product m c)), (h c).2.1.trans (funext (Cert.KvProjIdeal.Rows.final_rows m c)), (h c).2.2.1.trans (funext (Cert.KvProjIdeal.Rows.final_factors m c)), (h c).2.2.2⟩)
      (Cert.KvProjIdeal.Rows.run m g)
  · refine (θ_run Cert.KvProjRefIdeal.defs _ _).mono (fun r h c => ⟨(h c).1.trans ?_, (h c).2.1.trans ?_, (h c).2.2.1.trans ?_, (h c).2.2.2⟩) (Cert.KvProjRefIdeal.Value.run (F := Ideal) m' g')
    · obtain ⟨a0, a1, a2⟩ := hagree c
      refine (Cert.KvProjRefIdeal.Read.val_main_v14_eq _ _ _).trans (funext fun y => ?_)
      rw [a0, a1, a2]
      idx_vars y
      exact Cert.KvProjRefIdeal.Reading.product_at _ _ _ y0 y1
    · obtain ⟨a0, a1, a2⟩ := hagree c
      refine (Cert.KvProjRefIdeal.Read.val_main_v15_eq _ _).trans (funext fun y => ?_)
      rw [a0, a1]
      idx_vars y
      exact Cert.KvProjRefIdeal.Reading.rows_at _ _ y0 y1
    · obtain ⟨a0, a1, a2⟩ := hagree c
      refine (Cert.KvProjRefIdeal.Read.val_main_v23_eq _).trans (funext fun y => ?_)
      rw [a0]
      idx_vars y
      obtain rfl : y1 = 0 := Subsingleton.elim _ _
      exact Cert.KvProjRefIdeal.Reading.third_at _ y0

end Cert.Proof.KvProj

end
-- ==== Proof.OwnGluFwd.lean ====
module

public import proofs.«01_k».proof.Defs
public import proofs.«01_k».proof.Proof.Gelu
public import proofs.«01_k».proof.Proof.Gen.GluFwd.Frame
public import proofs.«01_k».proof.Proof.Gen.GluFwdIdeal.Frame
public import proofs.«01_k».proof.Proof.Gen.GluFwdRefIdeal.Run
public import proofs.«01_k».proof.Proof.Gen.GluFwdRefIdeal.Read
public import Idealize.ShloMosaic.Lib.Claim
public import Idealize.ShloMosaic.Lib.Pipeline.ValueKit
public import Idealize.ShloMosaic.Lib.Pipeline.ReadBack
public import Idealize.ShloMosaic.Lib.Quiescent

/-! The gate of the scan's output: `gelu` of a row times the logistic function of its product with the gate's weight, block by block
    of 512 rows. The kernel leaves the gated rows in the left half of an array of twice the width, which the host then cuts out. -/

@[expose] public section

set_option maxRecDepth 16384

noncomputable section

namespace Cert.GluFwdIdeal.Product

open Cert.GluFwdIdeal Cert.GluFwdIdeal.Gen Idealize.ShloMosaic Idealize.ShloMosaic.TcCoe Idealize.SL.Sem
open Idealize.ShloMosaic.Pipeline (Dat)
open Cert.Gelu

/-- The weight of the cube in the kernel's body is the number itself. -/
theorem named : Named.named (F := Ideal) (φ := .f32) κ "cube" 0x3D372713#32 = cube :=
  IdealRules.named_const.ideal_named_scalar _ _ _ _ rfl

/-- What the kernel computes in one block of 512 rows: `gelu`, -/
theorem value_at (y : FVec Ideal S512x1024 .bf16) (r : Fin 512) (k : Fin 1024) : k0_pay1 (F := Ideal) y (ix2 r k) = value (y (ix2 r k)) := by
  refine Eq.trans (b := half * y (ix2 r k) * (1 + Ideal.tanh (root * (y (ix2 r k) + cube * y (ix2 r k) * y (ix2 r k) * y (ix2 r k))))) ?_ ?_
  · pointwise [k0_pay1, half, root, named]
  · simp only [bend_form, value_form]

/-- the logits, -/
theorem logit_at (y : FVec Ideal S512x1024 .bf16) (w : FVec Ideal S1024x1024 .bf16) (r : Fin 512) (n : Fin 1024) :
    k0_pay2 (F := Ideal) y w (ix2 r n) = ∑ k : Fin 1024, value (y (ix2 r k)) * w (ix2 k n) := by
  pointwise [k0_pay2, value_at]

/-- and the gated rows. -/
theorem gated_at (y : FVec Ideal S512x1024 .bf16) (w : FVec Ideal S1024x1024 .bf16) (r : Fin 512) (n : Fin 1024) :
    k0_pay3 (F := Ideal) y w (ix2 r n) = value (y (ix2 r n)) * sigma (∑ k : Fin 1024, value (y (ix2 r k)) * w (ix2 k n)) := by
  pointwise [k0_pay3, value_at, logit_at, sigma]
  first
    | rfl
    | simp only [zero_sub]

theorem stored_at (y : FVec Ideal S512x1024 .bf16) (w : FVec Ideal S1024x1024 .bf16) (r : Fin 512) (n : Fin 1024) :
    k0_pay4 (F := Ideal) y w (ix2 r n) = ∑ k : Fin 1024, value (y (ix2 r k)) * w (ix2 k n) := by
  pointwise [k0_pay4, logit_at]

variable (m : (ℓ : Loc nD τ sig) → Buf (Elt Ideal) ℓ) (c : Dev nD)

/-- The scan's rows, the gate's weight. -/
abbrev Y : FVec Ideal S8192x1024 .bf16 := m ((c : Thread nD τ).loc main_arg0)
abbrev W : FVec Ideal S1024x1024 .bf16 := m ((c : Thread nD τ).loc main_arg1)

/-- The gate's logits and the gated rows. -/
def logit (y : FVec Ideal S8192x1024 .bf16) (w : FVec Ideal S1024x1024 .bf16) (r : Fin 8192) (n : Fin 1024) : EReal :=
  ∑ k : Fin 1024, value (y (ix2 r k)) * w (ix2 k n)
def gated (y : FVec Ideal S8192x1024 .bf16) (w : FVec Ideal S1024x1024 .bf16) (r : Fin 8192) (n : Fin 1024) : EReal :=
  value (y (ix2 r n)) * sigma (logit y w r n)

/-- A column of either half, counted from where its half begins. -/
def column (n : Fin 2048) : Fin 1024 := ⟨n.val % 1024, Nat.mod_lt _ (by decide)⟩
/-- The gated rows are the first of the two halves. -/
def left (n : Fin 1024) : Fin 2048 := ⟨n.val, by omega⟩

/-- The blocks a grid point reads and those it writes. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

theorem iblk0 (t : Fin cfg0.N) (r : Fin 512) (k : Fin 1024) (r' : Fin 8192) (hr : r'.val = t.val * 512 + r.val) :
    iblk m c 0 t (ix2 r k) = Y m c (ix2 r' k) := by
  blk_ext [iblk, V, index0 t, hr]
theorem iblk1 (t : Fin cfg0.N) (k n : Fin 1024) : iblk m c 1 t (ix2 k n) = W m c (ix2 k n) := by
  blk_ext [iblk, V, index1 t]

/-- THE LOGITS after the launch, -/
theorem final3 (y : S8192x1024.Idx) : (dats m 0 c).arrAt 3 cfg0.N y = logit (Y m c) (W m c) (y 0) (y 1) := by
  refine congrFun ((dats m 0 c).arrAt_eq_of_covers 3 (fun y : S8192x1024.Idx => logit (Y m c) (W m c) (y 0) (y 1)) (by decide +kernel) fun t hf y => ?_) y
  have hN : t.val < 16 := lt_of_lt_of_eq t.isLt (show cfg0.N = 16 from N_0)
  blk_simp
  rw [after0_3]
  unfold out0_3
  frame_out
  idx_vars y
  have e0 : ((cfg0.win 3).blk t).view.emb (ix2 y0 y1) 0 = (⟨t.val * 512 + y0.val, by omega⟩ : Fin 8192) := by
    refine Fin.ext ?_
    blk_simp [index3 t]
  have e1 : ((cfg0.win 3).blk t).view.emb (ix2 y0 y1) 1 = y1 := by
    refine Fin.ext ?_
    blk_simp [index3 t]
  refine Eq.trans ?_ (congrArg₂ (logit (Y m c) (W m c)) e0 e1).symm
  refine (stored_at _ _ y0 y1).trans ?_
  have h0 := fun k => iblk0 m c t y0 k (⟨t.val * 512 + y0.val, by omega⟩ : Fin 8192) rfl
  have h1 := fun k n => iblk1 m c t k n
  simp only [h0, h1]
  rfl

/-- and the left half of the wide array: the gated rows (no grid point writes the right half). -/
theorem final2 (y : S8192x2048.Idx) (hy : (y 1).val < 1024) : (dats m 0 c).arrAt 2 cfg0.N y = gated (Y m c) (W m c) (y 0) (column (y 1)) := by
  refine ((dats m 0 c).arrAt_apply_of_coversWhere 2 (fun y : S8192x2048.Idx => gated (Y m c) (W m c) (y 0) (column (y 1)))
    (P := fun y : S8192x2048.Idx => (y 1).val < 1024) (fun β => β (1 : Fin 2) = 0) (by decide +kernel) (fun t hf y => ?_) (fun j => ?_) y).trans (if_pos hy)
  swap
  · blk_simp [Pipeline.Window.cell_apply]
    omega
  have hN : t.val < 16 := lt_of_lt_of_eq t.isLt (show cfg0.N = 16 from N_0)
  blk_simp
  rw [after0_2]
  unfold out0_2
  frame_out
  idx_vars y
  have e0 : ((cfg0.win 2).blk t).view.emb (ix2 y0 y1) 0 = (⟨t.val * 512 + y0.val, by omega⟩ : Fin 8192) := by
    refine Fin.ext ?_
    blk_simp [index2 t]
  have e1 : column (((cfg0.win 2).blk t).view.emb (ix2 y0 y1) 1) = y1 := by
    refine Fin.ext ?_
    blk_simp [index2 t, column]
    exact Nat.mod_eq_of_lt y1.isLt
  refine Eq.trans ?_ (congrArg₂ (gated (Y m c) (W m c)) e0 e1).symm
  refine (gated_at _ _ y0 y1).trans ?_
  have h0 := fun k => iblk0 m c t y0 k (⟨t.val * 512 + y0.val, by omega⟩ : Fin 8192) rfl
  have h1 := fun k n => iblk1 m c t k n
  simp only [h0, h1]
  rfl

/-- No two windows move the same array. -/
theorem arrays_apart : Function.Injective (Pipeline.arrRef spec0) := by decide

/-- What the host leaves: the left half of the wide array. -/
theorem tail : Pipeline.afterTail₀ cfgs (dats m) 0 (V0 m) [hostOps1] c main_v1
    = (extractStridedSlice S8192x1024 ![0, 0] ((dats m 0 c).arrAt 2 cfg0.N : FVec Ideal S8192x2048 .bf16) slices_S8192x2048_S8192x1024_0_0 : FVec Ideal S8192x1024 .bf16) := by
  unfold Pipeline.afterTail₀
  simp only [hostOps1, List.flatten_cons, List.flatten_nil, List.append_nil]
  rw [StableHlo.after_cons, StableHlo.after_nil]
  refine (StableHlo.unary_result _ _ _ _ _ _).trans ?_
  exact congrArg (fun A : FVec Ideal S8192x2048 .bf16 => extractStridedSlice S8192x1024 ![0, 0] A slices_S8192x2048_S8192x1024_0_0)
    (Pipeline.withArrays_arr spec0 arrays_apart c (V0 m c) _ 2)

theorem slice_at (A : FVec Ideal S8192x2048 .bf16) (r : Fin 8192) (n : Fin 1024) :
    (extractStridedSlice S8192x1024 ![0, 0] A slices_S8192x2048_S8192x1024_0_0 : FVec Ideal S8192x1024 .bf16) (ix2 r n) = A (ix2 r (left n)) := by
  pointwise [left]

/-- THE GATED ROWS after the launch and the cut. -/
theorem final1 (y : S8192x1024.Idx) : (Pipeline.afterTail₀ cfgs (dats m) 0 (V0 m) [hostOps1] c main_v1 : FVec Ideal S8192x1024 .bf16) y
    = gated (Y m c) (W m c) (y 0) (y 1) := by
  rw [tail]
  idx_vars y
  refine (slice_at _ y0 y1).trans ((final2 m c (ix2 y0 (left y1)) y1.isLt).trans ?_)
  exact congrArg (gated (Y m c) (W m c) y0) (Fin.ext (Nat.mod_eq_of_lt y1.isLt))

end Cert.GluFwdIdeal.Product

namespace Cert.GluFwdRefIdeal.Reading

open Cert.GluFwdRefIdeal Cert.GluFwdRefIdeal.Gen Cert.GluFwdRefIdeal.Read Idealize.ShloMosaic
open Cert.Gelu
open Cert.GluFwdIdeal.Product (logit gated)

variable (x0 : (⟨S8192x1024, .bf16⟩ : BufTy).Contents (Elt Ideal)) (x1 : (⟨S1024x1024, .bf16⟩ : BufTy).Contents (Elt Ideal))

/-- The reference's `gelu`, its logits, the logistic function of them, the gated rows, -/
theorem value_at (r : Fin 8192) (n : Fin 1024) : val_main_v15 x0 (ix2 r n) = value (x0 (ix2 r n)) := by
  simp only [value, bend, ← quotient_eq]
  pointwise [val_main_v15, val_main_v14, val_main_v13, val_main_v12, val_main_v11, val_main_v10, val_main_v9, val_main_v8, val_main_v7, val_main_v6, val_main_v5, val_main_v4,
    val_main_v3, val_main_v2, val_main_v0, val_main_cst, val_main_cst_0, val_main_cst_1, val_main_cst_2, val_main_cst_3, half, root, whole, million]
theorem logit_at (r : Fin 8192) (n : Fin 1024) : val_main_v16 x0 x1 (ix2 r n) = logit x0 x1 r n := by
  pointwise [val_main_v16, val_main_v1, logit, value_at]
theorem sigma_at (r : Fin 8192) (n : Fin 1024) : val_main_v22 x0 x1 (ix2 r n) = sigma (logit x0 x1 r n) := by
  pointwise [val_main_v22, val_main_v21, val_main_v20, val_main_v19, val_main_v18, val_main_v17, val_main_cst_4, val_main_cst_5, sigma, logit_at]
theorem gated_at (r : Fin 8192) (n : Fin 1024) : val_main_v24 x0 x1 (ix2 r n) = gated x0 x1 r n := by
  pointwise [val_main_v24, val_main_v23, gated, value_at, sigma_at]

/-- and the logits it returns. -/
theorem value_again (r : Fin 8192) (n : Fin 1024) : val_main_v38 x0 (ix2 r n) = value (x0 (ix2 r n)) := by
  simp only [value, bend, ← quotient_eq]
  pointwise [val_main_v38, val_main_v37, val_main_v36, val_main_v35, val_main_v34, val_main_v33, val_main_v32, val_main_v31, val_main_v30, val_main_v29, val_main_v28, val_main_v27,
    val_main_v26, val_main_v25, val_main_v0, val_main_cst_6, val_main_cst_7, val_main_cst_8, val_main_cst_9, val_main_cst_10, half, root, whole, million]
theorem stored_at (r : Fin 8192) (n : Fin 1024) : val_main_v41 x0 x1 (ix2 r n) = logit x0 x1 r n := by
  pointwise [val_main_v41, val_main_v40, val_main_v39, logit, value_again]

end Cert.GluFwdRefIdeal.Reading

namespace Cert.Proof.GluFwd

open Idealize.ShloMosaic Idealize.SL.Sem

theorem frame_kernel : Cert.quiescent_GluFwd := fun m ρ _ => Cert.GluFwd.Gen.frame m ρ
theorem frame_ideal : Cert.quiescent_GluFwdIdeal := fun m ρ _ => Cert.GluFwdIdeal.Gen.frame m ρ

/-- The reference runs on the host alone: it takes no semaphore. -/
theorem frame_reference : Cert.quiescent_GluFwdRefIdeal := fun m ρ _ =>
  (θ_run Cert.GluFwdRefIdeal.defs _ _).mono
    (fun r h => ⟨fun c => (h c).2.2, sem_eq_zero_of_no_sems (by decide) r.2⟩)
    (Cert.GluFwdRefIdeal.Value.run (F := Ideal) m ρ)

theorem preserves : Cert.preserves_GluFwd_GluFwdIdeal :=
  IdealRules.named_const.statement Cert.GluFwdIdeal.κ "cube" .f32 0x3D372713#32 ((8943 / 200000 : ℝ) : EReal) rfl

open Cert.GluFwdIdeal.Gen in
open Cert.GluFwdIdeal.Product in
/-- THE VALUE CLAIM: the kernel's gated rows and its logits are the reference's, for any arrays. -/
theorem algebraic : Cert.algebraic_GluFwdIdeal_GluFwdRefIdeal := by
  intro m g m' g' _ hagree
  refine ⟨fun c y => gated (Y m c) (W m c) (y 0) (y 1), fun c y => logit (Y m c) (W m c) (y 0) (y 1), ?_, ?_⟩
  · refine (θ_run Cert.GluFwdIdeal.defs _ _).mono (fun r h c => ⟨?_, ?_, ?_, ?_⟩) (Cert.GluFwdIdeal.Gen.run_main (F := Ideal) m g)
    · exact ((h c).2 Cert.GluFwdIdeal.main_v1 (by decide)).trans (funext (final1 m c))
    · exact ((h c).1 3).trans (funext (final3 m c))
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.GluFwdRefIdeal.defs _ _).mono (fun r h c => ⟨(h c).1.trans ?_, (h c).2.1.trans ?_, (h c).2.2⟩) (Cert.GluFwdRefIdeal.Value.run (F := Ideal) m' g')
    · obtain ⟨a0, a1⟩ := hagree c
      refine (Cert.GluFwdRefIdeal.Read.val_main_v24_eq _ _).trans (funext fun y => ?_)
      rw [a0, a1]
      idx_vars y
      exact Cert.GluFwdRefIdeal.Reading.gated_at _ _ y0 y1
    · obtain ⟨a0, a1⟩ := hagree c
      refine (Cert.GluFwdRefIdeal.Read.val_main_v41_eq _ _).trans (funext fun y => ?_)
      rw [a0, a1]
      idx_vars y
      exact Cert.GluFwdRefIdeal.Reading.stored_at _ _ y0 y1

end Cert.Proof.GluFwd

end
-- ==== Proof.OwnKvDw.lean ====
module

public import proofs.«01_k».proof.Defs
public import proofs.«01_k».proof.Proof.Gen.KvDw.Frame
public import proofs.«01_k».proof.Proof.Gen.KvDwIdeal.Value
public import proofs.«01_k».proof.Proof.Gen.KvDwRefIdeal.Run
public import proofs.«01_k».proof.Proof.Gen.KvDwRefIdeal.Read
public import Idealize.ShloMosaic.Lib.Pipeline.ValueKit
public import Idealize.ShloMosaic.Lib.Pipeline.ReadBack
public import Idealize.ShloMosaic.Lib.Quiescent

/-! The gradient of the keys' and values' weight, in two blocks of columns. -/

@[expose] public section

set_option maxRecDepth 16384

noncomputable section

namespace Cert.KvDwIdeal.Product

open Cert.KvDwIdeal Cert.KvDwIdeal.Gen Idealize.ShloMosaic Idealize.ShloMosaic.TcCoe Idealize.SL.Sem
open Idealize.ShloMosaic.Pipeline (Dat)

/-- The product of the transposed rows with a block of columns. -/
theorem part_at (a : FVec Ideal S256x1024 .bf16) (g : FVec Ideal S256x1024 .f32) (k n : Fin 1024) :
    k0_pay1 (F := Ideal) a g (ix2 k n) = ∑ r : Fin 256, a (ix2 r k) * g (ix2 r n) := by
  pointwise [k0_pay1]

variable (m : (ℓ : Loc nD τ sig) → Buf (Elt Ideal) ℓ) (c : Dev nD)

/-- The saved normalised rows of the memory, -/
abbrev A : FVec Ideal S256x1024 .bf16 := m ((c : Thread nD τ).loc main_arg0)
/-- and the gradient of the keys and values. -/
abbrev G : FVec Ideal S256x2048 .f32 := m ((c : Thread nD τ).loc main_arg1)

/-- The blocks a grid point reads and the one it writes. -/
theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])

/-- What a grid point stores. -/
theorem stored (t : Fin cfg0.N) (i : S1024x1024.Idx) : outsAt0 m c t i = k0_pay1 (F := Ideal) (iblk m c 0 t) (iblk m c 1 t) i := by
  unfold outsAt0
  frame_out

theorem iblk0 (t : Fin cfg0.N) (r : Fin 256) (j : Fin 1024) : iblk m c 0 t (ix2 r j) = A m c (ix2 r j) := by
  blk_ext [iblk, V, index0 t]

theorem iblk1 (t : Fin cfg0.N) (r : Fin 256) (j : Fin 1024) (j' : Fin 2048) (hj : j'.val = t.val * 1024 + j.val) :
    iblk m c 1 t (ix2 r j) = G m c (ix2 r j') := by
  blk_ext [iblk, V, index1 t, hj]

/-- The gradient of the weight at an entry. -/
def grad (a : FVec Ideal S256x1024 .bf16) (g : FVec Ideal S256x2048 .f32) (k : Fin 1024) (n : Fin 2048) : EReal :=
  ∑ r : Fin 256, a (ix2 r k) * g (ix2 r n)

/-- THE WEIGHT'S GRADIENT after the launch. -/
theorem final (y : S1024x2048.Idx) : (dats m 0 c).arrAt 2 cfg0.N y = grad (A m c) (G m c) (y 0) (y 1) := by
  refine congrFun ((dats m 0 c).arrAt_eq_of_covers 2 (fun y : S1024x2048.Idx => grad (A m c) (G m c) (y 0) (y 1)) (by decide +kernel) fun t hf y => ?_) y
  have hN : t.val < 2 := lt_of_lt_of_eq t.isLt (show cfg0.N = 2 from N_0)
  blk_simp
  rw [after0_2, stored m c t]
  idx_vars y
  have e0 : ((cfg0.win 2).blk t).view.emb (ix2 y0 y1) 0 = y0 := by
    refine Fin.ext ?_
    blk_simp [index2 t]
  have e1 : ((cfg0.win 2).blk t).view.emb (ix2 y0 y1) 1 = (⟨t.val * 1024 + y1.val, by omega⟩ : Fin 2048) := by
    refine Fin.ext ?_
    blk_simp [index2 t]
  refine Eq.trans ?_ (congrArg₂ (grad (A m c) (G m c)) e0 e1).symm
  refine (part_at _ _ y0 y1).trans (Finset.sum_congr rfl fun r _ => ?_)
  exact congrArg₂ (fun a g : EReal => a * g) (iblk0 m c t r y0) (iblk1 m c t r y1 _ rfl)

end Cert.KvDwIdeal.Product

namespace Cert.KvDwRefIdeal.Reading

open Cert.KvDwRefIdeal Cert.KvDwRefIdeal.Gen Cert.KvDwRefIdeal.Read Idealize.ShloMosaic

variable (x0 : (⟨S256x1024, .bf16⟩ : BufTy).Contents (Elt Ideal)) (x1 : (⟨S256x2048, .f32⟩ : BufTy).Contents (Elt Ideal))

/-- The reference's derivative, read at an entry. -/
theorem result_at (k : Fin 1024) (n : Fin 2048) :
    val_main_v4 x0 x1 (ix2 k n) = Cert.KvDwIdeal.Product.grad x0 x1 k n := by
  pointwise [val_main_v4, val_main_v3, val_main_v0]
  first
    | rfl
    | exact Finset.sum_congr rfl fun r _ => mul_comm _ _

end Cert.KvDwRefIdeal.Reading

namespace Cert.Proof.KvDw

open Idealize.ShloMosaic Idealize.SL.Sem

theorem frame_kernel : Cert.quiescent_KvDw := fun m ρ _ => Cert.KvDw.Gen.frame m ρ
theorem frame_ideal : Cert.quiescent_KvDwIdeal := fun m ρ _ => Cert.KvDwIdeal.Gen.frame m ρ

/-- The reference runs on the host alone: it takes no semaphore. -/
theorem frame_reference : Cert.quiescent_KvDwRefIdeal := fun m ρ _ =>
  (θ_run Cert.KvDwRefIdeal.defs _ _).mono
    (fun r h => ⟨fun c => ⟨(h c).2.1, (h c).2.2⟩, sem_eq_zero_of_no_sems (by decide) r.2⟩)
    (Cert.KvDwRefIdeal.Value.run (F := Ideal) m ρ)

theorem preserves : Cert.preserves_KvDw_KvDwIdeal := trivial

/-- THE VALUE CLAIM: the kernel's gradient of the weight is the reference's. -/
theorem algebraic : Cert.algebraic_KvDwIdeal_KvDwRefIdeal := by
  intro m g m' g' _ hagree
  refine ⟨fun c y => Cert.KvDwIdeal.Product.grad (Cert.KvDwIdeal.Product.A m c) (Cert.KvDwIdeal.Product.G m c) (y 0) (y 1), ?_, ?_⟩
  · exact (θ_run Cert.KvDwIdeal.defs _ _).mono (fun r h c => ⟨(h c).1.trans (funext (Cert.KvDwIdeal.Product.final m c)), (h c).2⟩)
      (Cert.KvDwIdeal.Value.run_blocks (F := Ideal) m g)
  · refine (θ_run Cert.KvDwRefIdeal.defs _ _).mono (fun r h c => ⟨(h c).1.trans ?_, (h c).2⟩) (Cert.KvDwRefIdeal.Value.run (F := Ideal) m' g')
    obtain ⟨a0, a1⟩ := hagree c
    refine (Cert.KvDwRefIdeal.Read.val_main_v4_eq _ _).trans (funext fun y => ?_)
    rw [a0, a1]
    idx_vars y
    exact Cert.KvDwRefIdeal.Reading.result_at _ _ y0 y1

end Cert.Proof.KvDw

end
-- ==== Proof.OwnKvDx.lean ====
module

public import proofs.«01_k».proof.Defs
public import proofs.«01_k».proof.Proof.NormGrad
public import proofs.«01_k».proof.Proof.Entries
public import proofs.«01_k».proof.Proof.Gen.KvDx.Frame
public import proofs.«01_k».proof.Proof.Gen.KvDxIdeal.Value
public import proofs.«01_k».proof.Proof.Gen.KvDxRefIdeal.Run
public import proofs.«01_k».proof.Proof.Gen.KvDxRefIdeal.Read
public import proofs.«01_k».proof.Proof.Gen.Pre_finite_kv
public import Idealize.ShloMosaic.Lib.Claim
public import Idealize.ShloMosaic.Lib.Pipeline.ValueKit
public import Idealize.ShloMosaic.Lib.Pipeline.ReadBack
public import Idealize.ShloMosaic.Lib.Quiescent

/-! The gradient through the keys' and values' product and the normalisation of the memory before it. -/

@[expose] public section

set_option maxRecDepth 16384

noncomputable section

namespace Cert.KvDxIdeal.Rows

open Cert.KvDxIdeal Cert.KvDxIdeal.Gen Idealize.ShloMosaic Idealize.ShloMosaic.TcCoe Idealize.SL.Sem
open Idealize.ShloMosaic.Pipeline (Dat)
open Cert.Attn (Finite)
open Cert.Norm

/-- One block of columns of the product with the transposed weight, -/
theorem part_at (p : FVec Ideal S256x1024 .f32) (w : FVec Ideal S1024x1024 .bf16) (i : Fin 256) (n : Fin 1024) :
    k0_pay1 (F := Ideal) p w (ix2 i n) = ∑ j : Fin 1024, p (ix2 i j) * w (ix2 n j) := by
  pointwise [k0_pay1]

/-- the row's gradient from the finished product, -/
theorem row_at (d x : FVec Ideal S256x1024 .f32) (f : FVec Ideal S256x1 .f32) (g : FVec Ideal S1x1024 .f32) (b : FVec Ideal S256x1024 .f32)
    (i : Fin 256) (n : Fin 1024) :
    k0_pay6 (F := Ideal) d x f g b (ix2 i n) = b (ix2 i n) + f (ix2 i 0) * (d (ix2 i n) * g (ix2 0 n)
      - x (ix2 i n) * f (ix2 i 0) * Ideal.div (∑ k : Fin 1024, d (ix2 i k) * g (ix2 0 k) * (x (ix2 i k) * f (ix2 i 0))) width) := by
  pointwise [k0_pay6, k0_pay5, k0_pay4, width]

/-- and what a block of rows adds to the gradient of the gain. -/
theorem gain_at (d x : FVec Ideal S256x1024 .f32) (f : FVec Ideal S256x1 .f32) (n : Fin 1024) :
    k0_pay7 (F := Ideal) d x f (ix2 0 n) = ∑ i : Fin 256, d (ix2 i n) * (x (ix2 i n) * f (ix2 i 0)) := by
  pointwise [k0_pay7, k0_pay5, k0_pay4]

variable (m : (ℓ : Loc nD τ sig) → Buf (Elt Ideal) ℓ) (c : Dev nD)

/-- The memory's rows that were normalised, their gain, the weight, the gradient of the keys and values. -/
abbrev X : FVec Ideal S256x1024 .f32 := m ((c : Thread nD τ).loc main_arg0)
abbrev G : FVec Ideal S1x1024 .f32 := m ((c : Thread nD τ).loc main_arg1)
abbrev W : FVec Ideal S1024x2048 .bf16 := m ((c : Thread nD τ).loc main_arg2)
abbrev P : FVec Ideal S256x2048 .f32 := m ((c : Thread nD τ).loc main_arg3)

theorem index0 : ∀ t : Fin cfg0.N, win0_0.index t = ![0, t.val] := (by decide +kernel : ∀ t : Fin grid0.N, win0_0.index t = ![0, t.val])
theorem index1 : ∀ t : Fin cfg0.N, win0_1.index t = ![0, t.val] := (by decide +kernel : ∀ t : Fin grid0.N, win0_1.index t = ![0, t.val])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])

/-- The blocks a grid point reads. -/
theorem iblk0 (t : Fin cfg0.N) (i : Fin 256) (j : Fin 1024) (k : Fin 2048) (hk : k.val = t.val * 1024 + j.val) :
    iblk m c 0 t (ix2 i j) = P m c (ix2 i k) := by
  blk_ext [iblk, V, index0 t, hk]
theorem iblk1 (t : Fin cfg0.N) (n j : Fin 1024) (k : Fin 2048) (hk : k.val = t.val * 1024 + j.val) :
    iblk m c 1 t (ix2 n j) = W m c (ix2 n k) := by
  blk_ext [iblk, V, index1 t, hk]
theorem iblk2 (t : Fin cfg0.N) (i : Fin 256) (j : Fin 1024) : iblk m c 2 t (ix2 i j) = X m c (ix2 i j) := by
  blk_ext [iblk, V, index2 t]
theorem iblk4 (t : Fin cfg0.N) (j : Fin 1024) : iblk m c 4 t (ix2 0 j) = G m c (ix2 0 j) := by
  blk_ext [iblk, V, index4 t]

/-- The factors of the rows, as the host computes them before the launch, -/
theorem factor_at (r : Fin 256) : (V m c main_v7 : FVec Ideal S256x1 .f32) (ix2 r 0) = factor fun k => X m c (ix2 r k) := by
  entry_read
  pointwise [factor, power, width, small]
theorem iblk3 (t : Fin cfg0.N) (i : Fin 256) : iblk m c 3 t (ix2 i 0) = factor fun k => X m c (ix2 i k) := by
  refine Eq.trans ?_ (factor_at m c i)
  blk_ext [iblk, index3 t]

/-- and the residual gradient, which the host sets to zero. -/
theorem nothing_at (r : Fin 256) (n : Fin 1024) : (V m c main_v8 : FVec Ideal S256x1024 .f32) (ix2 r n) = (0 : EReal) := by
  entry_read
  pointwise []
theorem iblk5 (t : Fin cfg0.N) (i : Fin 256) (n : Fin 1024) : iblk m c 5 t (ix2 i n) = (0 : EReal) := by
  refine Eq.trans ?_ (nothing_at m c i n)
  blk_ext [iblk, index5 t]

/-- THE PRODUCT accumulates over two blocks of columns: the first starts it, -/
theorem reset (t : Fin cfg0.N) (h : t.val % 2 = 0) (i : S256x1024.Idx) :
    (outsAt0 m c t.val t.isLt).2.2 i = 0 + k0_pay1 (F := Ideal) (iblk m c 0 t) (iblk m c 1 t) i := by
  rw [outsAt0_A m c t h (by omega) (by omega), zero_add]
  dsimp only
  frame_out
  idx_vars i
  pointwise [k0_pay2]

/-- the second adds to it. -/
theorem step (t : Fin cfg0.N) (h : ¬t.val % 2 = 0) (i : S256x1024.Idx) :
    (outsAt0 m c t.val t.isLt).2.2 i = (outsAt0 m c (t.val - 1) (Nat.lt_of_le_of_lt (Nat.sub_le _ _) t.isLt)).2.2 i
      + k0_pay1 (F := Ideal) (iblk m c 0 t) (iblk m c 1 t) i := by
  rw [outsAt0_B m c t h (by omega) (by omega)]
  dsimp only
  frame_out
  idx_vars i
  pointwise [k0_pay3]
  rw [read_unread_whole]

/-- At the second block of columns the rows' gradient is stored, -/
theorem stored (t : Fin cfg0.N) (h1 : t.val % 2 = 1) :
    (outsAt0 m c t.val t.isLt).1 = k0_pay6 (F := Ideal) (outsAt0 m c t.val t.isLt).2.2 (iblk m c 2 t) (iblk m c 3 t) (iblk m c 4 t) (iblk m c 5 t) := by
  rw [outsAt0_B m c t (by omega) h1 h1]
  dsimp only
  frame_out

/-- and the gain's. -/
theorem gain_stored (t : Fin cfg0.N) (h1 : t.val % 2 = 1) :
    (outsAt0 m c t.val t.isLt).2.1 = k0_pay7 (F := Ideal) (outsAt0 m c t.val t.isLt).2.2 (iblk m c 2 t) (iblk m c 3 t) := by
  rw [outsAt0_B m c t (by omega) h1 h1]
  dsimp only
  frame_out

/-- The gradient behind the normalised and scaled row, -/
def behind (w : FVec Ideal S1024x2048 .bf16) (p : FVec Ideal S256x2048 .f32) (r : Fin 256) (n : Fin 1024) : EReal :=
  ∑ j : Fin 2048, p (ix2 r j) * w (ix2 n j)

/-- the gradient of the rows, -/
def grad (x : FVec Ideal S256x1024 .f32) (g : FVec Ideal S1x1024 .f32) (w : FVec Ideal S1024x2048 .bf16) (p : FVec Ideal S256x2048 .f32)
    (r : Fin 256) (n : Fin 1024) : EReal :=
  kernelGrad (fun k => x (ix2 r k)) (fun k => behind w p r k * g (ix2 0 k)) n

/-- and the gradient of the gain. -/
def gain (x : FVec Ideal S256x1024 .f32) (w : FVec Ideal S1024x2048 .bf16) (p : FVec Ideal S256x2048 .f32) (n : Fin 1024) : EReal :=
  ∑ r : Fin 256, behind w p r n * (x (ix2 r n) * factor fun k => x (ix2 r k))

/-- The finished product. -/
theorem product_at (t : Fin cfg0.N) (h1 : t.val % 2 = 1) (i : Fin 256) (n : Fin 1024) :
    (outsAt0 m c t.val t.isLt).2.2 (ix2 i n) = behind (W m c) (P m c) i n := by
  have hN : t.val < 2 := lt_of_lt_of_eq t.isLt (show cfg0.N = 2 from N_0)
  rw [Pipeline.eq_sum_fin_of_reset_step_apply_of_flush (fun n h => (outsAt0 m c n h).2.2) 2 (fun _ => 0) _ (reset m c) (step m c) t h1 _, zero_add]
  simp only [part_at]
  refine Fin.sum_mul_add_congr fun s j hl => ?_
  have hd : 2 * (t.val / 2) + s.val = s.val := by omega
  refine congrArg₂ (fun a b : EReal => a * b) (iblk0 m c _ i j _ ?_) (iblk1 m c _ n j _ ?_)
  · show s.val * 1024 + j.val = (2 * (t.val / 2) + s.val) * 1024 + j.val
    rw [hd]
  · show s.val * 1024 + j.val = (2 * (t.val / 2) + s.val) * 1024 + j.val
    rw [hd]

/-- THE ROWS' GRADIENT after the launch. -/
theorem final6 (y : S256x1024.Idx) : (dats m 0 c).arrAt 6 cfg0.N y = grad (X m c) (G m c) (W m c) (P m c) (y 0) (y 1) := by
  refine congrFun ((dats m 0 c).arrAt_eq_of_covers 6 (fun y : S256x1024.Idx => grad (X m c) (G m c) (W m c) (P m c) (y 0) (y 1)) (by decide +kernel) fun t hf y => ?_) y
  have ht := (flush0_6 t).mp hf
  blk_simp
  rw [after0_6, stored m c t ht]
  idx_vars y
  have e0 : ((cfg0.win 6).blk t).view.emb (ix2 y0 y1) 0 = y0 := by
    refine Fin.ext ?_
    blk_simp [index6 t]
  have e1 : ((cfg0.win 6).blk t).view.emb (ix2 y0 y1) 1 = y1 := by
    refine Fin.ext ?_
    blk_simp [index6 t]
  refine Eq.trans ?_ (congrArg₂ (grad (X m c) (G m c) (W m c) (P m c)) e0 e1).symm
  refine (row_at _ _ _ _ _ y0 y1).trans ?_
  have hp := fun k => product_at m c t ht y0 k
  have hx := fun k => iblk2 m c t y0 k
  have hb := iblk5 m c t y0 y1
  have hf := iblk3 m c t y0
  simp only [hp, hx, hb, hf, iblk4 m c t, zero_add]
  rfl

/-- THE GAIN'S GRADIENT after the launch. -/
theorem final7 (y : S1x1024.Idx) : (dats m 0 c).arrAt 7 cfg0.N y = gain (X m c) (W m c) (P m c) (y 1) := by
  refine congrFun ((dats m 0 c).arrAt_eq_of_covers 7 (fun y : S1x1024.Idx => gain (X m c) (W m c) (P m c) (y 1)) (by decide +kernel) fun t hf y => ?_) y
  have ht := (flush0_7 t).mp hf
  blk_simp
  rw [after0_7, gain_stored m c t ht]
  idx_vars y
  have e1 : ((cfg0.win 7).blk t).view.emb (ix2 y0 y1) 1 = y1 := by
    refine Fin.ext ?_
    blk_simp [index7 t]
  refine Eq.trans ?_ (congrArg (gain (X m c) (W m c) (P m c)) e1).symm
  obtain rfl : y0 = 0 := Subsingleton.elim _ _
  refine (gain_at _ _ _ y1).trans (Finset.sum_congr rfl fun i _ => ?_)
  exact congrArg₂ (fun a b : EReal => a * b) (product_at m c t ht i y1) (congrArg₂ (fun a b : EReal => a * b) (iblk2 m c t i y1) (iblk3 m c t i))

end Cert.KvDxIdeal.Rows

namespace Cert.KvDxRefIdeal.Reading

open Cert.KvDxRefIdeal Cert.KvDxRefIdeal.Gen Cert.KvDxRefIdeal.Read Idealize.ShloMosaic
open Cert.Norm

variable (x0 : (⟨S256x1024, .f32⟩ : BufTy).Contents (Elt Ideal)) (x1 : (⟨S1x1024, .f32⟩ : BufTy).Contents (Elt Ideal))
  (x2 : (⟨S1024x2048, .bf16⟩ : BufTy).Contents (Elt Ideal)) (x3 : (⟨S256x2048, .f32⟩ : BufTy).Contents (Elt Ideal))

/-- The reference's gradient behind the normalised row, -/
theorem behind_at (r : Fin 256) (n : Fin 1024) : val_main_v17 x2 x3 (ix2 r n) = Cert.KvDxIdeal.Rows.behind x2 x3 r n := by
  pointwise [val_main_v17, val_main_v16, val_main_v0, Cert.KvDxIdeal.Rows.behind]

/-- what stands under its root, the factor of the row, -/
theorem power_at (r : Fin 256) : val_main_v7 x0 (ix2 r 0) = power fun k => x0 (ix2 r k) := by
  pointwise [val_main_v7, val_main_v6, val_main_v5, val_main_v4, val_main_v3, val_main_v2, val_main_v1, val_main_cst, val_main_cst_0, val_main_cst_1, power, width, small]
theorem factor_at (r : Fin 256) : val_main_v8 x0 (ix2 r 0) = factor fun k => x0 (ix2 r k) :=
  congrArg Ideal.rsqrt (power_at x0 r)

/-- the normalised row scaled by what comes back through the root, -/
theorem slope_at (r : Fin 256) (n : Fin 1024) :
    val_main_v32 x0 x1 x2 x3 (ix2 r n) = slope (fun k => x0 (ix2 r k)) (fun k => Cert.KvDxIdeal.Rows.behind x2 x3 r k * x1 (ix2 0 k)) := by
  pointwise [val_main_v32, val_main_v31, val_main_v30, val_main_v29, val_main_v28, val_main_v25, val_main_v24, val_main_v23, val_main_v22, val_main_v21,
    val_main_v11, val_main_v10, val_main_v9, val_main_cst_2, val_main_cst_4, val_main_cst_5, val_main_cst_6, width, half, behind_at]
  simp only [Fin.sum_univ_one, power_at, factor_at, Cert.Norm.slope, width, half]

/-- and its two results. -/
theorem rows_at (r : Fin 256) (n : Fin 1024) :
    val_main_v36 x0 x1 x2 x3 (ix2 r n) = chainGrad (fun k => x0 (ix2 r k)) (fun k => Cert.KvDxIdeal.Rows.behind x2 x3 r k * x1 (ix2 0 k)) n := by
  pointwise [val_main_v36, val_main_v35, val_main_v34, val_main_v33, val_main_v27, val_main_v26, val_main_v22, val_main_v21,
    chainGrad, behind_at, factor_at, slope_at]
theorem gain_at (n : Fin 1024) : val_main_v20 x0 x2 x3 (ix2 0 n) = Cert.KvDxIdeal.Rows.gain x0 x2 x3 n := by
  pointwise [val_main_v20, val_main_v19, val_main_v18, val_main_v13, val_main_v12, val_main_cst_3, Cert.KvDxIdeal.Rows.gain, behind_at, factor_at]
  exact Finset.sum_congr rfl fun r _ => mul_comm _ _

end Cert.KvDxRefIdeal.Reading

namespace Cert.Proof.KvDx

open Idealize.ShloMosaic Idealize.SL.Sem
open Cert.Attn (Finite)

theorem frame_kernel : Cert.quiescent_KvDx := fun m ρ _ => Cert.KvDx.Gen.frame m ρ
theorem frame_ideal : Cert.quiescent_KvDxIdeal := fun m ρ _ => Cert.KvDxIdeal.Gen.frame m ρ
theorem frame_ideal_pre : Cert.quiescent_KvDxIdeal_pre_finite_kv := fun m ρ _ => Cert.KvDxIdeal.Gen.frame m ρ

/-- The reference runs on the host alone: it takes no semaphore. -/
theorem frame_reference : Cert.quiescent_KvDxRefIdeal := fun m ρ _ =>
  (θ_run Cert.KvDxRefIdeal.defs _ _).mono
    (fun r h => ⟨fun c => (h c).2.2, sem_eq_zero_of_no_sems (by decide) r.2⟩)
    (Cert.KvDxRefIdeal.Value.run (F := Ideal) m ρ)
theorem frame_reference_pre : Cert.quiescent_KvDxRefIdeal_pre_finite_kv := fun m ρ _ => frame_reference m ρ trivial

theorem preserves : Cert.preserves_KvDx_KvDxIdeal := trivial

open Cert.Pre_finite_kv in
/-- Where the precondition holds, every entry of the arrays it names is a real number. -/
theorem finite_of {x0 : FVec Ideal S256x1024 .f32} {x1 : FVec Ideal S1x1024 .f32} {x2 : FVec Ideal S1024x2048 .bf16} {x3 : FVec Ideal S256x2048 .f32}
    (h : fn (F := Ideal) x0 x1 x2 x3 = fun _ => 1#1) : Finite x0 ∧ Finite x1 ∧ Finite x2 ∧ Finite x3 := by
  haveI : Subsingleton S_.Idx := ⟨fun a b => funext fun i => i.elim0⟩
  have hx := congrFun h (fun i => i.elim0)
  have ⟨h012, h3⟩ := IntOp.andi_eq_one.mp hx
  have ⟨h01, h2⟩ := IntOp.andi_eq_one.mp h012
  have ⟨h0, h1⟩ := IntOp.andi_eq_one.mp h01
  have f0 : ∀ i, ∃ r : ℝ, x0 i = (r : EReal) := fun i => Cert.Pre_finite.Entries.exists_real (Host.reduce_andi_all _ _ _ _ _ h0 i)
  have f1 : ∀ i, ∃ r : ℝ, x1 i = (r : EReal) := fun i => Cert.Pre_finite.Entries.exists_real (Host.reduce_andi_all _ _ _ _ _ h1 i)
  have f2 : ∀ i, ∃ r : ℝ, x2 i = (r : EReal) := fun i => Cert.Pre_finite.Entries.exists_real (Host.reduce_andi_all _ _ _ _ _ h2 i)
  have f3 : ∀ i, ∃ r : ℝ, x3 i = (r : EReal) := fun i => Cert.Pre_finite.Entries.exists_real (Host.reduce_andi_all _ _ _ _ _ h3 i)
  exact ⟨⟨_, fun i => (f0 i).choose_spec⟩, ⟨_, fun i => (f1 i).choose_spec⟩, ⟨_, fun i => (f2 i).choose_spec⟩, ⟨_, fun i => (f3 i).choose_spec⟩⟩

open Cert.KvDxIdeal Cert.KvDxIdeal.Rows Cert.Norm in
/-- On finite arrays the two forms of the rows' gradient agree. -/
theorem grad_eq {x : FVec Ideal S256x1024 .f32} {g : FVec Ideal S1x1024 .f32} {w : FVec Ideal S1024x2048 .bf16} {p : FVec Ideal S256x2048 .f32}
    (hx : Finite x) (hg : Finite g) (hw : Finite w) (hp : Finite p) (r : Fin 256) (n : Fin 1024) :
    grad x g w p r n = chainGrad (fun k => x (ix2 r k)) (fun k => behind w p r k * g (ix2 0 k)) n := by
  obtain ⟨a, ha⟩ := hx
  obtain ⟨e, he⟩ := hg
  obtain ⟨v, hv⟩ := hw
  obtain ⟨q, hq⟩ := hp
  refine kernelGrad_eq ⟨fun k => a (ix2 r k), fun k => ha _⟩ ⟨fun k => (∑ j : Fin 2048, q (ix2 r j) * v (ix2 k j)) * e (ix2 0 k), fun k => ?_⟩ n
  simp only [behind, ha, he, hv, hq, ← EReal.coe_mul, ← Cert.Attn.coe_sum]

/-- THE VALUE CLAIM: on finite arguments the kernel's gradients of the rows and of the gain are the reference's. -/
theorem algebraic : Cert.algebraic_KvDxIdeal_KvDxRefIdeal_pre_finite_kv := by
  intro m g m' g' hpre hagree
  refine ⟨fun c => Cert.KvDxRefIdeal.Value.res_main_v36 m' c,
    fun c y => Cert.KvDxIdeal.Rows.gain (Cert.KvDxIdeal.Rows.X m c) (Cert.KvDxIdeal.Rows.W m c) (Cert.KvDxIdeal.Rows.P m c) (y 1), ?_, ?_⟩
  · refine (θ_run Cert.KvDxIdeal.defs _ _).mono (fun r h c => ?_) (Cert.KvDxIdeal.Value.run_blocks (F := Ideal) m g)
    obtain ⟨f0, f1, f2, f3⟩ := finite_of (hpre c)
    obtain ⟨a0, a1, a2, a3⟩ := hagree c
    refine ⟨(h c).1.trans (funext fun y => ?_), (h c).2.1.trans (funext (Cert.KvDxIdeal.Rows.final7 m c)), (h c).2.2⟩
    refine (Cert.KvDxIdeal.Rows.final6 m c y).trans ((grad_eq f0 f1 f2 f3 _ _).trans ?_)
    refine Eq.symm ((congrFun (Cert.KvDxRefIdeal.Read.val_main_v36_eq m' c) y).trans ?_)
    rw [a0, a1, a2, a3]
    idx_vars y
    exact Cert.KvDxRefIdeal.Reading.rows_at _ _ _ _ y0 y1
  · refine (θ_run Cert.KvDxRefIdeal.defs _ _).mono (fun r h c => ⟨(h c).1, (h c).2.1.trans ?_, (h c).2.2⟩) (Cert.KvDxRefIdeal.Value.run (F := Ideal) m' g')
    obtain ⟨a0, a1, a2, a3⟩ := hagree c
    refine (Cert.KvDxRefIdeal.Read.val_main_v20_eq _ _ _).trans (funext fun y => ?_)
    rw [a0, a2, a3]
    idx_vars y
    obtain rfl : y0 = 0 := Subsingleton.elim _ _
    exact Cert.KvDxRefIdeal.Reading.gain_at _ _ _ y1

end Cert.Proof.KvDx

end
-- ==== Proof.OwnDtDw.lean ====
module

public import proofs.«01_k».proof.Defs
public import proofs.«01_k».proof.Proof.Gen.DtDw.Frame
public import proofs.«01_k».proof.Proof.Gen.DtDwIdeal.Value
public import proofs.«01_k».proof.Proof.Gen.DtDwRefIdeal.Run
public import proofs.«01_k».proof.Proof.Gen.DtDwRefIdeal.Read
public import Idealize.ShloMosaic.Lib.Pipeline.ValueKit
public import Idealize.ShloMosaic.Lib.Pipeline.ReadBack
public import Idealize.ShloMosaic.Lib.Quiescent

/-! The gradient of the input weight, transposed: the kernel sums over sixteen blocks of 512 rows, the reference over the 8192 rows. -/

@[expose] public section

set_option maxRecDepth 16384

noncomputable section

namespace Cert.DtDwIdeal.Product

open Cert.DtDwIdeal Cert.DtDwIdeal.Gen Idealize.ShloMosaic Idealize.ShloMosaic.TcCoe Idealize.SL.Sem
open Idealize.ShloMosaic.Pipeline (Dat)

/-- What one block of 512 rows adds to an entry. -/
theorem part_at (a : FVec Ideal S512x128 .f32) (g : FVec Ideal S512x1024 .bf16) (k : Fin 128) (n : Fin 1024) :
    k0_pay1 (F := Ideal) a g (ix2 k n) = ∑ r : Fin 512, a (ix2 r k) * g (ix2 r n) := by
  pointwise [k0_pay1]

variable (m : (ℓ : Loc nD τ sig) → Buf (Elt Ideal) ℓ) (c : Dev nD)

/-- The gradient of the step sizes before their activation, -/
abbrev A : FVec Ideal S8192x128 .f32 := m ((c : Thread nD τ).loc main_arg0)
/-- and the saved normalised rows. -/
abbrev G : FVec Ideal S8192x1024 .bf16 := m ((c : Thread nD τ).loc main_arg1)

/-- The blocks a grid point reads and the one it writes. -/
theorem index0 : ∀ t : Fin cfg0.N, win0_0.index t = ![t.val % 16, 0] := (by decide +kernel : ∀ t : Fin grid0.N, win0_0.index t = ![t.val % 16, 0])
theorem index1 : ∀ t : Fin cfg0.N, win0_1.index t = ![t.val % 16, 0] := (by decide +kernel : ∀ t : Fin grid0.N, win0_1.index t = ![t.val % 16, 0])
theorem index2 : ∀ t : Fin cfg0.N, win0_2.index t = ![0, 0] := (by decide +kernel : ∀ t : Fin grid0.N, win0_2.index t = ![0, 0])

/-- The first block of a run starts the sum, -/
theorem reset (t : Fin cfg0.N) (h : t.val % 16 = 0) (i : S128x1024.Idx) :
    outsAt0 m c t.val t.isLt i = 0 + k0_pay1 (F := Ideal) (iblk m c 0 t) (iblk m c 1 t) i := by
  have hN : t.val < 16 := lt_of_lt_of_eq t.isLt (show cfg0.N = 16 from N_0)
  rw [outsAt0_A m c t h (by omega), zero_add]
  frame_out

/-- and each later block adds to it. -/
theorem step (t : Fin cfg0.N) (h : ¬t.val % 16 = 0) (i : S128x1024.Idx) :
    outsAt0 m c t.val t.isLt i = outsAt0 m c (t.val - 1) (Nat.lt_of_le_of_lt (Nat.sub_le _ _) t.isLt) i + k0_pay1 (F := Ideal) (iblk m c 0 t) (iblk m c 1 t) i := by
  have hN : t.val < 16 := lt_of_lt_of_eq t.isLt (show cfg0.N = 16 from N_0)
  rw [outsAt0_B m c t h (by omega)]
  frame_out
  idx_vars i
  pointwise [k0_pay2]

theorem iblk0 (t : Fin cfg0.N) (r : Fin 512) (j : Fin 128) (r' : Fin 8192) (hr : r'.val = t.val % 16 * 512 + r.val) :
    iblk m c 0 t (ix2 r j) = A m c (ix2 r' j) := by
  blk_ext [iblk, V, index0 t, hr]

theorem iblk1 (t : Fin cfg0.N) (r : Fin 512) (j : Fin 1024) (r' : Fin 8192) (hr : r'.val = t.val % 16 * 512 + r.val) :
    iblk m c 1 t (ix2 r j) = G m c (ix2 r' j) := by
  blk_ext [iblk, V, index1 t, hr]

/-- The gradient of the weight at an entry. -/
def grad (a : FVec Ideal S8192x128 .f32) (g : FVec Ideal S8192x1024 .bf16) (k : Fin 128) (n : Fin 1024) : EReal :=
  ∑ r : Fin 8192, a (ix2 r k) * g (ix2 r n)

/-- THE WEIGHT'S GRADIENT after the launch. -/
theorem final (y : S128x1024.Idx) : (dats m 0 c).arrAt 2 cfg0.N y = grad (A m c) (G m c) (y 0) (y 1) := by
  refine congrFun ((dats m 0 c).arrAt_eq_of_covers 2 (fun y : S128x1024.Idx => grad (A m c) (G m c) (y 0) (y 1)) (by decide +kernel) fun t hf y => ?_) y
  have ht := (flush0_2 t).mp hf
  have hN : t.val < 16 := lt_of_lt_of_eq t.isLt (show cfg0.N = 16 from N_0)
  blk_simp
  rw [after0_2, Pipeline.eq_sum_fin_of_reset_step_apply_of_flush (fun n h => outsAt0 m c n h) 16 (fun _ => 0) _
    (reset m c) (step m c) t ht _, zero_add]
  idx_vars y
  have e0 : ((cfg0.win 2).blk t).view.emb (ix2 y0 y1) 0 = y0 := by
    refine Fin.ext ?_
    blk_simp [index2 t]
  have e1 : ((cfg0.win 2).blk t).view.emb (ix2 y0 y1) 1 = y1 := by
    refine Fin.ext ?_
    blk_simp [index2 t]
  refine Eq.trans ?_ (congrArg₂ (grad (A m c) (G m c)) e0 e1).symm
  simp only [part_at]
  refine Fin.sum_mul_add_congr fun s k hl => ?_
  have hq : (16 * (t.val / 16) + s.val) % 16 = s.val := by omega
  refine congrArg₂ (fun a g : EReal => a * g) (iblk0 m c _ k y0 _ ?_) (iblk1 m c _ k y1 _ ?_)
  · show s.val * 512 + k.val = (16 * (t.val / 16) + s.val) % 16 * 512 + k.val
    rw [hq]
  · show s.val * 512 + k.val = (16 * (t.val / 16) + s.val) % 16 * 512 + k.val
    rw [hq]

end Cert.DtDwIdeal.Product

namespace Cert.DtDwRefIdeal.Reading

open Cert.DtDwRefIdeal Cert.DtDwRefIdeal.Gen Cert.DtDwRefIdeal.Read Idealize.ShloMosaic

variable (x0 : (⟨S8192x128, .f32⟩ : BufTy).Contents (Elt Ideal)) (x1 : (⟨S8192x1024, .bf16⟩ : BufTy).Contents (Elt Ideal))

/-- The reference's derivative, read at an entry. -/
theorem result_at (k : Fin 128) (n : Fin 1024) :
    val_main_v6 x0 x1 (ix2 k n) = Cert.DtDwIdeal.Product.grad x0 x1 k n := by
  pointwise [val_main_v6, val_main_v5, val_main_v4, val_main_v3, val_main_v0]
  first
    | rfl
    | exact Finset.sum_congr rfl fun r _ => mul_comm _ _

end Cert.DtDwRefIdeal.Reading

namespace Cert.Proof.DtDw

open Idealize.ShloMosaic Idealize.SL.Sem

theorem frame_kernel : Cert.quiescent_DtDw := fun m ρ _ => Cert.DtDw.Gen.frame m ρ
theorem frame_ideal : Cert.quiescent_DtDwIdeal := fun m ρ _ => Cert.DtDwIdeal.Gen.frame m ρ

/-- The reference runs on the host alone: it takes no semaphore. -/
theorem frame_reference : Cert.quiescent_DtDwRefIdeal := fun m ρ _ =>
  (θ_run Cert.DtDwRefIdeal.defs _ _).mono
    (fun r h => ⟨fun c => ⟨(h c).2.1, (h c).2.2⟩, sem_eq_zero_of_no_sems (by decide) r.2⟩)
    (Cert.DtDwRefIdeal.Value.run (F := Ideal) m ρ)

theorem preserves : Cert.preserves_DtDw_DtDwIdeal := trivial

/-- THE VALUE CLAIM: the kernel's gradient of the step sizes' columns of the input weight, transposed, is the reference's. -/
theorem algebraic : Cert.algebraic_DtDwIdeal_DtDwRefIdeal := by
  intro m g m' g' _ hagree
  refine ⟨fun c y => Cert.DtDwIdeal.Product.grad (Cert.DtDwIdeal.Product.A m c) (Cert.DtDwIdeal.Product.G m c) (y 0) (y 1), ?_, ?_⟩
  · exact (θ_run Cert.DtDwIdeal.defs _ _).mono (fun r h c => ⟨(h c).1.trans (funext (Cert.DtDwIdeal.Product.final m c)), (h c).2⟩)
      (Cert.DtDwIdeal.Value.run_blocks (F := Ideal) m g)
  · refine (θ_run Cert.DtDwRefIdeal.defs _ _).mono (fun r h c => ⟨(h c).1.trans ?_, (h c).2⟩) (Cert.DtDwRefIdeal.Value.run (F := Ideal) m' g')
    obtain ⟨a0, a1⟩ := hagree c
    refine (Cert.DtDwRefIdeal.Read.val_main_v6_eq _ _).trans (funext fun y => ?_)
    rw [a0, a1]
    idx_vars y
    exact Cert.DtDwRefIdeal.Reading.result_at _ _ y0 y1

end Cert.Proof.DtDw

end
-- ==== Proof.OwnLossHead.lean ====
module

public import proofs.«01_k».proof.Defs
public import proofs.«01_k».proof.Proof.NormGrad
public import proofs.«01_k».proof.Proof.Entries
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.Pre_finite_loss
public import Idealize.ShloMosaic.Lib.Claim
public import Idealize.ShloMosaic.Lib.Pipeline.ValueKit
public import Idealize.ShloMosaic.Lib.Pipeline.ReadBack
public import Idealize.ShloMosaic.Lib.Quiescent

/-! The loss at the end of the step: half the mean square of the normalised and scaled rows' distance from the target, with its
    gradients in the rows and in the gain. The kernel sums over sixteen blocks of 512 rows. -/

@[expose] public section

set_option maxRecDepth 16384

noncomputable section

namespace Cert.LossHeadIdeal.Rows

open Cert.LossHeadIdeal Cert.LossHeadIdeal.Gen Idealize.ShloMosaic Idealize.ShloMosaic.TcCoe Idealize.SL.Sem
open Idealize.ShloMosaic.Pipeline (Dat)
open Cert.Attn (Finite)
open Cert.Norm

/-- The kernel's weight of a square in the loss and of an error in its gradient. -/
def share : EReal := Ideal.ofBits .f32 0x3A000000#32
def twice : EReal := Ideal.ofBits .f32 0x3A800000#32

theorem share_eq : share = ((1 / 2048 : ℝ) : EReal) := by
  simp [share, Ideal.ofBits, Ideal.ieee]
  rw [← EReal.coe_mul]
  norm_num
theorem twice_eq : twice = ((1 / 1024 : ℝ) : EReal) := by
  simp [twice, Ideal.ofBits, Ideal.ieee]
  rw [← EReal.coe_mul]
  norm_num

/-- The distance from the target in a row: the row normalised and scaled by the gain, less the target's; -/
def gap (x g t : Fin 1024 → EReal) (k : Fin 1024) : EReal := x k * factor x * g k - t k
/-- the sum of its squares, -/
def squares (x g t : Fin 1024 → EReal) : EReal := ∑ k : Fin 1024, gap x g t k * gap x g t k
/-- and the gradient behind the scaled row. -/
def back (x g t : Fin 1024 → EReal) (k : Fin 1024) : EReal := gap x g t k * twice

/-- On a finite row the factor is a real number, -/
theorem exists_factor {x : Fin 1024 → EReal} (hx : Finite x) : ∃ f : ℝ, factor x = (f : EReal) := by
  obtain ⟨v, hv, e⟩ := exists_power hx
  refine ⟨(Real.sqrt v)⁻¹, ?_⟩
  rw [factor, e]
  change (if v < 0 then (⊥ : EReal) else if v = 0 then ⊤ else (((Real.sqrt v)⁻¹ : ℝ) : EReal)) = _
  rw [if_neg (not_lt.mpr hv.le), if_neg hv.ne']

/-- so is every distance, -/
theorem finite_gap {x g t : Fin 1024 → EReal} (hx : Finite x) (hg : Finite g) (ht : Finite t) : Finite (gap x g t) := by
  obtain ⟨f, hf⟩ := exists_factor hx
  obtain ⟨a, ha⟩ := hx
  obtain ⟨e, he⟩ := hg
  obtain ⟨b, hb⟩ := ht
  refine ⟨fun k => a k * f * e k - b k, fun k => ?_⟩
  simp only [gap, hf, ha, he, hb, ← EReal.coe_mul, ← EReal.coe_sub]

/-- the sum of their squares, -/
theorem exists_squares {x g t : Fin 1024 → EReal} (hx : Finite x) (hg : Finite g) (ht : Finite t) : ∃ q : ℝ, squares x g t = (q : EReal) := by
  obtain ⟨d, hd⟩ := finite_gap hx hg ht
  refine ⟨∑ k, d k * d k, ?_⟩
  simp only [squares, hd, ← EReal.coe_mul, ← Cert.Attn.coe_sum]

/-- and the gradient behind the normalised row. -/
theorem finite_back {x g t : Fin 1024 → EReal} (hx : Finite x) (hg : Finite g) (ht : Finite t) : Finite fun k => back x g t k * g k := by
  obtain ⟨d, hd⟩ := finite_gap hx hg ht
  obtain ⟨e, he⟩ := hg
  refine ⟨fun k => d k * (1 / 1024) * e k, fun k => ?_⟩
  simp only [back, hd, he, twice_eq, ← EReal.coe_mul]

/-- What the kernel computes in one block of 512 rows: the rows' factors, -/
theorem factor_at (x : FVec Ideal S512x1024 .f32) (i : Fin 512) : k0_pay4 (F := Ideal) x (ix2 i 0) = factor fun k => x (ix2 i k) := by
  pointwise [k0_pay4, factor, power, width, small]

/-- the distances, -/
theorem gap_at (x : FVec Ideal S512x1024 .f32) (g : FVec Ideal S1x1024 .f32) (t : FVec Ideal S512x1024 .f32) (i : Fin 512) (k : Fin 1024) :
    k0_pay6 (F := Ideal) x g t (ix2 i k) = gap (fun k => x (ix2 i k)) (fun k => g (ix2 0 k)) (fun k => t (ix2 i k)) k := by
  pointwise [k0_pay6, k0_pay5, factor_at, gap]

/-- the loss, -/
theorem loss_at (x : FVec Ideal S512x1024 .f32) (g : FVec Ideal S1x1024 .f32) (t : FVec Ideal S512x1024 .f32) (l : Fin 128) :
    k0_pay7 (F := Ideal) x g t (ix2 0 l)
      = share * ∑ i : Fin 512, squares (fun k => x (ix2 i k)) (fun k => g (ix2 0 k)) (fun k => t (ix2 i k)) := by
  pointwise [k0_pay7, gap_at, squares, share]

/-- the rows' gradient, -/
theorem row_at (x : FVec Ideal S512x1024 .f32) (g : FVec Ideal S1x1024 .f32) (t : FVec Ideal S512x1024 .f32) (i : Fin 512) (n : Fin 1024) :
    k0_pay9 (F := Ideal) x g t (ix2 i n) = kernelGrad (fun k => x (ix2 i k))
      (fun k => back (fun k => x (ix2 i k)) (fun k => g (ix2 0 k)) (fun k => t (ix2 i k)) k * g (ix2 0 k)) n := by
  pointwise [k0_pay9, k0_pay8, k0_pay5, factor_at, gap_at, back, twice, kernelGrad, width]

/-- and what the block adds to the gradient of the gain. -/
theorem gain_at (x : FVec Ideal S512x1024 .f32) (g : FVec Ideal S1x1024 .f32) (t : FVec Ideal S512x1024 .f32) (n : Fin 1024) :
    k0_pay1 (F := Ideal) (k0_pay10 x g t) (ix2 0 n) = ∑ i : Fin 512,
      back (fun k => x (ix2 i k)) (fun k => g (ix2 0 k)) (fun k => t (ix2 i k)) n * (x (ix2 i n) * factor fun k => x (ix2 i k)) := by
  pointwise [k0_pay1, k0_pay10, k0_pay8, k0_pay5, factor_at, gap_at, back, twice]

variable (m : (ℓ : Loc nD τ sig) → Buf (Elt Ideal) ℓ) (c : Dev nD)

/-- The rows, the gain, the target. -/
abbrev X : FVec Ideal S8192x1024 .f32 := m ((c : Thread nD τ).loc main_arg0)
abbrev G : FVec Ideal S1x1024 .f32 := m ((c : Thread nD τ).loc main_arg1)
abbrev T : FVec Ideal S8192x1024 .f32 := m ((c : Thread nD τ).loc main_arg2)

/-- The blocks a grid point reads and those it writes. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![0, 0] := (by decide +kernel : ∀ t : Fin grid0.N, win0_5.index t = ![0, 0])

theorem iblk0 (t : Fin cfg0.N) (r : Fin 512) (k : Fin 1024) (r' : Fin 8192) (hr : r'.val = t.val * 512 + r.val) :
    iblk m c 0 t (ix2 r k) = X m c (ix2 r' k) := by
  blk_ext [iblk, V, index0 t, hr]
theorem iblk1 (t : Fin cfg0.N) (k : Fin 1024) : iblk m c 1 t (ix2 0 k) = G m c (ix2 0 k) := by
  blk_ext [iblk, V, index1 t]
theorem iblk2 (t : Fin cfg0.N) (r : Fin 512) (k : Fin 1024) (r' : Fin 8192) (hr : r'.val = t.val * 512 + r.val) :
    iblk m c 2 t (ix2 r k) = T m c (ix2 r' k) := by
  blk_ext [iblk, V, index2 t, hr]

/-- The first block starts the two sums, -/
theorem reset_loss (t : Fin cfg0.N) (h : t.val % 16 = 0) (i : S1x128.Idx) :
    (outsAt0 m c t.val t.isLt).1 i = 0 + k0_pay7 (F := Ideal) (iblk m c 0 t) (iblk m c 1 t) (iblk m c 2 t) i := by
  have hN : t.val < 16 := lt_of_lt_of_eq t.isLt (show cfg0.N = 16 from N_0)
  rw [outsAt0_A m c t h (by omega), zero_add]
  dsimp only
  frame_out
theorem reset_gain (t : Fin cfg0.N) (h : t.val % 16 = 0) (i : S1x1024.Idx) :
    (outsAt0 m c t.val t.isLt).2.2 i = 0 + k0_pay1 (F := Ideal) (k0_pay10 (iblk m c 0 t) (iblk m c 1 t) (iblk m c 2 t)) i := by
  have hN : t.val < 16 := lt_of_lt_of_eq t.isLt (show cfg0.N = 16 from N_0)
  rw [outsAt0_A m c t h (by omega), zero_add]
  dsimp only
  frame_out

/-- and each later block adds to them. -/
theorem step_loss (t : Fin cfg0.N) (h : ¬t.val % 16 = 0) (i : S1x128.Idx) :
    (outsAt0 m c t.val t.isLt).1 i = (outsAt0 m c (t.val - 1) (Nat.lt_of_le_of_lt (Nat.sub_le _ _) t.isLt)).1 i
      + k0_pay7 (F := Ideal) (iblk m c 0 t) (iblk m c 1 t) (iblk m c 2 t) i := by
  have hN : t.val < 16 := lt_of_lt_of_eq t.isLt (show cfg0.N = 16 from N_0)
  rw [outsAt0_B m c t h (by omega)]
  dsimp only
  frame_out
  idx_vars i
  pointwise [k0_pay2]
theorem step_gain (t : Fin cfg0.N) (h : ¬t.val % 16 = 0) (i : S1x1024.Idx) :
    (outsAt0 m c t.val t.isLt).2.2 i = (outsAt0 m c (t.val - 1) (Nat.lt_of_le_of_lt (Nat.sub_le _ _) t.isLt)).2.2 i
      + k0_pay1 (F := Ideal) (k0_pay10 (iblk m c 0 t) (iblk m c 1 t) (iblk m c 2 t)) i := by
  have hN : t.val < 16 := lt_of_lt_of_eq t.isLt (show cfg0.N = 16 from N_0)
  rw [outsAt0_B m c t h (by omega)]
  dsimp only
  frame_out
  idx_vars i
  pointwise [k0_pay3]

/-- The rows' gradient is stored at every grid point. -/
theorem stored (t : Fin cfg0.N) : (outsAt0 m c t.val t.isLt).2.1 = k0_pay9 (F := Ideal) (iblk m c 0 t) (iblk m c 1 t) (iblk m c 2 t) := by
  have hN : t.val < 16 := lt_of_lt_of_eq t.isLt (show cfg0.N = 16 from N_0)
  by_cases h : t.val % 16 = 0
  · rw [outsAt0_A m c t h (by omega)]
    dsimp only
    frame_out
  · rw [outsAt0_B m c t h (by omega)]
    dsimp only
    frame_out

/-- The three results as functions of the three arrays. -/
def squaresOf (x : FVec Ideal S8192x1024 .f32) (g : FVec Ideal S1x1024 .f32) (t : FVec Ideal S8192x1024 .f32) (r : Fin 8192) : EReal :=
  squares (fun k => x (ix2 r k)) (fun k => g (ix2 0 k)) (fun k => t (ix2 r k))
def backOf (x : FVec Ideal S8192x1024 .f32) (g : FVec Ideal S1x1024 .f32) (t : FVec Ideal S8192x1024 .f32) (r : Fin 8192) (k : Fin 1024) : EReal :=
  back (fun k => x (ix2 r k)) (fun k => g (ix2 0 k)) (fun k => t (ix2 r k)) k
def lossOf (x : FVec Ideal S8192x1024 .f32) (g : FVec Ideal S1x1024 .f32) (t : FVec Ideal S8192x1024 .f32) : EReal :=
  ∑ r : Fin 8192, share * squaresOf x g t r
def gradOf (x : FVec Ideal S8192x1024 .f32) (g : FVec Ideal S1x1024 .f32) (t : FVec Ideal S8192x1024 .f32) (r : Fin 8192) (n : Fin 1024) : EReal :=
  kernelGrad (fun k => x (ix2 r k)) (fun k => backOf x g t r k * g (ix2 0 k)) n
def gainOf (x : FVec Ideal S8192x1024 .f32) (g : FVec Ideal S1x1024 .f32) (t : FVec Ideal S8192x1024 .f32) (n : Fin 1024) : EReal :=
  ∑ r : Fin 8192, backOf x g t r n * (x (ix2 r n) * factor fun k => x (ix2 r k))

/-- A row of a block is a row of the array. -/
theorem squares_block (t : Fin cfg0.N) (i : Fin 512) (r : Fin 8192) (hr : r.val = t.val * 512 + i.val) :
    squares (fun k => iblk m c 0 t (ix2 i k)) (fun k => iblk m c 1 t (ix2 0 k)) (fun k => iblk m c 2 t (ix2 i k)) = squaresOf (X m c) (G m c) (T m c) r := by
  have h0 := fun k => iblk0 m c t i k r hr
  have h1 := fun k => iblk1 m c t k
  have h2 := fun k => iblk2 m c t i k r hr
  simp only [h0, h1, h2]
  rfl

/-- The weight of a square goes inside a sum of reals. -/
theorem share_sum (q : Fin 512 → EReal) (hq : Finite q) : share * ∑ i, q i = ∑ i, share * q i := by
  obtain ⟨p, hp⟩ := hq
  simp only [hp, share_eq, ← EReal.coe_mul, ← Cert.Attn.coe_sum, Finset.mul_sum]

theorem share_block (hq : Finite (squaresOf (X m c) (G m c) (T m c))) (t : Fin cfg0.N) :
    share * ∑ i : Fin 512, squares (fun k => iblk m c 0 t (ix2 i k)) (fun k => iblk m c 1 t (ix2 0 k)) (fun k => iblk m c 2 t (ix2 i k))
      = ∑ i : Fin 512, share * squares (fun k => iblk m c 0 t (ix2 i k)) (fun k => iblk m c 1 t (ix2 0 k)) (fun k => iblk m c 2 t (ix2 i k)) := by
  have hN : t.val < 16 := lt_of_lt_of_eq t.isLt (show cfg0.N = 16 from N_0)
  obtain ⟨p, hp⟩ := hq
  exact share_sum _ ⟨fun i => p ⟨t.val * 512 + i.val, by omega⟩, fun i => (squares_block m c t i _ rfl).trans (hp _)⟩

/-- THE LOSS after the launch, where the rows' squares are real numbers. -/
theorem final3 (hq : Finite (squaresOf (X m c) (G m c) (T m c))) (y : S1x128.Idx) :
    (dats m 0 c).arrAt 3 cfg0.N y = lossOf (X m c) (G m c) (T m c) := by
  refine congrFun ((dats m 0 c).arrAt_eq_of_covers 3 (fun y : S1x128.Idx => lossOf (X m c) (G m c) (T m c)) (by decide +kernel) fun t hf y => ?_) y
  have ht := (flush0_3 t).mp hf
  have hN : t.val < 16 := lt_of_lt_of_eq t.isLt (show cfg0.N = 16 from N_0)
  blk_simp
  rw [after0_3, Pipeline.eq_sum_fin_of_reset_step_apply_of_flush (fun n h => (outsAt0 m c n h).1) 16 (fun _ => 0) _
    (reset_loss m c) (step_loss m c) t ht _, zero_add]
  idx_vars y
  obtain rfl : y0 = 0 := Subsingleton.elim _ _
  simp only [loss_at, share_block m c hq]
  refine Fin.sum_mul_add_congr fun s k hl => ?_
  exact congrArg (fun a : EReal => share * a) (squares_block m c _ k _ (show s.val * 512 + k.val = (16 * (t.val / 16) + s.val) * 512 + k.val by omega))

/-- THE ROWS' GRADIENT after the launch. -/
theorem final4 (y : S8192x1024.Idx) : (dats m 0 c).arrAt 4 cfg0.N y = gradOf (X m c) (G m c) (T m c) (y 0) (y 1) := by
  refine congrFun ((dats m 0 c).arrAt_eq_of_covers 4 (fun y : S8192x1024.Idx => gradOf (X m c) (G m c) (T m c) (y 0) (y 1)) (by decide +kernel) fun t hf y => ?_) y
  have hN : t.val < 16 := lt_of_lt_of_eq t.isLt (show cfg0.N = 16 from N_0)
  blk_simp
  rw [after0_4, stored m c t]
  idx_vars y
  have e0 : ((cfg0.win 4).blk t).view.emb (ix2 y0 y1) 0 = (⟨t.val * 512 + y0.val, by omega⟩ : Fin 8192) := by
    refine Fin.ext ?_
    blk_simp [index4 t]
  have e1 : ((cfg0.win 4).blk t).view.emb (ix2 y0 y1) 1 = y1 := by
    refine Fin.ext ?_
    blk_simp [index4 t]
  refine Eq.trans ?_ (congrArg₂ (gradOf (X m c) (G m c) (T m c)) e0 e1).symm
  refine (row_at _ _ _ y0 y1).trans ?_
  have h0 := fun k => iblk0 m c t y0 k (⟨t.val * 512 + y0.val, by omega⟩ : Fin 8192) rfl
  have h1 := fun k => iblk1 m c t k
  have h2 := fun k => iblk2 m c t y0 k (⟨t.val * 512 + y0.val, by omega⟩ : Fin 8192) rfl
  simp only [h0, h1, h2]
  rfl

/-- THE GAIN'S GRADIENT after the launch. -/
theorem final5 (y : S1x1024.Idx) : (dats m 0 c).arrAt 5 cfg0.N y = gainOf (X m c) (G m c) (T m c) (y 1) := by
  refine congrFun ((dats m 0 c).arrAt_eq_of_covers 5 (fun y : S1x1024.Idx => gainOf (X m c) (G m c) (T m c) (y 1)) (by decide +kernel) fun t hf y => ?_) y
  have ht := (flush0_5 t).mp hf
  have hN : t.val < 16 := lt_of_lt_of_eq t.isLt (show cfg0.N = 16 from N_0)
  blk_simp
  rw [after0_5, Pipeline.eq_sum_fin_of_reset_step_apply_of_flush (fun n h => (outsAt0 m c n h).2.2) 16 (fun _ => 0) _
    (reset_gain m c) (step_gain m c) t ht _, zero_add]
  idx_vars y
  have e1 : ((cfg0.win 5).blk t).view.emb (ix2 y0 y1) 1 = y1 := by
    refine Fin.ext ?_
    blk_simp [index5 t]
  refine Eq.trans ?_ (congrArg (gainOf (X m c) (G m c) (T m c)) e1).symm
  obtain rfl : y0 = 0 := Subsingleton.elim _ _
  simp only [gain_at]
  refine Fin.sum_mul_add_congr fun s k hl => ?_
  have hr : s.val * 512 + k.val = (16 * (t.val / 16) + s.val) * 512 + k.val := by omega
  have h0 := fun n => iblk0 m c ⟨16 * (t.val / 16) + s.val, lt_of_lt_of_eq (by omega) (show cfg0.N = 16 from N_0).symm⟩ k n ⟨s.val * 512 + k.val, hl⟩ hr
  have h1 := fun n => iblk1 m c ⟨16 * (t.val / 16) + s.val, lt_of_lt_of_eq (by omega) (show cfg0.N = 16 from N_0).symm⟩ n
  have h2 := fun n => iblk2 m c ⟨16 * (t.val / 16) + s.val, lt_of_lt_of_eq (by omega) (show cfg0.N = 16 from N_0).symm⟩ k n ⟨s.val * 512 + k.val, hl⟩ hr
  simp only [h0, h1, h2]
  rfl

end Cert.LossHeadIdeal.Rows

namespace Cert.LossHeadRefIdeal.Reading

open Cert.LossHeadRefIdeal Cert.LossHeadRefIdeal.Gen Cert.LossHeadRefIdeal.Read Idealize.ShloMosaic
open Cert.Norm
open Cert.Attn (Finite)
open Cert.LossHeadIdeal.Rows (gap squares squaresOf back backOf lossOf gradOf gainOf share twice share_eq twice_eq)

variable (x0 : (⟨S8192x1024, .f32⟩ : BufTy).Contents (Elt Ideal)) (x1 : (⟨S1x1024, .f32⟩ : BufTy).Contents (Elt Ideal))
  (x2 : (⟨S8192x1024, .f32⟩ : BufTy).Contents (Elt Ideal))

/-- The reference's constants: the half of the loss, the one it starts the gradient with, the two of a square's derivative. -/
def part : EReal := Ideal.ofBits .f32 0x3F000000#32
def one : EReal := Ideal.ofBits .f32 0x3F800000#32
def two : EReal := Ideal.ofBits .f32 0x40000000#32

theorem part_eq : part = ((1 / 2 : ℝ) : EReal) := by
  simp [part, Ideal.ofBits, Ideal.ieee]
  rw [← EReal.coe_mul]
  norm_num
theorem one_eq : one = ((1 : ℝ) : EReal) := by
  simp [one, Ideal.ofBits, Ideal.ieee]
  try
    rw [← EReal.coe_mul]
    norm_num
theorem two_eq : two = ((2 : ℝ) : EReal) := by
  simp [two, Ideal.ofBits, Ideal.ieee]
  try
    rw [← EReal.coe_mul]
    norm_num

/-- The two weights of an error's gradient agree. -/
theorem weight_eq (d : EReal) : Ideal.div (part * one) width * (two * d) = d * twice := by
  rw [part_eq, one_eq, two_eq, twice_eq, width_eq, Ideal.div_coe (by norm_num), ← mul_assoc, mul_comm _ d]
  simp only [← EReal.coe_mul]
  norm_num

/-- What stands under the reference's root, the factor of a row, the distance from the target, the gradient behind it. -/
theorem power_at (r : Fin 8192) : val_main_v6 x0 (ix2 r 0) = power fun k => x0 (ix2 r k) := by
  pointwise [val_main_v6, val_main_v5, val_main_v4, val_main_v3, val_main_v2, val_main_v1, val_main_v0, val_main_cst, val_main_cst_0, val_main_cst_1, power, width, small]
theorem factor_at (r : Fin 8192) : val_main_v7 x0 (ix2 r 0) = factor fun k => x0 (ix2 r k) :=
  congrArg Ideal.rsqrt (power_at x0 r)
theorem gap_at (r : Fin 8192) (k : Fin 1024) :
    val_main_v15 x0 x1 x2 (ix2 r k) = gap (fun k => x0 (ix2 r k)) (fun k => x1 (ix2 0 k)) (fun k => x2 (ix2 r k)) k := by
  pointwise [val_main_v15, val_main_v14, val_main_v13, val_main_v12, val_main_v11, factor_at, gap]
theorem back_at (r : Fin 8192) (k : Fin 1024) : val_main_v29 x0 x1 x2 (ix2 r k) = backOf x0 x1 x2 r k := by
  refine Eq.trans (b := Ideal.div (part * one) width * (two * gap (fun k => x0 (ix2 r k)) (fun k => x1 (ix2 0 k)) (fun k => x2 (ix2 r k)) k)) ?_ (weight_eq _)
  pointwise [val_main_v29, val_main_v28, val_main_v27, val_main_v26, val_main_cst_10, val_main_v25, val_main_v24, val_main_cst_8, val_main_cst_9, val_main_v18, val_main_v17, val_main_cst_3,
    gap_at, part, one, two, width]

/-- The normalised row scaled by what comes back through the root, -/
theorem slope_at (r : Fin 8192) (n : Fin 1024) :
    val_main_v44 x0 x1 x2 (ix2 r n) = slope (fun k => x0 (ix2 r k)) (fun k => backOf x0 x1 x2 r k * x1 (ix2 0 k)) := by
  pointwise [val_main_v44, val_main_v43, val_main_v42, val_main_v41, val_main_v40, val_main_v37, val_main_v36, val_main_v35, val_main_v34, val_main_v33,
    val_main_v10, val_main_v9, val_main_v8, val_main_cst_2, val_main_cst_12, val_main_cst_13, val_main_cst_14, width, half, back_at]
  simp only [Fin.sum_univ_one, power_at, factor_at, Cert.Norm.slope, width, half]

/-- and the reference's three results. -/
theorem rows_at (r : Fin 8192) (n : Fin 1024) :
    val_main_v48 x0 x1 x2 (ix2 r n) = chainGrad (fun k => x0 (ix2 r k)) (fun k => backOf x0 x1 x2 r k * x1 (ix2 0 k)) n := by
  pointwise [val_main_v48, val_main_v47, val_main_v46, val_main_v45, val_main_v39, val_main_v38, val_main_v34, val_main_v33,
    chainGrad, back_at, factor_at, slope_at]
theorem gain_at (n : Fin 1024) : val_main_v32 x0 x1 x2 (ix2 0 n) = gainOf x0 x1 x2 n := by
  pointwise [val_main_v32, val_main_v31, val_main_v30, val_main_v12, val_main_v11, val_main_cst_11, gainOf, back_at, factor_at]
  exact Finset.sum_congr rfl fun r _ => mul_comm _ _
theorem squares_at (r : Fin 8192) : val_main_v21 x0 x1 x2 (ix1 r) = Ideal.div (squaresOf x0 x1 x2 r) width := by
  pointwise [val_main_v21, val_main_v20, val_main_v19, val_main_v16, val_main_cst_4, val_main_cst_5, gap_at, squaresOf, squares, width]
theorem loss_at (hq : Finite (squaresOf x0 x1 x2)) (l : Fin 128) : val_main_v49 x0 x1 x2 (ix2 0 l) = lossOf x0 x1 x2 := by
  refine Eq.trans (b := part * ∑ r : Fin 8192, Ideal.div (squaresOf x0 x1 x2 r) width) ?_ ?_
  · pointwise [val_main_v49, val_main_v23, val_main_v22, val_main_cst_6, val_main_cst_7, squares_at, part]
  · obtain ⟨q, hq⟩ := hq
    simp only [lossOf, hq, width_eq, part_eq, share_eq]
    simp only [Ideal.div_coe (show (1024 : ℝ) ≠ 0 by norm_num), ← EReal.coe_mul, ← Cert.Attn.coe_sum, Finset.mul_sum]
    refine congrArg _ (Finset.sum_congr rfl fun r _ => ?_)
    ring

end Cert.LossHeadRefIdeal.Reading

namespace Cert.Proof.LossHead

open Idealize.ShloMosaic Idealize.SL.Sem
open Cert.Attn (Finite)

theorem frame_kernel : Cert.quiescent_LossHead := fun m ρ _ => Cert.LossHead.Gen.frame m ρ
theorem frame_ideal : Cert.quiescent_LossHeadIdeal := fun m ρ _ => Cert.LossHeadIdeal.Gen.frame m ρ
theorem frame_ideal_pre : Cert.quiescent_LossHeadIdeal_pre_finite_loss := fun m ρ _ => Cert.LossHeadIdeal.Gen.frame m ρ

/-- The reference runs on the host alone: it takes no semaphore. -/
theorem frame_reference : Cert.quiescent_LossHeadRefIdeal := fun m ρ _ =>
  (θ_run Cert.LossHeadRefIdeal.defs _ _).mono
    (fun r h => ⟨fun c => (h c).2.2.2, sem_eq_zero_of_no_sems (by decide) r.2⟩)
    (Cert.LossHeadRefIdeal.Value.run (F := Ideal) m ρ)
theorem frame_reference_pre : Cert.quiescent_LossHeadRefIdeal_pre_finite_loss := fun m ρ _ => frame_reference m ρ trivial

theorem preserves : Cert.preserves_LossHead_LossHeadIdeal := trivial

open Cert.Pre_finite_loss in
/-- Where the precondition holds, every entry of the arrays it names is a real number. -/
theorem finite_of {x0 : FVec Ideal S8192x1024 .f32} {x1 : FVec Ideal S1x1024 .f32} {x2 : FVec Ideal S8192x1024 .f32}
    (h : fn (F := Ideal) x0 x1 x2 = fun _ => 1#1) : Finite x0 ∧ Finite x1 ∧ Finite x2 := by
  haveI : Subsingleton S_.Idx := ⟨fun a b => funext fun i => i.elim0⟩
  have hx := congrFun h (fun i => i.elim0)
  have ⟨h01, h2⟩ := IntOp.andi_eq_one.mp hx
  have ⟨h0, h1⟩ := IntOp.andi_eq_one.mp h01
  have f0 : ∀ i, ∃ r : ℝ, x0 i = (r : EReal) := fun i => Cert.Pre_finite.Entries.exists_real (Host.reduce_andi_all _ _ _ _ _ h0 i)
  have f1 : ∀ i, ∃ r : ℝ, x1 i = (r : EReal) := fun i => Cert.Pre_finite.Entries.exists_real (Host.reduce_andi_all _ _ _ _ _ h1 i)
  have f2 : ∀ i, ∃ r : ℝ, x2 i = (r : EReal) := fun i => Cert.Pre_finite.Entries.exists_real (Host.reduce_andi_all _ _ _ _ _ h2 i)
  exact ⟨⟨_, fun i => (f0 i).choose_spec⟩, ⟨_, fun i => (f1 i).choose_spec⟩, ⟨_, fun i => (f2 i).choose_spec⟩⟩

/-- A row of a finite array is finite. -/
theorem finite_row {n : Nat} {x : FVec Ideal (⟨2, ![n, 1024]⟩ : Shape) .f32} (h : Finite x) (r : Fin n) : Finite fun k : Fin 1024 => x (ix2 r k) := by
  obtain ⟨a, ha⟩ := h
  exact ⟨fun k => a (ix2 r k), fun k => ha _⟩

open Cert.LossHeadIdeal Cert.LossHeadIdeal.Rows Cert.Norm in
/-- On finite arrays the rows' squares are real numbers, and the two forms of the rows' gradient agree. -/
theorem finite_squares {x : FVec Ideal S8192x1024 .f32} {g : FVec Ideal S1x1024 .f32} {t : FVec Ideal S8192x1024 .f32}
    (hx : Finite x) (hg : Finite g) (ht : Finite t) : Finite (squaresOf x g t) := by
  have h := fun r => exists_squares (finite_row hx r) (finite_row hg 0) (finite_row ht r)
  exact ⟨fun r => (h r).choose, fun r => (h r).choose_spec⟩

open Cert.LossHeadIdeal Cert.LossHeadIdeal.Rows Cert.Norm in
theorem grad_eq {x : FVec Ideal S8192x1024 .f32} {g : FVec Ideal S1x1024 .f32} {t : FVec Ideal S8192x1024 .f32}
    (hx : Finite x) (hg : Finite g) (ht : Finite t) (r : Fin 8192) (n : Fin 1024) :
    gradOf x g t r n = chainGrad (fun k => x (ix2 r k)) (fun k => backOf x g t r k * g (ix2 0 k)) n :=
  kernelGrad_eq (finite_row hx r) (finite_back (finite_row hx r) (finite_row hg 0) (finite_row ht r)) n

open Cert.LossHeadIdeal.Rows in
/-- THE VALUE CLAIM: on finite arguments the kernel's loss and its gradients of the rows and of the gain are the reference's. -/
theorem algebraic : Cert.algebraic_LossHeadIdeal_LossHeadRefIdeal_pre_finite_loss := by
  intro m g m' g' hpre hagree
  refine ⟨fun c y => lossOf (X m c) (G m c) (T m c), fun c => Cert.LossHeadRefIdeal.Value.res_main_v48 m' c, fun c y => gainOf (X m c) (G m c) (T m c) (y 1), ?_, ?_⟩
  · refine (θ_run Cert.LossHeadIdeal.defs _ _).mono (fun r h c => ?_) (Cert.LossHeadIdeal.Value.run_blocks (F := Ideal) m g)
    obtain ⟨f0, f1, f2⟩ := finite_of (hpre c)
    obtain ⟨a0, a1, a2⟩ := hagree c
    refine ⟨(h c).1.trans (funext (final3 m c (finite_squares f0 f1 f2))), (h c).2.1.trans (funext fun y => ?_), (h c).2.2.1.trans (funext (final5 m c)), (h c).2.2.2⟩
    refine (final4 m c y).trans ((grad_eq f0 f1 f2 _ _).trans ?_)
    refine Eq.symm ((congrFun (Cert.LossHeadRefIdeal.Read.val_main_v48_eq m' c) y).trans ?_)
    rw [a0, a1, a2]
    idx_vars y
    exact Cert.LossHeadRefIdeal.Reading.rows_at _ _ _ y0 y1
  · refine (θ_run Cert.LossHeadRefIdeal.defs _ _).mono (fun r h c => ⟨(h c).1.trans ?_, (h c).2.1, (h c).2.2.1.trans ?_, (h c).2.2.2⟩) (Cert.LossHeadRefIdeal.Value.run (F := Ideal) m' g')
    · obtain ⟨f0, f1, f2⟩ := finite_of (hpre c)
      obtain ⟨a0, a1, a2⟩ := hagree c
      refine (Cert.LossHeadRefIdeal.Read.val_main_v49_eq _ _ _).trans (funext fun y => ?_)
      rw [a0, a1, a2]
      idx_vars y
      obtain rfl : y0 = 0 := Subsingleton.elim _ _
      exact Cert.LossHeadRefIdeal.Reading.loss_at _ _ _ (finite_squares f0 f1 f2) y1
    · obtain ⟨a0, a1, a2⟩ := hagree c
      refine (Cert.LossHeadRefIdeal.Read.val_main_v32_eq _ _ _).trans (funext fun y => ?_)
      rw [a0, a1, a2]
      idx_vars y
      obtain rfl : y0 = 0 := Subsingleton.elim _ _
      exact Cert.LossHeadRefIdeal.Reading.gain_at _ _ _ y1

end Cert.Proof.LossHead

end
-- ==== Proof.OwnAdamMlp.lean ====
module

public import proofs.«01_k».proof.Defs
public import proofs.«01_k».proof.Proof.Gen.AdamMlp.Frame
public import proofs.«01_k».proof.Proof.Gen.AdamMlpIdeal.Value
public import proofs.«01_k».proof.Proof.Gen.AdamMlpRefIdeal.Run
public import proofs.«01_k».proof.Proof.Gen.AdamMlpRefIdeal.Read
public import Idealize.ShloMosaic.Lib.Claim
public import Idealize.ShloMosaic.Lib.Pipeline.ValueKit
public import Idealize.ShloMosaic.Lib.Pipeline.ReadBack
public import Idealize.ShloMosaic.Lib.Quiescent

/-! One step of AdamW on the weight of the MLP's first product, entry by entry, in blocks of 512 rows. -/

@[expose] public section

set_option maxRecDepth 16384

noncomputable section

namespace Cert.AdamMlpIdeal.Step

open Cert.AdamMlpIdeal Cert.AdamMlpIdeal.Gen Idealize.ShloMosaic Idealize.ShloMosaic.TcCoe Idealize.SL.Sem
open Idealize.ShloMosaic.Pipeline (Dat)

/-- The two decay rates of the moments and what they leave of one, -/
def b1 : EReal := ((9 / 10 : ℝ) : EReal)
def b1c : EReal := ((1 / 10 : ℝ) : EReal)
def b2 : EReal := ((999 / 1000 : ℝ) : EReal)
def b2c : EReal := ((1 / 1000 : ℝ) : EReal)
/-- the corrections of the two moments at the tenth step, `1 / (1 - b ^ 10)`, -/
def c1 : EReal := ((10000000000 / 6513215599 : ℝ) : EReal)
def c2 : EReal := ((1000000000000000000000000000000 / 9955119790251790119955009999 : ℝ) : EReal)
/-- the number under the quotient, the weight decay and the negative learning rate, as both programs write them. -/
def small : EReal := Ideal.ofBits .f32 0x322BCC77#32
def decay : EReal := Ideal.ofBits .f32 0x3C23D70A#32
def rate : EReal := Ideal.ofBits .f32 0xBA83126F#32

theorem named_b1 : Named.named (F := Ideal) (φ := .f32) κ "b1" 0x3F666666#32 = b1 := IdealRules.named_const.ideal_named_scalar _ _ _ _ rfl
theorem named_b1c : Named.named (F := Ideal) (φ := .f32) κ "b1c" 0x3DCCCCCD#32 = b1c := IdealRules.named_const.ideal_named_scalar _ _ _ _ rfl
theorem named_b2 : Named.named (F := Ideal) (φ := .f32) κ "b2" 0x3F7FBE77#32 = b2 := IdealRules.named_const.ideal_named_scalar _ _ _ _ rfl
theorem named_b2c : Named.named (F := Ideal) (φ := .f32) κ "b2c" 0x3A83126F#32 = b2c := IdealRules.named_const.ideal_named_scalar _ _ _ _ rfl
theorem named_c1 : Named.named (F := Ideal) (φ := .f32) κ "c1" 0x3FC48605#32 = c1 := IdealRules.named_const.ideal_named_scalar _ _ _ _ rfl
theorem named_c2 : Named.named (F := Ideal) (φ := .f32) κ "c2" 0x42C8E6D3#32 = c2 := IdealRules.named_const.ideal_named_scalar _ _ _ _ rfl

/-- The new moments of an entry and what is added to its weight. -/
def first (g m : EReal) : EReal := b1 * m + b1c * g
def second (g v : EReal) : EReal := b2 * v + b2c * (g * g)
def delta (w g m v : EReal) : EReal := rate * (Ideal.div (first g m * c1) (Ideal.sqrt (second g v * c2) + small) + decay * w)

/-- What the kernel stores. -/
theorem first_at (g m : FVec Ideal S512x1024 .f32) (i : Fin 512) (n : Fin 1024) :
    k0_pay1 (F := Ideal) g m (ix2 i n) = first (g (ix2 i n)) (m (ix2 i n)) := by
  pointwise [k0_pay1, first, named_b1, named_b1c]
theorem second_at (g v : FVec Ideal S512x1024 .f32) (i : Fin 512) (n : Fin 1024) :
    k0_pay2 (F := Ideal) g v (ix2 i n) = second (g (ix2 i n)) (v (ix2 i n)) := by
  pointwise [k0_pay2, second, named_b2, named_b2c]
theorem delta_at (g m v w : FVec Ideal S512x1024 .f32) (i : Fin 512) (n : Fin 1024) :
    k0_pay3 (F := Ideal) g m v w (ix2 i n) = delta (w (ix2 i n)) (g (ix2 i n)) (m (ix2 i n)) (v (ix2 i n)) := by
  pointwise [k0_pay3, delta, first_at, second_at, named_c1, named_c2, small, decay, rate]

variable (m : (ℓ : Loc nD τ sig) → Buf (Elt Ideal) ℓ) (c : Dev nD)

/-- The weight, its gradient, and its two moments. -/
abbrev A0 : FVec Ideal S4096x1024 .f32 := m ((c : Thread nD τ).loc main_arg0)
abbrev A1 : FVec Ideal S4096x1024 .f32 := m ((c : Thread nD τ).loc main_arg1)
abbrev A2 : FVec Ideal S4096x1024 .f32 := m ((c : Thread nD τ).loc main_arg2)
abbrev A3 : FVec Ideal S4096x1024 .f32 := m ((c : Thread nD τ).loc main_arg3)

/-- The blocks a grid point reads and those it writes. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

theorem iblk0 (t : Fin cfg0.N) (r : Fin 512) (k : Fin 1024) (r' : Fin 4096) (hr : r'.val = t.val * 512 + r.val) :
    iblk m c 0 t (ix2 r k) = A0 m c (ix2 r' k) := by
  blk_ext [iblk, V, index0 t, hr]
theorem iblk1 (t : Fin cfg0.N) (r : Fin 512) (k : Fin 1024) (r' : Fin 4096) (hr : r'.val = t.val * 512 + r.val) :
    iblk m c 1 t (ix2 r k) = A1 m c (ix2 r' k) := by
  blk_ext [iblk, V, index1 t, hr]
theorem iblk2 (t : Fin cfg0.N) (r : Fin 512) (k : Fin 1024) (r' : Fin 4096) (hr : r'.val = t.val * 512 + r.val) :
    iblk m c 2 t (ix2 r k) = A2 m c (ix2 r' k) := by
  blk_ext [iblk, V, index2 t, hr]
theorem iblk3 (t : Fin cfg0.N) (r : Fin 512) (k : Fin 1024) (r' : Fin 4096) (hr : r'.val = t.val * 512 + r.val) :
    iblk m c 3 t (ix2 r k) = A3 m c (ix2 r' k) := by
  blk_ext [iblk, V, index3 t, hr]

/-- The three results as functions of the four arrays. -/
def deltaOf (w g m v : FVec Ideal S4096x1024 .f32) (r : Fin 4096) (n : Fin 1024) : EReal := delta (w (ix2 r n)) (g (ix2 r n)) (m (ix2 r n)) (v (ix2 r n))
def firstOf (g m : FVec Ideal S4096x1024 .f32) (r : Fin 4096) (n : Fin 1024) : EReal := first (g (ix2 r n)) (m (ix2 r n))
def secondOf (g v : FVec Ideal S4096x1024 .f32) (r : Fin 4096) (n : Fin 1024) : EReal := second (g (ix2 r n)) (v (ix2 r n))

/-- WHAT IS ADDED TO THE WEIGHT after the launch, -/
theorem final4 (y : S4096x1024.Idx) : (dats m 0 c).arrAt 4 cfg0.N y = deltaOf (A0 m c) (A1 m c) (A2 m c) (A3 m c) (y 0) (y 1) := by
  refine congrFun ((dats m 0 c).arrAt_eq_of_covers 4 (fun y : S4096x1024.Idx => deltaOf (A0 m c) (A1 m c) (A2 m c) (A3 m c) (y 0) (y 1)) (by decide +kernel) fun t hf y => ?_) y
  have hN : t.val < 8 := lt_of_lt_of_eq t.isLt (show cfg0.N = 8 from N_0)
  blk_simp
  rw [after0_4]
  unfold out0_4
  frame_out
  idx_vars y
  have e0 : ((cfg0.win 4).blk t).view.emb (ix2 y0 y1) 0 = (⟨t.val * 512 + y0.val, by omega⟩ : Fin 4096) := by
    refine Fin.ext ?_
    blk_simp [index4 t]
  have e1 : ((cfg0.win 4).blk t).view.emb (ix2 y0 y1) 1 = y1 := by
    refine Fin.ext ?_
    blk_simp [index4 t]
  refine Eq.trans ?_ (congrArg₂ (deltaOf (A0 m c) (A1 m c) (A2 m c) (A3 m c)) e0 e1).symm
  refine (delta_at _ _ _ _ y0 y1).trans ?_
  have h0 := iblk0 m c t y0 y1 (⟨t.val * 512 + y0.val, by omega⟩ : Fin 4096) rfl
  have h1 := iblk1 m c t y0 y1 (⟨t.val * 512 + y0.val, by omega⟩ : Fin 4096) rfl
  have h2 := iblk2 m c t y0 y1 (⟨t.val * 512 + y0.val, by omega⟩ : Fin 4096) rfl
  have h3 := iblk3 m c t y0 y1 (⟨t.val * 512 + y0.val, by omega⟩ : Fin 4096) rfl
  simp only [h0, h1, h2, h3]
  rfl

/-- THE FIRST MOMENT -/
theorem final5 (y : S4096x1024.Idx) : (dats m 0 c).arrAt 5 cfg0.N y = firstOf (A1 m c) (A2 m c) (y 0) (y 1) := by
  refine congrFun ((dats m 0 c).arrAt_eq_of_covers 5 (fun y : S4096x1024.Idx => firstOf (A1 m c) (A2 m c) (y 0) (y 1)) (by decide +kernel) fun t hf y => ?_) y
  have hN : t.val < 8 := lt_of_lt_of_eq t.isLt (show cfg0.N = 8 from N_0)
  blk_simp
  rw [after0_5]
  unfold out0_5
  frame_out
  idx_vars y
  have e0 : ((cfg0.win 5).blk t).view.emb (ix2 y0 y1) 0 = (⟨t.val * 512 + y0.val, by omega⟩ : Fin 4096) := by
    refine Fin.ext ?_
    blk_simp [index5 t]
  have e1 : ((cfg0.win 5).blk t).view.emb (ix2 y0 y1) 1 = y1 := by
    refine Fin.ext ?_
    blk_simp [index5 t]
  refine Eq.trans ?_ (congrArg₂ (firstOf (A1 m c) (A2 m c)) e0 e1).symm
  refine (first_at _ _ y0 y1).trans ?_
  have h1 := iblk1 m c t y0 y1 (⟨t.val * 512 + y0.val, by omega⟩ : Fin 4096) rfl
  have h2 := iblk2 m c t y0 y1 (⟨t.val * 512 + y0.val, by omega⟩ : Fin 4096) rfl
  simp only [h1, h2]
  rfl

/-- AND THE SECOND. -/
theorem final6 (y : S4096x1024.Idx) : (dats m 0 c).arrAt 6 cfg0.N y = secondOf (A1 m c) (A3 m c) (y 0) (y 1) := by
  refine congrFun ((dats m 0 c).arrAt_eq_of_covers 6 (fun y : S4096x1024.Idx => secondOf (A1 m c) (A3 m c) (y 0) (y 1)) (by decide +kernel) fun t hf y => ?_) y
  have hN : t.val < 8 := lt_of_lt_of_eq t.isLt (show cfg0.N = 8 from N_0)
  blk_simp
  rw [after0_6]
  unfold out0_6
  frame_out
  idx_vars y
  have e0 : ((cfg0.win 6).blk t).view.emb (ix2 y0 y1) 0 = (⟨t.val * 512 + y0.val, by omega⟩ : Fin 4096) := by
    refine Fin.ext ?_
    blk_simp [index6 t]
  have e1 : ((cfg0.win 6).blk t).view.emb (ix2 y0 y1) 1 = y1 := by
    refine Fin.ext ?_
    blk_simp [index6 t]
  refine Eq.trans ?_ (congrArg₂ (secondOf (A1 m c) (A3 m c)) e0 e1).symm
  refine (second_at _ _ y0 y1).trans ?_
  have h1 := iblk1 m c t y0 y1 (⟨t.val * 512 + y0.val, by omega⟩ : Fin 4096) rfl
  have h3 := iblk3 m c t y0 y1 (⟨t.val * 512 + y0.val, by omega⟩ : Fin 4096) rfl
  simp only [h1, h3]
  rfl

end Cert.AdamMlpIdeal.Step

namespace Cert.AdamMlpRefIdeal.Reading

open Cert.AdamMlpRefIdeal Cert.AdamMlpRefIdeal.Gen Cert.AdamMlpRefIdeal.Read Idealize.ShloMosaic
open Cert.AdamMlpIdeal.Step

/-- The numbers as the reference writes them: the decay rates as quotients, -/
def one : EReal := Ideal.ofBits .f32 0x3F800000#32
def r1 : EReal := Ideal.div (Ideal.ofBits .f32 0x41100000#32) (Ideal.ofBits .f32 0x41200000#32)
def r2 : EReal := Ideal.div (Ideal.ofBits .f32 0x4479C000#32) (Ideal.ofBits .f32 0x447A0000#32)

theorem one_eq : one = ((1 : ℝ) : EReal) := by
  simp [one, Ideal.ofBits, Ideal.ieee]
  try (rw [← EReal.coe_mul]; norm_num)

theorem r1_eq : r1 = b1 := by
  have h9 : Ideal.ofBits .f32 0x41100000#32 = ((9 : ℝ) : EReal) := by
    simp [Ideal.ofBits, Ideal.ieee]
    rw [← EReal.coe_mul]
    norm_num
  have h10 : Ideal.ofBits .f32 0x41200000#32 = ((10 : ℝ) : EReal) := by
    simp [Ideal.ofBits, Ideal.ieee]
    rw [← EReal.coe_mul]
    norm_num
  rw [r1, h9, h10, Ideal.div_coe (by norm_num), ← EReal.coe_mul, b1]
  norm_num

theorem r2_eq : r2 = b2 := by
  have h9 : Ideal.ofBits .f32 0x4479C000#32 = ((999 : ℝ) : EReal) := by
    simp [Ideal.ofBits, Ideal.ieee]
    rw [← EReal.coe_mul]
    norm_num
  have h10 : Ideal.ofBits .f32 0x447A0000#32 = ((1000 : ℝ) : EReal) := by
    simp [Ideal.ofBits, Ideal.ieee]
    rw [← EReal.coe_mul]
    norm_num
  rw [r2, h9, h10, Ideal.div_coe (by norm_num), ← EReal.coe_mul, b2]
  norm_num

/-- and the tenth power by repeated squares. -/
def tenth (b : EReal) : EReal := b * b * (b * b * (b * b) * (b * b * (b * b)))

theorem rest1 : one - b1 = b1c := by
  rw [one_eq, b1, b1c, ← EReal.coe_sub]
  norm_num
theorem rest2 : one - b2 = b2c := by
  rw [one_eq, b2, b2c, ← EReal.coe_sub]
  norm_num
theorem correct1 (x : EReal) : Ideal.div x (one - tenth b1) = x * c1 := by
  rw [one_eq, tenth, b1]
  simp only [← EReal.coe_mul, ← EReal.coe_sub]
  rw [Ideal.div_coe (by norm_num), c1]
  norm_num
theorem correct2 (x : EReal) : Ideal.div x (one - tenth b2) = x * c2 := by
  rw [one_eq, tenth, b2]
  simp only [← EReal.coe_mul, ← EReal.coe_sub]
  rw [Ideal.div_coe (by norm_num), c2]
  norm_num

variable (x0 x1 x2 x3 : (⟨S4096x1024, .f32⟩ : BufTy).Contents (Elt Ideal))

/-- The reference's results, read at an entry. -/
theorem first_at (r : Fin 4096) (n : Fin 1024) : val_main_v7 x1 x2 (ix2 r n) = firstOf x1 x2 r n := by
  have h : val_main_v7 x1 x2 (ix2 r n) = r1 * x2 (ix2 r n) + (one - r1) * x1 (ix2 r n) := by
    pointwise [val_main_v7, val_main_v6, val_main_v5, val_main_v4, val_main_cst_3, val_main_v3, val_main_v2, val_main_v0, val_main_cst, val_main_cst_0, one, r1]
  rw [h, r1_eq, rest1]
  rfl
theorem second_at (r : Fin 4096) (n : Fin 1024) : val_main_v14 x1 x3 (ix2 r n) = secondOf x1 x3 r n := by
  have h : val_main_v14 x1 x3 (ix2 r n) = r2 * x3 (ix2 r n) + (one - r2) * (x1 (ix2 r n) * x1 (ix2 r n)) := by
    pointwise [val_main_v14, val_main_v13, val_main_v12, val_main_v11, val_main_v10, val_main_cst_4, val_main_v9, val_main_v8, val_main_v1, val_main_cst_1, val_main_cst_2, one, r2]
  rw [h, r2_eq, rest2]
  rfl
theorem left1 (r : Fin 4096) (n : Fin 1024) : val_main_v20 (F := Ideal) (ix2 r n) = one - tenth r1 := by
  pointwise [val_main_v20, val_main_v19, val_main_cst_5, val_main_v18, val_main_v17, val_main_v16, val_main_v15, val_main_v0, val_main_cst, val_main_cst_0, one, r1, tenth]
theorem left2 (r : Fin 4096) (n : Fin 1024) : val_main_v27 (F := Ideal) (ix2 r n) = one - tenth r2 := by
  pointwise [val_main_v27, val_main_v26, val_main_cst_6, val_main_v25, val_main_v24, val_main_v23, val_main_v22, val_main_v1, val_main_cst_1, val_main_cst_2, one, r2, tenth]
theorem delta_at (r : Fin 4096) (n : Fin 1024) : val_main_v37 x0 x1 x2 x3 (ix2 r n) = deltaOf x0 x1 x2 x3 r n := by
  have h : val_main_v37 x0 x1 x2 x3 (ix2 r n)
      = rate * (Ideal.div (Ideal.div (firstOf x1 x2 r n) (one - tenth r1)) (Ideal.sqrt (Ideal.div (secondOf x1 x3 r n) (one - tenth r2)) + small) + decay * x0 (ix2 r n)) := by
    rw [← left1 r n, ← left2 r n, ← first_at, ← second_at]
    pointwise [val_main_v37, val_main_v36, val_main_cst_9, val_main_v35, val_main_v34, val_main_v33, val_main_cst_8, val_main_v32, val_main_v31, val_main_v30, val_main_cst_7,
      val_main_v29, val_main_v28, val_main_v21, rate, small, decay]
  rw [h, r1_eq, r2_eq, correct1, correct2]
  rfl

end Cert.AdamMlpRefIdeal.Reading

namespace Cert.Proof.AdamMlp

open Idealize.ShloMosaic Idealize.SL.Sem

theorem frame_kernel : Cert.quiescent_AdamMlp := fun m ρ _ => Cert.AdamMlp.Gen.frame m ρ
theorem frame_ideal : Cert.quiescent_AdamMlpIdeal := fun m ρ _ => Cert.AdamMlpIdeal.Gen.frame m ρ

/-- The reference runs on the host alone: it takes no semaphore. -/
theorem frame_reference : Cert.quiescent_AdamMlpRefIdeal := fun m ρ _ =>
  (θ_run Cert.AdamMlpRefIdeal.defs _ _).mono
    (fun r h => ⟨fun c => (h c).2.2.2, sem_eq_zero_of_no_sems (by decide) r.2⟩)
    (Cert.AdamMlpRefIdeal.Value.run (F := Ideal) m ρ)

theorem preserves : Cert.preserves_AdamMlp_AdamMlpIdeal :=
  ⟨IdealRules.named_const.statement Cert.AdamMlpIdeal.κ "b1" .f32 0x3F666666#32 ((9 / 10 : ℝ) : EReal) rfl,
    IdealRules.named_const.statement Cert.AdamMlpIdeal.κ "b1c" .f32 0x3DCCCCCD#32 ((1 / 10 : ℝ) : EReal) rfl,
    IdealRules.named_const.statement Cert.AdamMlpIdeal.κ "b2" .f32 0x3F7FBE77#32 ((999 / 1000 : ℝ) : EReal) rfl,
    IdealRules.named_const.statement Cert.AdamMlpIdeal.κ "b2c" .f32 0x3A83126F#32 ((1 / 1000 : ℝ) : EReal) rfl,
    IdealRules.named_const.statement Cert.AdamMlpIdeal.κ "c1" .f32 0x3FC48605#32 ((10000000000 / 6513215599 : ℝ) : EReal) rfl,
    IdealRules.named_const.statement Cert.AdamMlpIdeal.κ "c2" .f32 0x42C8E6D3#32 ((1000000000000000000000000000000 / 9955119790251790119955009999 : ℝ) : EReal) rfl⟩

open Cert.AdamMlpIdeal.Step in
/-- THE VALUE CLAIM: the kernel's step and its two moments are the reference's, for any arrays. -/
theorem algebraic : Cert.algebraic_AdamMlpIdeal_AdamMlpRefIdeal := by
  intro m g m' g' _ hagree
  refine ⟨fun c y => deltaOf (A0 m c) (A1 m c) (A2 m c) (A3 m c) (y 0) (y 1), fun c y => firstOf (A1 m c) (A2 m c) (y 0) (y 1),
    fun c y => secondOf (A1 m c) (A3 m c) (y 0) (y 1), ?_, ?_⟩
  · exact (θ_run Cert.AdamMlpIdeal.defs _ _).mono (fun r h c => ⟨(h c).1.trans (funext (final4 m c)), (h c).2.1.trans (funext (final5 m c)), (h c).2.2.1.trans (funext (final6 m c)), (h c).2.2.2⟩)
      (Cert.AdamMlpIdeal.Value.run_blocks (F := Ideal) m g)
  · refine (θ_run Cert.AdamMlpRefIdeal.defs _ _).mono (fun r h c => ⟨(h c).1.trans ?_, (h c).2.1.trans ?_, (h c).2.2.1.trans ?_, (h c).2.2.2⟩) (Cert.AdamMlpRefIdeal.Value.run (F := Ideal) m' g')
    · obtain ⟨a0, a1, a2, a3⟩ := hagree c
      refine (Cert.AdamMlpRefIdeal.Read.val_main_v37_eq _ _ _ _).trans (funext fun y => ?_)
      rw [a0, a1, a2, a3]
      idx_vars y
      exact Cert.AdamMlpRefIdeal.Reading.delta_at _ _ _ _ y0 y1
    · obtain ⟨a0, a1, a2, a3⟩ := hagree c
      refine (Cert.AdamMlpRefIdeal.Read.val_main_v7_eq _ _).trans (funext fun y => ?_)
      rw [a1, a2]
      idx_vars y
      exact Cert.AdamMlpRefIdeal.Reading.first_at _ _ y0 y1
    · obtain ⟨a0, a1, a2, a3⟩ := hagree c
      refine (Cert.AdamMlpRefIdeal.Read.val_main_v14_eq _ _).trans (funext fun y => ?_)
      rw [a1, a3]
      idx_vars y
      exact Cert.AdamMlpRefIdeal.Reading.second_at _ _ y0 y1

end Cert.Proof.AdamMlp

end
-- ==== Proof.lean ====
module

public import proofs.«01_k».proof.Defs
public import proofs.«01_k».proof.Proof.Attention
public import proofs.«01_k».proof.Proof.OwnDownDx
public import proofs.«01_k».proof.Proof.OwnDownDw
public import proofs.«01_k».proof.Proof.OwnUpDw
public import proofs.«01_k».proof.Proof.OwnUpDx
public import proofs.«01_k».proof.Proof.OwnGluDx
public import proofs.«01_k».proof.Proof.OwnOutDx
public import proofs.«01_k».proof.Proof.OwnOutDw
public import proofs.«01_k».proof.Proof.OwnAttnOutDx
public import proofs.«01_k».proof.Proof.OwnAttnOutDw
public import proofs.«01_k».proof.Proof.OwnQDx
public import proofs.«01_k».proof.Proof.OwnQDw
public import proofs.«01_k».proof.Proof.OwnInDx
public import proofs.«01_k».proof.Proof.OwnInDw
public import proofs.«01_k».proof.Proof.OwnGluDw
public import proofs.«01_k».proof.Proof.OwnMlpUp
public import proofs.«01_k».proof.Proof.OwnMlpDown
public import proofs.«01_k».proof.Proof.OwnInProj
public import proofs.«01_k».proof.Proof.OwnOutProj
public import proofs.«01_k».proof.Proof.OwnQProj
public import proofs.«01_k».proof.Proof.OwnAttnOut
public import proofs.«01_k».proof.Proof.OwnAttnFwd
public import proofs.«01_k».proof.Proof.OwnKvProj
public import proofs.«01_k».proof.Proof.OwnGluFwd
public import proofs.«01_k».proof.Proof.OwnKvDw
public import proofs.«01_k».proof.Proof.OwnKvDx
public import proofs.«01_k».proof.Proof.OwnDtDw
public import proofs.«01_k».proof.Proof.OwnLossHead
public import proofs.«01_k».proof.Proof.OwnAdamMlp
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.DownDx.Gen.facts,
    Cert.DownDxIdeal.Gen.facts, Cert.DownDxRefIdeal.Gen.facts, Cert.DownDw.Gen.facts, Cert.DownDwIdeal.Gen.facts,
    Cert.DownDwRefIdeal.Gen.facts, Cert.UpDw.Gen.facts, Cert.UpDwIdeal.Gen.facts, Cert.UpDwRefIdeal.Gen.facts,
    Cert.UpDx.Gen.facts, Cert.UpDxIdeal.Gen.facts, Cert.UpDxRefIdeal.Gen.facts, Cert.GluDx.Gen.facts, Cert.GluDxIdeal.Gen.facts,
    Cert.GluDxRefIdeal.Gen.facts, Cert.OutDx.Gen.facts, Cert.OutDxIdeal.Gen.facts, Cert.OutDxRefIdeal.Gen.facts,
    Cert.OutDw.Gen.facts, Cert.OutDwIdeal.Gen.facts, Cert.OutDwRefIdeal.Gen.facts, Cert.AttnOutDx.Gen.facts,
    Cert.AttnOutDxIdeal.Gen.facts, Cert.AttnOutDxRefIdeal.Gen.facts, Cert.AttnOutDw.Gen.facts, Cert.AttnOutDwIdeal.Gen.facts,
    Cert.AttnOutDwRefIdeal.Gen.facts, Cert.QDx.Gen.facts, Cert.QDxIdeal.Gen.facts, Cert.QDxRefIdeal.Gen.facts,
    Cert.QDw.Gen.facts, Cert.QDwIdeal.Gen.facts, Cert.QDwRefIdeal.Gen.facts, Cert.InDx.Gen.facts, Cert.InDxIdeal.Gen.facts,
    Cert.InDxRefIdeal.Gen.facts, Cert.InDw.Gen.facts, Cert.InDwIdeal.Gen.facts, Cert.InDwRefIdeal.Gen.facts,
    Cert.GluDw.Gen.facts, Cert.GluDwIdeal.Gen.facts, Cert.GluDwRefIdeal.Gen.facts, Cert.MlpUp.Gen.facts,
    Cert.MlpUpIdeal.Gen.facts, Cert.MlpUpRefIdeal.Gen.facts, Cert.MlpDown.Gen.facts, Cert.MlpDownIdeal.Gen.facts,
    Cert.MlpDownRefIdeal.Gen.facts, Cert.InProj.Gen.facts, Cert.InProjIdeal.Gen.facts, Cert.InProjRefIdeal.Gen.facts,
    Cert.OutProj.Gen.facts, Cert.OutProjIdeal.Gen.facts, Cert.OutProjRefIdeal.Gen.facts, Cert.QProj.Gen.facts,
    Cert.QProjIdeal.Gen.facts, Cert.QProjRefIdeal.Gen.facts, Cert.AttnOut.Gen.facts, Cert.AttnOutIdeal.Gen.facts,
    Cert.AttnOutRefIdeal.Gen.facts, Cert.AttnFwd.Gen.facts, Cert.AttnFwdIdeal.Gen.facts, Cert.AttnFwdRefIdeal.Gen.facts,
    Cert.KvProj.Gen.facts, Cert.KvProjIdeal.Gen.facts, Cert.KvProjRefIdeal.Gen.facts, Cert.GluFwd.Gen.facts,
    Cert.GluFwdIdeal.Gen.facts, Cert.GluFwdRefIdeal.Gen.facts, Cert.KvDw.Gen.facts, Cert.KvDwIdeal.Gen.facts,
    Cert.KvDwRefIdeal.Gen.facts, Cert.KvDx.Gen.facts, Cert.KvDxIdeal.Gen.facts, Cert.KvDxRefIdeal.Gen.facts,
    Cert.DtDw.Gen.facts, Cert.DtDwIdeal.Gen.facts, Cert.DtDwRefIdeal.Gen.facts, Cert.LossHead.Gen.facts,
    Cert.LossHeadIdeal.Gen.facts, Cert.LossHeadRefIdeal.Gen.facts, Cert.AdamMlp.Gen.facts, Cert.AdamMlpIdeal.Gen.facts,
    Cert.AdamMlpRefIdeal.Gen.facts, Cert.Pre_finite.Gen.facts, Cert.Pre_finite_up.Gen.facts, Cert.Pre_finite_glu.Gen.facts,
    Cert.Pre_finite_q.Gen.facts, Cert.Pre_finite_in.Gen.facts, Cert.Pre_finite_kv.Gen.facts, Cert.Pre_finite_loss.Gen.facts, by
  exact ⟨Attention.frame_kernel, Attention.frame_ideal, Attention.frame_ideal_pre, Attention.frame_reference,
    Attention.frame_reference_pre, DownDx.frame_kernel, DownDx.frame_ideal, DownDx.frame_reference, DownDw.frame_kernel,
    DownDw.frame_ideal, DownDw.frame_reference, UpDw.frame_kernel, UpDw.frame_ideal, UpDw.frame_reference, UpDx.frame_kernel,
    UpDx.frame_ideal, UpDx.frame_ideal_pre, UpDx.frame_reference, UpDx.frame_reference_pre, GluDx.frame_kernel,
    GluDx.frame_ideal, GluDx.frame_ideal_pre, GluDx.frame_reference, GluDx.frame_reference_pre, OutDx.frame_kernel,
    OutDx.frame_ideal, OutDx.frame_reference, OutDw.frame_kernel, OutDw.frame_ideal, OutDw.frame_reference,
    AttnOutDx.frame_kernel, AttnOutDx.frame_ideal, AttnOutDx.frame_reference, AttnOutDw.frame_kernel, AttnOutDw.frame_ideal,
    AttnOutDw.frame_reference, QDx.frame_kernel, QDx.frame_ideal, QDx.frame_ideal_pre, QDx.frame_reference,
    QDx.frame_reference_pre, QDw.frame_kernel, QDw.frame_ideal, QDw.frame_reference, InDx.frame_kernel, InDx.frame_ideal,
    InDx.frame_ideal_pre, InDx.frame_reference, InDx.frame_reference_pre, InDw.frame_kernel, InDw.frame_ideal,
    InDw.frame_reference, GluDw.frame_kernel, GluDw.frame_ideal, GluDw.frame_reference, MlpUp.frame_kernel, MlpUp.frame_ideal,
    MlpUp.frame_reference, MlpDown.frame_kernel, MlpDown.frame_ideal, MlpDown.frame_reference, InProj.frame_kernel,
    InProj.frame_ideal, InProj.frame_reference, OutProj.frame_kernel, OutProj.frame_ideal, OutProj.frame_reference,
    QProj.frame_kernel, QProj.frame_ideal, QProj.frame_reference, AttnOut.frame_kernel, AttnOut.frame_ideal,
    AttnOut.frame_reference, AttnFwd.frame_kernel, AttnFwd.frame_ideal, AttnFwd.frame_reference, KvProj.frame_kernel,
    KvProj.frame_ideal, KvProj.frame_reference, GluFwd.frame_kernel, GluFwd.frame_ideal, GluFwd.frame_reference,
    KvDw.frame_kernel, KvDw.frame_ideal, KvDw.frame_reference, KvDx.frame_kernel, KvDx.frame_ideal, KvDx.frame_ideal_pre,
    KvDx.frame_reference, KvDx.frame_reference_pre, DtDw.frame_kernel, DtDw.frame_ideal, DtDw.frame_reference,
    LossHead.frame_kernel, LossHead.frame_ideal, LossHead.frame_ideal_pre, LossHead.frame_reference,
    LossHead.frame_reference_pre, AdamMlp.frame_kernel, AdamMlp.frame_ideal, AdamMlp.frame_reference, Attention.preserves,
    Attention.algebraic, DownDx.preserves, DownDx.algebraic, DownDw.preserves, DownDw.algebraic, UpDw.preserves, UpDw.algebraic,
    UpDx.preserves, UpDx.algebraic, GluDx.preserves, GluDx.algebraic, OutDx.preserves, OutDx.algebraic, OutDw.preserves,
    OutDw.algebraic, AttnOutDx.preserves, AttnOutDx.algebraic, AttnOutDw.preserves, AttnOutDw.algebraic, QDx.preserves,
    QDx.algebraic, QDw.preserves, QDw.algebraic, InDx.preserves, InDx.algebraic, InDw.preserves, InDw.algebraic,
    GluDw.preserves, GluDw.algebraic, MlpUp.preserves, MlpUp.algebraic, MlpDown.preserves, MlpDown.algebraic, InProj.preserves,
    InProj.algebraic, OutProj.preserves, OutProj.algebraic, QProj.preserves, QProj.algebraic, AttnOut.preserves,
    AttnOut.algebraic, AttnFwd.preserves, AttnFwd.algebraic, KvProj.preserves, KvProj.algebraic, GluFwd.preserves,
    GluFwd.algebraic, KvDw.preserves, KvDw.algebraic, KvDx.preserves, KvDx.algebraic, DtDw.preserves, DtDw.algebraic,
    LossHead.preserves, LossHead.algebraic, AdamMlp.preserves, AdamMlp.algebraic⟩⟩

end Cert.Proof

end
